-- ==== Defs.lean ====
def Pre_Kernel [hPre_sizes_fit : Cert.Pre_sizes_fit.Facts] (m : (ℓ : Loc Cert.Kernel.nD Cert.Kernel.τ Cert.Kernel.sig) → Buf (Elt Bits) ℓ) : Prop :=
  ∀ c : Dev Cert.Kernel.nD,
    (Cert.Pre_sizes_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_sizes_fit : Cert.Pre_sizes_fit.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_sizes_fit_scales_normal [hPre_sizes_fit_scales_normal : Cert.Pre_sizes_fit_scales_normal.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_fit_scales_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_fit_scales_normal [hPre_sizes_fit_scales_normal : Cert.Pre_sizes_fit_scales_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_fit_scales_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_sizes_fit : Cert.Pre_sizes_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_sizes_fit : Cert.Pre_sizes_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_sizes_fit_scales_normal [hKernelIdeal : Cert.KernelIdeal.Facts] [hPre_sizes_fit_scales_normal : Cert.Pre_sizes_fit_scales_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sizes_fit_scales_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_sizes_fit_scales_normal [hReferenceIdeal : Cert.ReferenceIdeal.Facts] [hPre_sizes_fit_scales_normal : Cert.Pre_sizes_fit_scales_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_fit_scales_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_sizes_fit_scales_normal [hKernelIdeal : Cert.KernelIdeal.Facts] [hReferenceIdeal : Cert.ReferenceIdeal.Facts] [hPre_sizes_fit_scales_normal : Cert.Pre_sizes_fit_scales_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sizes_fit_scales_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v79_0)) (v1 : (c : Dev Cert.KernelIdeal.nD) → Buf (Elt Ideal) ((c.tc : Thread Cert.KernelIdeal.nD Cert.KernelIdeal.τ).loc Cert.KernelIdeal.main_v79_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79_0) = v0 c
          ∧ r.2.mem ((c.tc : Thread Cert.KernelIdeal.nD Cert.KernelIdeal.τ).loc Cert.KernelIdeal.main_v79_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10_0) = v0 c
          ∧ r.2.mem ((c.tc : Thread Cert.ReferenceIdeal.nD Cert.ReferenceIdeal.τ).loc Cert.ReferenceIdeal.main_v10_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_sizes_fit : Cert.Pre_sizes_fit.Facts) (hPre_sizes_fit_scales_normal : Cert.Pre_sizes_fit_scales_normal.Facts),
    quiescent_Kernel (hKernel := hKernel) (hPre_sizes_fit := hPre_sizes_fit)
    ∧ quiescent_KernelIdeal (hKernelIdeal := hKernelIdeal) (hPre_sizes_fit := hPre_sizes_fit)
    ∧ quiescent_KernelIdeal_pre_sizes_fit_scales_normal (hKernelIdeal := hKernelIdeal) (hPre_sizes_fit_scales_normal := hPre_sizes_fit_scales_normal)
    ∧ quiescent_ReferenceIdeal (hReferenceIdeal := hReferenceIdeal)
    ∧ quiescent_ReferenceIdeal_pre_sizes_fit_scales_normal (hReferenceIdeal := hReferenceIdeal) (hPre_sizes_fit_scales_normal := hPre_sizes_fit_scales_normal)
    ∧ preserves_Kernel_KernelIdeal
    ∧ algebraic_KernelIdeal_ReferenceIdeal_pre_sizes_fit_scales_normal (hKernelIdeal := hKernelIdeal) (hReferenceIdeal := hReferenceIdeal) (hPre_sizes_fit_scales_normal := hPre_sizes_fit_scales_normal)
-- ==== Pre_sizes_fit.lean ====
abbrev S73728x3072 : Shape := ⟨2, ![73728, 3072]⟩
abbrev S73728x24 : Shape := ⟨2, ![73728, 24]⟩
abbrev S8x1536x14336 : Shape := ⟨3, ![8, 1536, 14336]⟩
abbrev S8x96x14336 : Shape := ⟨3, ![8, 96, 14336]⟩
abbrev S8x14336 : Shape := ⟨2, ![8, 14336]⟩
abbrev S8 : Shape := ⟨1, ![8]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S73728x3072 .fp8e4m3) (main_arg1 : FVec F S73728x24 .f32) (main_arg2 : IVec S8x1536x14336 8) (main_arg3 : IVec S8x96x14336 8) (main_arg4 : FVec F S8x14336 .f32) (main_arg5 : IVec S8 32) : IVec S_ 1 :=
  let main_c : IVec S_ 32 := constantI S_ 32 0#32
  let main_v0 : IVec S8 32 := broadcastInDim S8 ![] bcast_S_S8 main_c
  let main_v1 : IVec S8 1 := cmpi .sge main_arg5 main_v0
  let main_c_0 : IVec S_ 32 := constantI S_ 32 73728#32
  let main_v2 : IVec S8 32 := broadcastInDim S8 ![] bcast_S_S8 main_c_0
  let main_v3 : IVec S8 1 := cmpi .sle main_arg5 main_v2
  let main_v4 : IVec S8 1 := andi main_v1 main_v3
  let main_c_1 : IVec S_ 1 := constantI S_ 1 1#1
  let main_v5 : IVec S_ 1 := (fun x v => Host.reduce IntOp.andi x v reducesTo_S8_S_d0 h_S_) main_v4 main_c_1
  let main_c_2 : IVec S_ 32 := constantI S_ 32 0#32
  let main_v6 : IVec S_ 32 := (fun x v => Host.reduce IntOp.addi x v reducesTo_S8_S_d0 h_S_) main_arg5 main_c_2
  let main_c_3 : IVec S_ 32 := constantI S_ 32 73728#32
  let main_v7 : IVec S_ 1 := cmpi .eq main_v6 main_c_3
  let main_v8 : IVec S_ 1 := andi main_v5 main_v7
  main_v8
-- ==== Pre_sizes_fit_scales_normal.lean ====
abbrev S73728x3072 : Shape := ⟨2, ![73728, 3072]⟩
abbrev S73728x24 : Shape := ⟨2, ![73728, 24]⟩
abbrev S8x1536x14336 : Shape := ⟨3, ![8, 1536, 14336]⟩
abbrev S8x96x14336 : Shape := ⟨3, ![8, 96, 14336]⟩
abbrev S8x14336 : Shape := ⟨2, ![8, 14336]⟩
abbrev S8 : Shape := ⟨1, ![8]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  natLt_8_32 : 8 < 32
  bcast_S_S8x96x14336 : S_.BroadcastsInDim S8x96x14336 (![] : Fin 0 → Fin S8x96x14336.rank)
  reducesTo_S8x96x14336_S_d0_1_2 : S8x96x14336.ReducesTo [0, 1, 2] S_

variable [Facts]

def fn_part1 {F : FTy → Type} [FloatOps F] (main_v8 : IVec S_ 1) (main_v15 : IVec S_ 1) : IVec S_ 1 :=
  let main_v16 : IVec S_ 1 := andi main_v8 main_v15
  main_v16

def fn {F : FTy → Type} [FloatOps F] (main_arg0 : FVec F S73728x3072 .fp8e4m3) (main_arg1 : FVec F S73728x24 .f32) (main_arg2 : IVec S8x1536x14336 8) (main_arg3 : IVec S8x96x14336 8) (main_arg4 : FVec F S8x14336 .f32) (main_arg5 : IVec S8 32) : IVec S_ 1 :=
  let main_c : IVec S_ 32 := constantI S_ 32 0#32
  let main_v0 : IVec S8 32 := broadcastInDim S8 ![] bcast_S_S8 main_c
  let main_v1 : IVec S8 1 := cmpi .sge main_arg5 main_v0
  let main_c_0 : IVec S_ 32 := constantI S_ 32 73728#32
  let main_v2 : IVec S8 32 := broadcastInDim S8 ![] bcast_S_S8 main_c_0
  let main_v3 : IVec S8 1 := cmpi .sle main_arg5 main_v2
  let main_v4 : IVec S8 1 := andi main_v1 main_v3
  let main_c_1 : IVec S_ 1 := constantI S_ 1 1#1
  let main_v5 : IVec S_ 1 := (fun x v => Host.reduce IntOp.andi x v reducesTo_S8_S_d0 h_S_) main_v4 main_c_1
  let main_c_2 : IVec S_ 32 := constantI S_ 32 0#32
  let main_v6 : IVec S_ 32 := (fun x v => Host.reduce IntOp.addi x v reducesTo_S8_S_d0 h_S_) main_arg5 main_c_2
  let main_c_3 : IVec S_ 32 := constantI S_ 32 73728#32
  let main_v7 : IVec S_ 1 := cmpi .eq main_v6 main_c_3
  let main_v8 : IVec S_ 1 := andi main_v5 main_v7
  let main_v9 : IVec S8x96x14336 32 := (extui 32 · natLt_8_32) main_arg3
  let main_c_4 : IVec S_ 32 := constantI S_ 32 1#32
  let main_v10 : IVec S8x96x14336 32 := broadcastInDim S8x96x14336 ![] bcast_S_S8x96x14336 main_c_4
  let main_v11 : IVec S8x96x14336 1 := cmpi .sge main_v9 main_v10
  let main_c_5 : IVec S_ 32 := constantI S_ 32 254#32
  let main_v12 : IVec S8x96x14336 32 := broadcastInDim S8x96x14336 ![] bcast_S_S8x96x14336 main_c_5
  let main_v13 : IVec S8x96x14336 1 := cmpi .sle main_v9 main_v12
  let main_v14 : IVec S8x96x14336 1 := andi main_v11 main_v13
  let main_c_6 : IVec S_ 1 := constantI S_ 1 1#1
  let main_v15 : IVec S_ 1 := (fun x v => Host.reduce IntOp.andi x v reducesTo_S8x96x14336_S_d0_1_2 h_S_) main_v14 main_c_6
  fn_part1 (F := F) main_v8 main_v15
-- ==== Kernel.lean ====
abbrev S73728x3072 : Shape := ⟨2, ![73728, 3072]⟩
abbrev S73728x24 : Shape := ⟨2, ![73728, 24]⟩
abbrev S8x1536x14336 : Shape := ⟨3, ![8, 1536, 14336]⟩
abbrev S8x96x14336 : Shape := ⟨3, ![8, 96, 14336]⟩
abbrev S8x14336 : Shape := ⟨2, ![8, 14336]⟩
abbrev S8 : Shape := ⟨1, ![8]⟩
abbrev S_ : Shape := ⟨0, ![]⟩
abbrev S1 : Shape := ⟨1, ![1]⟩
abbrev S152 : Shape := ⟨1, ![152]⟩
abbrev S152x1 : Shape := ⟨2, ![152, 1]⟩
abbrev S1x8 : Shape := ⟨2, ![1, 8]⟩
abbrev S152x8 : Shape := ⟨2, ![152, 8]⟩
abbrev S8x1x14336 : Shape := ⟨3, ![8, 1, 14336]⟩
abbrev S73728x7168 : Shape := ⟨2, ![73728, 7168]⟩
abbrev S14x73728x4 : Shape := ⟨3, ![14, 73728, 4]⟩
abbrev S512x3072 : Shape := ⟨2, ![512, 3072]⟩
abbrev S512x24 : Shape := ⟨2, ![512, 24]⟩
abbrev S1x1536x512 : Shape := ⟨3, ![1, 1536, 512]⟩
abbrev S1x96x512 : Shape := ⟨3, ![1, 96, 512]⟩
abbrev S1x1x512 : Shape := ⟨3, ![1, 1, 512]⟩
abbrev S512x512 : Shape := ⟨2, ![512, 512]⟩
abbrev S1x512x4 : Shape := ⟨3, ![1, 512, 4]⟩
abbrev S3072x512 : Shape := ⟨2, ![3072, 512]⟩
abbrev S1x16x512 : Shape := ⟨3, ![1, 16, 512]⟩
abbrev S16x512 : Shape := ⟨2, ![16, 512]⟩
abbrev S16x1x512 : Shape := ⟨3, ![16, 1, 512]⟩
abbrev S16x2x512 : Shape := ⟨3, ![16, 2, 512]⟩
abbrev S32x512 : Shape := ⟨2, ![32, 512]⟩
abbrev S1x512 : Shape := ⟨2, ![1, 512]⟩
abbrev S512x1 : Shape := ⟨2, ![512, 1]⟩
abbrev S512x128 : Shape := ⟨2, ![512, 128]⟩
abbrev S3072x256 : Shape := ⟨2, ![3072, 256]⟩
abbrev S512x256 : Shape := ⟨2, ![512, 256]⟩
abbrev S1x1x256 : Shape := ⟨3, ![1, 1, 256]⟩
abbrev S1x256 : Shape := ⟨2, ![1, 256]⟩
abbrev S512 : Shape := ⟨1, ![512]⟩
abbrev S1x512x1 : Shape := ⟨3, ![1, 512, 1]⟩

abbrev nBuf : Space → Nat
  | .hbm => 152
  | .vmem => 23
  | .smem => 5
  | _ => 0

abbrev hbmTy0_0 (i : Nat) : BufTy := match i % 128 with
  | 0 => ⟨S73728x3072, .fp8e4m3⟩
  | 1 => ⟨S73728x24, .f32⟩
  | 2 => ⟨S8x1536x14336, .i8⟩
  | 3 => ⟨S8x96x14336, .i8⟩
  | 4 => ⟨S8x14336, .f32⟩
  | 5 => ⟨S8, .i32⟩
  | 6 => ⟨S_, .i32⟩
  | 7 => ⟨S_, .i32⟩
  | 8 => ⟨S8, .i32⟩
  | 9 => ⟨S8, .i32⟩
  | 10 => ⟨S_, .i32⟩
  | 11 => ⟨S_, .i32⟩
  | 12 => ⟨S8, .i32⟩
  | 13 => ⟨S8, .i32⟩
  | 14 => ⟨S8, .i32⟩
  | 15 => ⟨S_, .i32⟩
  | 16 => ⟨S8, .i32⟩
  | 17 => ⟨S8, .i1⟩
  | 18 => ⟨S8, .i32⟩
  | 19 => ⟨S8, .i32⟩
  | 20 => ⟨S_, .i32⟩
  | 21 => ⟨S8, .i32⟩
  | 22 => ⟨S8, .i1⟩
  | 23 => ⟨S8, .i1⟩
  | 24 => ⟨S_, .i32⟩
  | 25 => ⟨S8, .i32⟩
  | 26 => ⟨S8, .i32⟩
  | 27 => ⟨S8, .i32⟩
  | 28 => ⟨S_, .i32⟩
  | 29 => ⟨S8, .i32⟩
  | 30 => ⟨S8, .i1⟩
  | 31 => ⟨S_, .i32⟩
  | 32 => ⟨S8, .i32⟩
  | 33 => ⟨S8, .i32⟩
  | 34 => ⟨S_, .i32⟩
  | 35 => ⟨S_, .i32⟩
  | 36 => ⟨S8, .i32⟩
  | 37 => ⟨S8, .i32⟩
  | 38 => ⟨S8, .i32⟩
  | 39 => ⟨S_, .i32⟩
  | 40 => ⟨S8, .i32⟩
  | 41 => ⟨S8, .i1⟩
  | 42 => ⟨S8, .i32⟩
  | 43 => ⟨S8, .i32⟩
  | 44 => ⟨S_, .i32⟩
  | 45 => ⟨S8, .i32⟩
  | 46 => ⟨S8, .i1⟩
  | 47 => ⟨S8, .i1⟩
  | 48 => ⟨S_, .i32⟩
  | 49 => ⟨S8, .i32⟩
  | 50 => ⟨S8, .i32⟩
  | 51 => ⟨S8, .i32⟩
  | 52 => ⟨S_, .i32⟩
  | 53 => ⟨S8, .i32⟩
  | 54 => ⟨S8, .i32⟩
  | 55 => ⟨S8, .i32⟩
  | 56 => ⟨S8, .i32⟩
  | 57 => ⟨S_, .i32⟩
  | 58 => ⟨S8, .i32⟩
  | 59 => ⟨S8, .i32⟩
  | 60 => ⟨S_, .i32⟩
  | 61 => ⟨S_, .i32⟩
  | 62 => ⟨S8, .i32⟩
  | 63 => ⟨S1, .i32⟩
  | 64 => ⟨S_, .i32⟩
  | 65 => ⟨S152, .i32⟩
  | 66 => ⟨S152, .i32⟩
  | 67 => ⟨S152, .i1⟩
  | 68 => ⟨S_, .i32⟩
  | 69 => ⟨S_, .i32⟩
  | 70 => ⟨S152, .i32⟩
  | 71 => ⟨S152, .i32⟩
  | 72 => ⟨S152x1, .i32⟩
  | 73 => ⟨S1x8, .i32⟩
  | 74 => ⟨S152x8, .i32⟩
  | 75 => ⟨S152x8, .i32⟩
  | 76 => ⟨S152x8, .i1⟩
  | 77 => ⟨S152x8, .i32⟩
  | 78 => ⟨S_, .i32⟩
  | 79 => ⟨S_, .i32⟩
  | 80 => ⟨S152, .i32⟩
  | 81 => ⟨S152, .i1⟩
  | 82 => ⟨S_, .i32⟩
  | 83 => ⟨S152, .i32⟩
  | 84 => ⟨S152, .i32⟩
  | 85 => ⟨S152, .i32⟩
  | 86 => ⟨S152x1, .i32⟩
  | 87 => ⟨S152, .i32⟩
  | 88 => ⟨S152, .i32⟩
  | 89 => ⟨S_, .i32⟩
  | 90 => ⟨S152, .i32⟩
  | 91 => ⟨S152, .i1⟩
  | 92 => ⟨S_, .i32⟩
  | 93 => ⟨S152, .i32⟩
  | 94 => ⟨S152, .i32⟩
  | 95 => ⟨S152, .i32⟩
  | 96 => ⟨S152x1, .i32⟩
  | 97 => ⟨S152, .i32⟩
  | 98 => ⟨S_, .i32⟩
  | 99 => ⟨S152, .i32⟩
  | 100 => ⟨S152, .i1⟩
  | 101 => ⟨S_, .i32⟩
  | 102 => ⟨S152, .i32⟩
  | 103 => ⟨S152, .i32⟩
  | 104 => ⟨S152, .i32⟩
  | 105 => ⟨S152x1, .i32⟩
  | 106 => ⟨S152, .i32⟩
  | 107 => ⟨S152, .i32⟩
  | 108 => ⟨S_, .i32⟩
  | 109 => ⟨S152, .i32⟩
  | 110 => ⟨S152, .i1⟩
  | 111 => ⟨S_, .i32⟩
  | 112 => ⟨S152, .i32⟩
  | 113 => ⟨S152, .i32⟩
  | 114 => ⟨S152, .i32⟩
  | 115 => ⟨S152x1, .i32⟩
  | 116 => ⟨S152, .i32⟩
  | 117 => ⟨S_, .i32⟩
  | 118 => ⟨S152, .i32⟩
  | 119 => ⟨S152, .i32⟩
  | 120 => ⟨S152, .i32⟩
  | 121 => ⟨S_, .i32⟩
  | 122 => ⟨S_, .i32⟩
  | 123 => ⟨S_, .i32⟩
  | 124 => ⟨S152, .i32⟩
  | 125 => ⟨S152, .i32⟩
  | 126 => ⟨S_, .i32⟩
  | 127 => ⟨S152, .i32⟩
  | _ => ⟨S73728x3072, .fp8e4m3⟩

abbrev hbmTy0_1 (i : Nat) : BufTy := match i % 128 with
  | 0 => ⟨S_, .i32⟩
  | 1 => ⟨S152, .i32⟩
  | 2 => ⟨S152, .i1⟩
  | 3 => ⟨S_, .i32⟩
  | 4 => ⟨S152, .i32⟩
  | 5 => ⟨S152, .i32⟩
  | 6 => ⟨S152, .i32⟩
  | 7 => ⟨S152x1, .i32⟩
  | 8 => ⟨S152, .i32⟩
  | 9 => ⟨S_, .i32⟩
  | 10 => ⟨S152, .i32⟩
  | 11 => ⟨S152, .i32⟩
  | 12 => ⟨S152, .i32⟩
  | 13 => ⟨S_, .i32⟩
  | 14 => ⟨S_, .i32⟩
  | 15 => ⟨S_, .i32⟩
  | 16 => ⟨S152, .i32⟩
  | 17 => ⟨S152, .i32⟩
  | 18 => ⟨S_, .i32⟩
  | 19 => ⟨S152, .i32⟩
  | 20 => ⟨S8x1x14336, .f32⟩
  | 21 => ⟨S8x1x14336, .f32⟩
  | 22 => ⟨S73728x7168, .fp8e4m3⟩
  | 23 => ⟨S14x73728x4, .f32⟩
  | _ => ⟨S73728x3072, .fp8e4m3⟩

abbrev hbmTy (i : Nat) : BufTy := match i / 128 with
  | 0 => hbmTy0_0 i
  | 1 => hbmTy0_1 i
  | _ => ⟨S73728x3072, .fp8e4m3⟩

abbrev bufTy : (tb : Table) → Fin (tcTables nBuf tb) → BufTy
  | .hbm, ⟨i, _⟩ => hbmTy i
  | .local _ .vmem, ⟨0, _⟩ => ⟨S512x3072, .fp8e4m3⟩
  | .local _ .vmem, ⟨1, _⟩ => ⟨S512x3072, .fp8e4m3⟩
  | .local _ .vmem, ⟨2, _⟩ => ⟨S512x24, .f32⟩
  | .local _ .vmem, ⟨3, _⟩ => ⟨S512x24, .f32⟩
  | .local _ .vmem, ⟨4, _⟩ => ⟨S1x1536x512, .i8⟩
  | .local _ .vmem, ⟨5, _⟩ => ⟨S1x1536x512, .i8⟩
  | .local _ .vmem, ⟨6, _⟩ => ⟨S1x1536x512, .i8⟩
  | .local _ .vmem, ⟨7, _⟩ => ⟨S1x1536x512, .i8⟩
  | .local _ .vmem, ⟨8, _⟩ => ⟨S1x96x512, .i8⟩
  | .local _ .vmem, ⟨9, _⟩ => ⟨S1x96x512, .i8⟩
  | .local _ .vmem, ⟨10, _⟩ => ⟨S1x96x512, .i8⟩
  | .local _ .vmem, ⟨11, _⟩ => ⟨S1x96x512, .i8⟩
  | .local _ .vmem, ⟨12, _⟩ => ⟨S1x1x512, .f32⟩
  | .local _ .vmem, ⟨13, _⟩ => ⟨S1x1x512, .f32⟩
  | .local _ .vmem, ⟨14, _⟩ => ⟨S1x1x512, .f32⟩
  | .local _ .vmem, ⟨15, _⟩ => ⟨S1x1x512, .f32⟩
  | .local _ .vmem, ⟨16, _⟩ => ⟨S512x512, .fp8e4m3⟩
  | .local _ .vmem, ⟨17, _⟩ => ⟨S512x512, .fp8e4m3⟩
  | .local _ .vmem, ⟨18, _⟩ => ⟨S1x512x4, .f32⟩
  | .local _ .vmem, ⟨19, _⟩ => ⟨S1x512x4, .f32⟩
  | .local _ .vmem, ⟨20, _⟩ => ⟨S3072x512, .bf16⟩
  | .local _ .vmem, ⟨21, _⟩ => ⟨S3072x512, .bf16⟩
  | .local _ .vmem, ⟨22, _⟩ => ⟨S512x3072, .bf16⟩
  | .local _ .smem, ⟨0, _⟩ => ⟨S152, .i32⟩
  | .local _ .smem, ⟨1, _⟩ => ⟨S152, .i32⟩
  | .local _ .smem, ⟨2, _⟩ => ⟨S152, .i32⟩
  | .local _ .smem, ⟨3, _⟩ => ⟨S152, .i32⟩
  | .local _ .smem, ⟨4, _⟩ => ⟨S152, .i32⟩
  | _, _ => ⟨S73728x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_call0_c : Ref sig .tc := ⟨.hbm, 6, rfl⟩
abbrev main_call0_call0_v0 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_v6 : Ref sig .tc := ⟨.hbm, 17, rfl⟩
abbrev main_call1_v7 : Ref sig .tc := ⟨.hbm, 18, rfl⟩
abbrev main_call1_v8 : Ref sig .tc := ⟨.hbm, 19, rfl⟩
abbrev main_call1_c : Ref sig .tc := ⟨.hbm, 20, rfl⟩
abbrev main_call1_v9 : Ref sig .tc := ⟨.hbm, 21, rfl⟩
abbrev main_call1_v10 : Ref sig .tc := ⟨.hbm, 22, rfl⟩
abbrev main_call1_v11 : Ref sig .tc := ⟨.hbm, 23, rfl⟩
abbrev main_call1_c_0 : Ref sig .tc := ⟨.hbm, 24, rfl⟩
abbrev main_call1_v12 : Ref sig .tc := ⟨.hbm, 25, rfl⟩
abbrev main_call1_v13 : Ref sig .tc := ⟨.hbm, 26, rfl⟩
abbrev main_v2 : Ref sig .tc := ⟨.hbm, 27, rfl⟩
abbrev main_c_0 : Ref sig .tc := ⟨.hbm, 28, rfl⟩
abbrev main_v3 : Ref sig .tc := ⟨.hbm, 29, rfl⟩
abbrev main_v4 : Ref sig .tc := ⟨.hbm, 30, rfl⟩
abbrev main_c_1 : Ref sig .tc := ⟨.hbm, 31, rfl⟩
abbrev main_v5 : Ref sig .tc := ⟨.hbm, 32, rfl⟩
abbrev main_v6 : Ref sig .tc := ⟨.hbm, 33, rfl⟩
abbrev main_c_2 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_c : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_0 : Ref sig .tc := ⟨.hbm, 48, rfl⟩
abbrev main_call2_v12 : Ref sig .tc := ⟨.hbm, 49, rfl⟩
abbrev main_call2_v13 : Ref sig .tc := ⟨.hbm, 50, rfl⟩
abbrev main_v7 : Ref sig .tc := ⟨.hbm, 51, rfl⟩
abbrev main_c_3 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_c_4 : Ref sig .tc := ⟨.hbm, 57, rfl⟩
abbrev main_v12 : Ref sig .tc := ⟨.hbm, 58, rfl⟩
abbrev main_v13 : Ref sig .tc := ⟨.hbm, 59, rfl⟩
abbrev main_call4_call0_c : Ref sig .tc := ⟨.hbm, 60, rfl⟩
abbrev main_call4_call0_v0 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_c_5 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_c_6 : Ref sig .tc := ⟨.hbm, 78, rfl⟩
abbrev main_c_7 : Ref sig .tc := ⟨.hbm, 79, rfl⟩
abbrev main_v30 : Ref sig .tc := ⟨.hbm, 80, rfl⟩
abbrev main_v31 : Ref sig .tc := ⟨.hbm, 81, rfl⟩
abbrev main_c_8 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_c_9 : Ref sig .tc := ⟨.hbm, 89, rfl⟩
abbrev main_v38 : Ref sig .tc := ⟨.hbm, 90, rfl⟩
abbrev main_v39 : Ref sig .tc := ⟨.hbm, 91, rfl⟩
abbrev main_c_10 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_c_11 : Ref sig .tc := ⟨.hbm, 98, rfl⟩
abbrev main_v45 : Ref sig .tc := ⟨.hbm, 99, rfl⟩
abbrev main_v46 : Ref sig .tc := ⟨.hbm, 100, rfl⟩
abbrev main_c_12 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_c_13 : Ref sig .tc := ⟨.hbm, 108, rfl⟩
abbrev main_v54 : Ref sig .tc := ⟨.hbm, 109, rfl⟩
abbrev main_v55 : Ref sig .tc := ⟨.hbm, 110, rfl⟩
abbrev main_c_14 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_c_15 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_c_16 : Ref sig .tc := ⟨.hbm, 121, rfl⟩
abbrev main_c_17 : Ref sig .tc := ⟨.hbm, 122, rfl⟩
abbrev main_call5_v0 : Ref sig .tc := ⟨.hbm, 123, rfl⟩
abbrev main_call5_v1 : Ref sig .tc := ⟨.hbm, 124, rfl⟩
abbrev main_call5_v2 : Ref sig .tc := ⟨.hbm, 125, rfl⟩
abbrev main_call5_v3 : Ref sig .tc := ⟨.hbm, 126, rfl⟩
abbrev main_call5_v4 : Ref sig .tc := ⟨.hbm, 127, rfl⟩
abbrev main_c_18 : Ref sig .tc := ⟨.hbm, 128, rfl⟩
abbrev main_v65 : Ref sig .tc := ⟨.hbm, 129, rfl⟩
abbrev main_v66 : Ref sig .tc := ⟨.hbm, 130, rfl⟩
abbrev main_c_19 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_c_20 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_c_21 : Ref sig .tc := ⟨.hbm, 141, rfl⟩
abbrev main_c_22 : Ref sig .tc := ⟨.hbm, 142, rfl⟩
abbrev main_call6_v0 : Ref sig .tc := ⟨.hbm, 143, rfl⟩
abbrev main_call6_v1 : Ref sig .tc := ⟨.hbm, 144, rfl⟩
abbrev main_call6_v2 : Ref sig .tc := ⟨.hbm, 145, rfl⟩
abbrev main_call6_v3 : Ref sig .tc := ⟨.hbm, 146, rfl⟩
abbrev main_call6_v4 : Ref sig .tc := ⟨.hbm, 147, rfl⟩
abbrev main_v77 : Ref sig .tc := ⟨.hbm, 148, rfl⟩
abbrev main_v78 : Ref sig .tc := ⟨.hbm, 149, rfl⟩
abbrev main_v79_0 : Ref sig .tc := ⟨.hbm, 150, rfl⟩
abbrev main_v79_1 : Ref sig .tc := ⟨.hbm, 151, rfl⟩
abbrev main_v53 : Ref sig .tc := ⟨.smem, 0, rfl⟩
abbrev main_v29 : Ref sig .tc := ⟨.smem, 1, rfl⟩
abbrev main_v64 : Ref sig .tc := ⟨.smem, 2, rfl⟩
abbrev main_v75 : Ref sig .tc := ⟨.smem, 3, rfl⟩
abbrev main_v76 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![14, 152], ![false, false]⟩

abbrev pre0 : Pipeline.Prefetch sig := ⟨5, ![main_v53.idx, main_v29.idx, main_v64.idx, main_v75.idx, main_v76.idx], fun | 0 => main_v53.names | 1 => main_v29.names | 2 => main_v64.names | 3 => main_v75.names | 4 => main_v76.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v5 : Index := Scalar.indexCast v1
  ![v5.toNat]
def k0_off3 (i : grid0.Coords) : Fin 1 → Nat :=
  let arg1 : BitVec 32 := BitVec.ofNat 32 (i 1).val
  let v11 : Index := Scalar.indexCast arg1
  ![v11.toNat]
def k0_off4 (i : grid0.Coords) : Fin 1 → Nat :=
  let arg1 : BitVec 32 := BitVec.ofNat 32 (i 1).val
  let v257 : Index := Scalar.indexCast arg1
  ![v257.toNat]
def k0_cond2 (v12 : BitVec 32) : BitVec 1 :=
  let c1_i32_2 : BitVec 32 := 1#32
  let v13 : BitVec 1 := Scalar.cmpi .eq v12 c1_i32_2
  let v14 : BitVec 32 := Scalar.extui v13
  let c0_i32_3 : BitVec 32 := 0#32
  let v15 : BitVec 1 := Scalar.cmpi .ne v14 c0_i32_3
  v15

def cc0_transform_0 (k0_off1_inb : ∀ i : grid0.Coords, ∀ a, (k0_off1 i) a + S1.size a ≤ S152.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S152) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S152.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S152) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S152) ![v0.toNat] S1.size (k0_off1_inb i)) numel1_S1
  let c0_i32 : BitVec 32 := 0#32
  let v2 : BitVec 32 := Scalar.addi arg0 c0_i32
  let c0_i32_0 : BitVec 32 := 0#32
  let c0_i32_1 : BitVec 32 := 0#32
  ![v1.toNat, c0_i32_0.toNat, v2.toNat]

def cc0_transform_3 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S152) ![v0.toNat] S1.size (k0_off1_inb i)) numel1_S1
  let c14_i32 : BitVec 32 := 14#32
  let v2 : BitVec 32 := Scalar.addi arg0 c14_i32
  let c0_i32 : BitVec 32 := 0#32
  let c0_i32_0 : BitVec 32 := 0#32
  ![v1.toNat, c0_i32.toNat, v2.toNat]

def cc0_transform_4 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S152) ![v0.toNat] S1.size (k0_off1_inb i)) numel1_S1
  let c0_i32 : BitVec 32 := 0#32
  let v2 : BitVec 32 := Scalar.addi arg0 c0_i32
  let c0_i32_0 : BitVec 32 := 0#32
  let c0_i32_1 : BitVec 32 := 0#32
  ![v1.toNat, c0_i32_0.toNat, v2.toNat]

def cc0_transform_5 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S152) ![v0.toNat] S1.size (k0_off1_inb i)) numel1_S1
  let c14_i32 : BitVec 32 := 14#32
  let v2 : BitVec 32 := Scalar.addi arg0 c14_i32
  let c0_i32 : BitVec 32 := 0#32
  let c0_i32_0 : BitVec 32 := 0#32
  ![v1.toNat, c0_i32.toNat, v2.toNat]

def cc0_transform_6 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S152) ![v0.toNat] S1.size (k0_off1_inb i)) numel1_S1
  let c0_i32 : BitVec 32 := 0#32
  let v2 : BitVec 32 := Scalar.addi arg0 c0_i32
  let c0_i32_0 : BitVec 32 := 0#32
  let c0_i32_1 : BitVec 32 := 0#32
  ![v1.toNat, c0_i32_0.toNat, v2.toNat]

def cc0_transform_7 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S152) ![v0.toNat] S1.size (k0_off1_inb i)) numel1_S1
  let c14_i32 : BitVec 32 := 14#32
  let v2 : BitVec 32 := Scalar.addi arg0 c14_i32
  let c0_i32 : BitVec 32 := 0#32
  let c0_i32_0 : BitVec 32 := 0#32
  ![v1.toNat, c0_i32.toNat, v2.toNat]

def cc0_transform_8 (k0_off1_inb : ∀ i : grid0.Coords, ∀ a, (k0_off1 i) a + S1.size a ≤ S152.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S152) ![v0.toNat] S1.size (k0_off1_inb i)) numel1_S1
  let c0_i32 : BitVec 32 := 0#32
  ![v1.toNat, arg0.toNat]

def cc0_transform_9 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S152) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S512x3072 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x24 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1536x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1536x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x96x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x96x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x4 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S73728x3072 : Shape := ⟨2, ![73728, 3072]⟩
abbrev S73728x24 : Shape := ⟨2, ![73728, 24]⟩
abbrev S8x1536x14336 : Shape := ⟨3, ![8, 1536, 14336]⟩
abbrev S8x96x14336 : Shape := ⟨3, ![8, 96, 14336]⟩
abbrev S8x14336 : Shape := ⟨2, ![8, 14336]⟩
abbrev S8 : Shape := ⟨1, ![8]⟩
abbrev S_ : Shape := ⟨0, ![]⟩
abbrev S73728 : Shape := ⟨1, ![73728]⟩
abbrev S73728x1 : Shape := ⟨2, ![73728, 1]⟩
abbrev S1x8 : Shape := ⟨2, ![1, 8]⟩
abbrev S73728x8 : Shape := ⟨2, ![73728, 8]⟩
abbrev S73728x7168 : Shape := ⟨2, ![73728, 7168]⟩
abbrev S14x73728x4 : Shape := ⟨3, ![14, 73728, 4]⟩
abbrev S73728x24x128 : Shape := ⟨3, ![73728, 24, 128]⟩
abbrev S73728x24x1 : Shape := ⟨3, ![73728, 24, 1]⟩
abbrev S73728x14336 : Shape := ⟨2, ![73728, 14336]⟩
abbrev S1x1536x14336 : Shape := ⟨3, ![1, 1536, 14336]⟩
abbrev S1536x14336 : Shape := ⟨2, ![1536, 14336]⟩
abbrev S1536x1x14336 : Shape := ⟨3, ![1536, 1, 14336]⟩
abbrev S1536x2x14336 : Shape := ⟨3, ![1536, 2, 14336]⟩
abbrev S3072x14336 : Shape := ⟨2, ![3072, 14336]⟩
abbrev S1x96x14336 : Shape := ⟨3, ![1, 96, 14336]⟩
abbrev S96x14336 : Shape := ⟨2, ![96, 14336]⟩
abbrev S96x32x14336 : Shape := ⟨3, ![96, 32, 14336]⟩
abbrev S96x1x14336 : Shape := ⟨3, ![96, 1, 14336]⟩
abbrev S1x14336 : Shape := ⟨2, ![1, 14336]⟩
abbrev S73728x56x128 : Shape := ⟨3, ![73728, 56, 128]⟩
abbrev S73728x56 : Shape := ⟨2, ![73728, 56]⟩
abbrev S73728x56x254 : Shape := ⟨3, ![73728, 56, 254]⟩
abbrev S73728x56x1 : Shape := ⟨3, ![73728, 56, 1]⟩
abbrev S73728x4 : Shape := ⟨2, ![73728, 4]⟩
abbrev S1x73728x4 : Shape := ⟨3, ![1, 73728, 4]⟩

abbrev nBuf : Space → Nat
  | .hbm => 21
  | .vmem => 8
  | .smem => 0
  | _ => 0

abbrev bufTy : (tb : Table) → Fin (tcTables nBuf tb) → BufTy
  | .hbm, ⟨0, _⟩ => ⟨S73728x3072, .fp8e4m3⟩
  | .hbm, ⟨1, _⟩ => ⟨S73728x24, .f32⟩
  | .hbm, ⟨2, _⟩ => ⟨S8x1536x14336, .i8⟩
  | .hbm, ⟨3, _⟩ => ⟨S8x96x14336, .i8⟩
  | .hbm, ⟨4, _⟩ => ⟨S8x14336, .f32⟩
  | .hbm, ⟨5, _⟩ => ⟨S8, .i32⟩
  | .hbm, ⟨6, _⟩ => ⟨S_, .i32⟩
  | .hbm, ⟨7, _⟩ => ⟨S_, .i32⟩
  | .hbm, ⟨8, _⟩ => ⟨S8, .i32⟩
  | .hbm, ⟨9, _⟩ => ⟨S73728, .i32⟩
  | .hbm, ⟨10, _⟩ => ⟨S73728x1, .i32⟩
  | .hbm, ⟨11, _⟩ => ⟨S1x8, .i32⟩
  | .hbm, ⟨12, _⟩ => ⟨S73728x8, .i32⟩
  | .hbm, ⟨13, _⟩ => ⟨S73728x8, .i32⟩
  | .hbm, ⟨14, _⟩ => ⟨S73728x8, .i1⟩
  | .hbm, ⟨15, _⟩ => ⟨S73728x8, .i32⟩
  | .hbm, ⟨16, _⟩ => ⟨S_, .i32⟩
  | .hbm, ⟨17, _⟩ => ⟨S73728, .i32⟩
  | .hbm, ⟨18, _⟩ => ⟨S73728x1, .i32⟩
  | .hbm, ⟨19, _⟩ => ⟨S73728x7168, .fp8e4m3⟩
  | .hbm, ⟨20, _⟩ => ⟨S14x73728x4, .f32⟩
  | .local _ .vmem, ⟨0, _⟩ => ⟨S73728x3072, .fp8e4m3⟩
  | .local _ .vmem, ⟨1, _⟩ => ⟨S73728x24, .f32⟩
  | .local _ .vmem, ⟨2, _⟩ => ⟨S8x1536x14336, .i8⟩
  | .local _ .vmem, ⟨3, _⟩ => ⟨S8x96x14336, .i8⟩
  | .local _ .vmem, ⟨4, _⟩ => ⟨S8x14336, .f32⟩
  | .local _ .vmem, ⟨5, _⟩ => ⟨S73728x1, .i32⟩
  | .local _ .vmem, ⟨6, _⟩ => ⟨S73728x7168, .fp8e4m3⟩
  | .local _ .vmem, ⟨7, _⟩ => ⟨S14x73728x4, .f32⟩
  | _, _ => ⟨S73728x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_call0_c : Ref sig .tc := ⟨.hbm, 6, rfl⟩
abbrev main_call0_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S73728x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S73728x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1536x14336 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x96x14336 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x14336 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S73728x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S73728x7168 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S14x73728x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.PI.Kit.lean ====
module

public import proofs.«01_k».proof.Proof.Gen.KernelIdeal.Launch
public import Idealize.ShloMosaic.Lib.Pipeline.Frame
public import Idealize.ShloMosaic.Lib.Tactic

/-! The program up to its region: the contents the region finds, and the prefetched tables. -/

@[expose] public section

set_option maxRecDepth 4096

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The host operations before the region. -/
abbrev hostAll : List (HloOp τ sig (Elt F)) := List.flatten [hostOps0, hostOps0_1, hostOps0_2, hostOps0_3, hostOps0_4, hostOps0_5, hostOps0_6, hostOps0_7, hostOps0_8, hostOps0_9, hostOps0_10, hostOps0_11, hostOps0_12, hostOps0_13]
/-- The buffers the region finds. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13]) (fun b => m (c, b)) b
theorem hostOps0_fresh : (hostOps0 : List (HloOp τ sig (Elt F))).Forall fun op => op.fresh = ∅ := by
  simp only [List.Forall]; repeat' constructor
abbrev hostOps0_W : List (Ref sig .tc) := [main_call0_call0_c, main_call0_call0_v0, main_v0]
theorem hostOps0_writes : (hostOps0 : List (HloOp τ sig (Elt F))).Forall fun op => op.writes ⊆ (hostOps0_W.map (Proc.devRef (τ := τ) .tc)).toFinset :=
  StableHlo.forall_writes_sub_of_map rfl
theorem hostOps0_1_fresh : (hostOps0_1 : List (HloOp τ sig (Elt F))).Forall fun op => op.fresh = ∅ := by
  simp only [List.Forall]; repeat' constructor
abbrev hostOps0_1_W : List (Ref sig .tc) := [main_v1, main_c]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_2_fresh : (hostOps0_2 : List (HloOp τ sig (Elt F))).Forall fun op => op.fresh = ∅ := by
  simp only [List.Forall]; repeat' constructor
abbrev hostOps0_2_W : List (Ref sig .tc) := [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v2]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_3_fresh : (hostOps0_3 : List (HloOp τ sig (Elt F))).Forall fun op => op.fresh = ∅ := by
  simp only [List.Forall]; repeat' constructor
abbrev hostOps0_3_W : List (Ref sig .tc) := [main_c_0, main_v3, main_v4, main_c_1, main_v5, main_v6, main_c_2]
theorem hostOps0_3_writes : (hostOps0_3 : List (HloOp τ sig (Elt F))).Forall fun op => op.writes ⊆ (hostOps0_3_W.map (Proc.devRef (τ := τ) .tc)).toFinset :=
  StableHlo.forall_writes_sub_of_map rfl
theorem hostOps0_4_fresh : (hostOps0_4 : List (HloOp τ sig (Elt F))).Forall fun op => op.fresh = ∅ := by
  simp only [List.Forall]; repeat' constructor
abbrev hostOps0_4_W : List (Ref sig .tc) := [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v7]
theorem hostOps0_4_writes : (hostOps0_4 : List (HloOp τ sig (Elt F))).Forall fun op => op.writes ⊆ (hostOps0_4_W.map (Proc.devRef (τ := τ) .tc)).toFinset :=
  StableHlo.forall_writes_sub_of_map rfl
theorem hostOps0_5_fresh : (hostOps0_5 : List (HloOp τ sig (Elt F))).Forall fun op => op.fresh = ∅ := by
  simp only [List.Forall]; repeat' constructor
abbrev hostOps0_5_W : List (Ref sig .tc) := [main_c_3, main_v8, main_v9]
theorem hostOps0_5_writes : (hostOps0_5 : List (HloOp τ sig (Elt F))).Forall fun op => op.writes ⊆ (hostOps0_5_W.map (Proc.devRef (τ := τ) .tc)).toFinset :=
  StableHlo.forall_writes_sub_of_map rfl
theorem hostOps0_6_fresh : (hostOps0_6 : List (HloOp τ sig (Elt F))).Forall fun op => op.fresh = ∅ := by
  simp only [List.Forall]; repeat' constructor
abbrev hostOps0_6_W : List (Ref sig .tc) := [main_v10]
theorem hostOps0_6_writes : (hostOps0_6 : List (HloOp τ sig (Elt F))).Forall fun op => op.writes ⊆ (hostOps0_6_W.map (Proc.devRef (τ := τ) .tc)).toFinset :=
  StableHlo.forall_writes_sub_of_map rfl
theorem hostOps0_7_fresh : (hostOps0_7 : List (HloOp τ sig (Elt F))).Forall fun op => op.fresh = ∅ := by
  simp only [List.Forall]; repeat' constructor
abbrev hostOps0_7_W : List (Ref sig .tc) := [main_v11, main_c_4, main_v12, main_v13]
theorem hostOps0_7_writes : (hostOps0_7 : List (HloOp τ sig (Elt F))).Forall fun op => op.writes ⊆ (hostOps0_7_W.map (Proc.devRef (τ := τ) .tc)).toFinset :=
  StableHlo.forall_writes_sub_of_map rfl
theorem hostOps0_8_fresh : (hostOps0_8 : List (HloOp τ sig (Elt F))).Forall fun op => op.fresh = ∅ := by
  simp only [List.Forall]; repeat' constructor
abbrev hostOps0_8_W : List (Ref sig .tc) := [main_call4_call0_c, main_call4_call0_v0, main_v14]
theorem hostOps0_8_writes : (hostOps0_8 : List (HloOp τ sig (Elt F))).Forall fun op => op.writes ⊆ (hostOps0_8_W.map (Proc.devRef (τ := τ) .tc)).toFinset :=
  StableHlo.forall_writes_sub_of_map rfl
theorem hostOps0_9_fresh : (hostOps0_9 : List (HloOp τ sig (Elt F))).Forall fun op => op.fresh = ∅ := by
  simp only [List.Forall]; repeat' constructor
abbrev hostOps0_9_W : List (Ref sig .tc) := [main_v15, main_v16, main_v17, main_v18, main_v19, main_c_5, main_v20, main_v21, main_v22, main_v23, main_v24, main_v25, main_v26, main_v27, main_v28, main_c_6, main_v29, main_c_7, main_v30, main_v31, main_c_8, main_v32, main_v33, main_v34, main_v35, main_v36, main_v37, main_c_9, main_v38, main_v39, main_c_10, main_v40, main_v41, main_v42, main_v43, main_v44, main_c_11, main_v45, main_v46, main_c_12, main_v47, main_v48, main_v49, main_v50, main_v51, main_v52, main_v53, main_c_13, main_v54, main_v55, main_c_14, main_v56, main_v57, main_v58, main_v59, main_v60, main_c_15, main_v61, main_v62, main_v63, main_c_16, main_c_17]
theorem hostOps0_9_writes : (hostOps0_9 : List (HloOp τ sig (Elt F))).Forall fun op => op.writes ⊆ (hostOps0_9_W.map (Proc.devRef (τ := τ) .tc)).toFinset :=
  StableHlo.forall_writes_sub_of_map rfl
theorem hostOps0_10_fresh : (hostOps0_10 : List (HloOp τ sig (Elt F))).Forall fun op => op.fresh = ∅ := by
  simp only [List.Forall]; repeat' constructor
abbrev hostOps0_10_W : List (Ref sig .tc) := [main_call5_v0, main_call5_v1, main_call5_v2, main_call5_v3, main_call5_v4, main_v64]
theorem hostOps0_10_writes : (hostOps0_10 : List (HloOp τ sig (Elt F))).Forall fun op => op.writes ⊆ (hostOps0_10_W.map (Proc.devRef (τ := τ) .tc)).toFinset :=
  StableHlo.forall_writes_sub_of_map rfl
theorem hostOps0_11_fresh : (hostOps0_11 : List (HloOp τ sig (Elt F))).Forall fun op => op.fresh = ∅ := by
  simp only [List.Forall]; repeat' constructor
abbrev hostOps0_11_W : List (Ref sig .tc) := [main_c_18, main_v65, main_v66, main_c_19, main_v67, main_v68, main_v69, main_v70, main_v71, main_c_20, main_v72, main_v73, main_v74, main_c_21, main_c_22]
theorem hostOps0_11_writes : (hostOps0_11 : List (HloOp τ sig (Elt F))).Forall fun op => op.writes ⊆ (hostOps0_11_W.map (Proc.devRef (τ := τ) .tc)).toFinset :=
  StableHlo.forall_writes_sub_of_map rfl
theorem hostOps0_12_fresh : (hostOps0_12 : List (HloOp τ sig (Elt F))).Forall fun op => op.fresh = ∅ := by
  simp only [List.Forall]; repeat' constructor
abbrev hostOps0_12_W : List (Ref sig .tc) := [main_call6_v0, main_call6_v1, main_call6_v2, main_call6_v3, main_call6_v4, main_v75]
theorem hostOps0_12_writes : (hostOps0_12 : List (HloOp τ sig (Elt F))).Forall fun op => op.writes ⊆ (hostOps0_12_W.map (Proc.devRef (τ := τ) .tc)).toFinset :=
  StableHlo.forall_writes_sub_of_map rfl
theorem hostOps0_13_fresh : (hostOps0_13 : List (HloOp τ sig (Elt F))).Forall fun op => op.fresh = ∅ := by
  simp only [List.Forall]; repeat' constructor
abbrev hostOps0_13_W : List (Ref sig .tc) := [main_v76, main_v77, main_v78]
theorem hostOps0_13_writes : (hostOps0_13 : List (HloOp τ sig (Elt F))).Forall fun op => op.writes ⊆ (hostOps0_13_W.map (Proc.devRef (τ := τ) .tc)).toFinset :=
  StableHlo.forall_writes_sub_of_map rfl

set_option maxHeartbeats 2000000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh⟩) main_chain

/-- A buffer no host operation writes is found as launched. -/
theorem V_of_not_written (c : Dev nD) (b : Ref sig .tc)
    (h : ∀ l ∈ [hostOps0_W, hostOps0_1_W, hostOps0_2_W, hostOps0_3_W, hostOps0_4_W, hostOps0_5_W, hostOps0_6_W, hostOps0_7_W, hostOps0_8_W, hostOps0_9_W, hostOps0_10_W, hostOps0_11_W, hostOps0_12_W, hostOps0_13_W], b ∉ l) :
    V m c b = m ((c : Thread nD τ).loc b) := by
  refine StableHlo.after_of_forall_not_mem (b := Proc.devRef .tc b) _ _ ?_
  intro op hop hb
  simp only [List.mem_flatten, List.mem_cons, List.mem_nil_iff, or_false] at hop
  obtain ⟨l, hl, hop⟩ := hop
  rcases hl with rfl | rfl | rfl | rfl | rfl | rfl | rfl | rfl | rfl | rfl | rfl | rfl | rfl | rfl
  · have h1 := (List.forall_iff_forall_mem.mp hostOps0_writes) op hop hb
    rw [List.mem_toFinset, List.mem_map] at h1
    obtain ⟨b', hb', he⟩ := h1
    exact h _ (by simp) (Proc.devRef_injective _ he ▸ hb')
  · have h1 := (List.forall_iff_forall_mem.mp hostOps0_1_writes) op hop hb
    rw [List.mem_toFinset, List.mem_map] at h1
    obtain ⟨b', hb', he⟩ := h1
    exact h _ (by simp) (Proc.devRef_injective _ he ▸ hb')
  · have h1 := (List.forall_iff_forall_mem.mp hostOps0_2_writes) op hop hb
    rw [List.mem_toFinset, List.mem_map] at h1
    obtain ⟨b', hb', he⟩ := h1
    exact h _ (by simp) (Proc.devRef_injective _ he ▸ hb')
  · have h1 := (List.forall_iff_forall_mem.mp hostOps0_3_writes) op hop hb
    rw [List.mem_toFinset, List.mem_map] at h1
    obtain ⟨b', hb', he⟩ := h1
    exact h _ (by simp) (Proc.devRef_injective _ he ▸ hb')
  · have h1 := (List.forall_iff_forall_mem.mp hostOps0_4_writes) op hop hb
    rw [List.mem_toFinset, List.mem_map] at h1
    obtain ⟨b', hb', he⟩ := h1
    exact h _ (by simp) (Proc.devRef_injective _ he ▸ hb')
  · have h1 := (List.forall_iff_forall_mem.mp hostOps0_5_writes) op hop hb
    rw [List.mem_toFinset, List.mem_map] at h1
    obtain ⟨b', hb', he⟩ := h1
    exact h _ (by simp) (Proc.devRef_injective _ he ▸ hb')
  · have h1 := (List.forall_iff_forall_mem.mp hostOps0_6_writes) op hop hb
    rw [List.mem_toFinset, List.mem_map] at h1
    obtain ⟨b', hb', he⟩ := h1
    exact h _ (by simp) (Proc.devRef_injective _ he ▸ hb')
  · have h1 := (List.forall_iff_forall_mem.mp hostOps0_7_writes) op hop hb
    rw [List.mem_toFinset, List.mem_map] at h1
    obtain ⟨b', hb', he⟩ := h1
    exact h _ (by simp) (Proc.devRef_injective _ he ▸ hb')
  · have h1 := (List.forall_iff_forall_mem.mp hostOps0_8_writes) op hop hb
    rw [List.mem_toFinset, List.mem_map] at h1
    obtain ⟨b', hb', he⟩ := h1
    exact h _ (by simp) (Proc.devRef_injective _ he ▸ hb')
  · have h1 := (List.forall_iff_forall_mem.mp hostOps0_9_writes) op hop hb
    rw [List.mem_toFinset, List.mem_map] at h1
    obtain ⟨b', hb', he⟩ := h1
    exact h _ (by simp) (Proc.devRef_injective _ he ▸ hb')
  · have h1 := (List.forall_iff_forall_mem.mp hostOps0_10_writes) op hop hb
    rw [List.mem_toFinset, List.mem_map] at h1
    obtain ⟨b', hb', he⟩ := h1
    exact h _ (by simp) (Proc.devRef_injective _ he ▸ hb')
  · have h1 := (List.forall_iff_forall_mem.mp hostOps0_11_writes) op hop hb
    rw [List.mem_toFinset, List.mem_map] at h1
    obtain ⟨b', hb', he⟩ := h1
    exact h _ (by simp) (Proc.devRef_injective _ he ▸ hb')
  · have h1 := (List.forall_iff_forall_mem.mp hostOps0_12_writes) op hop hb
    rw [List.mem_toFinset, List.mem_map] at h1
    obtain ⟨b', hb', he⟩ := h1
    exact h _ (by simp) (Proc.devRef_injective _ he ▸ hb')
  · have h1 := (List.forall_iff_forall_mem.mp hostOps0_13_writes) op hop hb
    rw [List.mem_toFinset, List.mem_map] at h1
    obtain ⟨b', hb', he⟩ := h1
    exact h _ (by simp) (Proc.devRef_injective _ he ▸ hb')
theorem V_arg0 (c : Dev nD) : V m c main_arg0 = m ((c : Thread nD τ).loc main_arg0) := V_of_not_written m c _ (by decide)
theorem V_arg1 (c : Dev nD) : V m c main_arg1 = m ((c : Thread nD τ).loc main_arg1) := V_of_not_written m c _ (by decide)
theorem V_arg2 (c : Dev nD) : V m c main_arg2 = m ((c : Thread nD τ).loc main_arg2) := V_of_not_written m c _ (by decide)
theorem V_arg3 (c : Dev nD) : V m c main_arg3 = m ((c : Thread nD τ).loc main_arg3) := V_of_not_written m c _ (by decide)
theorem V_arg4 (c : Dev nD) : V m c main_arg4 = m ((c : Thread nD τ).loc main_arg4) := V_of_not_written m c _ (by decide)
theorem V_arg5 (c : Dev nD) : V m c main_arg5 = m ((c : Thread nD τ).loc main_arg5) := V_of_not_written m c _ (by decide)

/-- The tables' contents when the region is entered. -/
def tbl : pre0.Contents (Elt F) := fun j => V m (0 : Dev nD) (pre0.ref j)
theorem V_pre (c : Dev nD) (j : Fin 5) : V m c (pre0.ref j) = tbl m j := by
  obtain rfl : c = 0 := Subsingleton.elim _ _; rfl
/-- The side condition of the tables' contents. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables as words. -/
def tabT : S152.Idx → Elt F .i32 := V m (0 : Dev nD) main_v53
def tabE : S152.Idx → Elt F .i32 := V m (0 : Dev nD) main_v29
def tabLo : S152.Idx → Elt F .i32 := V m (0 : Dev nD) main_v64
def tabHi : S152.Idx → Elt F .i32 := V m (0 : Dev nD) main_v75
def tabLive : S152.Idx → Elt F .i32 := V m (0 : Dev nD) main_v76

theorem PhiT0_eq (c : Dev nD) : (Pipeline.ΦT pre0 (tbl m) c : sProp 𝕄) =
    iprop(owns (c : Thread nD τ) (Memref.whole main_v53) fullShare.right (tabT m) ∗ owns (c : Thread nD τ) (Memref.whole main_v29) fullShare.right (tabE m)
      ∗ owns (c : Thread nD τ) (Memref.whole main_v64) fullShare.right (tabLo m) ∗ owns (c : Thread nD τ) (Memref.whole main_v75) fullShare.right (tabHi m)
      ∗ owns (c : Thread nD τ) (Memref.whole main_v76) fullShare.right (tabLive m)) := by
  unfold Pipeline.ΦT Pipeline.prefHeld
  rw [show (Finset.univ : Finset (Fin 5)) = {(0 : Fin 5), (1 : Fin 5), (2 : Fin 5), (3 : Fin 5), (4 : Fin 5)} from by decide,
    bigSep_insert (by decide), bigSep_insert (by decide), bigSep_insert (by decide), bigSep_insert (by decide), bigSep_singleton]
  simp only [owns_whole]
  rfl

end Cert.KernelIdeal.Hand
-- ==== Proof.PI.Tables.lean ====
module

public import proofs.«01_k».proof.Proof.PI.Kit
public import Idealize.ShloMosaic.Lib.StableHlo.RunRead

/-! The visit tables, as words computed from the group sizes. -/

@[expose] public section

set_option maxRecDepth 4096

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

/-- The running sum of eight words. -/
def wCum (x : IVec S8 32) : IVec S8 32 :=
  Host.reduceWindow IntOp.addi ![8] ![1] ![7] ![0] x (broadcastInDim S_ ![] bcast_S_S_ (constantI S_ 32 0#32)) reduceWindows_S8_S8_w8s1p7_0 h_S_

/-- A word vector divided by a word, rounding down. -/
def wDiv (x : IVec S8 32) (d : IVec S_ 32) : IVec S8 32 :=
  select (andi (cmpi .ne (signi x) (broadcastInDim S8 ![] bcast_S_S8 (signi d)))
      (cmpi .ne (Host.remsi x (broadcastInDim S8 ![] bcast_S_S8 d)) (broadcastInDim S8 ![] bcast_S_S8 (constantI S_ 32 0#32))))
    (subi (Host.divsi x (broadcastInDim S8 ![] bcast_S_S8 d)) (broadcastInDim S8 ![] bcast_S_S8 (constantI S_ 32 1#32)))
    (Host.divsi x (broadcastInDim S8 ![] bcast_S_S8 d))

/-- The word `k` at eight positions. -/
def wAll8 (k : BitVec 32) : IVec S8 32 := broadcastInDim S8 ![] bcast_S_S8 (constantI S_ 32 k)
/-- The word `k` at every visit. -/
def wAll (k : BitVec 32) : IVec S152 32 := broadcastInDim S152 ![] bcast_S_S152 (constantI S_ 32 k)

def wStart (g : IVec S8 32) : IVec S8 32 := subi (wCum g) g
def wFirst (g : IVec S8 32) : IVec S8 32 := wDiv (wStart g) (constantI S_ 32 512#32)
def wLast (g : IVec S8 32) : IVec S8 32 :=
  select (cmpi .sgt g (wAll8 0#32)) (wDiv (subi (wCum g) (wAll8 1#32)) (constantI S_ 32 512#32)) (subi (wFirst g) (wAll8 1#32))
def wCount (g : IVec S8 32) : IVec S8 32 := addi (subi (wLast g) (wFirst g)) (wAll8 1#32)
def wEnd (g : IVec S8 32) : IVec S8 32 := wCum (wCount g)
/-- The number of visits. -/
def wTotal (e : IVec S8 32) : IVec S_ 32 := shapeCast S_ (extractStridedSlice S1 ![7] e slices_S8_S1_7) shapeCasts_S1_S_
/-- The visit, kept below the number of visits. -/
def wVisit (e : IVec S8 32) : IVec S152 32 := minsi (iotaInDim S152 32 0) (broadcastInDim S152 ![] bcast_S_S152 (subi (wTotal e) (constantI S_ 32 1#32)))
/-- The expert of each visit. -/
def wExpert (e : IVec S8 32) : IVec S152 32 :=
  Host.reduce IntOp.addi (extui 32 (cmpi .sge (broadcastInDim S152x8 ![0, 1] bcast_S152x1_S152x8_0_1 (broadcastInDim S152x1 ![0] bcast_S152_S152x1_0 (wVisit e)))
    (broadcastInDim S152x8 ![0, 1] bcast_S1x8_S152x8_0_1 (broadcastInDim S1x8 ![1] bcast_S8_S1x8_1 e))) natLt_1_32) (constantI S_ 32 0#32) reducesTo_S152x8_S152_d1 h_S_
/-- A table of eight words read at each visit's expert `x`. -/
def wTake (y : IVec S8 32) (x : IVec S152 32) : IVec S152 32 :=
  Host.gather gather_S8_S152x1_S152_n_0_n_n_0_1_1 y
    (broadcastInDim S152x1 ![0] bcast_S152_S152x1_0 (select (cmpi .slt x (wAll 0#32)) (addi x (wAll 8#32)) x))
/-- The row tile of each visit. -/
def wTile (first counts e : IVec S8 32) : IVec S152 32 :=
  subi (addi (wTake first (wExpert e)) (wVisit e)) (subi (wTake e (wExpert e)) (wTake counts (wExpert e)))

attribute [local irreducible] Host.reduceWindow Host.gather Host.reduce
variable (U : Valuation τ sig (Elt F))

theorem l0_v0 : after hostOps0 U (Proc.devRef .tc main_v0) = wCum (U (Proc.devRef .tc main_arg5)) := by
  after_results_simp; unfold wCum; rfl
theorem l1_v1 : after hostOps0_1 U (Proc.devRef .tc main_v1) = subi (U (Proc.devRef .tc main_v0)) (U (Proc.devRef .tc main_arg5)) := by
  after_results; try rfl
theorem l1_c : after hostOps0_1 U (Proc.devRef .tc main_c) = constantI S_ 32 512#32 := by
  after_results; try rfl
theorem l2_v2 : after hostOps0_2 U (Proc.devRef .tc main_v2) = wDiv (U (Proc.devRef .tc main_v1)) (U (Proc.devRef .tc main_c)) := by
  after_results; try rfl
theorem l3_v4 : after hostOps0_3 U (Proc.devRef .tc main_v4) = cmpi .sgt (U (Proc.devRef .tc main_arg5)) (wAll8 0#32) := by
  after_results; try rfl
theorem l3_v6 : after hostOps0_3 U (Proc.devRef .tc main_v6) = subi (U (Proc.devRef .tc main_v0)) (wAll8 1#32) := by
  after_results; try rfl
theorem l3_c : after hostOps0_3 U (Proc.devRef .tc main_c_2) = constantI S_ 32 512#32 := by
  after_results; try rfl
theorem l4_v7 : after hostOps0_4 U (Proc.devRef .tc main_v7) = wDiv (U (Proc.devRef .tc main_v6)) (U (Proc.devRef .tc main_c_2)) := by
  after_results; try rfl
theorem l5_v9 : after hostOps0_5 U (Proc.devRef .tc main_v9) = subi (U (Proc.devRef .tc main_v2)) (wAll8 1#32) := by
  after_results; try rfl
theorem l6_v10 : after hostOps0_6 U (Proc.devRef .tc main_v10) = select (U (Proc.devRef .tc main_v4)) (U (Proc.devRef .tc main_v7)) (U (Proc.devRef .tc main_v9)) := by
  after_results; try rfl
theorem l7_v13 : after hostOps0_7 U (Proc.devRef .tc main_v13) = addi (subi (U (Proc.devRef .tc main_v10)) (U (Proc.devRef .tc main_v2))) (wAll8 1#32) := by
  after_results; try rfl
theorem l8_v14 : after hostOps0_8 U (Proc.devRef .tc main_v14) = wCum (U (Proc.devRef .tc main_v13)) := by
  after_results_simp; unfold wCum; rfl
theorem l9_v29 : after hostOps0_9 U (Proc.devRef .tc main_v29) = wExpert (U (Proc.devRef .tc main_v14)) := by
  after_reads_simp; unfold wExpert wVisit wTotal; rfl
theorem l9_v53 : after hostOps0_9 U (Proc.devRef .tc main_v53) = wTile (U (Proc.devRef .tc main_v2)) (U (Proc.devRef .tc main_v13)) (U (Proc.devRef .tc main_v14)) := by
  after_reads_simp; unfold wTile wTake wExpert wVisit wTotal wAll; rfl

variable (m : (ℓ : Loc nD τ sig) → Buf (Elt F) ℓ) (c : Dev nD)
def val0 : Valuation τ sig (Elt F) := fun b => m (c, b)
def val1 : Valuation τ sig (Elt F) := after hostOps0 (val0 m c)
def val2 : Valuation τ sig (Elt F) := after hostOps0_1 (val1 m c)
def val3 : Valuation τ sig (Elt F) := after hostOps0_2 (val2 m c)
def val4 : Valuation τ sig (Elt F) := after hostOps0_3 (val3 m c)
def val5 : Valuation τ sig (Elt F) := after hostOps0_4 (val4 m c)
def val6 : Valuation τ sig (Elt F) := after hostOps0_5 (val5 m c)
def val7 : Valuation τ sig (Elt F) := after hostOps0_6 (val6 m c)
def val8 : Valuation τ sig (Elt F) := after hostOps0_7 (val7 m c)
def val9 : Valuation τ sig (Elt F) := after hostOps0_8 (val8 m c)
def val10 : Valuation τ sig (Elt F) := after hostOps0_9 (val9 m c)
def val11 : Valuation τ sig (Elt F) := after hostOps0_10 (val10 m c)
def val12 : Valuation τ sig (Elt F) := after hostOps0_11 (val11 m c)
def val13 : Valuation τ sig (Elt F) := after hostOps0_12 (val12 m c)
def val14 : Valuation τ sig (Elt F) := after hostOps0_13 (val13 m c)
theorem af_append (l₁ l₂ : List (HloOp τ sig (Elt F))) (V : Valuation τ sig (Elt F)) :
    after (l₁ ++ l₂) V = after l₂ (after l₁ V) := by
  induction l₁ generalizing V with
  | nil => rfl
  | cons op l ih => exact ih _
theorem V_val (b : Ref sig .tc) : V m c b = val14 m c (Proc.devRef .tc b) := by
  show after (List.flatten [hostOps0, hostOps0_1, hostOps0_2, hostOps0_3, hostOps0_4, hostOps0_5, hostOps0_6, hostOps0_7, hostOps0_8, hostOps0_9, hostOps0_10, hostOps0_11, hostOps0_12, hostOps0_13]) (val0 m c) _ = _
  simp only [List.flatten_cons, List.flatten_nil, List.append_nil, af_append]
  rfl
theorem k1_main_arg5 : val1 m c (Proc.devRef .tc main_arg5) = val0 m c (Proc.devRef .tc main_arg5) :=
  after_of_writes_sub _ _ hostOps0_writes (by decide)
theorem k2_main_arg5 : val2 m c (Proc.devRef .tc main_arg5) = val1 m c (Proc.devRef .tc main_arg5) :=
  after_of_writes_sub _ _ hostOps0_1_writes (by decide)
theorem k3_main_arg5 : val3 m c (Proc.devRef .tc main_arg5) = val2 m c (Proc.devRef .tc main_arg5) :=
  after_of_writes_sub _ _ hostOps0_2_writes (by decide)
theorem k4_main_arg5 : val4 m c (Proc.devRef .tc main_arg5) = val3 m c (Proc.devRef .tc main_arg5) :=
  after_of_writes_sub _ _ hostOps0_3_writes (by decide)
theorem k2_main_v0 : val2 m c (Proc.devRef .tc main_v0) = val1 m c (Proc.devRef .tc main_v0) :=
  after_of_writes_sub _ _ hostOps0_1_writes (by decide)
theorem k3_main_v0 : val3 m c (Proc.devRef .tc main_v0) = val2 m c (Proc.devRef .tc main_v0) :=
  after_of_writes_sub _ _ hostOps0_2_writes (by decide)
theorem k4_main_v0 : val4 m c (Proc.devRef .tc main_v0) = val3 m c (Proc.devRef .tc main_v0) :=
  after_of_writes_sub _ _ hostOps0_3_writes (by decide)
theorem k3_main_v1 : val3 m c (Proc.devRef .tc main_v1) = val2 m c (Proc.devRef .tc main_v1) :=
  after_of_writes_sub _ _ hostOps0_2_writes (by decide)
theorem k4_main_v1 : val4 m c (Proc.devRef .tc main_v1) = val3 m c (Proc.devRef .tc main_v1) :=
  after_of_writes_sub _ _ hostOps0_3_writes (by decide)
theorem k5_main_v1 : val5 m c (Proc.devRef .tc main_v1) = val4 m c (Proc.devRef .tc main_v1) :=
  after_of_writes_sub _ _ hostOps0_4_writes (by decide)
theorem k6_main_v1 : val6 m c (Proc.devRef .tc main_v1) = val5 m c (Proc.devRef .tc main_v1) :=
  after_of_writes_sub _ _ hostOps0_5_writes (by decide)
theorem k7_main_v1 : val7 m c (Proc.devRef .tc main_v1) = val6 m c (Proc.devRef .tc main_v1) :=
  after_of_writes_sub _ _ hostOps0_6_writes (by decide)
theorem k8_main_v1 : val8 m c (Proc.devRef .tc main_v1) = val7 m c (Proc.devRef .tc main_v1) :=
  after_of_writes_sub _ _ hostOps0_7_writes (by decide)
theorem k9_main_v1 : val9 m c (Proc.devRef .tc main_v1) = val8 m c (Proc.devRef .tc main_v1) :=
  after_of_writes_sub _ _ hostOps0_8_writes (by decide)
theorem k10_main_v1 : val10 m c (Proc.devRef .tc main_v1) = val9 m c (Proc.devRef .tc main_v1) :=
  after_of_writes_sub _ _ hostOps0_9_writes (by decide)
theorem k4_main_v2 : val4 m c (Proc.devRef .tc main_v2) = val3 m c (Proc.devRef .tc main_v2) :=
  after_of_writes_sub _ _ hostOps0_3_writes (by decide)
theorem k5_main_v2 : val5 m c (Proc.devRef .tc main_v2) = val4 m c (Proc.devRef .tc main_v2) :=
  after_of_writes_sub _ _ hostOps0_4_writes (by decide)
theorem k6_main_v2 : val6 m c (Proc.devRef .tc main_v2) = val5 m c (Proc.devRef .tc main_v2) :=
  after_of_writes_sub _ _ hostOps0_5_writes (by decide)
theorem k7_main_v2 : val7 m c (Proc.devRef .tc main_v2) = val6 m c (Proc.devRef .tc main_v2) :=
  after_of_writes_sub _ _ hostOps0_6_writes (by decide)
theorem k8_main_v2 : val8 m c (Proc.devRef .tc main_v2) = val7 m c (Proc.devRef .tc main_v2) :=
  after_of_writes_sub _ _ hostOps0_7_writes (by decide)
theorem k9_main_v2 : val9 m c (Proc.devRef .tc main_v2) = val8 m c (Proc.devRef .tc main_v2) :=
  after_of_writes_sub _ _ hostOps0_8_writes (by decide)
theorem k10_main_v2 : val10 m c (Proc.devRef .tc main_v2) = val9 m c (Proc.devRef .tc main_v2) :=
  after_of_writes_sub _ _ hostOps0_9_writes (by decide)
theorem k5_main_v4 : val5 m c (Proc.devRef .tc main_v4) = val4 m c (Proc.devRef .tc main_v4) :=
  after_of_writes_sub _ _ hostOps0_4_writes (by decide)
theorem k6_main_v4 : val6 m c (Proc.devRef .tc main_v4) = val5 m c (Proc.devRef .tc main_v4) :=
  after_of_writes_sub _ _ hostOps0_5_writes (by decide)
theorem k7_main_v4 : val7 m c (Proc.devRef .tc main_v4) = val6 m c (Proc.devRef .tc main_v4) :=
  after_of_writes_sub _ _ hostOps0_6_writes (by decide)
theorem k9_main_v13 : val9 m c (Proc.devRef .tc main_v13) = val8 m c (Proc.devRef .tc main_v13) :=
  after_of_writes_sub _ _ hostOps0_8_writes (by decide)
theorem k10_main_v13 : val10 m c (Proc.devRef .tc main_v13) = val9 m c (Proc.devRef .tc main_v13) :=
  after_of_writes_sub _ _ hostOps0_9_writes (by decide)
theorem k10_main_v14 : val10 m c (Proc.devRef .tc main_v14) = val9 m c (Proc.devRef .tc main_v14) :=
  after_of_writes_sub _ _ hostOps0_9_writes (by decide)
theorem k6_main_v7 : val6 m c (Proc.devRef .tc main_v7) = val5 m c (Proc.devRef .tc main_v7) :=
  after_of_writes_sub _ _ hostOps0_5_writes (by decide)
theorem k7_main_v7 : val7 m c (Proc.devRef .tc main_v7) = val6 m c (Proc.devRef .tc main_v7) :=
  after_of_writes_sub _ _ hostOps0_6_writes (by decide)
theorem k7_main_v9 : val7 m c (Proc.devRef .tc main_v9) = val6 m c (Proc.devRef .tc main_v9) :=
  after_of_writes_sub _ _ hostOps0_6_writes (by decide)
theorem k11_main_v29 : val11 m c (Proc.devRef .tc main_v29) = val10 m c (Proc.devRef .tc main_v29) :=
  after_of_writes_sub _ _ hostOps0_10_writes (by decide)
theorem k12_main_v29 : val12 m c (Proc.devRef .tc main_v29) = val11 m c (Proc.devRef .tc main_v29) :=
  after_of_writes_sub _ _ hostOps0_11_writes (by decide)
theorem k13_main_v29 : val13 m c (Proc.devRef .tc main_v29) = val12 m c (Proc.devRef .tc main_v29) :=
  after_of_writes_sub _ _ hostOps0_12_writes (by decide)
theorem k14_main_v29 : val14 m c (Proc.devRef .tc main_v29) = val13 m c (Proc.devRef .tc main_v29) :=
  after_of_writes_sub _ _ hostOps0_13_writes (by decide)
theorem k11_main_v53 : val11 m c (Proc.devRef .tc main_v53) = val10 m c (Proc.devRef .tc main_v53) :=
  after_of_writes_sub _ _ hostOps0_10_writes (by decide)
theorem k12_main_v53 : val12 m c (Proc.devRef .tc main_v53) = val11 m c (Proc.devRef .tc main_v53) :=
  after_of_writes_sub _ _ hostOps0_11_writes (by decide)
theorem k13_main_v53 : val13 m c (Proc.devRef .tc main_v53) = val12 m c (Proc.devRef .tc main_v53) :=
  after_of_writes_sub _ _ hostOps0_12_writes (by decide)
theorem k14_main_v53 : val14 m c (Proc.devRef .tc main_v53) = val13 m c (Proc.devRef .tc main_v53) :=
  after_of_writes_sub _ _ hostOps0_13_writes (by decide)

/-- The group sizes. -/
def sizes : IVec S8 32 := m ((c : Thread nD τ).loc main_arg5)
theorem a_g : val0 m c (Proc.devRef .tc main_arg5) = sizes m c := rfl
theorem a_main_v0 : val1 m c (Proc.devRef .tc main_v0) = wCum (sizes m c) := by
  show after _ (val0 m c) _ = _
  rw [l0_v0, a_g]
theorem a_main_v1 : val2 m c (Proc.devRef .tc main_v1) = wStart (sizes m c) := by
  show after _ (val1 m c) _ = _
  rw [l1_v1, a_main_v0, k1_main_arg5, a_g]
  rfl
theorem a_main_c : val2 m c (Proc.devRef .tc main_c) = constantI S_ 32 512#32 := by
  show after _ (val1 m c) _ = _
  rw [l1_c]
theorem a_main_v2 : val3 m c (Proc.devRef .tc main_v2) = wFirst (sizes m c) := by
  show after _ (val2 m c) _ = _
  rw [l2_v2, a_main_v1, a_main_c]
  rfl
theorem a_main_v4 : val4 m c (Proc.devRef .tc main_v4) = cmpi .sgt (sizes m c) (wAll8 0#32) := by
  show after _ (val3 m c) _ = _
  rw [l3_v4, k3_main_arg5, k2_main_arg5, k1_main_arg5, a_g]
theorem a_main_v6 : val4 m c (Proc.devRef .tc main_v6) = subi (wCum (sizes m c)) (wAll8 1#32) := by
  show after _ (val3 m c) _ = _
  rw [l3_v6, k3_main_v0, k2_main_v0, a_main_v0]
theorem a_main_c_2 : val4 m c (Proc.devRef .tc main_c_2) = constantI S_ 32 512#32 := by
  show after _ (val3 m c) _ = _
  rw [l3_c]
theorem a_main_v7 : val5 m c (Proc.devRef .tc main_v7) = wDiv (subi (wCum (sizes m c)) (wAll8 1#32)) (constantI S_ 32 512#32) := by
  show after _ (val4 m c) _ = _
  rw [l4_v7, a_main_v6, a_main_c_2]
theorem a_main_v9 : val6 m c (Proc.devRef .tc main_v9) = subi (wFirst (sizes m c)) (wAll8 1#32) := by
  show after _ (val5 m c) _ = _
  rw [l5_v9, k5_main_v2, k4_main_v2, a_main_v2]
theorem a_main_v10 : val7 m c (Proc.devRef .tc main_v10) = wLast (sizes m c) := by
  show after _ (val6 m c) _ = _
  rw [l6_v10, k6_main_v4, k5_main_v4, a_main_v4, k6_main_v7, a_main_v7, a_main_v9]
  rfl
theorem a_main_v13 : val8 m c (Proc.devRef .tc main_v13) = wCount (sizes m c) := by
  show after _ (val7 m c) _ = _
  rw [l7_v13, a_main_v10, k7_main_v2, k6_main_v2, k5_main_v2, k4_main_v2, a_main_v2]
  rfl
theorem a_main_v14 : val9 m c (Proc.devRef .tc main_v14) = wEnd (sizes m c) := by
  show after _ (val8 m c) _ = _
  rw [l8_v14, a_main_v13]
  rfl
theorem a_main_v29 : val10 m c (Proc.devRef .tc main_v29) = wExpert (wEnd (sizes m c)) := by
  show after _ (val9 m c) _ = _
  rw [l9_v29, a_main_v14]
theorem a_main_v53 : val10 m c (Proc.devRef .tc main_v53) = wTile (wFirst (sizes m c)) (wCount (sizes m c)) (wEnd (sizes m c)) := by
  show after _ (val9 m c) _ = _
  rw [l9_v53, a_main_v14, k9_main_v13, a_main_v13, k9_main_v2, k8_main_v2, k7_main_v2, k6_main_v2, k5_main_v2, k4_main_v2, a_main_v2]
theorem tab_expert : V m c main_v29 = wExpert (wEnd (sizes m c)) := by
  rw [V_val, k14_main_v29, k13_main_v29, k12_main_v29, k11_main_v29, a_main_v29]
theorem tab_tile : V m c main_v53 = wTile (wFirst (sizes m c)) (wCount (sizes m c)) (wEnd (sizes m c)) := by
  rw [V_val, k14_main_v53, k13_main_v53, k12_main_v53, k11_main_v53, a_main_v53]

end Cert.KernelIdeal.Hand
-- ==== Proof.Plan.lean ====
module

public import Mathlib.Data.Nat.Count
public import Idealize.ShloMosaic.Lib.Routing.BitFacts

/-! The plan of visits as natural numbers: how many row tiles each expert's rows meet, and which expert and tile each visit takes. -/

@[expose] public section

namespace Cert.Plan

variable (s : ℕ → ℕ)

/-- Where expert `j`'s rows end. -/
def fin (j : ℕ) : ℕ := ((List.range (j + 1)).map s).sum
/-- How many row tiles expert `j`'s rows meet. -/
def cnt (j : ℕ) : ℕ := if 0 < s j then (fin s j - 1) / 512 - (fin s j - s j) / 512 + 1 else 0
/-- How many visits the experts up to `j` take. -/
def upto (j : ℕ) : ℕ := ((List.range (j + 1)).map (cnt s)).sum

theorem fin_succ (j : ℕ) : fin s (j + 1) = fin s j + s (j + 1) := by
  unfold fin; rw [List.range_succ, List.map_append, List.sum_append]; simp
theorem upto_succ (j : ℕ) : upto s (j + 1) = upto s j + cnt s (j + 1) := by
  unfold upto; rw [List.range_succ, List.map_append, List.sum_append]; simp
theorem fin_zero : fin s 0 = s 0 := by unfold fin; simp
theorem upto_zero : upto s 0 = cnt s 0 := by unfold upto; simp
theorem le_fin (j : ℕ) : s j ≤ fin s j := by
  cases j with
  | zero => rw [fin_zero]
  | succ j => rw [fin_succ]; omega
theorem cnt_le_upto (j : ℕ) : cnt s j ≤ upto s j := by
  cases j with
  | zero => rw [upto_zero]
  | succ j => rw [upto_succ]; omega

theorem upto_bounds (j : ℕ) : (fin s j + 511) / 512 ≤ upto s j ∧ upto s j ≤ (fin s j + 511) / 512 + j := by
  induction j with
  | zero =>
    rw [upto_zero]; unfold cnt; rw [fin_zero]
    split <;> constructor <;> omega
  | succ j ih =>
    rw [upto_succ]; unfold cnt; rw [fin_succ]
    split <;> constructor <;> omega

theorem fin_mono {i j : ℕ} (h : i ≤ j) : fin s i ≤ fin s j := by
  induction h with
  | refl => exact le_refl _
  | step _ ih => rw [Nat.succ_eq_add_one, fin_succ]; omega
theorem upto_mono {i j : ℕ} (h : i ≤ j) : upto s i ≤ upto s j := by
  induction h with
  | refl => exact le_refl _
  | step _ ih => rw [Nat.succ_eq_add_one, upto_succ]; omega

/-- The expert of the visit `w`. -/
def expert (w : ℕ) : ℕ := Nat.count (fun q => upto s q ≤ w) 8

theorem count_spec (P : ℕ → Prop) [DecidablePred P] (hP : ∀ i j, i ≤ j → P j → P i) (n : ℕ) :
    Nat.count P n ≤ n ∧ (∀ q < Nat.count P n, P q) ∧ ∀ q, Nat.count P n ≤ q → q < n → ¬ P q := by
  induction n with
  | zero => simp
  | succ n ih =>
    obtain ⟨h1, h2, h3⟩ := ih
    rw [Nat.count_succ]
    by_cases h : P n
    · rw [if_pos h]
      have : Nat.count P n = n := by
        by_contra hne
        exact h3 (Nat.count P n) le_rfl (by omega) (hP _ n (by omega) h)
      rw [this]
      exact ⟨le_rfl, fun q hq => hP q n (by omega) h, fun q hq hq' => absurd hq (by omega)⟩
    · rw [if_neg h]
      refine ⟨by omega, fun q hq => h2 q (by omega), fun q hq hq' => ?_⟩
      rcases Nat.lt_succ_iff_lt_or_eq.mp hq' with hlt | rfl
      · exact h3 q (by omega) hlt
      · exact h

theorem expert_spec (w : ℕ) (hw : w < upto s 7) :
    expert s w < 8 ∧ w < upto s (expert s w) ∧ upto s (expert s w) - cnt s (expert s w) ≤ w := by
  obtain ⟨h1, h2, h3⟩ := count_spec (fun q => upto s q ≤ w) (fun i j hij hj => le_trans (upto_mono s hij) hj) 8
  have hlt : expert s w < 8 := by
    rcases Nat.lt_or_ge (expert s w) 8 with h | h
    · exact h
    · exact absurd (h2 7 (by unfold expert at h; omega)) (by omega)
  refine ⟨hlt, ?_, ?_⟩
  · have := h3 (expert s w) le_rfl hlt
    omega
  · rcases Nat.eq_zero_or_pos (expert s w) with h0 | h0
    · rw [h0, upto_zero]; omega
    · obtain ⟨k, hk⟩ : ∃ k, expert s w = k + 1 := ⟨expert s w - 1, by omega⟩
      have := h2 k (by unfold expert at hk; omega)
      rw [hk, upto_succ]
      omega

/-- The row tile of the visit `w`. -/
def tile (w : ℕ) : ℕ := (fin s (expert s w) - s (expert s w)) / 512 + w - (upto s (expert s w) - cnt s (expert s w))

theorem tile_le (w : ℕ) (hw : w < upto s 7) : 512 * tile s w < fin s (expert s w) := by
  obtain ⟨h1, h2, h3⟩ := expert_spec s w hw
  have h4 := cnt_le_upto s (expert s w)
  have h5 := le_fin s (expert s w)
  unfold tile
  unfold cnt at *
  split at h4 <;> rename_i hs
  · rw [if_pos hs] at h3
    rw [if_pos hs]
    omega
  · rw [if_neg hs] at h3
    omega

theorem tile_lt (hs : fin s 7 = 73728) (w : ℕ) (hw : w < upto s 7) : tile s w < 144 := by
  have h := tile_le s w hw
  have := fin_mono s (Nat.le_of_lt_succ (expert_spec s w hw).1)
  omega

end Cert.Plan
-- ==== Proof.PI.TableFacts.lean ====
module

public import proofs.«01_k».proof.Proof.PI.Tables
public import proofs.«01_k».proof.Proof.Plan
public import Idealize.ShloMosaic.Lib.Routing.Ops
public import Idealize.ShloMosaic.Lib.Routing.BitFacts
public import Idealize.ShloMosaic.Lib.Routing.Words

/-! The visit tables hold the plan's numbers. -/

@[expose] public section

set_option maxRecDepth 4096

noncomputable section

namespace Cert.KernelIdeal.Hand

open Idealize.ShloMosaic Idealize.ShloMosaic.ValueIdx Idealize.ShloMosaic.Routing
open Cert.KernelIdeal Cert.KernelIdeal.Gen

/-- The sizes as natural numbers. -/
def nat8 (g : IVec S8 32) (j : ℕ) : ℕ := if h : j < 8 then (g (ix1 (⟨j, h⟩ : Fin 8))).toNat else 0

theorem wCum_at (x : IVec S8 32) (f : ℕ → ℕ) (hx : ∀ i : Fin 8, x (ix1 i) = BitVec.ofNat 32 (f i.val)) (j : Fin 8) :
    wCum x (ix1 j) = BitVec.ofNat 32 (((List.range (j.val + 1)).map f).sum) :=
  cumsum1 (N := 8) (Nm1 := 7) rfl x f hx _ (bc0 _ _ _) _ _ j

theorem wAll8_at (k : BitVec 32) (j : Fin 8) : wAll8 k (ix1 j) = k := bc0 _ _ _
theorem wAll_at (k : BitVec 32) (v : Fin 152) : wAll k (ix1 v) = k := bc0 _ _ _

theorem wDiv_at (x : IVec S8 32) (j : Fin 8) (n : ℕ) (h : n < 2 ^ 31) (hx : x (ix1 j) = BitVec.ofNat 32 n) :
    wDiv x (constantI S_ 32 512#32) (ix1 j) = BitVec.ofNat 32 (n / 512) := by
  exact pyDiv_ap bcast_S_S8 x (constantI S_ 32 512#32) (ix1 j) (a := n) (b := 512) hx rfl h (by norm_num) (by norm_num)

section Sizes
variable (g : IVec S8 32) (hfit : ∀ j : Fin 8, (g (ix1 j)).toNat ≤ 73728) (hsum : Plan.fin (nat8 g) 7 = 73728)
include hfit hsum

theorem size_at (j : Fin 8) : g (ix1 j) = BitVec.ofNat 32 (nat8 g j.val) := by
  unfold nat8; rw [dif_pos j.isLt, BitVec.ofNat_toNat, BitVec.setWidth_eq]

theorem fin_le (j : Fin 8) : Plan.fin (nat8 g) j.val ≤ 73728 := hsum ▸ Plan.fin_mono _ (Nat.le_of_lt_succ j.isLt)

theorem ends_at (j : Fin 8) : wCum g (ix1 j) = BitVec.ofNat 32 (Plan.fin (nat8 g) j.val) :=
  wCum_at g _ (size_at g hfit hsum) j

theorem start_at (j : Fin 8) : wStart g (ix1 j) = BitVec.ofNat 32 (Plan.fin (nat8 g) j.val - nat8 g j.val) := by
  show wCum g (ix1 j) - g (ix1 j) = _
  rw [ends_at g hfit hsum, size_at g hfit hsum, ofNat32_sub (Plan.le_fin _ _)]

theorem first_at (j : Fin 8) : wFirst g (ix1 j) = BitVec.ofNat 32 ((Plan.fin (nat8 g) j.val - nat8 g j.val) / 512) :=
  wDiv_at _ j _ (by have := fin_le g hfit hsum j; omega) (start_at g hfit hsum j)

theorem count_at (j : Fin 8) : wCount g (ix1 j) = BitVec.ofNat 32 (Plan.cnt (nat8 g) j.val) := by
  show (Scalar.select (IntOp.cmpi .sgt (g (ix1 j)) (wAll8 0#32 (ix1 j))) (wDiv (subi (wCum g) (wAll8 1#32)) (constantI S_ 32 512#32) (ix1 j))
    (wFirst g (ix1 j) - wAll8 1#32 (ix1 j)) - wFirst g (ix1 j)) + wAll8 1#32 (ix1 j) = _
  have hf := fin_le g hfit hsum j
  have hle := Plan.le_fin (nat8 g) j.val
  rw [wAll8_at, wAll8_at, first_at g hfit hsum, size_at g hfit hsum]
  unfold Plan.cnt
  have hc : IntOp.cmpi .sgt (BitVec.ofNat 32 (nat8 g j.val)) 0#32 = BitVec.ofBool (decide (0 < nat8 g j.val)) := by
    show BitVec.ofBool ((BitVec.ofNat 32 0).slt (BitVec.ofNat 32 (nat8 g j.val))) = _
    rw [slt_ofNat32 (by norm_num) (by omega)]
  rw [hc]
  by_cases h : 0 < nat8 g j.val
  · rw [if_pos h, decide_eq_true h]
    have hd := wDiv_at (subi (wCum g) (wAll8 1#32)) j (Plan.fin (nat8 g) j.val - 1) (by omega) (by
      show wCum g (ix1 j) - wAll8 1#32 (ix1 j) = _
      rw [wAll8_at, ends_at g hfit hsum]
      exact ofNat32_sub (a := Plan.fin (nat8 g) j.val) (b := 1) (by omega))
    rw [hd]
    show (BitVec.ofNat 32 _ - BitVec.ofNat 32 _) + BitVec.ofNat 32 1 = _
    rw [ofNat32_sub (by omega), ← BitVec.ofNat_add]
  · rw [if_neg h, decide_eq_false h]
    show ((BitVec.ofNat 32 _ - 1#32) - BitVec.ofNat 32 _) + 1#32 = 0#32
    generalize BitVec.ofNat 32 ((Plan.fin (nat8 g) j.val - nat8 g j.val) / 512) = z
    bv_omega

theorem end_at (j : Fin 8) : wEnd g (ix1 j) = BitVec.ofNat 32 (Plan.upto (nat8 g) j.val) :=
  wCum_at _ _ (count_at g hfit hsum) j

theorem upto_le (j : Fin 8) : Plan.upto (nat8 g) j.val ≤ 151 := by
  have h := (Plan.upto_bounds (nat8 g) j.val).2
  have := fin_le g hfit hsum j
  have := j.isLt
  omega

theorem upto_pos : 144 ≤ Plan.upto (nat8 g) 7 := by
  have h := (Plan.upto_bounds (nat8 g) 7).1
  omega

/-- The visit kept below the number of visits. -/
abbrev vis (g : IVec S8 32) (v : ℕ) : ℕ := min v (Plan.upto (nat8 g) 7 - 1)

theorem total_at : wTotal (wEnd g) ValueIdx.ix0 = BitVec.ofNat 32 (Plan.upto (nat8 g) 7) := by
  rw [show Plan.upto (nat8 g) 7 = Plan.upto (nat8 g) (7 : Fin 8).val from rfl, ← end_at g hfit hsum (7 : Fin 8)]
  generalize wEnd g = y
  unfold wTotal shapeCast
  have hI (i : S1.Idx) : i = ix1 (0 : Fin 1) := funext fun a => Fin.ext (by
    match a with
    | ⟨0, h⟩ =>
      have := (i ⟨0, h⟩).isLt
      change (i ⟨0, h⟩).val < 1 at this
      show (i ⟨0, h⟩).val = 0
      omega)
  refine Eq.trans (congrArg (extractStridedSlice S1 ![7] y slices_S8_S1_7) (hI _)) ?_
  exact slice1 7 y slices_S8_S1_7 (0 : Fin 1) (by norm_num)

theorem visit_at (v : Fin 152) : wVisit (wEnd g) (ix1 v) = BitVec.ofNat 32 (vis g v.val) := by
  have h1 := upto_le g hfit hsum (7 : Fin 8)
  have h2 := upto_pos g hfit hsum
  have hv := v.isLt
  have h3 : Plan.upto (nat8 g) 7 ≤ 151 := h1
  show IntOp.minsi (BitVec.ofNat 32 v.val) (broadcastInDim S152 ![] bcast_S_S152 (subi (wTotal (wEnd g)) (constantI S_ 32 1#32)) (ix1 v)) = _
  rw [bc0]
  show IntOp.minsi (BitVec.ofNat 32 v.val) (wTotal (wEnd g) ValueIdx.ix0 - BitVec.ofNat 32 1) = _
  rw [total_at g hfit hsum, ofNat32_sub (by omega)]
  unfold IntOp.minsi
  rw [slt_ofNat32 (by omega) (by omega)]
  unfold vis
  by_cases h : v.val < Plan.upto (nat8 g) 7 - 1
  · rw [decide_eq_true h, if_pos rfl, Nat.min_eq_left (by omega)]
  · rw [decide_eq_false h, if_neg (by decide), Nat.min_eq_right (by omega)]

theorem vis_lt (v : ℕ) : vis g v < Plan.upto (nat8 g) 7 := by
  have h2 := upto_pos g hfit hsum
  unfold vis; omega

theorem expert_at (v : Fin 152) : wExpert (wEnd g) (ix1 v) = BitVec.ofNat 32 (Plan.expert (nat8 g) (vis g v.val)) := by
  refine reduce_count (n := 152) (m := 8) (by norm_num) _ _ _ _ v (fun q => Plan.upto (nat8 g) q ≤ vis g v.val) fun q => ?_
  show IntOp.cmpi .sge _ _ = 1#1 ↔ _
  rw [bcRows, bcCols, visit_at g hfit hsum, end_at g hfit hsum]
  have h1 := upto_le g hfit hsum q
  have h3 : Plan.upto (nat8 g) 7 ≤ 151 := upto_le g hfit hsum (7 : Fin 8)
  show BitVec.ofBool ((BitVec.ofNat 32 _).sle (BitVec.ofNat 32 _)) = 1#1 ↔ _
  rw [sle_ofNat32 (by omega) (by unfold vis; omega)]
  by_cases h : Plan.upto (nat8 g) q.val ≤ vis g v.val <;> simp [h]

theorem expert_lt (v : ℕ) : Plan.expert (nat8 g) (vis g v) < 8 := (Plan.expert_spec _ _ (vis_lt g hfit hsum v)).1

end Sizes

theorem wTake_at (y : IVec S8 32) (x : IVec S152 32) (v : Fin 152) (e : Fin 8) (hx : x (ix1 v) = BitVec.ofNat 32 e.val) : wTake y x (ix1 v) = y (ix1 e) := by
  unfold wTake Host.gather
  refine congrArg y (funext fun a => Fin.ext ?_)
  obtain rfl : a = 0 := Subsingleton.elim _ _
  show (gather_S8_S152x1_S152_n_0_n_n_0_1_1).start (ix1 v) _ 0 + (gather_S8_S152x1_S152_n_0_n_n_0_1_1).batchCoord (ix1 v) 0 + (gather_S8_S152x1_S152_n_0_n_n_0_1_1).offCoord (ix1 v) 0 = e.val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather_S8_S152x1_S152_n_0_n_n_0_1_1).startIndexMap from List.mem_singleton.mpr rfl)]
  have hsi : (gather_S8_S152x1_S152_n_0_n_n_0_1_1).siIdx (ix1 v) ⟨List.idxOf (0 : Fin 1) (gather_S8_S152x1_S152_n_0_n_n_0_1_1).startIndexMap,
      List.idxOf_lt_length_iff.2 (List.mem_singleton.mpr rfl)⟩ = ix2 v (0 : Fin 1) := by
    funext b; refine Fin.ext ?_
    match b with
    | ⟨0, _⟩ => rfl
    | ⟨1, _⟩ => rfl
  rw [hsi, bcCol]
  have he := e.isLt
  have hs : select (cmpi .slt x (wAll 0#32)) (addi x (wAll 8#32)) x (ix1 v) = BitVec.ofNat 32 e.val := by
    show Scalar.select (IntOp.cmpi .slt (x (ix1 v)) (wAll 0#32 (ix1 v))) _ (x (ix1 v)) = _
    rw [hx, wAll_at]
    have : IntOp.cmpi .slt (BitVec.ofNat 32 e.val) 0#32 = 0#1 := by
      show BitVec.ofBool ((BitVec.ofNat 32 e.val).slt (BitVec.ofNat 32 0)) = _
      rw [slt_ofNat32 (by omega) (by norm_num)]
      rfl
    rw [this]
    rfl
  rw [hs, StableHlo.Predicate.toInt_ofNat_small _ (by omega)]
  show min ((e.val : Int)).toNat (8 - 1) = e.val
  omega

section Sizes2
variable (g : IVec S8 32) (hfit : ∀ j : Fin 8, (g (ix1 j)).toNat ≤ 73728) (hsum : Plan.fin (nat8 g) 7 = 73728)
include hfit hsum

theorem tile_at (v : Fin 152) : wTile (wFirst g) (wCount g) (wEnd g) (ix1 v) = BitVec.ofNat 32 (Plan.tile (nat8 g) (vis g v.val)) := by
  have he := expert_at g hfit hsum v
  have hl := expert_lt g hfit hsum v.val
  have t := fun y => wTake_at y _ v ⟨Plan.expert (nat8 g) (vis g v.val), hl⟩ he
  show (wTake (wFirst g) (wExpert (wEnd g)) (ix1 v) + wVisit (wEnd g) (ix1 v))
    - (wTake (wEnd g) (wExpert (wEnd g)) (ix1 v) - wTake (wCount g) (wExpert (wEnd g)) (ix1 v)) = _
  rw [t, t, t, first_at g hfit hsum, end_at g hfit hsum, count_at g hfit hsum, visit_at g hfit hsum]
  have h3 := (Plan.expert_spec _ _ (vis_lt g hfit hsum v.val)).2.2
  rw [ofNat32_sub (Plan.cnt_le_upto _ _), ← BitVec.ofNat_add, ofNat32_sub (by simp only; omega)]
  rfl

theorem tile_lt (v : ℕ) : Plan.tile (nat8 g) (vis g v) < 144 := Plan.tile_lt _ hsum _ (vis_lt g hfit hsum v)

end Sizes2

end Cert.KernelIdeal.Hand
-- ==== Proof.PI.Ok.lean ====
module

public import proofs.«01_k».proof.Proof.PI.TableFacts
public import Idealize.ShloMosaic.Lib.PairWhole
public import Idealize.ShloMosaic.Lib.ReduceAll

/-! Every block a visit takes lies inside its array when the tables hold experts below 8 and row tiles below 144. -/

@[expose] public section

noncomputable section

namespace Cert.KernelIdeal.Hand

open Idealize.ShloMosaic Idealize.ShloMosaic.Routing Idealize.SL.Sem
open Cert.KernelIdeal Cert.KernelIdeal.Gen

variable {F : FTy → Type} [FloatOps F]

theorem grid_add (n k : ℕ) (hn : n < 14) (hk : k ≤ 14) : (Scalar.addi (BitVec.ofNat 32 n) (BitVec.ofNat 32 k)).toNat = n + k := by
  show (BitVec.ofNat 32 n + BitVec.ofNat 32 k).toNat = _
  rw [BitVec.toNat_add, BitVec.toNat_ofNat, BitVec.toNat_ofNat]
  omega
theorem grid_word (n : ℕ) (hn : n < 14) : (BitVec.ofNat 32 n).toNat = n := by
  rw [BitVec.toNat_ofNat]
  omega

theorem ok_of (pf : pre0.Contents (Elt F)) (hT : ∀ i : S152.Idx, BitVec.toNat (w := 32) (pf 0 i) < 144) (hE : ∀ i : S152.Idx, BitVec.toNat (w := 32) (pf 1 i) < 8) :
    ok0 pf := by
  unfold ok0
  have hn (i : grid0.Coords) : (i 0).val < 14 := (i 0).isLt
  have aT (i : grid0.Coords) : BitVec.toNat (w := 32) (pf.at 0 (Rect.unit (s := S152) ![(Scalar.indexCast (BitVec.ofNat 32 (i 1).val)).toNat] S1.size (k0_off1_inb i)) numel1_S1) < 144 := hT _
  have aE (i : grid0.Coords) : BitVec.toNat (w := 32) (pf.at 1 (Rect.unit (s := S152) ![(Scalar.indexCast (BitVec.ofNat 32 (i 1).val)).toNat] S1.size (k0_off1_inb i)) numel1_S1) < 8 := hE _
  refine ⟨?_, ?_, ?_, ?_, ?_, ?_, ?_, ?_, ?_, ?_⟩
  · refine fun i => ⟨fun a => ?_, .inr ((Rect.packedRows_of_rowAxis _ _ (by decide) ?_ ?_ rfl).wholeWords)⟩
    · match a with
      | ⟨0, _⟩ =>
        show (BitVec.toNat (w := 32) (pf.at 0 (Rect.unit (s := S152) ![(Scalar.indexCast (BitVec.ofNat 32 (i 1).val)).toNat] S1.size (k0_off1_inb i)) numel1_S1) + 1) * 512 ≤ 73728
        have := aT i
        omega
      | ⟨1, _⟩ =>
        show (0 + 1) * 3072 ≤ 3072
        omega
    · show 4 ∣ BitVec.toNat (w := 32) (pf.at 0 (Rect.unit (s := S152) ![(Scalar.indexCast (BitVec.ofNat 32 (i 1).val)).toNat] S1.size (k0_off1_inb i)) numel1_S1) * 512
      exact Dvd.dvd.mul_left (by decide) _
    · show 4 ∣ 512
      decide
  · refine fun i => ⟨fun a => ?_, .inl rfl⟩
    · match a with
      | ⟨0, _⟩ =>
        show (BitVec.toNat (w := 32) (pf.at 0 (Rect.unit (s := S152) ![(Scalar.indexCast (BitVec.ofNat 32 (i 1).val)).toNat] S1.size (k0_off1_inb i)) numel1_S1) + 1) * 512 ≤ 73728
        have := aT i
        omega
      | ⟨1, _⟩ =>
        show (0 + 1) * 24 ≤ 24
        omega
  · refine fun i => ⟨fun a => ?_, .inr ((Rect.packedRows_of_rowAxis _ _ (by decide) ?_ ?_ rfl).wholeWords)⟩
    · match a with
      | ⟨0, _⟩ =>
        show (BitVec.toNat (w := 32) (pf.at 1 (Rect.unit (s := S152) ![(Scalar.indexCast (BitVec.ofNat 32 (i 1).val)).toNat] S1.size (k0_off1_inb i)) numel1_S1) + 1) * 1 ≤ 8
        have := aE i
        omega
      | ⟨1, _⟩ =>
        show (0 + 1) * 1536 ≤ 1536
        omega
      | ⟨2, _⟩ =>
        show ((Scalar.addi (BitVec.ofNat 32 (i 0).val) 0#32).toNat + 1) * 512 ≤ 14336
        have := hn i
        rw [grid_add _ 0 (hn i) (by norm_num)]
        omega
    · show 4 ∣ 0 * 1536
      exact Dvd.dvd.mul_left (by decide) _
    · show 4 ∣ 1536
      decide
  · refine fun i => ⟨fun a => ?_, .inr ((Rect.packedRows_of_rowAxis _ _ (by decide) ?_ ?_ rfl).wholeWords)⟩
    · match a with
      | ⟨0, _⟩ =>
        show (BitVec.toNat (w := 32) (pf.at 1 (Rect.unit (s := S152) ![(Scalar.indexCast (BitVec.ofNat 32 (i 1).val)).toNat] S1.size (k0_off1_inb i)) numel1_S1) + 1) * 1 ≤ 8
        have := aE i
        omega
      | ⟨1, _⟩ =>
        show (0 + 1) * 1536 ≤ 1536
        omega
      | ⟨2, _⟩ =>
        show ((Scalar.addi (BitVec.ofNat 32 (i 0).val) 14#32).toNat + 1) * 512 ≤ 14336
        have := hn i
        rw [grid_add _ 14 (hn i) (by norm_num)]
        omega
    · show 4 ∣ 0 * 1536
      exact Dvd.dvd.mul_left (by decide) _
    · show 4 ∣ 1536
      decide
  · refine fun i => ⟨fun a => ?_, .inr ((Rect.packedRows_of_rowAxis _ _ (by decide) ?_ ?_ rfl).wholeWords)⟩
    · match a with
      | ⟨0, _⟩ =>
        show (BitVec.toNat (w := 32) (pf.at 1 (Rect.unit (s := S152) ![(Scalar.indexCast (BitVec.ofNat 32 (i 1).val)).toNat] S1.size (k0_off1_inb i)) numel1_S1) + 1) * 1 ≤ 8
        have := aE i
        omega
      | ⟨1, _⟩ =>
        show (0 + 1) * 96 ≤ 96
        omega
      | ⟨2, _⟩ =>
        show ((Scalar.addi (BitVec.ofNat 32 (i 0).val) 0#32).toNat + 1) * 512 ≤ 14336
        have := hn i
        rw [grid_add _ 0 (hn i) (by norm_num)]
        omega
    · show 4 ∣ 0 * 96
      exact Dvd.dvd.mul_left (by decide) _
    · show 4 ∣ 96
      decide
  · refine fun i => ⟨fun a => ?_, .inr ((Rect.packedRows_of_rowAxis _ _ (by decide) ?_ ?_ rfl).wholeWords)⟩
    · match a with
      | ⟨0, _⟩ =>
        show (BitVec.toNat (w := 32) (pf.at 1 (Rect.unit (s := S152) ![(Scalar.indexCast (BitVec.ofNat 32 (i 1).val)).toNat] S1.size (k0_off1_inb i)) numel1_S1) + 1) * 1 ≤ 8
        have := aE i
        omega
      | ⟨1, _⟩ =>
        show (0 + 1) * 96 ≤ 96
        omega
      | ⟨2, _⟩ =>
        show ((Scalar.addi (BitVec.ofNat 32 (i 0).val) 14#32).toNat + 1) * 512 ≤ 14336
        have := hn i
        rw [grid_add _ 14 (hn i) (by norm_num)]
        omega
    · show 4 ∣ 0 * 96
      exact Dvd.dvd.mul_left (by decide) _
    · show 4 ∣ 96
      decide
  · refine fun i => ⟨fun a => ?_, .inl rfl⟩
    · match a with
      | ⟨0, _⟩ =>
        show (BitVec.toNat (w := 32) (pf.at 1 (Rect.unit (s := S152) ![(Scalar.indexCast (BitVec.ofNat 32 (i 1).val)).toNat] S1.size (k0_off1_inb i)) numel1_S1) + 1) * 1 ≤ 8
        have := aE i
        omega
      | ⟨1, _⟩ =>
        show (0 + 1) * 1 ≤ 1
        omega
      | ⟨2, _⟩ =>
        show ((Scalar.addi (BitVec.ofNat 32 (i 0).val) 0#32).toNat + 1) * 512 ≤ 14336
        have := hn i
        rw [grid_add _ 0 (hn i) (by norm_num)]
        omega
  · refine fun i => ⟨fun a => ?_, .inl rfl⟩
    · match a with
      | ⟨0, _⟩ =>
        show (BitVec.toNat (w := 32) (pf.at 1 (Rect.unit (s := S152) ![(Scalar.indexCast (BitVec.ofNat 32 (i 1).val)).toNat] S1.size (k0_off1_inb i)) numel1_S1) + 1) * 1 ≤ 8
        have := aE i
        omega
      | ⟨1, _⟩ =>
        show (0 + 1) * 1 ≤ 1
        omega
      | ⟨2, _⟩ =>
        show ((Scalar.addi (BitVec.ofNat 32 (i 0).val) 14#32).toNat + 1) * 512 ≤ 14336
        have := hn i
        rw [grid_add _ 14 (hn i) (by norm_num)]
        omega
  · refine fun i => ⟨fun a => ?_, .inr ((Rect.packedRows_of_rowAxis _ _ (by decide) ?_ ?_ rfl).wholeWords)⟩
    · match a with
      | ⟨0, _⟩ =>
        show (BitVec.toNat (w := 32) (pf.at 0 (Rect.unit (s := S152) ![(Scalar.indexCast (BitVec.ofNat 32 (i 1).val)).toNat] S1.size (k0_off1_inb i)) numel1_S1) + 1) * 512 ≤ 73728
        have := aT i
        omega
      | ⟨1, _⟩ =>
        show ((BitVec.ofNat 32 (i 0).val).toNat + 1) * 512 ≤ 7168
        have := hn i
        rw [grid_word _ (hn i)]
        omega
    · show 4 ∣ BitVec.toNat (w := 32) (pf.at 0 (Rect.unit (s := S152) ![(Scalar.indexCast (BitVec.ofNat 32 (i 1).val)).toNat] S1.size (k0_off1_inb i)) numel1_S1) * 512
      exact Dvd.dvd.mul_left (by decide) _
    · show 4 ∣ 512
      decide
  · refine fun i => ⟨fun a => ?_, .inl rfl⟩
    · match a with
      | ⟨0, _⟩ =>
        show ((BitVec.ofNat 32 (i 0).val).toNat + 1) * 1 ≤ 14
        have := hn i
        rw [grid_word _ (hn i)]
        omega
      | ⟨1, _⟩ =>
        show (BitVec.toNat (w := 32) (pf.at 0 (Rect.unit (s := S152) ![(Scalar.indexCast (BitVec.ofNat 32 (i 1).val)).toNat] S1.size (k0_off1_inb i)) numel1_S1) + 1) * 512 ≤ 73728
        have := aT i
        omega
      | ⟨2, _⟩ =>
        show (0 + 1) * 4 ≤ 4
        omega

end Cert.KernelIdeal.Hand
-- ==== Proof.PI.Blocks.lean ====
module

public import proofs.«01_k».proof.Proof.Gen.KernelIdeal

/-! The dequantising branch of the body as a chain of equal blocks: 96 blocks of 32 rows for the
    gate half, then 96 for the up half. -/

@[expose] public section

noncomputable section

namespace Cert.KernelIdeal.Hand

open Idealize.ShloMosaic Idealize.SL.Sem
open Cert.KernelIdeal Facts₀ Facts

variable {F : FTy → Type} [FloatOps F] [Facts]

theorem inbW (b : ℕ) (hb : b < 96) :
    ∀ a, (![0, 16 * b, 0] : Fin 3 → Nat) a + S1x16x512.size a ≤ S1x1536x512.size a := by
  intro a; fin_cases a
  · show 0 + 1 ≤ 1; omega
  · show 16 * b + 16 ≤ 1536; omega
  · show 0 + 512 ≤ 512; omega
theorem inbS (b : ℕ) (hb : b < 96) :
    ∀ a, (![0, b, 0] : Fin 3 → Nat) a + S1x1x512.size a ≤ S1x96x512.size a := by
  intro a; fin_cases a
  · show 0 + 1 ≤ 1; omega
  · show b + 1 ≤ 96; omega
  · show 0 + 512 ≤ 512; omega
theorem inbD (b : ℕ) (hb : b < 96) :
    ∀ a, (![32 * b, 0] : Fin 2 → Nat) a + S32x512.size a ≤ S3072x512.size a := by
  intro a; fin_cases a
  · show 32 * b + 32 ≤ 3072; omega
  · show 0 + 512 ≤ 512; omega
theorem packD (b : ℕ) (hb : b < 96) :
    (Rect.unit (s := S3072x512) ![32 * b, 0] S32x512.size (inbD b hb)).PackedRows (EltTy.packing .bf16) := by
  refine Or.inr ⟨by decide, rfl, Or.inl ⟨?_, ?_⟩⟩
  · show 2 ∣ 32 * b
    omega
  · show 2 ∣ 32
    omega

/-- The 32 rows of values one block of packed bytes and one row of scale bytes decode to. -/
def deqVal (v16 : Vec F S1x16x512 .i8) (v46 : Vec F S1x1x512 .i8) : FVec F S32x512 .bf16 :=
  have v17 : IVec S16x512 8 := shapeCast S16x512 v16 shapeCasts_S1x16x512_S16x512
  have v18 : IVec S16x512 32 := extui 32 v17 natLt_8_32
  let c15_i32 : BitVec 32 := 15#32
  have v19 : IVec S16x512 32 := broadcast S16x512 c15_i32
  have v20 : IVec S16x512 32 := andi v18 v19
  have v21 : IVec S16x1x512 32 := shapeCast S16x1x512 v20 shapeCasts_S16x512_S16x1x512
  let c4_i32 : BitVec 32 := 4#32
  have v22 : IVec S16x512 32 := broadcast S16x512 c4_i32
  have v23 : IVec S16x512 32 := shrsi v18 v22
  have v24 : IVec S16x1x512 32 := shapeCast S16x1x512 v23 shapeCasts_S16x512_S16x1x512
  have v25 : IVec S16x2x512 32 := concatenate S16x2x512 1 [⟨S16x1x512, v21⟩, ⟨S16x1x512, v24⟩] concatenates_S16x1x512_S16x1x512_S16x2x512_d1
  have v26 : IVec S32x512 32 := shapeCast S32x512 v25 shapeCasts_S16x2x512_S32x512
  let c7_i32 : BitVec 32 := 7#32
  have v27 : IVec S32x512 32 := broadcast S32x512 c7_i32
  have v28 : IVec S32x512 32 := andi v26 v27
  have v29 : FVec F S32x512 .f32 := sitofp .f32 v28
  have cst : F .f32 := Scalar.ofBits .f32 0x3F000000#32
  have v30 : FVec F S32x512 .f32 := broadcast S32x512 cst
  have v31 : FVec F S32x512 .f32 := mulf v30 v29
  have cst_6 : F .f32 := Scalar.ofBits .f32 0x40000000#32
  have v32 : FVec F S32x512 .f32 := broadcast S32x512 cst_6
  have v33 : FVec F S32x512 .f32 := subf v29 v32
  have cst_7 : F .f32 := Scalar.ofBits .f32 0x40000000#32
  have v34 : FVec F S32x512 .f32 := broadcast S32x512 cst_7
  have v35 : FVec F S32x512 .f32 := mulf v34 v29
  have cst_8 : F .f32 := Scalar.ofBits .f32 0x41000000#32
  have v36 : FVec F S32x512 .f32 := broadcast S32x512 cst_8
  have v37 : FVec F S32x512 .f32 := subf v35 v36
  have v38 : FVec F S32x512 .f32 := maximumf v33 v37
  have v39 : FVec F S32x512 .f32 := maximumf v31 v38
  let c8_i32 : BitVec 32 := 8#32
  have v40 : IVec S32x512 32 := broadcast S32x512 c8_i32
  have v41 : IVec S32x512 1 := cmpi .sge v26 v40
  have cst_9 : F .f32 := Scalar.ofBits .f32 0x00000000#32
  have v42 : FVec F S32x512 .f32 := broadcast S32x512 cst_9
  have v43 : FVec F S32x512 .f32 := subf v42 v39
  have v44 : FVec F S32x512 .f32 := select v41 v43 v39
  have v45 : FVec F S32x512 .bf16 := truncf .bf16 v44 bitsLt_bf16_f32
  let c0_10 : Index := 0#32
  let c0_11 : Index := 0#32
  let c0_12 : Index := 0#32
  have v47 : IVec S1x512 8 := shapeCast S1x512 v46 shapeCasts_S1x1x512_S1x512
  have v48 : IVec S1x512 32 := extui 32 v47 natLt_8_32
  let c23_i32 : BitVec 32 := 23#32
  have v49 : IVec S1x512 32 := broadcast S1x512 c23_i32
  have v50 : IVec S1x512 32 := shli v48 v49
  have v51 : FVec F S1x512 .f32 := bitcastToFloat .f32 v50
  have v52 : FVec F S1x512 .bf16 := truncf .bf16 v51 bitsLt_bf16_f32
  have v53 : FVec F S32x512 .bf16 := broadcastTo S32x512 v52 broadcasts_S1x512_S32x512
  have v54 : FVec F S32x512 .bf16 := mulf v45 v53
  let c0_13 : Index := 0#32
  let c0_14 : Index := 0#32
  have v57 : FVec F S32x512 .bf16 := shapeCast S32x512 v54 shapeCasts_S32x512_S32x512
  v57

/-- One block, then `k`. -/
def deqK (w : Memref sig .tc .vmem S1x1536x512 .i8) (s : Memref sig .tc .vmem S1x96x512 .i8)
    (d : Memref sig .tc .vmem S3072x512 .bf16) (hd : d.IsWhole) (b : ℕ) (hb : b < 96)
    (k : Prog (TpuEff nD τ sig (Elt F) Λ₀ .tc) PUnit) : Prog (TpuEff nD τ sig (Elt F) Λ₀ .tc) PUnit :=
  Prog.op (.load w (Rect.unit (s := S1x1536x512) ![0, 16 * b, 0] S1x16x512.size (inbW b hb)).toLoadRect (View.loadsAt_vmem h_S1x16x512)) fun v16 =>
  Prog.op (.load s (Rect.unit (s := S1x96x512) ![0, b, 0] S1x1x512.size (inbS b hb)).toLoadRect (View.loadsAt_vmem h_S1x1x512)) fun v46 =>
  Prog.op (.load d (Rect.unit (s := S3072x512) ![32 * b, 0] S32x512.size (inbD b hb)).toLoadRect (View.loadsAt_vmem h_S32x512)) fun _ =>
  Prog.op (.store d (Rect.unit (s := S3072x512) ![32 * b, 0] S32x512.size (inbD b hb)) (deqVal v16 v46) Finset.univ (View.stores_vmem h_S32x512 (hd.storeExact_slice rfl _ (packD b hb)) (fun _ => rfl)) (.inl rfl)) fun _ =>
  k

/-- The blocks `b, …, b + n - 1`, then `k`. -/
def deqRun (w : Memref sig .tc .vmem S1x1536x512 .i8) (s : Memref sig .tc .vmem S1x96x512 .i8)
    (d : Memref sig .tc .vmem S3072x512 .bf16) (hd : d.IsWhole) (k : Prog (TpuEff nD τ sig (Elt F) Λ₀ .tc) PUnit) :
    (n b : ℕ) → n + b ≤ 96 → Prog (TpuEff nD τ sig (Elt F) Λ₀ .tc) PUnit
  | 0, _, _ => k
  | n + 1, b, h => deqK w s d hd b (by omega) (deqRun w s d hd k n (b + 1) (by omega))

/-- The printed branch. -/
def deqBranch (i : grid0.Coords) (arg2 : Memref sig .tc .smem S152 .i32) (harg2 : arg2.IsWhole) (arg3 : Memref sig .tc .smem S152 .i32) (harg3 : arg3.IsWhole) (arg4 : Memref sig .tc .smem S152 .i32) (harg4 : arg4.IsWhole) (arg5 : Memref sig .tc .smem S152 .i32) (harg5 : arg5.IsWhole) (arg6 : Memref sig .tc .smem S152 .i32) (harg6 : arg6.IsWhole) (arg7 : Memref sig .tc .vmem S512x3072 .fp8e4m3) (harg7 : arg7.IsWhole) (arg8 : Memref sig .tc .vmem S512x24 .f32) (harg8 : arg8.IsWhole) (arg9 : Memref sig .tc .vmem S1x1536x512 .i8) (harg9 : arg9.IsWhole) (arg10 : Memref sig .tc .vmem S1x1536x512 .i8) (harg10 : arg10.IsWhole) (arg11 : Memref sig .tc .vmem S1x96x512 .i8) (harg11 : arg11.IsWhole) (arg12 : Memref sig .tc .vmem S1x96x512 .i8) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S512x512 .fp8e4m3) (harg15 : arg15.IsWhole) (arg16 : Memref sig .tc .vmem S1x512x4 .f32) (harg16 : arg16.IsWhole) (arg17 : Memref sig .tc .vmem S3072x512 .bf16) (harg17 : arg17.IsWhole) (arg18 : Memref sig .tc .vmem S3072x512 .bf16) (harg18 : arg18.IsWhole) (arg19 : Memref sig .tc .vmem S512x3072 .bf16) (harg19 : arg19.IsWhole) (jp : Unit → Prog (TpuEff nD τ sig (Elt F) Λ₀ .tc) PUnit) : Prog (TpuEff nD τ sig (Elt F) Λ₀ .tc) PUnit := do
  k0_part196 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  k0_part197 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  k0_part198 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  k0_part181 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  k0_part182 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  k0_part183 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let v7617 : FVec F S32x512 .bf16 ← k0_part184 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let v7656 : FVec F S32x512 .bf16 ← k0_part185 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v7617
  let ⟨v7698, v7699⟩ : Σ' (v7698 : FVec F S32x512 .bf16), Vec F S32x512 .bf16 ← k0_part186 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v7656
  let v7740 : FVec F S32x512 .bf16 ← k0_part187 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v7698 v7699
  let v7782 : FVec F S32x512 .bf16 ← k0_part188 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v7740
  let v7824 : FVec F S32x512 .bf16 ← k0_part189 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v7782
  let ⟨v7857, v7865⟩ : Σ' (v7857 : FVec F S32x512 .bf16), FVec F S32x512 .bf16 ← k0_part190 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v7824
  let ⟨v7899, v7906⟩ : Σ' (v7899 : FVec F S32x512 .bf16), FVec F S1x512 .bf16 ← k0_part191 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v7857 v7865
  let ⟨v7941, v7947⟩ : Σ' (v7941 : FVec F S32x512 .bf16), FVec F S1x512 .f32 ← k0_part192 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v7899 v7906
  let ⟨v7983, v7988⟩ : Σ' (v7983 : FVec F S32x512 .bf16), IVec S1x512 32 ← k0_part193 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v7941 v7947
  let ⟨v8025, v8028, v8029⟩ : Σ' (v8025 : FVec F S32x512 .bf16) (v8028 : IVec S1x512 32), IVec S1x512 32 ← k0_part194 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v7983 v7988
  let ⟨v8067, v8070, c23_i32_3217⟩ : Σ' (v8067 : FVec F S32x512 .bf16) (v8070 : IVec S1x512 32), BitVec 32 ← k0_part195 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8025 v8028 v8029
  have v8071 : IVec S1x512 32 := broadcast S1x512 c23_i32_3217
  have v8072 : IVec S1x512 32 := shli v8070 v8071
  have v8073 : FVec F S1x512 .f32 := bitcastToFloat .f32 v8072
  have v8074 : FVec F S1x512 .bf16 := truncf .bf16 v8073 bitsLt_bf16_f32
  have v8075 : FVec F S32x512 .bf16 := broadcastTo S32x512 v8074 broadcasts_S1x512_S32x512
  have v8076 : FVec F S32x512 .bf16 := mulf v8067 v8075
  let c3040_3218 : Index := 3040#32
  let c0_3219 : Index := 0#32
  let v8077 : Vec F S32x512 .bf16 ← Prog.lift (.load arg18 (Rect.unit (s := S3072x512) ![3040, 0] S32x512.size inb_S3072x512_S32x512_3040_0).toLoadRect (View.loadsAt_vmem h_S32x512))
  have v8078 : FVec F S32x512 .bf16 := shapeCast S32x512 v8077 shapeCasts_S32x512_S32x512
  have v8079 : FVec F S32x512 .bf16 := shapeCast S32x512 v8076 shapeCasts_S32x512_S32x512
  Prog.lift (.store arg18 (Rect.unit (s := S3072x512) ![3040, 0] S32x512.size inb_S3072x512_S32x512_3040_0) v8079 Finset.univ (View.stores_vmem h_S32x512 (harg18.storeExact_slice rfl _ packedbf16_S3072x512_S32x512_3040_0) (fun _ => rfl)) (.inl rfl))
  jp ⟨⟩

set_option maxRecDepth 1000000 in
set_option maxHeartbeats 0 in
theorem deqBranch_eq (i : grid0.Coords) (arg2 : Memref sig .tc .smem S152 .i32) (harg2 : arg2.IsWhole) (arg3 : Memref sig .tc .smem S152 .i32) (harg3 : arg3.IsWhole) (arg4 : Memref sig .tc .smem S152 .i32) (harg4 : arg4.IsWhole) (arg5 : Memref sig .tc .smem S152 .i32) (harg5 : arg5.IsWhole) (arg6 : Memref sig .tc .smem S152 .i32) (harg6 : arg6.IsWhole) (arg7 : Memref sig .tc .vmem S512x3072 .fp8e4m3) (harg7 : arg7.IsWhole) (arg8 : Memref sig .tc .vmem S512x24 .f32) (harg8 : arg8.IsWhole) (arg9 : Memref sig .tc .vmem S1x1536x512 .i8) (harg9 : arg9.IsWhole) (arg10 : Memref sig .tc .vmem S1x1536x512 .i8) (harg10 : arg10.IsWhole) (arg11 : Memref sig .tc .vmem S1x96x512 .i8) (harg11 : arg11.IsWhole) (arg12 : Memref sig .tc .vmem S1x96x512 .i8) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S512x512 .fp8e4m3) (harg15 : arg15.IsWhole) (arg16 : Memref sig .tc .vmem S1x512x4 .f32) (harg16 : arg16.IsWhole) (arg17 : Memref sig .tc .vmem S3072x512 .bf16) (harg17 : arg17.IsWhole) (arg18 : Memref sig .tc .vmem S3072x512 .bf16) (harg18 : arg18.IsWhole) (arg19 : Memref sig .tc .vmem S512x3072 .bf16) (harg19 : arg19.IsWhole) (jp : Unit → Prog (TpuEff nD τ sig (Elt F) Λ₀ .tc) PUnit) :
    deqBranch (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 jp = (
    deqK (F := F) arg9 arg11 arg17 harg17 0 (by decide) <|
    deqK (F := F) arg9 arg11 arg17 harg17 1 (by decide) <|
    deqK (F := F) arg9 arg11 arg17 harg17 2 (by decide) <|
    deqK (F := F) arg9 arg11 arg17 harg17 3 (by decide) <|
    deqK (F := F) arg9 arg11 arg17 harg17 4 (by decide) <|
    deqK (F := F) arg9 arg11 arg17 harg17 5 (by decide) <|
    deqK (F := F) arg9 arg11 arg17 harg17 6 (by decide) <|
    deqK (F := F) arg9 arg11 arg17 harg17 7 (by decide) <|
    deqK (F := F) arg9 arg11 arg17 harg17 8 (by decide) <|
    deqK (F := F) arg9 arg11 arg17 harg17 9 (by decide) <|
    deqK (F := F) arg9 arg11 arg17 harg17 10 (by decide) <|
    deqK (F := F) arg9 arg11 arg17 harg17 11 (by decide) <|
    deqK (F := F) arg9 arg11 arg17 harg17 12 (by decide) <|
    deqK (F := F) arg9 arg11 arg17 harg17 13 (by decide) <|
    deqK (F := F) arg9 arg11 arg17 harg17 14 (by decide) <|
    deqK (F := F) arg9 arg11 arg17 harg17 15 (by decide) <|
    deqK (F := F) arg9 arg11 arg17 harg17 16 (by decide) <|
    deqK (F := F) arg9 arg11 arg17 harg17 17 (by decide) <|
    deqK (F := F) arg9 arg11 arg17 harg17 18 (by decide) <|
    deqK (F := F) arg9 arg11 arg17 harg17 19 (by decide) <|
    deqK (F := F) arg9 arg11 arg17 harg17 20 (by decide) <|
    deqK (F := F) arg9 arg11 arg17 harg17 21 (by decide) <|
    deqK (F := F) arg9 arg11 arg17 harg17 22 (by decide) <|
    deqK (F := F) arg9 arg11 arg17 harg17 23 (by decide) <|
    deqK (F := F) arg9 arg11 arg17 harg17 24 (by decide) <|
    deqK (F := F) arg9 arg11 arg17 harg17 25 (by decide) <|
    deqK (F := F) arg9 arg11 arg17 harg17 26 (by decide) <|
    deqK (F := F) arg9 arg11 arg17 harg17 27 (by decide) <|
    deqK (F := F) arg9 arg11 arg17 harg17 28 (by decide) <|
    deqK (F := F) arg9 arg11 arg17 harg17 29 (by decide) <|
    deqK (F := F) arg9 arg11 arg17 harg17 30 (by decide) <|
    deqK (F := F) arg9 arg11 arg17 harg17 31 (by decide) <|
    deqK (F := F) arg9 arg11 arg17 harg17 32 (by decide) <|
    deqK (F := F) arg9 arg11 arg17 harg17 33 (by decide) <|
    deqK (F := F) arg9 arg11 arg17 harg17 34 (by decide) <|
    deqK (F := F) arg9 arg11 arg17 harg17 35 (by decide) <|
    deqK (F := F) arg9 arg11 arg17 harg17 36 (by decide) <|
    deqK (F := F) arg9 arg11 arg17 harg17 37 (by decide) <|
    deqK (F := F) arg9 arg11 arg17 harg17 38 (by decide) <|
    deqK (F := F) arg9 arg11 arg17 harg17 39 (by decide) <|
    deqK (F := F) arg9 arg11 arg17 harg17 40 (by decide) <|
    deqK (F := F) arg9 arg11 arg17 harg17 41 (by decide) <|
    deqK (F := F) arg9 arg11 arg17 harg17 42 (by decide) <|
    deqK (F := F) arg9 arg11 arg17 harg17 43 (by decide) <|
    deqK (F := F) arg9 arg11 arg17 harg17 44 (by decide) <|
    deqK (F := F) arg9 arg11 arg17 harg17 45 (by decide) <|
    deqK (F := F) arg9 arg11 arg17 harg17 46 (by decide) <|
    deqK (F := F) arg9 arg11 arg17 harg17 47 (by decide) <|
    deqK (F := F) arg9 arg11 arg17 harg17 48 (by decide) <|
    deqK (F := F) arg9 arg11 arg17 harg17 49 (by decide) <|
    deqK (F := F) arg9 arg11 arg17 harg17 50 (by decide) <|
    deqK (F := F) arg9 arg11 arg17 harg17 51 (by decide) <|
    deqK (F := F) arg9 arg11 arg17 harg17 52 (by decide) <|
    deqK (F := F) arg9 arg11 arg17 harg17 53 (by decide) <|
    deqK (F := F) arg9 arg11 arg17 harg17 54 (by decide) <|
    deqK (F := F) arg9 arg11 arg17 harg17 55 (by decide) <|
    deqK (F := F) arg9 arg11 arg17 harg17 56 (by decide) <|
    deqK (F := F) arg9 arg11 arg17 harg17 57 (by decide) <|
    deqK (F := F) arg9 arg11 arg17 harg17 58 (by decide) <|
    deqK (F := F) arg9 arg11 arg17 harg17 59 (by decide) <|
    deqK (F := F) arg9 arg11 arg17 harg17 60 (by decide) <|
    deqK (F := F) arg9 arg11 arg17 harg17 61 (by decide) <|
    deqK (F := F) arg9 arg11 arg17 harg17 62 (by decide) <|
    deqK (F := F) arg9 arg11 arg17 harg17 63 (by decide) <|
    deqK (F := F) arg9 arg11 arg17 harg17 64 (by decide) <|
    deqK (F := F) arg9 arg11 arg17 harg17 65 (by decide) <|
    deqK (F := F) arg9 arg11 arg17 harg17 66 (by decide) <|
    deqK (F := F) arg9 arg11 arg17 harg17 67 (by decide) <|
    deqK (F := F) arg9 arg11 arg17 harg17 68 (by decide) <|
    deqK (F := F) arg9 arg11 arg17 harg17 69 (by decide) <|
    deqK (F := F) arg9 arg11 arg17 harg17 70 (by decide) <|
    deqK (F := F) arg9 arg11 arg17 harg17 71 (by decide) <|
    deqK (F := F) arg9 arg11 arg17 harg17 72 (by decide) <|
    deqK (F := F) arg9 arg11 arg17 harg17 73 (by decide) <|
    deqK (F := F) arg9 arg11 arg17 harg17 74 (by decide) <|
    deqK (F := F) arg9 arg11 arg17 harg17 75 (by decide) <|
    deqK (F := F) arg9 arg11 arg17 harg17 76 (by decide) <|
    deqK (F := F) arg9 arg11 arg17 harg17 77 (by decide) <|
    deqK (F := F) arg9 arg11 arg17 harg17 78 (by decide) <|
    deqK (F := F) arg9 arg11 arg17 harg17 79 (by decide) <|
    deqK (F := F) arg9 arg11 arg17 harg17 80 (by decide) <|
    deqK (F := F) arg9 arg11 arg17 harg17 81 (by decide) <|
    deqK (F := F) arg9 arg11 arg17 harg17 82 (by decide) <|
    deqK (F := F) arg9 arg11 arg17 harg17 83 (by decide) <|
    deqK (F := F) arg9 arg11 arg17 harg17 84 (by decide) <|
    deqK (F := F) arg9 arg11 arg17 harg17 85 (by decide) <|
    deqK (F := F) arg9 arg11 arg17 harg17 86 (by decide) <|
    deqK (F := F) arg9 arg11 arg17 harg17 87 (by decide) <|
    deqK (F := F) arg9 arg11 arg17 harg17 88 (by decide) <|
    deqK (F := F) arg9 arg11 arg17 harg17 89 (by decide) <|
    deqK (F := F) arg9 arg11 arg17 harg17 90 (by decide) <|
    deqK (F := F) arg9 arg11 arg17 harg17 91 (by decide) <|
    deqK (F := F) arg9 arg11 arg17 harg17 92 (by decide) <|
    deqK (F := F) arg9 arg11 arg17 harg17 93 (by decide) <|
    deqK (F := F) arg9 arg11 arg17 harg17 94 (by decide) <|
    deqK (F := F) arg9 arg11 arg17 harg17 95 (by decide) <|
    deqK (F := F) arg10 arg12 arg18 harg18 0 (by decide) <|
    deqK (F := F) arg10 arg12 arg18 harg18 1 (by decide) <|
    deqK (F := F) arg10 arg12 arg18 harg18 2 (by decide) <|
    deqK (F := F) arg10 arg12 arg18 harg18 3 (by decide) <|
    deqK (F := F) arg10 arg12 arg18 harg18 4 (by decide) <|
    deqK (F := F) arg10 arg12 arg18 harg18 5 (by decide) <|
    deqK (F := F) arg10 arg12 arg18 harg18 6 (by decide) <|
    deqK (F := F) arg10 arg12 arg18 harg18 7 (by decide) <|
    deqK (F := F) arg10 arg12 arg18 harg18 8 (by decide) <|
    deqK (F := F) arg10 arg12 arg18 harg18 9 (by decide) <|
    deqK (F := F) arg10 arg12 arg18 harg18 10 (by decide) <|
    deqK (F := F) arg10 arg12 arg18 harg18 11 (by decide) <|
    deqK (F := F) arg10 arg12 arg18 harg18 12 (by decide) <|
    deqK (F := F) arg10 arg12 arg18 harg18 13 (by decide) <|
    deqK (F := F) arg10 arg12 arg18 harg18 14 (by decide) <|
    deqK (F := F) arg10 arg12 arg18 harg18 15 (by decide) <|
    deqK (F := F) arg10 arg12 arg18 harg18 16 (by decide) <|
    deqK (F := F) arg10 arg12 arg18 harg18 17 (by decide) <|
    deqK (F := F) arg10 arg12 arg18 harg18 18 (by decide) <|
    deqK (F := F) arg10 arg12 arg18 harg18 19 (by decide) <|
    deqK (F := F) arg10 arg12 arg18 harg18 20 (by decide) <|
    deqK (F := F) arg10 arg12 arg18 harg18 21 (by decide) <|
    deqK (F := F) arg10 arg12 arg18 harg18 22 (by decide) <|
    deqK (F := F) arg10 arg12 arg18 harg18 23 (by decide) <|
    deqK (F := F) arg10 arg12 arg18 harg18 24 (by decide) <|
    deqK (F := F) arg10 arg12 arg18 harg18 25 (by decide) <|
    deqK (F := F) arg10 arg12 arg18 harg18 26 (by decide) <|
    deqK (F := F) arg10 arg12 arg18 harg18 27 (by decide) <|
    deqK (F := F) arg10 arg12 arg18 harg18 28 (by decide) <|
    deqK (F := F) arg10 arg12 arg18 harg18 29 (by decide) <|
    deqK (F := F) arg10 arg12 arg18 harg18 30 (by decide) <|
    deqK (F := F) arg10 arg12 arg18 harg18 31 (by decide) <|
    deqK (F := F) arg10 arg12 arg18 harg18 32 (by decide) <|
    deqK (F := F) arg10 arg12 arg18 harg18 33 (by decide) <|
    deqK (F := F) arg10 arg12 arg18 harg18 34 (by decide) <|
    deqK (F := F) arg10 arg12 arg18 harg18 35 (by decide) <|
    deqK (F := F) arg10 arg12 arg18 harg18 36 (by decide) <|
    deqK (F := F) arg10 arg12 arg18 harg18 37 (by decide) <|
    deqK (F := F) arg10 arg12 arg18 harg18 38 (by decide) <|
    deqK (F := F) arg10 arg12 arg18 harg18 39 (by decide) <|
    deqK (F := F) arg10 arg12 arg18 harg18 40 (by decide) <|
    deqK (F := F) arg10 arg12 arg18 harg18 41 (by decide) <|
    deqK (F := F) arg10 arg12 arg18 harg18 42 (by decide) <|
    deqK (F := F) arg10 arg12 arg18 harg18 43 (by decide) <|
    deqK (F := F) arg10 arg12 arg18 harg18 44 (by decide) <|
    deqK (F := F) arg10 arg12 arg18 harg18 45 (by decide) <|
    deqK (F := F) arg10 arg12 arg18 harg18 46 (by decide) <|
    deqK (F := F) arg10 arg12 arg18 harg18 47 (by decide) <|
    deqK (F := F) arg10 arg12 arg18 harg18 48 (by decide) <|
    deqK (F := F) arg10 arg12 arg18 harg18 49 (by decide) <|
    deqK (F := F) arg10 arg12 arg18 harg18 50 (by decide) <|
    deqK (F := F) arg10 arg12 arg18 harg18 51 (by decide) <|
    deqK (F := F) arg10 arg12 arg18 harg18 52 (by decide) <|
    deqK (F := F) arg10 arg12 arg18 harg18 53 (by decide) <|
    deqK (F := F) arg10 arg12 arg18 harg18 54 (by decide) <|
    deqK (F := F) arg10 arg12 arg18 harg18 55 (by decide) <|
    deqK (F := F) arg10 arg12 arg18 harg18 56 (by decide) <|
    deqK (F := F) arg10 arg12 arg18 harg18 57 (by decide) <|
    deqK (F := F) arg10 arg12 arg18 harg18 58 (by decide) <|
    deqK (F := F) arg10 arg12 arg18 harg18 59 (by decide) <|
    deqK (F := F) arg10 arg12 arg18 harg18 60 (by decide) <|
    deqK (F := F) arg10 arg12 arg18 harg18 61 (by decide) <|
    deqK (F := F) arg10 arg12 arg18 harg18 62 (by decide) <|
    deqK (F := F) arg10 arg12 arg18 harg18 63 (by decide) <|
    deqK (F := F) arg10 arg12 arg18 harg18 64 (by decide) <|
    deqK (F := F) arg10 arg12 arg18 harg18 65 (by decide) <|
    deqK (F := F) arg10 arg12 arg18 harg18 66 (by decide) <|
    deqK (F := F) arg10 arg12 arg18 harg18 67 (by decide) <|
    deqK (F := F) arg10 arg12 arg18 harg18 68 (by decide) <|
    deqK (F := F) arg10 arg12 arg18 harg18 69 (by decide) <|
    deqK (F := F) arg10 arg12 arg18 harg18 70 (by decide) <|
    deqK (F := F) arg10 arg12 arg18 harg18 71 (by decide) <|
    deqK (F := F) arg10 arg12 arg18 harg18 72 (by decide) <|
    deqK (F := F) arg10 arg12 arg18 harg18 73 (by decide) <|
    deqK (F := F) arg10 arg12 arg18 harg18 74 (by decide) <|
    deqK (F := F) arg10 arg12 arg18 harg18 75 (by decide) <|
    deqK (F := F) arg10 arg12 arg18 harg18 76 (by decide) <|
    deqK (F := F) arg10 arg12 arg18 harg18 77 (by decide) <|
    deqK (F := F) arg10 arg12 arg18 harg18 78 (by decide) <|
    deqK (F := F) arg10 arg12 arg18 harg18 79 (by decide) <|
    deqK (F := F) arg10 arg12 arg18 harg18 80 (by decide) <|
    deqK (F := F) arg10 arg12 arg18 harg18 81 (by decide) <|
    deqK (F := F) arg10 arg12 arg18 harg18 82 (by decide) <|
    deqK (F := F) arg10 arg12 arg18 harg18 83 (by decide) <|
    deqK (F := F) arg10 arg12 arg18 harg18 84 (by decide) <|
    deqK (F := F) arg10 arg12 arg18 harg18 85 (by decide) <|
    deqK (F := F) arg10 arg12 arg18 harg18 86 (by decide) <|
    deqK (F := F) arg10 arg12 arg18 harg18 87 (by decide) <|
    deqK (F := F) arg10 arg12 arg18 harg18 88 (by decide) <|
    deqK (F := F) arg10 arg12 arg18 harg18 89 (by decide) <|
    deqK (F := F) arg10 arg12 arg18 harg18 90 (by decide) <|
    deqK (F := F) arg10 arg12 arg18 harg18 91 (by decide) <|
    deqK (F := F) arg10 arg12 arg18 harg18 92 (by decide) <|
    deqK (F := F) arg10 arg12 arg18 harg18 93 (by decide) <|
    deqK (F := F) arg10 arg12 arg18 harg18 94 (by decide) <|
    deqK (F := F) arg10 arg12 arg18 harg18 95 (by decide) <|
    jp ⟨⟩) := rfl

end Cert.KernelIdeal.Hand
-- ==== Proof.PI.Compute.lean ====
module

public import proofs.«01_k».proof.Proof.Gen.KernelIdeal

/-! The computing branch of the body as a chain: 24 groups of input columns rescaled, then two chunks of
    output columns, each two quantised groups. -/

@[expose] public section

noncomputable section

namespace Cert.KernelIdeal.Hand

open Idealize.ShloMosaic Idealize.SL.Sem
open Cert.KernelIdeal Facts₀ Facts

variable {F : FTy → Type} [FloatOps F] [Facts]

theorem inbX (g : ℕ) (hg : g < 24) :
    ∀ a, (![0, 128 * g] : Fin 2 → Nat) a + S512x128.size a ≤ S512x3072.size a := by
  intro a; fin_cases a
  · show 0 + 512 ≤ 512; omega
  · show 128 * g + 128 ≤ 3072; omega
theorem inbXS (g : ℕ) (hg : g < 24) :
    ∀ a, (![0, g] : Fin 2 → Nat) a + S512x1.size a ≤ S512x24.size a := by
  intro a; fin_cases a
  · show 0 + 512 ≤ 512; omega
  · show g + 1 ≤ 24; omega
theorem packX (g : ℕ) (hg : g < 24) :
    (Rect.unit (s := S512x3072) ![0, 128 * g] S512x128.size (inbX g hg)).PackedRows (EltTy.packing .bf16) := by
  refine Or.inr ⟨by decide, rfl, Or.inl ⟨?_, ?_⟩⟩
  · show 2 ∣ 0
    omega
  · show 2 ∣ 512
    omega
theorem inbC (i : ℕ) (hi : i < 4) :
    ∀ a, (![0, 128 * i] : Fin 2 → Nat) a + S512x128.size a ≤ S512x512.size a := by
  intro a; fin_cases a
  · show 0 + 512 ≤ 512; omega
  · show 128 * i + 128 ≤ 512; omega
theorem packC (i : ℕ) (hi : i < 4) :
    (Rect.unit (s := S512x512) ![0, 128 * i] S512x128.size (inbC i hi)).PackedRows (EltTy.packing .fp8e4m3) := by
  refine Or.inr ⟨by decide, rfl, Or.inl ⟨?_, ?_⟩⟩
  · show 4 ∣ 0
    omega
  · show 4 ∣ 512
    omega
theorem inbCS (i : ℕ) (hi : i < 4) :
    ∀ a, (![0, 0, i] : Fin 3 → Nat) a + S1x512x1.size a ≤ S1x512x4.size a := by
  intro a; fin_cases a
  · show 0 + 1 ≤ 1; omega
  · show 0 + 512 ≤ 512; omega
  · show i + 1 ≤ 4; omega
theorem inbG (c : ℕ) (hc : c < 2) :
    ∀ a, (![0, 256 * c] : Fin 2 → Nat) a + S3072x256.size a ≤ S3072x512.size a := by
  intro a; fin_cases a
  · show 0 + 3072 ≤ 3072; omega
  · show 256 * c + 256 ≤ 512; omega
theorem inbB (c : ℕ) (hc : c < 2) :
    ∀ a, (![0, 0, 256 * c] : Fin 3 → Nat) a + S1x1x256.size a ≤ S1x1x512.size a := by
  intro a; fin_cases a
  · show 0 + 1 ≤ 1; omega
  · show 0 + 1 ≤ 1; omega
  · show 256 * c + 256 ≤ 512; omega

/-- One group of 128 columns of the input, times its column of scales. -/
def xVal (v16 : Vec F S512x1 .f32) (v20 : Vec F S512x128 .fp8e4m3) : FVec F S512x128 .bf16 :=
  have v17 : FVec F S512x1 .f32 := shapeCast S512x1 v16 shapeCasts_S512x1_S512x1
  have v18 : FVec F S512x128 .f32 := broadcastTo S512x128 v17 broadcasts_S512x1_S512x128
  have v19 : FVec F S512x128 .bf16 := truncf .bf16 v18 bitsLt_bf16_f32
  have v21 : FVec F S512x128 .bf16 := extf .bf16 v20 bitsLt_fp8e4m3_bf16
  have v22 : FVec F S512x128 .bf16 := mulf v21 v19
  have v25 : FVec F S512x128 .bf16 := shapeCast S512x128 v22 shapeCasts_S512x128_S512x128
  v25

/-- The rows of the visit, as a mask. -/
def maskVal (v258 v262 : Elt F .i32) : IVec S512x128 1 :=
  have v256 : IVec S512x128 32 := iota .tc S512x128 32 [0] iota_S512x128_d0_w32
  have v259 : IVec S512x128 32 := broadcast S512x128 v258
  have v260 : IVec S512x128 1 := cmpi .sge v256 v259
  have v263 : IVec S512x128 32 := broadcast S512x128 v262
  have v264 : IVec S512x128 1 := cmpi .slt v256 v263
  have v265 : IVec S512x128 1 := andi v260 v264
  v265

/-- The gated activation of one chunk of 256 output columns. -/
def hVal (v266 : Vec F S512x3072 .bf16) (v267 : Vec F S3072x256 .bf16) (v269 : Vec F S1x1x256 .f32)
    (v273 : Vec F S512x3072 .bf16) (v274 : Vec F S3072x256 .bf16) (v276 : Vec F S1x1x256 .f32) : FVec F S512x256 .f32 :=
  have cst : FVec F S512x256 .f32 := constant S512x256 .f32 0x00000000#32
  have v268 : FVec F S512x256 .f32 := matmul dot_S512x3072_S3072x256_S512x256_1_0_0_1_n_n none v266 v267 cst
  let c0_105 : Index := 0#32
  let c0_106 : Index := 0#32
  let c0_107 : Index := 0#32
  have v270 : FVec F S1x256 .f32 := shapeCast S1x256 v269 shapeCasts_S1x1x256_S1x256
  have v271 : FVec F S512x256 .f32 := broadcastTo S512x256 v270 broadcasts_S1x256_S512x256
  have v272 : FVec F S512x256 .f32 := addf v268 v271
  let c0_108 : Index := 0#32
  let c0_109 : Index := 0#32
  let c0_110 : Index := 0#32
  let c0_111 : Index := 0#32
  have cst_112 : FVec F S512x256 .f32 := constant S512x256 .f32 0x00000000#32
  have v275 : FVec F S512x256 .f32 := matmul dot_S512x3072_S3072x256_S512x256_1_0_0_1_n_n none v273 v274 cst_112
  let c0_113 : Index := 0#32
  let c0_114 : Index := 0#32
  let c0_115 : Index := 0#32
  have v277 : FVec F S1x256 .f32 := shapeCast S1x256 v276 shapeCasts_S1x1x256_S1x256
  have v278 : FVec F S512x256 .f32 := broadcastTo S512x256 v277 broadcasts_S1x256_S512x256
  have v279 : FVec F S512x256 .f32 := addf v275 v278
  have cst_116 : F .f32 := Scalar.ofBits .f32 0x40E00000#32
  have v280 : FVec F S512x256 .f32 := broadcast S512x256 cst_116
  have v281 : FVec F S512x256 .f32 := minimumf v272 v280
  have cst_117 : F .f32 := Scalar.ofBits .f32 0xC0E00000#32
  have cst_118 : F .f32 := Scalar.ofBits .f32 0x40E00000#32
  have v282 : FVec F S512x256 .f32 := broadcast S512x256 cst_117
  have v283 : FVec F S512x256 .f32 := maximumf v282 v279
  have v284 : FVec F S512x256 .f32 := broadcast S512x256 cst_118
  have v285 : FVec F S512x256 .f32 := minimumf v284 v283
  have cst_119 : F .f32 := Scalar.ofBits .f32 0x3F800000#32
  have v286 : FVec F S512x256 .f32 := broadcast S512x256 cst_119
  have v287 : FVec F S512x256 .f32 := addf v285 v286
  have v288 : FVec F S512x256 .f32 := mulf v287 v281
  have cst_120 : F .f32 := Scalar.ofBits .f32 0xBFD9DB23#32
  have v289 : FVec F S512x256 .f32 := broadcast S512x256 cst_120
  have v290 : FVec F S512x256 .f32 := mulf v289 v281
  have v291 : FVec F S512x256 .f32 := exp v290
  have cst_121 : F .f32 := Scalar.ofBits .f32 0x3F800000#32
  have v292 : FVec F S512x256 .f32 := broadcast S512x256 cst_121
  have v293 : FVec F S512x256 .f32 := addf v292 v291
  have v294 : FVec F S512x256 .f32 := divf v288 v293
  v294

/-- The exponent field of a group's scale. -/
def grpE (v295 : FVec F S512x128 .f32) : IVec S512x1 32 :=
  have v296 : FVec F S512x128 .f32 := absf v295
  have cst_122 : FVec F S512 .f32 := constant S512 .f32 0xFF800000#32
  have v297 : FVec F S512 .f32 := multiReduction .maximumf [1] S512 v296 0xFF800000#32 reduces_S512x128_S512 (.inl rfl) rfl
  have v298 : FVec F S512x1 .f32 := shapeCast S512x1 v297 shapeCasts_S512_S512x1
  have cst_123 : F .f32 := Scalar.ofBits .f32 0x3B124925#32
  have v299 : FVec F S512x1 .f32 := broadcast S512x1 cst_123
  have v300 : FVec F S512x1 .f32 := mulf v298 v299
  have cst_124 : F .f32 := Scalar.ofBits .f32 0x00000000#32
  have v301 : FVec F S512x1 .f32 := broadcast S512x1 cst_124
  have v302 : IVec S512x1 1 := cmpf .oeq v300 v301
  have v303 : IVec S512x256 32 := iota .tc S512x256 32 [1] iota_S512x256_d1_w32
  let c23_i32 : BitVec 32 := 23#32
  have v304 : IVec S512x256 32 := broadcast S512x256 c23_i32
  have v305 : IVec S512x256 32 := shli v303 v304
  have v306 : FVec F S512x256 .f32 := bitcastToFloat .f32 v305
  have v307 : FVec F S512x256 .f32 := broadcastTo S512x256 v300 broadcasts_S512x1_S512x256
  have v308 : IVec S512x256 1 := cmpf .oge v307 v306
  have v309 : IVec S512x256 32 := extui 32 v308 natLt_1_32
  have cst_125 : IVec S512 32 := constantI S512 32 0#32
  have v310 : IVec S512 32 := multiReductionI .add [1] S512 v309 0#32 reduces_S512x256_S512 rfl
  have v311 : IVec S512x1 32 := shapeCast S512x1 v310 shapeCasts_S512_S512x1
  let c1_i32_126 : BitVec 32 := 1#32
  have v312 : IVec S512x1 32 := broadcast S512x1 c1_i32_126
  have v313 : IVec S512x1 32 := subi v311 v312
  let c1_i32_127 : BitVec 32 := 1#32
  have v314 : IVec S512x1 32 := broadcast S512x1 c1_i32_127
  have v315 : IVec S512x1 32 := addi v313 v314
  let c127_i32 : BitVec 32 := 127#32
  have v316 : IVec S512x1 32 := broadcast S512x1 c127_i32
  have v317 : IVec S512x1 32 := select v302 v316 v315
  v317

/-- The scale of a group. -/
def grpScale (v295 : FVec F S512x128 .f32) : FVec F S512x1 .f32 :=
  have v317 : IVec S512x1 32 := grpE v295
  let c23_i32_128 : BitVec 32 := 23#32
  have v318 : IVec S512x1 32 := broadcast S512x1 c23_i32_128
  have v319 : IVec S512x1 32 := shli v317 v318
  have v320 : FVec F S512x1 .f32 := bitcastToFloat .f32 v319
  v320

/-- The values of a group over its scale, clipped. -/
def grpCode (v295 : FVec F S512x128 .f32) : FVec F S512x128 .f32 :=
  have v317 : IVec S512x1 32 := grpE v295
  let c254_i32 : BitVec 32 := 254#32
  have v321 : IVec S512x1 32 := broadcast S512x1 c254_i32
  have v322 : IVec S512x1 32 := subi v321 v317
  let c23_i32_129 : BitVec 32 := 23#32
  have v323 : IVec S512x1 32 := broadcast S512x1 c23_i32_129
  have v324 : IVec S512x1 32 := shli v322 v323
  have v325 : FVec F S512x1 .f32 := bitcastToFloat .f32 v324
  have v326 : FVec F S512x128 .f32 := broadcastTo S512x128 v325 broadcasts_S512x1_S512x128
  have v327 : FVec F S512x128 .f32 := mulf v295 v326
  have cst_130 : F .f32 := Scalar.ofBits .f32 0xC3E00000#32
  have cst_131 : F .f32 := Scalar.ofBits .f32 0x43E00000#32
  have v328 : FVec F S512x128 .f32 := broadcast S512x128 cst_130
  have v329 : FVec F S512x128 .f32 := maximumf v328 v327
  have v330 : FVec F S512x128 .f32 := broadcast S512x128 cst_131
  have v331 : FVec F S512x128 .f32 := minimumf v330 v329
  v331

/-- The codes stored over the old ones. -/
def mergeCode (v265 : IVec S512x128 1) (v331 : FVec F S512x128 .f32) (v332 : Vec F S512x128 .fp8e4m3) : FVec F S512x128 .fp8e4m3 :=
  have v333 : FVec F S512x128 .fp8e4m3 := shapeCast S512x128 v332 shapeCasts_S512x128_S512x128
  have v334 : FVec F S512x128 .f32 := extf .f32 v333 bitsLt_fp8e4m3_f32
  have v335 : FVec F S512x128 .f32 := select v265 v331 v334
  have v336 : FVec F S512x128 .fp8e4m3 := truncf .fp8e4m3 v335 bitsLt_fp8e4m3_f32
  v336

/-- The scales stored over the old ones. -/
def mergeScale (v265 : IVec S512x128 1) (v320 : FVec F S512x1 .f32) (v338 : Vec F S1x512x1 .f32) : FVec F S1x512x1 .f32 :=
  have v339 : FVec F S512x1 .f32 := shapeCast S512x1 v338 shapeCasts_S1x512x1_S512x1
  have v340 : IVec S512x1 1 := extractStridedSlice S512x1 ![0, 0] v265 slices_S512x128_o0_0_S512x1
  have v341 : FVec F S512x1 .f32 := select v340 v320 v339
  have v344 : FVec F S1x512x1 .f32 := shapeCast S1x512x1 v341 shapeCasts_S512x1_S1x512x1
  v344

/-- One group of input columns, then `k`. -/
def xK (x : Memref sig .tc .vmem S512x3072 .fp8e4m3) (xs : Memref sig .tc .vmem S512x24 .f32)
    (d : Memref sig .tc .vmem S512x3072 .bf16) (hd : d.IsWhole) (g : ℕ) (hg : g < 24) (k : Prog (TpuEff nD τ sig (Elt F) Λ₀ .tc) PUnit) : Prog (TpuEff nD τ sig (Elt F) Λ₀ .tc) PUnit :=
  Prog.op (.load xs (Rect.unit (s := S512x24) ![0, g] S512x1.size (inbXS g hg)).toLoadRect (View.loadsAt_vmem h_S512x1)) fun v16 =>
  Prog.op (.load x (Rect.unit (s := S512x3072) ![0, 128 * g] S512x128.size (inbX g hg)).toLoadRect (View.loadsAt_vmem h_S512x128)) fun v20 =>
  Prog.op (.load d (Rect.unit (s := S512x3072) ![0, 128 * g] S512x128.size (inbX g hg)).toLoadRect (View.loadsAt_vmem h_S512x128)) fun _ =>
  Prog.op (.store d (Rect.unit (s := S512x3072) ![0, 128 * g] S512x128.size (inbX g hg)) (xVal v16 v20) Finset.univ (View.stores_vmem h_S512x128 (hd.storeExact_slice rfl _ (packX g hg)) (fun _ => rfl)) (.inl rfl)) fun _ =>
  k

/-- The groups `g, …, g + n - 1`, then `k`. -/
def xRun (x : Memref sig .tc .vmem S512x3072 .fp8e4m3) (xs : Memref sig .tc .vmem S512x24 .f32)
    (d : Memref sig .tc .vmem S512x3072 .bf16) (hd : d.IsWhole) (k : Prog (TpuEff nD τ sig (Elt F) Λ₀ .tc) PUnit) : (n g : ℕ) → n + g ≤ 24 → Prog (TpuEff nD τ sig (Elt F) Λ₀ .tc) PUnit
  | 0, _, _ => k
  | n + 1, g, h => xK x xs d hd g (by omega) (xRun x xs d hd k n (g + 1) (by omega))

/-- One quantised group of output columns, then `k`. -/
def grpK (co : Memref sig .tc .vmem S512x512 .fp8e4m3) (hco : co.IsWhole) (sc : Memref sig .tc .vmem S1x512x4 .f32)
    (mask : IVec S512x128 1) (hq : FVec F S512x128 .f32) (i : ℕ) (hi : i < 4) (k : Prog (TpuEff nD τ sig (Elt F) Λ₀ .tc) PUnit) : Prog (TpuEff nD τ sig (Elt F) Λ₀ .tc) PUnit :=
  Prog.op (.load co (Rect.unit (s := S512x512) ![0, 128 * i] S512x128.size (inbC i hi)).toLoadRect (View.loadsAt_vmem h_S512x128)) fun v332 =>
  Prog.op (.load co (Rect.unit (s := S512x512) ![0, 128 * i] S512x128.size (inbC i hi)).toLoadRect (View.loadsAt_vmem h_S512x128)) fun _ =>
  Prog.op (.store co (Rect.unit (s := S512x512) ![0, 128 * i] S512x128.size (inbC i hi)) (mergeCode mask (grpCode hq) v332) Finset.univ (View.stores_vmem h_S512x128 (hco.storeExact_slice rfl _ (packC i hi)) (fun _ => rfl)) (.inl rfl)) fun _ =>
  Prog.op (.load sc (Rect.unit (s := S1x512x4) ![0, 0, i] S1x512x1.size (inbCS i hi)).toLoadRect (View.loadsAt_vmem h_S1x512x1)) fun v338 =>
  Prog.op (.load sc (Rect.unit (s := S1x512x4) ![0, 0, i] S1x512x1.size (inbCS i hi)).toLoadRect (View.loadsAt_vmem h_S1x512x1)) fun _ =>
  Prog.op (.store sc (Rect.unit (s := S1x512x4) ![0, 0, i] S1x512x1.size (inbCS i hi)) (mergeScale mask (grpScale hq) v338) Finset.univ (View.stores_vmem_bits_univ h_S1x512x1 rfl) (.inl rfl)) fun _ =>
  k

/-- One chunk of output columns, then `k` at its activations. -/
def chunkK (gw uw : Memref sig .tc .vmem S3072x512 .bf16) (xb : Memref sig .tc .vmem S512x3072 .bf16)
    (bg bu : Memref sig .tc .vmem S1x1x512 .f32) (c : ℕ) (hc : c < 2) (k : FVec F S512x256 .f32 → Prog (TpuEff nD τ sig (Elt F) Λ₀ .tc) PUnit) : Prog (TpuEff nD τ sig (Elt F) Λ₀ .tc) PUnit :=
  Prog.op (.load xb (Rect.unit (s := S512x3072) ![0, 0] S512x3072.size inb_S512x3072_S512x3072_0_0).toLoadRect (View.loadsAt_vmem h_S512x3072)) fun v266 =>
  Prog.op (.load gw (Rect.unit (s := S3072x512) ![0, 256 * c] S3072x256.size (inbG c hc)).toLoadRect (View.loadsAt_vmem h_S3072x256)) fun v267 =>
  Prog.op (.load bg (Rect.unit (s := S1x1x512) ![0, 0, 256 * c] S1x1x256.size (inbB c hc)).toLoadRect (View.loadsAt_vmem h_S1x1x256)) fun v269 =>
  Prog.op (.load xb (Rect.unit (s := S512x3072) ![0, 0] S512x3072.size inb_S512x3072_S512x3072_0_0).toLoadRect (View.loadsAt_vmem h_S512x3072)) fun v273 =>
  Prog.op (.load uw (Rect.unit (s := S3072x512) ![0, 256 * c] S3072x256.size (inbG c hc)).toLoadRect (View.loadsAt_vmem h_S3072x256)) fun v274 =>
  Prog.op (.load bu (Rect.unit (s := S1x1x512) ![0, 0, 256 * c] S1x1x256.size (inbB c hc)).toLoadRect (View.loadsAt_vmem h_S1x1x256)) fun v276 =>
  k (hVal v266 v267 v269 v273 v274 v276)

/-- The two groups of a chunk, then `k`. -/
def chunkGrpK (co : Memref sig .tc .vmem S512x512 .fp8e4m3) (hco : co.IsWhole) (sc : Memref sig .tc .vmem S1x512x4 .f32)
    (mask : IVec S512x128 1) (h : FVec F S512x256 .f32) (c : ℕ) (hc : c < 2) (k : Prog (TpuEff nD τ sig (Elt F) Λ₀ .tc) PUnit) : Prog (TpuEff nD τ sig (Elt F) Λ₀ .tc) PUnit :=
  grpK co hco sc mask (extractStridedSlice S512x128 ![0, 0] h slices_S512x256_o0_0_S512x128) (2 * c) (by omega) <|
  grpK co hco sc mask (extractStridedSlice S512x128 ![0, 128] h slices_S512x256_o0_128_S512x128) (2 * c + 1) (by omega) k

/-- The printed branch. -/
def compBranch (i : grid0.Coords) (arg2 : Memref sig .tc .smem S152 .i32) (harg2 : arg2.IsWhole) (arg3 : Memref sig .tc .smem S152 .i32) (harg3 : arg3.IsWhole) (arg4 : Memref sig .tc .smem S152 .i32) (harg4 : arg4.IsWhole) (arg5 : Memref sig .tc .smem S152 .i32) (harg5 : arg5.IsWhole) (arg6 : Memref sig .tc .smem S152 .i32) (harg6 : arg6.IsWhole) (arg7 : Memref sig .tc .vmem S512x3072 .fp8e4m3) (harg7 : arg7.IsWhole) (arg8 : Memref sig .tc .vmem S512x24 .f32) (harg8 : arg8.IsWhole) (arg9 : Memref sig .tc .vmem S1x1536x512 .i8) (harg9 : arg9.IsWhole) (arg10 : Memref sig .tc .vmem S1x1536x512 .i8) (harg10 : arg10.IsWhole) (arg11 : Memref sig .tc .vmem S1x96x512 .i8) (harg11 : arg11.IsWhole) (arg12 : Memref sig .tc .vmem S1x96x512 .i8) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S512x512 .fp8e4m3) (harg15 : arg15.IsWhole) (arg16 : Memref sig .tc .vmem S1x512x4 .f32) (harg16 : arg16.IsWhole) (arg17 : Memref sig .tc .vmem S3072x512 .bf16) (harg17 : arg17.IsWhole) (arg18 : Memref sig .tc .vmem S3072x512 .bf16) (harg18 : arg18.IsWhole) (arg19 : Memref sig .tc .vmem S512x3072 .bf16) (harg19 : arg19.IsWhole) (v12 : Elt F .i32) (k0_h2 : k0_cond2 v12 = 1#1) (jp : Unit → Prog (TpuEff nD τ sig (Elt F) Λ₀ .tc) PUnit) : Prog (TpuEff nD τ sig (Elt F) Λ₀ .tc) PUnit := do
  let arg1 : BitVec 32 := BitVec.ofNat 32 (i 1).val
  let ⟨v49, v50⟩ : Σ' (v49 : FVec F S512x128 .bf16), Vec F S512x128 .fp8e4m3 ← k0_part199 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  k0_part200 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v49 v50
  let ⟨v119, v121⟩ : Σ' (v119 : FVec F S512x128 .bf16), FVec F S512x128 .bf16 ← k0_part201 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  k0_part202 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v119 v121
  let v192 : FVec F S512x128 .bf16 ← k0_part203 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let v226 : Vec F S512x1 .f32 ← k0_part204 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v192
  let v265 : IVec S512x128 1 ← k0_part205 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v226
  let ⟨v294, v295, v300, v302⟩ : Σ' (v294 : FVec F S512x256 .f32) (v295 : FVec F S512x128 .f32) (v300 : FVec F S512x1 .f32), IVec S512x1 1 ← k0_part206 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let v341 : FVec F S512x1 .f32 ← k0_part207 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v265 v295 v300 v302
  let ⟨v370, v385⟩ : Σ' (v370 : FVec F S512x1 .f32), FVec F S512x128 .f32 ← k0_part208 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v265 v294 v341
  let ⟨v410, v414, v415⟩ : Σ' (v410 : FVec F S512x256 .f32) (v414 : FVec F S512x256 .f32), FVec F S512x256 .f32 ← k0_part209 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v265 v370 v385
  let ⟨v423, v449, v460⟩ : Σ' (v423 : FVec F S512x256 .f32) (v449 : FVec F S512x1 .f32), FVec F S512x128 .f32 ← k0_part210 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v410 v414 v415
  let ⟨v474, v496, v499⟩ : Σ' (v474 : FVec F S512x128 .f32) (v496 : IVec S512x1 32), FVec F S512x1 .f32 ← k0_part211 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v265 v423 v449 v460
  let c254_i32_219 : BitVec 32 := 254#32
  have v500 : IVec S512x1 32 := broadcast S512x1 c254_i32_219
  have v501 : IVec S512x1 32 := subi v500 v496
  let c23_i32_220 : BitVec 32 := 23#32
  have v502 : IVec S512x1 32 := broadcast S512x1 c23_i32_220
  have v503 : IVec S512x1 32 := shli v501 v502
  have v504 : FVec F S512x1 .f32 := bitcastToFloat .f32 v503
  have v505 : FVec F S512x128 .f32 := broadcastTo S512x128 v504 broadcasts_S512x1_S512x128
  have v506 : FVec F S512x128 .f32 := mulf v474 v505
  have cst_221 : F .f32 := Scalar.ofBits .f32 0xC3E00000#32
  have cst_222 : F .f32 := Scalar.ofBits .f32 0x43E00000#32
  have v507 : FVec F S512x128 .f32 := broadcast S512x128 cst_221
  have v508 : FVec F S512x128 .f32 := maximumf v507 v506
  have v509 : FVec F S512x128 .f32 := broadcast S512x128 cst_222
  have v510 : FVec F S512x128 .f32 := minimumf v509 v508
  let c0_223 : Index := 0#32
  let c384_224 : Index := 384#32
  let v511 : Vec F S512x128 .fp8e4m3 ← Prog.lift (.load arg15 (Rect.unit (s := S512x512) ![0, 384] S512x128.size inb_S512x512_S512x128_0_384).toLoadRect (View.loadsAt_vmem h_S512x128))
  have v512 : FVec F S512x128 .fp8e4m3 := shapeCast S512x128 v511 shapeCasts_S512x128_S512x128
  have v513 : FVec F S512x128 .f32 := extf .f32 v512 bitsLt_fp8e4m3_f32
  have v514 : FVec F S512x128 .f32 := select v265 v510 v513
  have v515 : FVec F S512x128 .fp8e4m3 := truncf .fp8e4m3 v514 bitsLt_fp8e4m3_f32
  let c0_225 : Index := 0#32
  let c384_226 : Index := 384#32
  let v516 : Vec F S512x128 .fp8e4m3 ← Prog.lift (.load arg15 (Rect.unit (s := S512x512) ![0, 384] S512x128.size inb_S512x512_S512x128_0_384).toLoadRect (View.loadsAt_vmem h_S512x128))
  Prog.lift (.store arg15 (Rect.unit (s := S512x512) ![0, 384] S512x128.size inb_S512x512_S512x128_0_384) v515 Finset.univ (View.stores_vmem h_S512x128 (harg15.storeExact_slice rfl _ packedfp8e4m3_S512x512_S512x128_0_384) (fun _ => rfl)) (.inl rfl))
  let c0_227 : Index := 0#32
  let c0_228 : Index := 0#32
  let c3_229 : Index := 3#32
  let v517 : Vec F S1x512x1 .f32 ← Prog.lift (.load arg16 (Rect.unit (s := S1x512x4) ![0, 0, 3] S1x512x1.size inb_S1x512x4_S1x512x1_0_0_3).toLoadRect (View.loadsAt_vmem h_S1x512x1))
  have v518 : FVec F S512x1 .f32 := shapeCast S512x1 v517 shapeCasts_S1x512x1_S512x1
  have v519 : IVec S512x1 1 := extractStridedSlice S512x1 ![0, 0] v265 slices_S512x128_o0_0_S512x1
  have v520 : FVec F S512x1 .f32 := select v519 v499 v518
  let c0_230 : Index := 0#32
  let c0_231 : Index := 0#32
  let c3_232 : Index := 3#32
  let v521 : Vec F S1x512x1 .f32 ← Prog.lift (.load arg16 (Rect.unit (s := S1x512x4) ![0, 0, 3] S1x512x1.size inb_S1x512x4_S1x512x1_0_0_3).toLoadRect (View.loadsAt_vmem h_S1x512x1))
  have v522 : FVec F S512x1 .f32 := shapeCast S512x1 v521 shapeCasts_S1x512x1_S512x1
  have v523 : FVec F S1x512x1 .f32 := shapeCast S1x512x1 v520 shapeCasts_S512x1_S1x512x1
  Prog.lift (.store arg16 (Rect.unit (s := S1x512x4) ![0, 0, 3] S1x512x1.size inb_S1x512x4_S1x512x1_0_0_3) v523 Finset.univ (View.stores_vmem_bits_univ h_S1x512x1 rfl) (.inl rfl))
  jp ⟨⟩

set_option maxRecDepth 1000000 in
set_option maxHeartbeats 0 in
theorem compBranch_eq (i : grid0.Coords) (arg2 : Memref sig .tc .smem S152 .i32) (harg2 : arg2.IsWhole) (arg3 : Memref sig .tc .smem S152 .i32) (harg3 : arg3.IsWhole) (arg4 : Memref sig .tc .smem S152 .i32) (harg4 : arg4.IsWhole) (arg5 : Memref sig .tc .smem S152 .i32) (harg5 : arg5.IsWhole) (arg6 : Memref sig .tc .smem S152 .i32) (harg6 : arg6.IsWhole) (arg7 : Memref sig .tc .vmem S512x3072 .fp8e4m3) (harg7 : arg7.IsWhole) (arg8 : Memref sig .tc .vmem S512x24 .f32) (harg8 : arg8.IsWhole) (arg9 : Memref sig .tc .vmem S1x1536x512 .i8) (harg9 : arg9.IsWhole) (arg10 : Memref sig .tc .vmem S1x1536x512 .i8) (harg10 : arg10.IsWhole) (arg11 : Memref sig .tc .vmem S1x96x512 .i8) (harg11 : arg11.IsWhole) (arg12 : Memref sig .tc .vmem S1x96x512 .i8) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S512x512 .fp8e4m3) (harg15 : arg15.IsWhole) (arg16 : Memref sig .tc .vmem S1x512x4 .f32) (harg16 : arg16.IsWhole) (arg17 : Memref sig .tc .vmem S3072x512 .bf16) (harg17 : arg17.IsWhole) (arg18 : Memref sig .tc .vmem S3072x512 .bf16) (harg18 : arg18.IsWhole) (arg19 : Memref sig .tc .vmem S512x3072 .bf16) (harg19 : arg19.IsWhole) (v12 : Elt F .i32) (k0_h2 : k0_cond2 v12 = 1#1) (jp : Unit → Prog (TpuEff nD τ sig (Elt F) Λ₀ .tc) PUnit) :
    compBranch (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v12 k0_h2 jp = (
    xK (F := F) arg7 arg8 arg19 harg19 0 (by decide) <|
    xK (F := F) arg7 arg8 arg19 harg19 1 (by decide) <|
    xK (F := F) arg7 arg8 arg19 harg19 2 (by decide) <|
    xK (F := F) arg7 arg8 arg19 harg19 3 (by decide) <|
    xK (F := F) arg7 arg8 arg19 harg19 4 (by decide) <|
    xK (F := F) arg7 arg8 arg19 harg19 5 (by decide) <|
    xK (F := F) arg7 arg8 arg19 harg19 6 (by decide) <|
    xK (F := F) arg7 arg8 arg19 harg19 7 (by decide) <|
    xK (F := F) arg7 arg8 arg19 harg19 8 (by decide) <|
    xK (F := F) arg7 arg8 arg19 harg19 9 (by decide) <|
    xK (F := F) arg7 arg8 arg19 harg19 10 (by decide) <|
    xK (F := F) arg7 arg8 arg19 harg19 11 (by decide) <|
    xK (F := F) arg7 arg8 arg19 harg19 12 (by decide) <|
    xK (F := F) arg7 arg8 arg19 harg19 13 (by decide) <|
    xK (F := F) arg7 arg8 arg19 harg19 14 (by decide) <|
    xK (F := F) arg7 arg8 arg19 harg19 15 (by decide) <|
    xK (F := F) arg7 arg8 arg19 harg19 16 (by decide) <|
    xK (F := F) arg7 arg8 arg19 harg19 17 (by decide) <|
    xK (F := F) arg7 arg8 arg19 harg19 18 (by decide) <|
    xK (F := F) arg7 arg8 arg19 harg19 19 (by decide) <|
    xK (F := F) arg7 arg8 arg19 harg19 20 (by decide) <|
    xK (F := F) arg7 arg8 arg19 harg19 21 (by decide) <|
    xK (F := F) arg7 arg8 arg19 harg19 22 (by decide) <|
    xK (F := F) arg7 arg8 arg19 harg19 23 (by decide) <|
    smemLoadElt arg4 (Rect.unit (s := S152) (k0_off4 i) S1.size (k0_off4_inb i)) (View.loads_smem_one rfl numel1_S1) (Shape.Idx.first (numel1_S1.symm ▸ Nat.one_pos)) fun lo =>
    smemLoadElt arg5 (Rect.unit (s := S152) (k0_off4 i) S1.size (k0_off4_inb i)) (View.loads_smem_one rfl numel1_S1) (Shape.Idx.first (numel1_S1.symm ▸ Nat.one_pos)) fun hi =>
    chunkK arg17 arg18 arg19 arg13 arg14 0 (by decide) fun h0 =>
    chunkGrpK arg15 harg15 arg16 (maskVal (F := F) lo hi) h0 0 (by decide) <|
    chunkK arg17 arg18 arg19 arg13 arg14 1 (by decide) fun h1 =>
    chunkGrpK arg15 harg15 arg16 (maskVal (F := F) lo hi) h1 1 (by decide) <|
    jp ⟨⟩) := rfl

end Cert.KernelIdeal.Hand
-- ==== Proof.Wp.lean ====
module

public import Idealize.ShloMosaic.Lib.Pipeline.Frame
public import Idealize.ShloMosaic.Lib.Tactic

/-! Loads and stores at the head of a program, of a memref owned at stated contents. -/

@[expose] public section

noncomputable section

namespace Cert.Hand

open Idealize.ShloMosaic
open Idealize.SL Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Ix : Type} [DecidableEq Ix]
variable {Val : EltTy → Type} {Name : Type} [DecidableEq Name] {U : Type} [URA U]
variable {Lvl : Type} {Λ : Labels} [Preorder Lvl] {defs : Defs nD τ sig Val Λ} (𝒱 : Variants)
local notation "𝕄" => MT nD τ sig Ix Val Name U Lvl

/-- A load of a memref owned at `X` reads `X`. -/
theorem wp_load_owns (c : Thread nD τ) (bd : Option 𝒱.V) (E : Set Name) {α : Type} {Q : α → sProp 𝕄}
    {cs : CoreSpace} {s : Shape} {e : EltTy} {m : Memref sig c.2.kind cs s e} {r : LoadRect s}
    {hl : m.view.LoadsAt r} {k : (r.shape.Idx → Val e) → Prog (TpuEff nD τ sig Val Λ c.2) α}
    {q : PosShare TreeShare} {X : s.Idx → Val e} :
    (owns c m q X : sProp 𝕄)
      ⊢ iprop((owns c m q X -∗ wp frame (wpE defs 𝒱 c bd) E (k fun x => X (r.idx x)) Q)
        -∗ wp frame (wpE defs 𝒱 c bd) E (.op (.load m r hl) k) Q) := by
  iintro H Hk
  ihave H' := (show (owns c m q X : sProp 𝕄) ⊢ iprop(∃ g, ⌜m.view.read Val g = X⌝ ∗ m.view.loc c ↦[m.view.set]{q} g) from .rfl) $$ H
  icases H' with ⟨%g, %hg, H⟩
  subst hg
  iapply (wp_load 𝒱 c bd E (m := m) (r := r) (S := m.view.set) (m.view.setOn_subset_set r.set)) $$ H
  iintro H
  iapply Hk
  iapply (owns_intro c m q g) $$ H

/-- Reading through a view what was stored through a rectangle of it. -/
theorem read_write_slice {κ : Kind} {sp : Space} {s : Shape} {e : EltTy} (v : View sig κ sp s e) (r : Rect s)
    (f : v.ty.Contents Val) (w : r.shape.Idx → Val e) :
    v.read Val ((v.slice r).write Val f w Finset.univ) = r.overlay (v.read Val f) w := by
  funext j
  by_cases hj : j ∈ r.set
  · rw [← Rect.map_emb_univ, Finset.mem_map] at hj
    obtain ⟨i, -, rfl⟩ := hj
    rw [Rect.overlay_emb]
    exact congrFun (View.read_write_univ (v := v.slice r) f w) i
  · rw [Rect.overlay_of_not_mem r _ _ hj, View.read_apply, View.read_apply, View.write_of_not_mem]
    intro h
    rw [View.setOn_univ, View.set_slice, Finset.mem_map] at h
    obtain ⟨i, hi, he⟩ := h
    exact hj (v.emb.injective he ▸ hi)

/-- A store through a rectangle of a memref owned at `X` overlays the payload. -/
theorem wp_store_owns (c : Thread nD τ) (bd : Option 𝒱.V) (E : Set Name) {α : Type} {Q : α → sProp 𝕄}
    {cs : CoreSpace} {s : Shape} {e : EltTy} {m : Memref sig c.2.kind cs s e} {r : Rect s}
    {w : r.shape.Idx → Val e} {hx : (m.access r).Stores Finset.univ}
    {hm : Finset.univ = (Finset.univ : Finset r.shape.Idx) ∨ ∀ a, r.stride a = 1}
    {k : PUnit → Prog (TpuEff nD τ sig Val Λ c.2) α} {X : s.Idx → Val e} :
    (owns c m fullShare X : sProp 𝕄)
      ⊢ iprop((owns c m fullShare (r.overlay X w) -∗ wp frame (wpE defs 𝒱 c bd) E (k ⟨⟩) Q)
        -∗ wp frame (wpE defs 𝒱 c bd) E (.op (.store m r w Finset.univ hx hm) k) Q) := by
  iintro H Hk
  ihave H' := (show (owns c m fullShare X : sProp 𝕄) ⊢ iprop(∃ g, ⌜m.view.read Val g = X⌝ ∗ m.view.loc c ↦[m.view.set]{fullShare} g) from .rfl) $$ H
  icases H' with ⟨%g, %hg, H⟩
  subst hg
  have hS : (m.access r).setOn Finset.univ ⊆ m.view.set := by
    rw [View.setOn_univ]; exact m.view.set_slice_subset r
  iapply (wp_store 𝒱 c bd E (m := m) (r := r) (w := w) (hx := hx) (hm := hm) (S := m.view.set) hS) $$ H
  iintro H
  iapply Hk
  rw [← read_write_slice]
  iapply (owns_intro c m fullShare ((m.view.slice r).write Val g w Finset.univ)) $$ H

/-- A load of one word of a table owned at `X` reads `X` there. -/
theorem wp_smem_owns (c : Thread nD τ) (bd : Option 𝒱.V) (E : Set Name) {α : Type} {Q : α → sProp 𝕄}
    {s : Shape} {e : EltTy} {m : Memref sig c.2.kind .smem s e} {r : Rect s} {hw : (m.access r).Loads} {x : r.shape.Idx}
    {k : Val e → Prog (TpuEff nD τ sig Val Λ c.2) α}
    {q : PosShare TreeShare} {X : s.Idx → Val e} :
    (owns c m q X : sProp 𝕄)
      ⊢ iprop((owns c m q X -∗ wp frame (wpE defs 𝒱 c bd) E (k (X (r.emb x))) Q)
        -∗ wp frame (wpE defs 𝒱 c bd) E (smemLoadElt m r hw x k) Q) := by
  unfold smemLoadElt
  exact wp_load_owns 𝒱 c bd E (m := m) (r := r.toLoadRect) (k := fun f => k (f x)) (X := X) (q := q)

end Cert.Hand
-- ==== Proof.PI.Body.lean ====
module

public import proofs.«01_k».proof.Proof.PI.Blocks
public import proofs.«01_k».proof.Proof.PI.Compute
public import proofs.«01_k».proof.Proof.Wp

/-! What one run of the body does to the buffers it is handed. -/

@[expose] public section

noncomputable section

namespace Cert.KernelIdeal.Hand

open Idealize.ShloMosaic Idealize.SL.Sem
open Idealize.SL Idealize.SL.RA Idealize.SL.BI Idealize.SL.ProofMode
open scoped Idealize.SL.BI
open Idealize.SL.BI.BIBase Idealize.SL.BI.Laws
open Cert.KernelIdeal Facts₀ Facts Cert.Hand

variable {F : FTy → Type} [FloatOps F] [Facts]

local notation "𝕄" => MT nD τ sig Unit (Elt F) ℕ (Pipeline.UD sig nD τ) ℕ

/-- The bit that says whether the weights are decoded again. -/
def reloadBit (i : grid0.Coords) (v4 v6 : Elt F .i32) : BitVec 1 :=
  Scalar.cmpi .ne (Scalar.extui (Scalar.ori (Scalar.cmpi .eq (BitVec.ofNat 32 (i 1).val) 0#32) (Scalar.cmpi .ne v4 v6) : BitVec 1) : BitVec 32) 0#32

/-- The body over its two branches. -/
def body2 (i : grid0.Coords) (arg2 : Memref sig .tc .smem S152 .i32) (harg2 : arg2.IsWhole) (arg3 : Memref sig .tc .smem S152 .i32) (harg3 : arg3.IsWhole) (arg4 : Memref sig .tc .smem S152 .i32) (harg4 : arg4.IsWhole) (arg5 : Memref sig .tc .smem S152 .i32) (harg5 : arg5.IsWhole) (arg6 : Memref sig .tc .smem S152 .i32) (harg6 : arg6.IsWhole) (arg7 : Memref sig .tc .vmem S512x3072 .fp8e4m3) (harg7 : arg7.IsWhole) (arg8 : Memref sig .tc .vmem S512x24 .f32) (harg8 : arg8.IsWhole) (arg9 : Memref sig .tc .vmem S1x1536x512 .i8) (harg9 : arg9.IsWhole) (arg10 : Memref sig .tc .vmem S1x1536x512 .i8) (harg10 : arg10.IsWhole) (arg11 : Memref sig .tc .vmem S1x96x512 .i8) (harg11 : arg11.IsWhole) (arg12 : Memref sig .tc .vmem S1x96x512 .i8) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S512x512 .fp8e4m3) (harg15 : arg15.IsWhole) (arg16 : Memref sig .tc .vmem S1x512x4 .f32) (harg16 : arg16.IsWhole) (arg17 : Memref sig .tc .vmem S3072x512 .bf16) (harg17 : arg17.IsWhole) (arg18 : Memref sig .tc .vmem S3072x512 .bf16) (harg18 : arg18.IsWhole) (arg19 : Memref sig .tc .vmem S512x3072 .bf16) (harg19 : arg19.IsWhole) : Prog (TpuEff nD τ sig (Elt F) Λ₀ .tc) PUnit :=
  smemLoad arg3 (Rect.unit (s := S152) (k0_off1 i) S1.size (k0_off1_inb i)) numel1_S1 rfl >>= fun v4 =>
  smemLoad arg3 (Rect.unit (s := S152) (k0_off2 i) S1.size (k0_off2_inb i)) numel1_S1 rfl >>= fun v6 =>
  have jp : Unit → Prog (TpuEff nD τ sig (Elt F) Λ₀ .tc) PUnit := fun _ =>
    smemLoad arg6 (Rect.unit (s := S152) (k0_off3 i) S1.size (k0_off3_inb i)) numel1_S1 rfl >>= fun v12 =>
    have jp2 : Unit → Prog (TpuEff nD τ sig (Elt F) Λ₀ .tc) PUnit := fun _ => pure ⟨⟩
    if k0_h2 : k0_cond2 v12 = 1#1 then compBranch i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v12 k0_h2 jp2 else jp2 ⟨⟩
  if reloadBit i v4 v6 = 1#1 then deqBranch i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 jp else jp ⟨⟩

set_option maxRecDepth 1000000 in
set_option maxHeartbeats 0 in
theorem body2_eq (i : grid0.Coords) (arg2 : Memref sig .tc .smem S152 .i32) (harg2 : arg2.IsWhole) (arg3 : Memref sig .tc .smem S152 .i32) (harg3 : arg3.IsWhole) (arg4 : Memref sig .tc .smem S152 .i32) (harg4 : arg4.IsWhole) (arg5 : Memref sig .tc .smem S152 .i32) (harg5 : arg5.IsWhole) (arg6 : Memref sig .tc .smem S152 .i32) (harg6 : arg6.IsWhole) (arg7 : Memref sig .tc .vmem S512x3072 .fp8e4m3) (harg7 : arg7.IsWhole) (arg8 : Memref sig .tc .vmem S512x24 .f32) (harg8 : arg8.IsWhole) (arg9 : Memref sig .tc .vmem S1x1536x512 .i8) (harg9 : arg9.IsWhole) (arg10 : Memref sig .tc .vmem S1x1536x512 .i8) (harg10 : arg10.IsWhole) (arg11 : Memref sig .tc .vmem S1x96x512 .i8) (harg11 : arg11.IsWhole) (arg12 : Memref sig .tc .vmem S1x96x512 .i8) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S512x512 .fp8e4m3) (harg15 : arg15.IsWhole) (arg16 : Memref sig .tc .vmem S1x512x4 .f32) (harg16 : arg16.IsWhole) (arg17 : Memref sig .tc .vmem S3072x512 .bf16) (harg17 : arg17.IsWhole) (arg18 : Memref sig .tc .vmem S3072x512 .bf16) (harg18 : arg18.IsWhole) (arg19 : Memref sig .tc .vmem S512x3072 .bf16) (harg19 : arg19.IsWhole) :
    cc0_moe_gate_up (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = body2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  unfold cc0_moe_gate_up body2 deqBranch compBranch reloadBit
  rfl

theorem deqBranch_run (i : grid0.Coords) (arg2 : Memref sig .tc .smem S152 .i32) (harg2 : arg2.IsWhole) (arg3 : Memref sig .tc .smem S152 .i32) (harg3 : arg3.IsWhole) (arg4 : Memref sig .tc .smem S152 .i32) (harg4 : arg4.IsWhole) (arg5 : Memref sig .tc .smem S152 .i32) (harg5 : arg5.IsWhole) (arg6 : Memref sig .tc .smem S152 .i32) (harg6 : arg6.IsWhole) (arg7 : Memref sig .tc .vmem S512x3072 .fp8e4m3) (harg7 : arg7.IsWhole) (arg8 : Memref sig .tc .vmem S512x24 .f32) (harg8 : arg8.IsWhole) (arg9 : Memref sig .tc .vmem S1x1536x512 .i8) (harg9 : arg9.IsWhole) (arg10 : Memref sig .tc .vmem S1x1536x512 .i8) (harg10 : arg10.IsWhole) (arg11 : Memref sig .tc .vmem S1x96x512 .i8) (harg11 : arg11.IsWhole) (arg12 : Memref sig .tc .vmem S1x96x512 .i8) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S512x512 .fp8e4m3) (harg15 : arg15.IsWhole) (arg16 : Memref sig .tc .vmem S1x512x4 .f32) (harg16 : arg16.IsWhole) (arg17 : Memref sig .tc .vmem S3072x512 .bf16) (harg17 : arg17.IsWhole) (arg18 : Memref sig .tc .vmem S3072x512 .bf16) (harg18 : arg18.IsWhole) (arg19 : Memref sig .tc .vmem S512x3072 .bf16) (harg19 : arg19.IsWhole) (k : Unit → Prog (TpuEff nD τ sig (Elt F) Λ₀ .tc) PUnit) :
    deqBranch (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k =
      deqRun arg9 arg11 arg17 harg17 (deqRun arg10 arg12 arg18 harg18 (k ⟨⟩) 96 0 (by omega)) 96 0 (by omega) := by
  rw [deqBranch_eq]; rfl

/-- The computing branch in its chain form. -/
def compChain (i : grid0.Coords) (arg2 : Memref sig .tc .smem S152 .i32) (harg2 : arg2.IsWhole) (arg3 : Memref sig .tc .smem S152 .i32) (harg3 : arg3.IsWhole) (arg4 : Memref sig .tc .smem S152 .i32) (harg4 : arg4.IsWhole) (arg5 : Memref sig .tc .smem S152 .i32) (harg5 : arg5.IsWhole) (arg6 : Memref sig .tc .smem S152 .i32) (harg6 : arg6.IsWhole) (arg7 : Memref sig .tc .vmem S512x3072 .fp8e4m3) (harg7 : arg7.IsWhole) (arg8 : Memref sig .tc .vmem S512x24 .f32) (harg8 : arg8.IsWhole) (arg9 : Memref sig .tc .vmem S1x1536x512 .i8) (harg9 : arg9.IsWhole) (arg10 : Memref sig .tc .vmem S1x1536x512 .i8) (harg10 : arg10.IsWhole) (arg11 : Memref sig .tc .vmem S1x96x512 .i8) (harg11 : arg11.IsWhole) (arg12 : Memref sig .tc .vmem S1x96x512 .i8) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S512x512 .fp8e4m3) (harg15 : arg15.IsWhole) (arg16 : Memref sig .tc .vmem S1x512x4 .f32) (harg16 : arg16.IsWhole) (arg17 : Memref sig .tc .vmem S3072x512 .bf16) (harg17 : arg17.IsWhole) (arg18 : Memref sig .tc .vmem S3072x512 .bf16) (harg18 : arg18.IsWhole) (arg19 : Memref sig .tc .vmem S512x3072 .bf16) (harg19 : arg19.IsWhole) (jp : Unit → Prog (TpuEff nD τ sig (Elt F) Λ₀ .tc) PUnit) : Prog (TpuEff nD τ sig (Elt F) Λ₀ .tc) PUnit :=
  xRun arg7 arg8 arg19 harg19 (
    smemLoadElt arg4 (Rect.unit (s := S152) (k0_off4 i) S1.size (k0_off4_inb i)) (View.loads_smem_one rfl numel1_S1) (Shape.Idx.first (numel1_S1.symm ▸ Nat.one_pos)) fun lo =>
    smemLoadElt arg5 (Rect.unit (s := S152) (k0_off4 i) S1.size (k0_off4_inb i)) (View.loads_smem_one rfl numel1_S1) (Shape.Idx.first (numel1_S1.symm ▸ Nat.one_pos)) fun hi =>
    chunkK arg17 arg18 arg19 arg13 arg14 0 (by decide) fun h0 =>
    chunkGrpK arg15 harg15 arg16 (maskVal (F := F) lo hi) h0 0 (by decide) <|
    chunkK arg17 arg18 arg19 arg13 arg14 1 (by decide) fun h1 =>
    chunkGrpK arg15 harg15 arg16 (maskVal (F := F) lo hi) h1 1 (by decide) <|
    jp ⟨⟩) 24 0 (by omega)

theorem compBranch_run (i : grid0.Coords) (arg2 : Memref sig .tc .smem S152 .i32) (harg2 : arg2.IsWhole) (arg3 : Memref sig .tc .smem S152 .i32) (harg3 : arg3.IsWhole) (arg4 : Memref sig .tc .smem S152 .i32) (harg4 : arg4.IsWhole) (arg5 : Memref sig .tc .smem S152 .i32) (harg5 : arg5.IsWhole) (arg6 : Memref sig .tc .smem S152 .i32) (harg6 : arg6.IsWhole) (arg7 : Memref sig .tc .vmem S512x3072 .fp8e4m3) (harg7 : arg7.IsWhole) (arg8 : Memref sig .tc .vmem S512x24 .f32) (harg8 : arg8.IsWhole) (arg9 : Memref sig .tc .vmem S1x1536x512 .i8) (harg9 : arg9.IsWhole) (arg10 : Memref sig .tc .vmem S1x1536x512 .i8) (harg10 : arg10.IsWhole) (arg11 : Memref sig .tc .vmem S1x96x512 .i8) (harg11 : arg11.IsWhole) (arg12 : Memref sig .tc .vmem S1x96x512 .i8) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S512x512 .fp8e4m3) (harg15 : arg15.IsWhole) (arg16 : Memref sig .tc .vmem S1x512x4 .f32) (harg16 : arg16.IsWhole) (arg17 : Memref sig .tc .vmem S3072x512 .bf16) (harg17 : arg17.IsWhole) (arg18 : Memref sig .tc .vmem S3072x512 .bf16) (harg18 : arg18.IsWhole) (arg19 : Memref sig .tc .vmem S512x3072 .bf16) (harg19 : arg19.IsWhole) (v12 : Elt F .i32) (k0_h2 : k0_cond2 v12 = 1#1) (jp : Unit → Prog (TpuEff nD τ sig (Elt F) Λ₀ .tc) PUnit) :
    compBranch (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v12 k0_h2 jp = compChain i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 jp := by
  rw [compBranch_eq]; rfl

end Cert.KernelIdeal.Hand
-- ==== Proof.PI.Triple.lean ====
module

public import proofs.«01_k».proof.Proof.PI.Body

/-! The contents the body leaves in the buffers it is handed. -/

@[expose] public section

noncomputable section

namespace Cert.KernelIdeal.Hand

open Idealize.ShloMosaic Idealize.ShloMosaic.TcCoe Idealize.SL.Sem
open Idealize.SL Idealize.SL.RA Idealize.SL.BI Idealize.SL.ProofMode
open scoped Idealize.SL.BI
open Idealize.SL.BI.BIBase Idealize.SL.BI.Laws
open Cert.KernelIdeal Facts₀ Facts Cert.Hand

variable {F : FTy → Type} [FloatOps F] [Facts]

local notation "𝕄" => MT nD τ sig Unit (Elt F) ℕ (UR sig nD τ) ℕ

variable {defs : Defs nD τ sig (Elt F) Λ₀} (𝒱 : Variants) (c : Dev nD) (bd : Option 𝒱.V) (E : Set ℕ)

theorem ldK {Q : PUnit → sProp 𝕄} {cs : CoreSpace} {s : Shape} {e : EltTy} (m : Memref sig .tc cs s e) {r : LoadRect s}
    {hl : m.view.LoadsAt r} {k : (r.shape.Idx → Elt F e) → Prog (TpuEff nD τ sig (Elt F) Λ₀ .tc) PUnit} {q : PosShare TreeShare} {X : s.Idx → Elt F e} :
    (owns (c : Thread nD τ) m q X : sProp 𝕄)
      ⊢ iprop((owns (c : Thread nD τ) m q X -∗ wp frame (wpE defs 𝒱 (c : Thread nD τ) bd) E (k fun x => X (r.idx x)) Q) -∗ wp frame (wpE defs 𝒱 (c : Thread nD τ) bd) E (.op (.load m r hl) k) Q) :=
  wp_load_owns 𝒱 (c : Thread nD τ) bd E
theorem stK {Q : PUnit → sProp 𝕄} {cs : CoreSpace} {s : Shape} {e : EltTy} (m : Memref sig .tc cs s e) {r : Rect s}
    {w : r.shape.Idx → Elt F e} {hx : (m.access r).Stores Finset.univ}
    {hm : Finset.univ = (Finset.univ : Finset r.shape.Idx) ∨ ∀ a, r.stride a = 1}
    {k : PUnit → Prog (TpuEff nD τ sig (Elt F) Λ₀ .tc) PUnit} {X : s.Idx → Elt F e} :
    (owns (c : Thread nD τ) m fullShare X : sProp 𝕄)
      ⊢ iprop((owns (c : Thread nD τ) m fullShare (r.overlay X w) -∗ wp frame (wpE defs 𝒱 (c : Thread nD τ) bd) E (k ⟨⟩) Q) -∗ wp frame (wpE defs 𝒱 (c : Thread nD τ) bd) E (.op (.store m r w Finset.univ hx hm) k) Q) :=
  wp_store_owns 𝒱 (c : Thread nD τ) bd E
theorem smK {Q : PUnit → sProp 𝕄} {s : Shape} {e : EltTy} (m : Memref sig .tc .smem s e) {r : Rect s} {hw : (m.access r).Loads} {x : r.shape.Idx}
    {k : Elt F e → Prog (TpuEff nD τ sig (Elt F) Λ₀ .tc) PUnit} {q : PosShare TreeShare} {X : s.Idx → Elt F e} :
    (owns (c : Thread nD τ) m q X : sProp 𝕄)
      ⊢ iprop((owns (c : Thread nD τ) m q X -∗ wp frame (wpE defs 𝒱 (c : Thread nD τ) bd) E (k (X (r.emb x))) Q) -∗ wp frame (wpE defs 𝒱 (c : Thread nD τ) bd) E (smemLoadElt m r hw x k) Q) :=
  wp_smem_owns 𝒱 (c : Thread nD τ) bd E

/-- The decoded rows of one block. -/
def deqBlk (W : S1x1536x512.Idx → Elt F .i8) (S : S1x96x512.Idx → Elt F .i8) (b : ℕ) (hb : b < 96) : FVec F S32x512 .bf16 :=
  deqVal (F := F) (fun x => W ((Rect.unit (s := S1x1536x512) ![0, 16 * b, 0] S1x16x512.size (inbW b hb)).toLoadRect.idx x))
    (fun x => S ((Rect.unit (s := S1x96x512) ![0, b, 0] S1x1x512.size (inbS b hb)).toLoadRect.idx x))

/-- The decoded scratch after the blocks `b, …, b + n - 1`. -/
def deqFill (W : S1x1536x512.Idx → Elt F .i8) (S : S1x96x512.Idx → Elt F .i8) :
    (n b : ℕ) → n + b ≤ 96 → (S3072x512.Idx → Elt F .bf16) → S3072x512.Idx → Elt F .bf16
  | 0, _, _, D => D
  | n + 1, b, h, D => deqFill W S n (b + 1) (by omega)
      ((Rect.unit (s := S3072x512) ![32 * b, 0] S32x512.size (inbD b (by omega))).overlay D (deqBlk W S b (by omega)))

theorem deqRun_wp {Q : PUnit → sProp 𝕄} {w : Memref sig .tc .vmem S1x1536x512 .i8} {s : Memref sig .tc .vmem S1x96x512 .i8}
    {d : Memref sig .tc .vmem S3072x512 .bf16} (hd : d.IsWhole) (k : Prog (TpuEff nD τ sig (Elt F) Λ₀ .tc) PUnit)
    (W : S1x1536x512.Idx → Elt F .i8) (S : S1x96x512.Idx → Elt F .i8) :
    ∀ (n b : ℕ) (h : n + b ≤ 96) (D : S3072x512.Idx → Elt F .bf16),
    (iprop(owns (c : Thread nD τ) w fullShare W ∗ owns (c : Thread nD τ) s fullShare S ∗ owns (c : Thread nD τ) d fullShare D
      ∗ (owns (c : Thread nD τ) w fullShare W -∗ owns (c : Thread nD τ) s fullShare S -∗ owns (c : Thread nD τ) d fullShare (deqFill W S n b h D) -∗ wp frame (wpE defs 𝒱 (c : Thread nD τ) bd) E k Q)) : sProp 𝕄)
    ⊢ wp frame (wpE defs 𝒱 (c : Thread nD τ) bd) E (deqRun w s d hd k n b h) Q := by
  intro n
  induction n with
  | zero =>
    intro b h D
    iintro ⟨Hw, Hs, Hd, Hk⟩
    iapply Hk $$ Hw Hs [Hd]
    iexact Hd
  | succ n ih =>
    intro b h D
    unfold deqRun deqK
    iintro ⟨Hw, Hs, Hd, Hk⟩
    iapply (ldK 𝒱 c bd E w) $$ Hw
    iintro Hw
    iapply (ldK 𝒱 c bd E s) $$ Hs
    iintro Hs
    iapply (ldK 𝒱 c bd E d) $$ Hd
    iintro Hd
    iapply (stK 𝒱 c bd E d) $$ Hd
    iintro Hd
    iapply (ih (b + 1) _ _)
    isplitl [Hw]
    · iexact Hw
    isplitl [Hs]
    · iexact Hs
    isplitl [Hd]
    · iexact Hd
    iexact Hk

/-- One group of input columns, rescaled. -/
def xBlk (X : S512x3072.Idx → Elt F .fp8e4m3) (S : S512x24.Idx → Elt F .f32) (g : ℕ) (hg : g < 24) : FVec F S512x128 .bf16 :=
  xVal (F := F) (fun x => S ((Rect.unit (s := S512x24) ![0, g] S512x1.size (inbXS g hg)).toLoadRect.idx x))
    (fun x => X ((Rect.unit (s := S512x3072) ![0, 128 * g] S512x128.size (inbX g hg)).toLoadRect.idx x))

/-- The rescaled input after the groups `g, …, g + n - 1`. -/
def xFill (X : S512x3072.Idx → Elt F .fp8e4m3) (S : S512x24.Idx → Elt F .f32) :
    (n g : ℕ) → n + g ≤ 24 → (S512x3072.Idx → Elt F .bf16) → S512x3072.Idx → Elt F .bf16
  | 0, _, _, D => D
  | n + 1, g, h, D => xFill X S n (g + 1) (by omega)
      ((Rect.unit (s := S512x3072) ![0, 128 * g] S512x128.size (inbX g (by omega))).overlay D (xBlk X S g (by omega)))

theorem xRun_wp {Q : PUnit → sProp 𝕄} {x : Memref sig .tc .vmem S512x3072 .fp8e4m3} {xs : Memref sig .tc .vmem S512x24 .f32}
    {d : Memref sig .tc .vmem S512x3072 .bf16} (hd : d.IsWhole) (k : Prog (TpuEff nD τ sig (Elt F) Λ₀ .tc) PUnit)
    (X : S512x3072.Idx → Elt F .fp8e4m3) (S : S512x24.Idx → Elt F .f32) :
    ∀ (n b : ℕ) (h : n + b ≤ 24) (D : S512x3072.Idx → Elt F .bf16),
    (iprop(owns (c : Thread nD τ) x fullShare X ∗ owns (c : Thread nD τ) xs fullShare S ∗ owns (c : Thread nD τ) d fullShare D
      ∗ (owns (c : Thread nD τ) x fullShare X -∗ owns (c : Thread nD τ) xs fullShare S -∗ owns (c : Thread nD τ) d fullShare (xFill X S n b h D) -∗ wp frame (wpE defs 𝒱 (c : Thread nD τ) bd) E k Q)) : sProp 𝕄)
    ⊢ wp frame (wpE defs 𝒱 (c : Thread nD τ) bd) E (xRun x xs d hd k n b h) Q := by
  intro n
  induction n with
  | zero =>
    intro b h D
    iintro ⟨Hw, Hs, Hd, Hk⟩
    iapply Hk $$ Hw Hs [Hd]
    iexact Hd
  | succ n ih =>
    intro b h D
    unfold xRun xK
    iintro ⟨Hw, Hs, Hd, Hk⟩
    iapply (ldK 𝒱 c bd E xs) $$ Hs
    iintro Hs
    iapply (ldK 𝒱 c bd E x) $$ Hw
    iintro Hw
    iapply (ldK 𝒱 c bd E d) $$ Hd
    iintro Hd
    iapply (stK 𝒱 c bd E d) $$ Hd
    iintro Hd
    iapply (ih (b + 1) _ _)
    isplitl [Hw]
    · iexact Hw
    isplitl [Hs]
    · iexact Hs
    isplitl [Hd]
    · iexact Hd
    iexact Hk

/-- The codes' block after one group. -/
def cOv (mask : IVec S512x128 1) (hq : FVec F S512x128 .f32) (i : ℕ) (hi : i < 4) (C : S512x512.Idx → Elt F .fp8e4m3) :
    S512x512.Idx → Elt F .fp8e4m3 :=
  (Rect.unit (s := S512x512) ![0, 128 * i] S512x128.size (inbC i hi)).overlay C
    (mergeCode (F := F) mask (grpCode hq) (fun x => C ((Rect.unit (s := S512x512) ![0, 128 * i] S512x128.size (inbC i hi)).toLoadRect.idx x)))

/-- The scales' block after one group. -/
def sOv (mask : IVec S512x128 1) (hq : FVec F S512x128 .f32) (i : ℕ) (hi : i < 4) (Z : S1x512x4.Idx → Elt F .f32) :
    S1x512x4.Idx → Elt F .f32 :=
  (Rect.unit (s := S1x512x4) ![0, 0, i] S1x512x1.size (inbCS i hi)).overlay Z
    (mergeScale (F := F) mask (grpScale hq) (fun x => Z ((Rect.unit (s := S1x512x4) ![0, 0, i] S1x512x1.size (inbCS i hi)).toLoadRect.idx x)))

theorem grpK_wp {Q : PUnit → sProp 𝕄} {co : Memref sig .tc .vmem S512x512 .fp8e4m3} (hco : co.IsWhole) {sc : Memref sig .tc .vmem S1x512x4 .f32}
    (mask : IVec S512x128 1) (hq : FVec F S512x128 .f32) (i : ℕ) (hi : i < 4) (k : Prog (TpuEff nD τ sig (Elt F) Λ₀ .tc) PUnit)
    (C : S512x512.Idx → Elt F .fp8e4m3) (Z : S1x512x4.Idx → Elt F .f32) :
    (iprop(owns (c : Thread nD τ) co fullShare C ∗ owns (c : Thread nD τ) sc fullShare Z
      ∗ (owns (c : Thread nD τ) co fullShare (cOv mask hq i hi C) -∗ owns (c : Thread nD τ) sc fullShare (sOv mask hq i hi Z) -∗ wp frame (wpE defs 𝒱 (c : Thread nD τ) bd) E k Q)) : sProp 𝕄)
    ⊢ wp frame (wpE defs 𝒱 (c : Thread nD τ) bd) E (grpK co hco sc mask hq i hi k) Q := by
  unfold grpK
  iintro ⟨Hc, Hz, Hk⟩
  iapply (ldK 𝒱 c bd E co) $$ Hc
  iintro Hc
  iapply (ldK 𝒱 c bd E co) $$ Hc
  iintro Hc
  iapply (stK 𝒱 c bd E co) $$ Hc
  iintro Hc
  iapply (ldK 𝒱 c bd E sc) $$ Hz
  iintro Hz
  iapply (ldK 𝒱 c bd E sc) $$ Hz
  iintro Hz
  iapply (stK 𝒱 c bd E sc) $$ Hz
  iintro Hz
  iapply Hk $$ [Hc] [Hz]
  · iexact Hc
  iexact Hz

/-- The activations of one chunk. -/
def hOut (XB : S512x3072.Idx → Elt F .bf16) (G U : S3072x512.Idx → Elt F .bf16) (bg bu : S1x1x512.Idx → Elt F .f32)
    (k : ℕ) (hk : k < 2) : FVec F S512x256 .f32 :=
  hVal (F := F) (fun x => XB ((Rect.unit (s := S512x3072) ![0, 0] S512x3072.size inb_S512x3072_S512x3072_0_0).toLoadRect.idx x))
    (fun x => G ((Rect.unit (s := S3072x512) ![0, 256 * k] S3072x256.size (inbG k hk)).toLoadRect.idx x))
    (fun x => bg ((Rect.unit (s := S1x1x512) ![0, 0, 256 * k] S1x1x256.size (inbB k hk)).toLoadRect.idx x))
    (fun x => XB ((Rect.unit (s := S512x3072) ![0, 0] S512x3072.size inb_S512x3072_S512x3072_0_0).toLoadRect.idx x))
    (fun x => U ((Rect.unit (s := S3072x512) ![0, 256 * k] S3072x256.size (inbG k hk)).toLoadRect.idx x))
    (fun x => bu ((Rect.unit (s := S1x1x512) ![0, 0, 256 * k] S1x1x256.size (inbB k hk)).toLoadRect.idx x))

/-- The two halves of a chunk. -/
def half0 (h : FVec F S512x256 .f32) : FVec F S512x128 .f32 := extractStridedSlice S512x128 ![0, 0] h slices_S512x256_o0_0_S512x128
def half1 (h : FVec F S512x256 .f32) : FVec F S512x128 .f32 := extractStridedSlice S512x128 ![0, 128] h slices_S512x256_o0_128_S512x128

theorem chunkK_wp {Q : PUnit → sProp 𝕄} {gw uw : Memref sig .tc .vmem S3072x512 .bf16} {xb : Memref sig .tc .vmem S512x3072 .bf16}
    {bg bu : Memref sig .tc .vmem S1x1x512 .f32} (i : ℕ) (hi : i < 2) (k : FVec F S512x256 .f32 → Prog (TpuEff nD τ sig (Elt F) Λ₀ .tc) PUnit)
    (XB : S512x3072.Idx → Elt F .bf16) (G U : S3072x512.Idx → Elt F .bf16) (Bg Bu : S1x1x512.Idx → Elt F .f32) :
    (iprop(owns (c : Thread nD τ) gw fullShare G ∗ owns (c : Thread nD τ) uw fullShare U ∗ owns (c : Thread nD τ) xb fullShare XB ∗ owns (c : Thread nD τ) bg fullShare Bg ∗ owns (c : Thread nD τ) bu fullShare Bu
      ∗ (owns (c : Thread nD τ) gw fullShare G -∗ owns (c : Thread nD τ) uw fullShare U -∗ owns (c : Thread nD τ) xb fullShare XB -∗ owns (c : Thread nD τ) bg fullShare Bg -∗ owns (c : Thread nD τ) bu fullShare Bu -∗ wp frame (wpE defs 𝒱 (c : Thread nD τ) bd) E (k (hOut XB G U Bg Bu i hi)) Q)) : sProp 𝕄)
    ⊢ wp frame (wpE defs 𝒱 (c : Thread nD τ) bd) E (chunkK gw uw xb bg bu i hi k) Q := by
  unfold chunkK
  iintro ⟨H17, H18, H19, H13, H14, Hk⟩
  iapply (ldK 𝒱 c bd E xb) $$ H19
  iintro H19
  iapply (ldK 𝒱 c bd E gw) $$ H17
  iintro H17
  iapply (ldK 𝒱 c bd E bg) $$ H13
  iintro H13
  iapply (ldK 𝒱 c bd E xb) $$ H19
  iintro H19
  iapply (ldK 𝒱 c bd E uw) $$ H18
  iintro H18
  iapply (ldK 𝒱 c bd E bu) $$ H14
  iintro H14
  iapply Hk $$ H17 H18 H19 H13 H14

theorem chunkGrpK_wp {Q : PUnit → sProp 𝕄} {co : Memref sig .tc .vmem S512x512 .fp8e4m3} (hco : co.IsWhole) {sc : Memref sig .tc .vmem S1x512x4 .f32}
    (mask : IVec S512x128 1) (h : FVec F S512x256 .f32) (i : ℕ) (hi : i < 2) (k : Prog (TpuEff nD τ sig (Elt F) Λ₀ .tc) PUnit)
    (C : S512x512.Idx → Elt F .fp8e4m3) (Z : S1x512x4.Idx → Elt F .f32) :
    (iprop(owns (c : Thread nD τ) co fullShare C ∗ owns (c : Thread nD τ) sc fullShare Z
      ∗ (owns (c : Thread nD τ) co fullShare (cOv mask (half1 h) (2 * i + 1) (by omega) (cOv mask (half0 h) (2 * i) (by omega) C)) -∗ owns (c : Thread nD τ) sc fullShare (sOv mask (half1 h) (2 * i + 1) (by omega) (sOv mask (half0 h) (2 * i) (by omega) Z)) -∗ wp frame (wpE defs 𝒱 (c : Thread nD τ) bd) E k Q)) : sProp 𝕄)
    ⊢ wp frame (wpE defs 𝒱 (c : Thread nD τ) bd) E (chunkGrpK co hco sc mask h i hi k) Q := by
  unfold chunkGrpK
  iintro ⟨H15, H16, Hk⟩
  iapply (grpK_wp 𝒱 c bd E hco _ _ _ _ _ _ _)
  isplitl [H15]
  · iexact H15
  isplitl [H16]
  · iexact H16
  iintro H15 H16
  iapply (grpK_wp 𝒱 c bd E hco _ _ _ _ _ _ _)
  isplitl [H15]
  · iexact H15
  isplitl [H16]
  · iexact H16
  iintro H15 H16
  iapply Hk $$ [H15] [H16]
  · iexact H15
  iexact H16

/-- The codes' block after a live visit. -/
def cOut (mask : IVec S512x128 1) (h0 h1 : FVec F S512x256 .f32) (C : S512x512.Idx → Elt F .fp8e4m3) : S512x512.Idx → Elt F .fp8e4m3 :=
  cOv mask (half1 h1) 3 (by decide) (cOv mask (half0 h1) 2 (by decide) (cOv mask (half1 h0) 1 (by decide) (cOv mask (half0 h0) 0 (by decide) C)))
/-- The scales' block after a live visit. -/
def sOut (mask : IVec S512x128 1) (h0 h1 : FVec F S512x256 .f32) (Z : S1x512x4.Idx → Elt F .f32) : S1x512x4.Idx → Elt F .f32 :=
  sOv mask (half1 h1) 3 (by decide) (sOv mask (half0 h1) 2 (by decide) (sOv mask (half1 h0) 1 (by decide) (sOv mask (half0 h0) 0 (by decide) Z)))

/-- The one word of a table of 152 words at an offset. -/
def wordAt (T : S152.Idx → Elt F .i32) (off : Fin 1 → ℕ) (inb : ∀ a, off a + S1.size a ≤ S152.size a) : Elt F .i32 :=
  T ((Rect.unit (s := S152) off S1.size inb).emb (Shape.Idx.first (s := (Rect.unit (s := S152) off S1.size inb).shape) (numel1_S1.symm ▸ Nat.one_pos)))

theorem compChain_wp {Q : PUnit → sProp 𝕄} (i : grid0.Coords) (arg2 : Memref sig .tc .smem S152 .i32) (harg2 : arg2.IsWhole) (arg3 : Memref sig .tc .smem S152 .i32) (harg3 : arg3.IsWhole) (arg4 : Memref sig .tc .smem S152 .i32) (harg4 : arg4.IsWhole) (arg5 : Memref sig .tc .smem S152 .i32) (harg5 : arg5.IsWhole) (arg6 : Memref sig .tc .smem S152 .i32) (harg6 : arg6.IsWhole) (arg7 : Memref sig .tc .vmem S512x3072 .fp8e4m3) (harg7 : arg7.IsWhole) (arg8 : Memref sig .tc .vmem S512x24 .f32) (harg8 : arg8.IsWhole) (arg9 : Memref sig .tc .vmem S1x1536x512 .i8) (harg9 : arg9.IsWhole) (arg10 : Memref sig .tc .vmem S1x1536x512 .i8) (harg10 : arg10.IsWhole) (arg11 : Memref sig .tc .vmem S1x96x512 .i8) (harg11 : arg11.IsWhole) (arg12 : Memref sig .tc .vmem S1x96x512 .i8) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S512x512 .fp8e4m3) (harg15 : arg15.IsWhole) (arg16 : Memref sig .tc .vmem S1x512x4 .f32) (harg16 : arg16.IsWhole) (arg17 : Memref sig .tc .vmem S3072x512 .bf16) (harg17 : arg17.IsWhole) (arg18 : Memref sig .tc .vmem S3072x512 .bf16) (harg18 : arg18.IsWhole) (arg19 : Memref sig .tc .vmem S512x3072 .bf16) (harg19 : arg19.IsWhole) (jp : Unit → Prog (TpuEff nD τ sig (Elt F) Λ₀ .tc) PUnit) (T7 : S512x3072.Idx → Elt F .fp8e4m3) (T8 : S512x24.Idx → Elt F .f32) (T9 : S1x1536x512.Idx → Elt F .i8) (T10 : S1x1536x512.Idx → Elt F .i8) (T11 : S1x96x512.Idx → Elt F .i8) (T12 : S1x96x512.Idx → Elt F .i8) (T13 : S1x1x512.Idx → Elt F .f32) (T14 : S1x1x512.Idx → Elt F .f32) (T15 : S512x512.Idx → Elt F .fp8e4m3) (T16 : S1x512x4.Idx → Elt F .f32) (T17 : S3072x512.Idx → Elt F .bf16) (T18 : S3072x512.Idx → Elt F .bf16) (T19 : S512x3072.Idx → Elt F .bf16) (T3 : S152.Idx → Elt F .i32) (T4 : S152.Idx → Elt F .i32) (T5 : S152.Idx → Elt F .i32) (T6 : S152.Idx → Elt F .i32) :
    (iprop(owns (c : Thread nD τ) arg4 fullShare.right T4 ∗ owns (c : Thread nD τ) arg5 fullShare.right T5 ∗ owns (c : Thread nD τ) arg7 fullShare T7 ∗ owns (c : Thread nD τ) arg8 fullShare T8 ∗ owns (c : Thread nD τ) arg13 fullShare T13 ∗ owns (c : Thread nD τ) arg14 fullShare T14 ∗ owns (c : Thread nD τ) arg15 fullShare T15 ∗ owns (c : Thread nD τ) arg16 fullShare T16 ∗ owns (c : Thread nD τ) arg17 fullShare T17 ∗ owns (c : Thread nD τ) arg18 fullShare T18 ∗ owns (c : Thread nD τ) arg19 fullShare T19
      ∗ (owns (c : Thread nD τ) arg4 fullShare.right T4 -∗ owns (c : Thread nD τ) arg5 fullShare.right T5 -∗ owns (c : Thread nD τ) arg7 fullShare T7 -∗ owns (c : Thread nD τ) arg8 fullShare T8 -∗ owns (c : Thread nD τ) arg13 fullShare T13 -∗ owns (c : Thread nD τ) arg14 fullShare T14 -∗ owns (c : Thread nD τ) arg15 fullShare (cOut (maskVal (F := F) (wordAt T4 (k0_off4 i) (k0_off4_inb i)) (wordAt T5 (k0_off4 i) (k0_off4_inb i))) (hOut (xFill T7 T8 24 0 (by omega) T19) T17 T18 T13 T14 0 (by decide)) (hOut (xFill T7 T8 24 0 (by omega) T19) T17 T18 T13 T14 1 (by decide)) T15) -∗ owns (c : Thread nD τ) arg16 fullShare (sOut (maskVal (F := F) (wordAt T4 (k0_off4 i) (k0_off4_inb i)) (wordAt T5 (k0_off4 i) (k0_off4_inb i))) (hOut (xFill T7 T8 24 0 (by omega) T19) T17 T18 T13 T14 0 (by decide)) (hOut (xFill T7 T8 24 0 (by omega) T19) T17 T18 T13 T14 1 (by decide)) T16) -∗ owns (c : Thread nD τ) arg17 fullShare T17 -∗ owns (c : Thread nD τ) arg18 fullShare T18 -∗ owns (c : Thread nD τ) arg19 fullShare (xFill T7 T8 24 0 (by omega) T19) -∗ wp frame (wpE defs 𝒱 (c : Thread nD τ) bd) E (jp ⟨⟩) Q)) : sProp 𝕄)
    ⊢ wp frame (wpE defs 𝒱 (c : Thread nD τ) bd) E (compChain (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 jp) Q := by
  iintro ⟨H4, H5, H7, H8, H13, H14, H15, H16, H17, H18, H19, Hk⟩
  unfold compChain
  iapply (xRun_wp 𝒱 c bd E harg19 _ T7 T8 24 0 _ T19)
  isplitl [H7]
  · iexact H7
  isplitl [H8]
  · iexact H8
  isplitl [H19]
  · iexact H19
  iintro H7 H8 H19
  iapply (smK 𝒱 c bd E arg4) $$ H4
  iintro H4
  iapply (smK 𝒱 c bd E arg5) $$ H5
  iintro H5
  iapply (chunkK_wp 𝒱 c bd E _ _ _ (xFill T7 T8 24 0 _ T19) T17 T18 T13 T14)
  isplitl [H17]
  · iexact H17
  isplitl [H18]
  · iexact H18
  isplitl [H19]
  · iexact H19
  isplitl [H13]
  · iexact H13
  isplitl [H14]
  · iexact H14
  iintro H17 H18 H19 H13 H14
  iapply (chunkGrpK_wp 𝒱 c bd E harg15 _ _ _ _ _ _ _)
  isplitl [H15]
  · iexact H15
  isplitl [H16]
  · iexact H16
  iintro H15 H16
  iapply (chunkK_wp 𝒱 c bd E _ _ _ (xFill T7 T8 24 0 _ T19) T17 T18 T13 T14)
  isplitl [H17]
  · iexact H17
  isplitl [H18]
  · iexact H18
  isplitl [H19]
  · iexact H19
  isplitl [H13]
  · iexact H13
  isplitl [H14]
  · iexact H14
  iintro H17 H18 H19 H13 H14
  iapply (chunkGrpK_wp 𝒱 c bd E harg15 _ _ _ _ _ _ _)
  isplitl [H15]
  · iexact H15
  isplitl [H16]
  · iexact H16
  iintro H15 H16
  iapply Hk $$ H4 H5 H7 H8 H13 H14 [H15] [H16] H17 H18 [H19]
  · iexact H15
  · iexact H16
  iexact H19

end Cert.KernelIdeal.Hand
-- ==== Proof.PI.BodyWp.lean ====
module

public import proofs.«01_k».proof.Proof.PI.Triple

/-! One run of the whole body: from the buffers it is handed to the buffers it leaves. -/

@[expose] public section

noncomputable section

namespace Cert.KernelIdeal.Hand

open Idealize.ShloMosaic Idealize.ShloMosaic.TcCoe Idealize.SL.Sem
open Idealize.SL Idealize.SL.RA Idealize.SL.BI Idealize.SL.ProofMode
open scoped Idealize.SL.BI
open Idealize.SL.BI.BIBase Idealize.SL.BI.Laws
open Cert.KernelIdeal Facts₀ Facts Cert.Hand

variable {F : FTy → Type} [FloatOps F] [Facts]

local notation "𝕄" => MT nD τ sig Unit (Elt F) ℕ (UR sig nD τ) ℕ

variable {defs : Defs nD τ sig (Elt F) Λ₀} (𝒱 : Variants) (c : Dev nD) (bd : Option 𝒱.V) (E : Set ℕ)

/-- Whether the visit decodes its expert's weights. -/
def reloads (i : grid0.Coords) (T3 : S152.Idx → Elt F .i32) : Prop :=
  reloadBit (F := F) i (wordAt T3 (k0_off1 i) (k0_off1_inb i)) (wordAt T3 (k0_off2 i) (k0_off2_inb i)) = 1#1
instance (i : grid0.Coords) (T3 : S152.Idx → Elt F .i32) : Decidable (reloads i T3) := by unfold reloads; infer_instance
/-- Whether the visit has rows. -/
def live (i : grid0.Coords) (T6 : S152.Idx → Elt F .i32) : Prop := k0_cond2 (wordAt T6 (k0_off3 i) (k0_off3_inb i)) = 1#1
instance (i : grid0.Coords) (T6 : S152.Idx → Elt F .i32) : Decidable (live i T6) := by unfold live; infer_instance
/-- The rows the visit writes. -/
def visitMask (i : grid0.Coords) (T4 T5 : S152.Idx → Elt F .i32) : IVec S512x128 1 :=
  maskVal (F := F) (wordAt T4 (k0_off4 i) (k0_off4_inb i)) (wordAt T5 (k0_off4 i) (k0_off4_inb i))
/-- The decoded weights after the visit's first branch. -/
def gateAfter (i : grid0.Coords) (T3 : S152.Idx → Elt F .i32) (W : S1x1536x512.Idx → Elt F .i8) (S : S1x96x512.Idx → Elt F .i8)
    (D : S3072x512.Idx → Elt F .bf16) : S3072x512.Idx → Elt F .bf16 :=
  if reloads i T3 then deqFill W S 96 0 (by omega) D else D
/-- The rescaled input after the visit. -/
def inputAfter (i : grid0.Coords) (T6 : S152.Idx → Elt F .i32) (X : S512x3072.Idx → Elt F .fp8e4m3) (S : S512x24.Idx → Elt F .f32)
    (D : S512x3072.Idx → Elt F .bf16) : S512x3072.Idx → Elt F .bf16 :=
  if live i T6 then xFill X S 24 0 (by omega) D else D
/-- The codes' block after the visit. -/
def codesAfter (i : grid0.Coords) (T4 T5 T6 : S152.Idx → Elt F .i32) (T7 : S512x3072.Idx → Elt F .fp8e4m3) (T8 : S512x24.Idx → Elt F .f32)
    (T13 T14 : S1x1x512.Idx → Elt F .f32) (G U : S3072x512.Idx → Elt F .bf16) (C : S512x512.Idx → Elt F .fp8e4m3)
    (D : S512x3072.Idx → Elt F .bf16) : S512x512.Idx → Elt F .fp8e4m3 :=
  if live i T6 then cOut (visitMask i T4 T5) (hOut (xFill T7 T8 24 0 (by omega) D) G U T13 T14 0 (by decide))
    (hOut (xFill T7 T8 24 0 (by omega) D) G U T13 T14 1 (by decide)) C else C
/-- The scales' block after the visit. -/
def scalesAfter (i : grid0.Coords) (T4 T5 T6 : S152.Idx → Elt F .i32) (T7 : S512x3072.Idx → Elt F .fp8e4m3) (T8 : S512x24.Idx → Elt F .f32)
    (T13 T14 : S1x1x512.Idx → Elt F .f32) (G U : S3072x512.Idx → Elt F .bf16) (Z : S1x512x4.Idx → Elt F .f32)
    (D : S512x3072.Idx → Elt F .bf16) : S1x512x4.Idx → Elt F .f32 :=
  if live i T6 then sOut (visitMask i T4 T5) (hOut (xFill T7 T8 24 0 (by omega) D) G U T13 T14 0 (by decide))
    (hOut (xFill T7 T8 24 0 (by omega) D) G U T13 T14 1 (by decide)) Z else Z

/-- The body after its first branch. -/
def bodyTail (i : grid0.Coords) (arg2 : Memref sig .tc .smem S152 .i32) (harg2 : arg2.IsWhole) (arg3 : Memref sig .tc .smem S152 .i32) (harg3 : arg3.IsWhole) (arg4 : Memref sig .tc .smem S152 .i32) (harg4 : arg4.IsWhole) (arg5 : Memref sig .tc .smem S152 .i32) (harg5 : arg5.IsWhole) (arg6 : Memref sig .tc .smem S152 .i32) (harg6 : arg6.IsWhole) (arg7 : Memref sig .tc .vmem S512x3072 .fp8e4m3) (harg7 : arg7.IsWhole) (arg8 : Memref sig .tc .vmem S512x24 .f32) (harg8 : arg8.IsWhole) (arg9 : Memref sig .tc .vmem S1x1536x512 .i8) (harg9 : arg9.IsWhole) (arg10 : Memref sig .tc .vmem S1x1536x512 .i8) (harg10 : arg10.IsWhole) (arg11 : Memref sig .tc .vmem S1x96x512 .i8) (harg11 : arg11.IsWhole) (arg12 : Memref sig .tc .vmem S1x96x512 .i8) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S512x512 .fp8e4m3) (harg15 : arg15.IsWhole) (arg16 : Memref sig .tc .vmem S1x512x4 .f32) (harg16 : arg16.IsWhole) (arg17 : Memref sig .tc .vmem S3072x512 .bf16) (harg17 : arg17.IsWhole) (arg18 : Memref sig .tc .vmem S3072x512 .bf16) (harg18 : arg18.IsWhole) (arg19 : Memref sig .tc .vmem S512x3072 .bf16) (harg19 : arg19.IsWhole) : Prog (TpuEff nD τ sig (Elt F) Λ₀ .tc) PUnit :=
    smemLoadElt arg6 (Rect.unit (s := S152) (k0_off3 i) S1.size (k0_off3_inb i)) (View.loads_smem_one rfl numel1_S1) (Shape.Idx.first (numel1_S1.symm ▸ Nat.one_pos)) fun v12 =>
    if k0_h2 : k0_cond2 v12 = 1#1 then compChain i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (fun _ => pure ⟨⟩) else pure ⟨⟩

/-- The body in its chain form. -/
def bodyChain (i : grid0.Coords) (arg2 : Memref sig .tc .smem S152 .i32) (harg2 : arg2.IsWhole) (arg3 : Memref sig .tc .smem S152 .i32) (harg3 : arg3.IsWhole) (arg4 : Memref sig .tc .smem S152 .i32) (harg4 : arg4.IsWhole) (arg5 : Memref sig .tc .smem S152 .i32) (harg5 : arg5.IsWhole) (arg6 : Memref sig .tc .smem S152 .i32) (harg6 : arg6.IsWhole) (arg7 : Memref sig .tc .vmem S512x3072 .fp8e4m3) (harg7 : arg7.IsWhole) (arg8 : Memref sig .tc .vmem S512x24 .f32) (harg8 : arg8.IsWhole) (arg9 : Memref sig .tc .vmem S1x1536x512 .i8) (harg9 : arg9.IsWhole) (arg10 : Memref sig .tc .vmem S1x1536x512 .i8) (harg10 : arg10.IsWhole) (arg11 : Memref sig .tc .vmem S1x96x512 .i8) (harg11 : arg11.IsWhole) (arg12 : Memref sig .tc .vmem S1x96x512 .i8) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S512x512 .fp8e4m3) (harg15 : arg15.IsWhole) (arg16 : Memref sig .tc .vmem S1x512x4 .f32) (harg16 : arg16.IsWhole) (arg17 : Memref sig .tc .vmem S3072x512 .bf16) (harg17 : arg17.IsWhole) (arg18 : Memref sig .tc .vmem S3072x512 .bf16) (harg18 : arg18.IsWhole) (arg19 : Memref sig .tc .vmem S512x3072 .bf16) (harg19 : arg19.IsWhole) : Prog (TpuEff nD τ sig (Elt F) Λ₀ .tc) PUnit :=
  smemLoadElt arg3 (Rect.unit (s := S152) (k0_off1 i) S1.size (k0_off1_inb i)) (View.loads_smem_one rfl numel1_S1) (Shape.Idx.first (numel1_S1.symm ▸ Nat.one_pos)) fun v4 =>
  smemLoadElt arg3 (Rect.unit (s := S152) (k0_off2 i) S1.size (k0_off2_inb i)) (View.loads_smem_one rfl numel1_S1) (Shape.Idx.first (numel1_S1.symm ▸ Nat.one_pos)) fun v6 =>
  if reloadBit (F := F) i v4 v6 = 1#1 then deqRun arg9 arg11 arg17 harg17 (deqRun arg10 arg12 arg18 harg18 (bodyTail i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) 96 0 (by omega)) 96 0 (by omega) else bodyTail i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19

theorem body_chain (i : grid0.Coords) (arg2 : Memref sig .tc .smem S152 .i32) (harg2 : arg2.IsWhole) (arg3 : Memref sig .tc .smem S152 .i32) (harg3 : arg3.IsWhole) (arg4 : Memref sig .tc .smem S152 .i32) (harg4 : arg4.IsWhole) (arg5 : Memref sig .tc .smem S152 .i32) (harg5 : arg5.IsWhole) (arg6 : Memref sig .tc .smem S152 .i32) (harg6 : arg6.IsWhole) (arg7 : Memref sig .tc .vmem S512x3072 .fp8e4m3) (harg7 : arg7.IsWhole) (arg8 : Memref sig .tc .vmem S512x24 .f32) (harg8 : arg8.IsWhole) (arg9 : Memref sig .tc .vmem S1x1536x512 .i8) (harg9 : arg9.IsWhole) (arg10 : Memref sig .tc .vmem S1x1536x512 .i8) (harg10 : arg10.IsWhole) (arg11 : Memref sig .tc .vmem S1x96x512 .i8) (harg11 : arg11.IsWhole) (arg12 : Memref sig .tc .vmem S1x96x512 .i8) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S512x512 .fp8e4m3) (harg15 : arg15.IsWhole) (arg16 : Memref sig .tc .vmem S1x512x4 .f32) (harg16 : arg16.IsWhole) (arg17 : Memref sig .tc .vmem S3072x512 .bf16) (harg17 : arg17.IsWhole) (arg18 : Memref sig .tc .vmem S3072x512 .bf16) (harg18 : arg18.IsWhole) (arg19 : Memref sig .tc .vmem S512x3072 .bf16) (harg19 : arg19.IsWhole) :
    cc0_moe_gate_up (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = bodyChain i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  rw [body2_eq]
  unfold body2 bodyChain bodyTail
  simp only [deqBranch_run, compBranch_run]
  rfl

theorem bodyTail_wp {Q : PUnit → sProp 𝕄} (i : grid0.Coords) (arg2 : Memref sig .tc .smem S152 .i32) (harg2 : arg2.IsWhole) (arg3 : Memref sig .tc .smem S152 .i32) (harg3 : arg3.IsWhole) (arg4 : Memref sig .tc .smem S152 .i32) (harg4 : arg4.IsWhole) (arg5 : Memref sig .tc .smem S152 .i32) (harg5 : arg5.IsWhole) (arg6 : Memref sig .tc .smem S152 .i32) (harg6 : arg6.IsWhole) (arg7 : Memref sig .tc .vmem S512x3072 .fp8e4m3) (harg7 : arg7.IsWhole) (arg8 : Memref sig .tc .vmem S512x24 .f32) (harg8 : arg8.IsWhole) (arg9 : Memref sig .tc .vmem S1x1536x512 .i8) (harg9 : arg9.IsWhole) (arg10 : Memref sig .tc .vmem S1x1536x512 .i8) (harg10 : arg10.IsWhole) (arg11 : Memref sig .tc .vmem S1x96x512 .i8) (harg11 : arg11.IsWhole) (arg12 : Memref sig .tc .vmem S1x96x512 .i8) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S512x512 .fp8e4m3) (harg15 : arg15.IsWhole) (arg16 : Memref sig .tc .vmem S1x512x4 .f32) (harg16 : arg16.IsWhole) (arg17 : Memref sig .tc .vmem S3072x512 .bf16) (harg17 : arg17.IsWhole) (arg18 : Memref sig .tc .vmem S3072x512 .bf16) (harg18 : arg18.IsWhole) (arg19 : Memref sig .tc .vmem S512x3072 .bf16) (harg19 : arg19.IsWhole) (T7 : S512x3072.Idx → Elt F .fp8e4m3) (T8 : S512x24.Idx → Elt F .f32) (T9 : S1x1536x512.Idx → Elt F .i8) (T10 : S1x1536x512.Idx → Elt F .i8) (T11 : S1x96x512.Idx → Elt F .i8) (T12 : S1x96x512.Idx → Elt F .i8) (T13 : S1x1x512.Idx → Elt F .f32) (T14 : S1x1x512.Idx → Elt F .f32) (T15 : S512x512.Idx → Elt F .fp8e4m3) (T16 : S1x512x4.Idx → Elt F .f32) (T17 : S3072x512.Idx → Elt F .bf16) (T18 : S3072x512.Idx → Elt F .bf16) (T19 : S512x3072.Idx → Elt F .bf16) (T3 : S152.Idx → Elt F .i32) (T4 : S152.Idx → Elt F .i32) (T5 : S152.Idx → Elt F .i32) (T6 : S152.Idx → Elt F .i32) :
    (iprop(owns (c : Thread nD τ) arg6 fullShare.right T6 ∗ owns (c : Thread nD τ) arg4 fullShare.right T4 ∗ owns (c : Thread nD τ) arg5 fullShare.right T5 ∗ owns (c : Thread nD τ) arg7 fullShare T7 ∗ owns (c : Thread nD τ) arg8 fullShare T8 ∗ owns (c : Thread nD τ) arg13 fullShare T13 ∗ owns (c : Thread nD τ) arg14 fullShare T14 ∗ owns (c : Thread nD τ) arg15 fullShare T15 ∗ owns (c : Thread nD τ) arg16 fullShare T16 ∗ owns (c : Thread nD τ) arg17 fullShare T17 ∗ owns (c : Thread nD τ) arg18 fullShare T18 ∗ owns (c : Thread nD τ) arg19 fullShare T19
      ∗ (owns (c : Thread nD τ) arg6 fullShare.right T6 -∗ owns (c : Thread nD τ) arg4 fullShare.right T4 -∗ owns (c : Thread nD τ) arg5 fullShare.right T5 -∗ owns (c : Thread nD τ) arg7 fullShare T7 -∗ owns (c : Thread nD τ) arg8 fullShare T8 -∗ owns (c : Thread nD τ) arg13 fullShare T13 -∗ owns (c : Thread nD τ) arg14 fullShare T14 -∗ owns (c : Thread nD τ) arg15 fullShare (codesAfter i T4 T5 T6 T7 T8 T13 T14 T17 T18 T15 T19) -∗ owns (c : Thread nD τ) arg16 fullShare (scalesAfter i T4 T5 T6 T7 T8 T13 T14 T17 T18 T16 T19) -∗ owns (c : Thread nD τ) arg17 fullShare T17 -∗ owns (c : Thread nD τ) arg18 fullShare T18 -∗ owns (c : Thread nD τ) arg19 fullShare (inputAfter i T6 T7 T8 T19) -∗ Q ⟨⟩)) : sProp 𝕄)
    ⊢ wp frame (wpE defs 𝒱 (c : Thread nD τ) bd) E (bodyTail (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q := by
  unfold bodyTail
  iintro ⟨H6, H4, H5, H7, H8, H13, H14, H15, H16, H17, H18, H19, Hk⟩
  iapply (smK 𝒱 c bd E arg6) $$ H6
  iintro H6
  by_cases hl : k0_cond2 (T6 ((Rect.unit (s := S152) (k0_off3 i) S1.size (k0_off3_inb i)).emb (Shape.Idx.first (numel1_S1.symm ▸ Nat.one_pos)))) = 1#1
  · rw [dif_pos hl]
    have hl' : live i T6 := hl
    iapply (compChain_wp 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (fun _ => pure ⟨⟩) T7 T8 T9 T10 T11 T12 T13 T14 T15 T16 T17 T18 T19 T3 T4 T5 T6)
    isplitl [H4]
    · iexact H4
    isplitl [H5]
    · iexact H5
    isplitl [H7]
    · iexact H7
    isplitl [H8]
    · iexact H8
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    iintro H4 H5 H7 H8 H13 H14 H15 H16 H17 H18 H19
    unfold codesAfter scalesAfter inputAfter visitMask
    simp only [if_pos hl']
    rw [wp_pure]
    imodintro
    iapply Hk $$ H6 H4 H5 H7 H8 H13 H14 H15 H16 H17 H18 H19
  · rw [dif_neg hl]
    have hl' : ¬ live i T6 := hl
    unfold codesAfter scalesAfter inputAfter visitMask
    simp only [if_neg hl']
    rw [wp_pure]
    imodintro
    iapply Hk $$ H6 H4 H5 H7 H8 H13 H14 H15 H16 H17 H18 H19

theorem body_wp {Q : PUnit → sProp 𝕄} (i : grid0.Coords) (arg2 : Memref sig .tc .smem S152 .i32) (harg2 : arg2.IsWhole) (arg3 : Memref sig .tc .smem S152 .i32) (harg3 : arg3.IsWhole) (arg4 : Memref sig .tc .smem S152 .i32) (harg4 : arg4.IsWhole) (arg5 : Memref sig .tc .smem S152 .i32) (harg5 : arg5.IsWhole) (arg6 : Memref sig .tc .smem S152 .i32) (harg6 : arg6.IsWhole) (arg7 : Memref sig .tc .vmem S512x3072 .fp8e4m3) (harg7 : arg7.IsWhole) (arg8 : Memref sig .tc .vmem S512x24 .f32) (harg8 : arg8.IsWhole) (arg9 : Memref sig .tc .vmem S1x1536x512 .i8) (harg9 : arg9.IsWhole) (arg10 : Memref sig .tc .vmem S1x1536x512 .i8) (harg10 : arg10.IsWhole) (arg11 : Memref sig .tc .vmem S1x96x512 .i8) (harg11 : arg11.IsWhole) (arg12 : Memref sig .tc .vmem S1x96x512 .i8) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S512x512 .fp8e4m3) (harg15 : arg15.IsWhole) (arg16 : Memref sig .tc .vmem S1x512x4 .f32) (harg16 : arg16.IsWhole) (arg17 : Memref sig .tc .vmem S3072x512 .bf16) (harg17 : arg17.IsWhole) (arg18 : Memref sig .tc .vmem S3072x512 .bf16) (harg18 : arg18.IsWhole) (arg19 : Memref sig .tc .vmem S512x3072 .bf16) (harg19 : arg19.IsWhole) (T7 : S512x3072.Idx → Elt F .fp8e4m3) (T8 : S512x24.Idx → Elt F .f32) (T9 : S1x1536x512.Idx → Elt F .i8) (T10 : S1x1536x512.Idx → Elt F .i8) (T11 : S1x96x512.Idx → Elt F .i8) (T12 : S1x96x512.Idx → Elt F .i8) (T13 : S1x1x512.Idx → Elt F .f32) (T14 : S1x1x512.Idx → Elt F .f32) (T15 : S512x512.Idx → Elt F .fp8e4m3) (T16 : S1x512x4.Idx → Elt F .f32) (T17 : S3072x512.Idx → Elt F .bf16) (T18 : S3072x512.Idx → Elt F .bf16) (T19 : S512x3072.Idx → Elt F .bf16) (T3 : S152.Idx → Elt F .i32) (T4 : S152.Idx → Elt F .i32) (T5 : S152.Idx → Elt F .i32) (T6 : S152.Idx → Elt F .i32) :
    (iprop(owns (c : Thread nD τ) arg3 fullShare.right T3 ∗ owns (c : Thread nD τ) arg4 fullShare.right T4 ∗ owns (c : Thread nD τ) arg5 fullShare.right T5 ∗ owns (c : Thread nD τ) arg6 fullShare.right T6 ∗ owns (c : Thread nD τ) arg7 fullShare T7 ∗ owns (c : Thread nD τ) arg8 fullShare T8 ∗ owns (c : Thread nD τ) arg9 fullShare T9 ∗ owns (c : Thread nD τ) arg10 fullShare T10 ∗ owns (c : Thread nD τ) arg11 fullShare T11 ∗ owns (c : Thread nD τ) arg12 fullShare T12 ∗ owns (c : Thread nD τ) arg13 fullShare T13 ∗ owns (c : Thread nD τ) arg14 fullShare T14 ∗ owns (c : Thread nD τ) arg15 fullShare T15 ∗ owns (c : Thread nD τ) arg16 fullShare T16 ∗ owns (c : Thread nD τ) arg17 fullShare T17 ∗ owns (c : Thread nD τ) arg18 fullShare T18 ∗ owns (c : Thread nD τ) arg19 fullShare T19
      ∗ (owns (c : Thread nD τ) arg3 fullShare.right T3 -∗ owns (c : Thread nD τ) arg4 fullShare.right T4 -∗ owns (c : Thread nD τ) arg5 fullShare.right T5 -∗ owns (c : Thread nD τ) arg6 fullShare.right T6 -∗ owns (c : Thread nD τ) arg7 fullShare T7 -∗ owns (c : Thread nD τ) arg8 fullShare T8 -∗ owns (c : Thread nD τ) arg9 fullShare T9 -∗ owns (c : Thread nD τ) arg10 fullShare T10 -∗ owns (c : Thread nD τ) arg11 fullShare T11 -∗ owns (c : Thread nD τ) arg12 fullShare T12 -∗ owns (c : Thread nD τ) arg13 fullShare T13 -∗ owns (c : Thread nD τ) arg14 fullShare T14 -∗ owns (c : Thread nD τ) arg15 fullShare (codesAfter i T4 T5 T6 T7 T8 T13 T14 (gateAfter i T3 T9 T11 T17) (gateAfter i T3 T10 T12 T18) T15 T19) -∗ owns (c : Thread nD τ) arg16 fullShare (scalesAfter i T4 T5 T6 T7 T8 T13 T14 (gateAfter i T3 T9 T11 T17) (gateAfter i T3 T10 T12 T18) T16 T19) -∗ owns (c : Thread nD τ) arg17 fullShare (gateAfter i T3 T9 T11 T17) -∗ owns (c : Thread nD τ) arg18 fullShare (gateAfter i T3 T10 T12 T18) -∗ owns (c : Thread nD τ) arg19 fullShare (inputAfter i T6 T7 T8 T19) -∗ Q ⟨⟩)) : sProp 𝕄)
    ⊢ wp frame (wpE defs 𝒱 (c : Thread nD τ) bd) E (cc0_moe_gate_up (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q := by
  rw [body_chain]
  unfold bodyChain
  iintro ⟨H3, H4, H5, H6, H7, H8, H9, H10, H11, H12, H13, H14, H15, H16, H17, H18, H19, Hk⟩
  iapply (smK 𝒱 c bd E arg3) $$ H3
  iintro H3
  iapply (smK 𝒱 c bd E arg3) $$ H3
  iintro H3
  by_cases hr' : reloadBit (F := F) i (T3 ((Rect.unit (s := S152) (k0_off1 i) S1.size (k0_off1_inb i)).emb (Shape.Idx.first (numel1_S1.symm ▸ Nat.one_pos)))) (T3 ((Rect.unit (s := S152) (k0_off2 i) S1.size (k0_off2_inb i)).emb (Shape.Idx.first (numel1_S1.symm ▸ Nat.one_pos)))) = 1#1
  · rw [if_pos hr']
    have hr : reloads i T3 := hr'
    unfold gateAfter
    simp only [if_pos hr]
    iapply (deqRun_wp 𝒱 c bd E harg17 _ T9 T11 96 0 _ T17)
    isplitl [H9]
    · iexact H9
    isplitl [H11]
    · iexact H11
    isplitl [H17]
    · iexact H17
    iintro H9 H11 H17
    iapply (deqRun_wp 𝒱 c bd E harg18 _ T10 T12 96 0 _ T18)
    isplitl [H10]
    · iexact H10
    isplitl [H12]
    · iexact H12
    isplitl [H18]
    · iexact H18
    iintro H10 H12 H18
    iapply (bodyTail_wp 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 T7 T8 T9 T10 T11 T12 T13 T14 T15 T16 _ _ T19 T3 T4 T5 T6)
    isplitl [H6]
    · iexact H6
    isplitl [H4]
    · iexact H4
    isplitl [H5]
    · iexact H5
    isplitl [H7]
    · iexact H7
    isplitl [H8]
    · iexact H8
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    iintro H6 H4 H5 H7 H8 H13 H14 H15 H16 H17 H18 H19
    iapply Hk $$ H3 H4 H5 H6 H7 H8 H9 H10 H11 H12 H13 H14 H15 H16 H17 H18 H19
  · rw [if_neg hr']
    have hr : ¬ reloads i T3 := hr'
    unfold gateAfter
    simp only [if_neg hr]
    iapply (bodyTail_wp 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 T7 T8 T9 T10 T11 T12 T13 T14 T15 T16 T17 T18 T19 T3 T4 T5 T6)
    isplitl [H6]
    · iexact H6
    isplitl [H4]
    · iexact H4
    isplitl [H5]
    · iexact H5
    isplitl [H7]
    · iexact H7
    isplitl [H8]
    · iexact H8
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    iintro H6 H4 H5 H7 H8 H13 H14 H15 H16 H17 H18 H19
    iapply Hk $$ H3 H4 H5 H6 H7 H8 H9 H10 H11 H12 H13 H14 H15 H16 H17 H18 H19

end Cert.KernelIdeal.Hand
-- ==== Proof.PI.Region.lean ====
module

public import proofs.«01_k».proof.Proof.PI.Kit
public import proofs.«01_k».proof.Proof.PI.BodyWp

/-! The region run: proof data over an invariant of the decoded scratch and two relations of the output blocks. -/

@[expose] public section

set_option maxRecDepth 4096

noncomputable section

namespace Cert.KernelIdeal.Hand

open Idealize.ShloMosaic Idealize.ShloMosaic.TcCoe Idealize.SL.Sem
open Idealize.SL Idealize.SL.RA Idealize.SL.BI Idealize.SL.ProofMode
open scoped Idealize.SL.BI
open Idealize.SL.BI.BIBase Idealize.SL.BI.Laws
open Cert.KernelIdeal Cert.KernelIdeal.Gen Cert.Hand
open Idealize.ShloMosaic.Pipeline (RDat)

variable {F : FTy → Type} [FloatOps F]

local notation "𝕄" => MT nD τ sig Unit (Elt F) ℕ (UR sig nD τ) ℕ

/-- The tables as words. -/
def tT (pf : pre0.Contents (Elt F)) : S152.Idx → Elt F .i32 := pf 0
def tE (pf : pre0.Contents (Elt F)) : S152.Idx → Elt F .i32 := pf 1
def tLo (pf : pre0.Contents (Elt F)) : S152.Idx → Elt F .i32 := pf 2
def tHi (pf : pre0.Contents (Elt F)) : S152.Idx → Elt F .i32 := pf 3
def tLive (pf : pre0.Contents (Elt F)) : S152.Idx → Elt F .i32 := pf 4

theorem PhiT_eq (pf : pre0.Contents (Elt F)) (c : Dev nD) : (Pipeline.ΦT pre0 pf c : sProp 𝕄) =
    iprop(owns (c : Thread nD τ) (Memref.whole main_v53) fullShare.right (tT pf) ∗ owns (c : Thread nD τ) (Memref.whole main_v29) fullShare.right (tE pf)
      ∗ owns (c : Thread nD τ) (Memref.whole main_v64) fullShare.right (tLo pf) ∗ owns (c : Thread nD τ) (Memref.whole main_v75) fullShare.right (tHi pf)
      ∗ owns (c : Thread nD τ) (Memref.whole main_v76) fullShare.right (tLive pf)) := by
  unfold Pipeline.ΦT Pipeline.prefHeld
  rw [show (Finset.univ : Finset (Fin 5)) = {(0 : Fin 5), (1 : Fin 5), (2 : Fin 5), (3 : Fin 5), (4 : Fin 5)} from by decide,
    bigSep_insert (by decide), bigSep_insert (by decide), bigSep_insert (by decide), bigSep_insert (by decide), bigSep_singleton]
  simp only [owns_whole]
  rfl

/-- The region's configuration at the tables `pf`. -/
abbrev cfgP (pf : pre0.Contents (Elt F)) (hok : ok0 (F := F) pf) : Pipeline.Cfg sig Λ₀ := cfg0 ⟨pf, hok⟩

variable (W : (c : Dev nD) → (b : Ref sig .tc) → Buf (Elt F) ((c : Thread nD τ).loc b)) (pf : pre0.Contents (Elt F)) (hok : ok0 (F := F) pf)
  (I : ℕ → (S3072x512.Idx → Elt F .bf16) → (S3072x512.Idx → Elt F .bf16) → Prop)
  (R8 : Fin grid0.N → (S512x512.Idx → Elt F .fp8e4m3) → (S512x512.Idx → Elt F .fp8e4m3) → Prop)
  (R9 : Fin grid0.N → (S1x512x4.Idx → Elt F .f32) → (S1x512x4.Idx → Elt F .f32) → Prop)

/-- The region's proof data. -/
def rdat (c : Dev nD) : RDat τ (Elt F) Unit ℕ (UR sig nD τ) ℕ (cfgP pf hok) c where
  A w := W c (Pipeline.arrRef spec0 w)
  after := fun | 0 => fun _ Y X => X = Y | 1 => fun _ Y X => X = Y | 2 => fun _ Y X => X = Y | 3 => fun _ Y X => X = Y | 4 => fun _ Y X => X = Y | 5 => fun _ Y X => X = Y | 6 => fun _ Y X => X = Y | 7 => fun _ Y X => X = Y | 8 => fun t Y X => R8 t Y X | 9 => fun t Y X => R9 t Y X | ⟨_ + 10, h⟩ => absurd h (Nat.not_lt.2 (Nat.le_add_left _ _))
  Φ t := iprop((∃ G U D, ⌜I t.val G U⌝ ∗ owns (c : Thread nD τ) (Memref.whole cc0_scratch0) fullShare G ∗ owns (c : Thread nD τ) (Memref.whole cc0_scratch1) fullShare U
      ∗ owns (c : Thread nD τ) (Memref.whole cc0_scratch2) fullShare D) ∗ (∃ r, prngReg c r) ∗ Pipeline.ΦT pre0 pf c)
  q := Pipeline.shareOf (cfgP pf hok).spec
  owed _ := 0

/-- What the body obligation asks of the invariant and the relations. -/
def StepOk (c : Dev nD) : Prop :=
  ∀ (t : Fin grid0.N) (Y0 : S512x3072.Idx → Elt F .fp8e4m3) (Y1 : S512x24.Idx → Elt F .f32) (Y2 : S1x1536x512.Idx → Elt F .i8) (Y3 : S1x1536x512.Idx → Elt F .i8) (Y4 : S1x96x512.Idx → Elt F .i8) (Y5 : S1x96x512.Idx → Elt F .i8) (Y6 : S1x1x512.Idx → Elt F .f32) (Y7 : S1x1x512.Idx → Elt F .f32) (Y8 : S512x512.Idx → Elt F .fp8e4m3) (Y9 : S1x512x4.Idx → Elt F .f32),
    (rdat W pf hok I R8 R9 c).Finds 0 t Y0 → (rdat W pf hok I R8 R9 c).Finds 1 t Y1 → (rdat W pf hok I R8 R9 c).Finds 2 t Y2 → (rdat W pf hok I R8 R9 c).Finds 3 t Y3 → (rdat W pf hok I R8 R9 c).Finds 4 t Y4 → (rdat W pf hok I R8 R9 c).Finds 5 t Y5 → (rdat W pf hok I R8 R9 c).Finds 6 t Y6 → (rdat W pf hok I R8 R9 c).Finds 7 t Y7 →
    ∀ (G U : S3072x512.Idx → Elt F .bf16) (D : S512x3072.Idx → Elt F .bf16), I t.val G U →
      I (t.val + 1) (gateAfter (grid0.coords t) (tE pf) Y2 Y4 G) (gateAfter (grid0.coords t) (tE pf) Y3 Y5 U)
      ∧ R8 t Y8 (codesAfter (grid0.coords t) (tLo pf) (tHi pf) (tLive pf) Y0 Y1 Y6 Y7 (gateAfter (grid0.coords t) (tE pf) Y2 Y4 G) (gateAfter (grid0.coords t) (tE pf) Y3 Y5 U) Y8 D)
      ∧ R9 t Y9 (scalesAfter (grid0.coords t) (tLo pf) (tHi pf) (tLive pf) Y0 Y1 Y6 Y7 (gateAfter (grid0.coords t) (tE pf) Y2 Y4 G) (gateAfter (grid0.coords t) (tE pf) Y3 Y5 U) Y9 D)

/-- One grid point, over any staging buffers. -/
theorem body_step (c : Dev nD) (t : Fin grid0.N) (n n' : ℕ) (Ho : sProp 𝕄) (a0 : Memref sig .tc .vmem S512x3072 .fp8e4m3) (ha0 : a0.IsWhole) (a1 : Memref sig .tc .vmem S512x24 .f32) (ha1 : a1.IsWhole) (a2 : Memref sig .tc .vmem S1x1536x512 .i8) (ha2 : a2.IsWhole) (a3 : Memref sig .tc .vmem S1x1536x512 .i8) (ha3 : a3.IsWhole) (a4 : Memref sig .tc .vmem S1x96x512 .i8) (ha4 : a4.IsWhole) (a5 : Memref sig .tc .vmem S1x96x512 .i8) (ha5 : a5.IsWhole) (a6 : Memref sig .tc .vmem S1x1x512 .f32) (ha6 : a6.IsWhole) (a7 : Memref sig .tc .vmem S1x1x512 .f32) (ha7 : a7.IsWhole) (a8 : Memref sig .tc .vmem S512x512 .fp8e4m3) (ha8 : a8.IsWhole) (a9 : Memref sig .tc .vmem S1x512x4 .f32) (ha9 : a9.IsWhole) (Y0 : S512x3072.Idx → Elt F .fp8e4m3) (Y1 : S512x24.Idx → Elt F .f32) (Y2 : S1x1536x512.Idx → Elt F .i8) (Y3 : S1x1536x512.Idx → Elt F .i8) (Y4 : S1x96x512.Idx → Elt F .i8) (Y5 : S1x96x512.Idx → Elt F .i8) (Y6 : S1x1x512.Idx → Elt F .f32) (Y7 : S1x1x512.Idx → Elt F .f32) (Y8 : S512x512.Idx → Elt F .fp8e4m3) (Y9 : S1x512x4.Idx → Elt F .f32)
    (hs : ∀ (G U : S3072x512.Idx → Elt F .bf16) (D : S512x3072.Idx → Elt F .bf16), I n G U →
      I n' (gateAfter (grid0.coords t) (tE pf) Y2 Y4 G) (gateAfter (grid0.coords t) (tE pf) Y3 Y5 U)
      ∧ R8 t Y8 (codesAfter (grid0.coords t) (tLo pf) (tHi pf) (tLive pf) Y0 Y1 Y6 Y7 (gateAfter (grid0.coords t) (tE pf) Y2 Y4 G) (gateAfter (grid0.coords t) (tE pf) Y3 Y5 U) Y8 D)
      ∧ R9 t Y9 (scalesAfter (grid0.coords t) (tLo pf) (tHi pf) (tLive pf) Y0 Y1 Y6 Y7 (gateAfter (grid0.coords t) (tE pf) Y2 Y4 G) (gateAfter (grid0.coords t) (tE pf) Y3 Y5 U) Y9 D)) :
    iprop(((∃ G U D, ⌜I n G U⌝ ∗ owns (c : Thread nD τ) (Memref.whole cc0_scratch0) fullShare G ∗ owns (c : Thread nD τ) (Memref.whole cc0_scratch1) fullShare U ∗ owns (c : Thread nD τ) (Memref.whole cc0_scratch2) fullShare D) ∗ (∃ r, prngReg c r) ∗ Pipeline.ΦT pre0 pf c) ∗ Ho ∗ owns (c : Thread nD τ) a0 fullShare Y0 ∗ owns (c : Thread nD τ) a1 fullShare Y1 ∗ owns (c : Thread nD τ) a2 fullShare Y2 ∗ owns (c : Thread nD τ) a3 fullShare Y3 ∗ owns (c : Thread nD τ) a4 fullShare Y4 ∗ owns (c : Thread nD τ) a5 fullShare Y5 ∗ owns (c : Thread nD τ) a6 fullShare Y6 ∗ owns (c : Thread nD τ) a7 fullShare Y7 ∗ owns (c : Thread nD τ) a8 fullShare Y8 ∗ owns (c : Thread nD τ) a9 fullShare Y9) ⊢
    wp frame (wpE (defs₀ (F := F)) Variants.none (c : Thread nD τ) none) Set.univ
      (cc0_moe_gate_up (F := F) (grid0.coords t) (Memref.whole main_v53) (Memref.isWhole_whole _) (Memref.whole main_v29) (Memref.isWhole_whole _) (Memref.whole main_v64) (Memref.isWhole_whole _) (Memref.whole main_v75) (Memref.isWhole_whole _) (Memref.whole main_v76) (Memref.isWhole_whole _) a0 ha0 a1 ha1 a2 ha2 a3 ha3 a4 ha4 a5 ha5 a6 ha6 a7 ha7 a8 ha8 a9 ha9 (Memref.whole cc0_scratch0) (Memref.isWhole_whole _) (Memref.whole cc0_scratch1) (Memref.isWhole_whole _) (Memref.whole cc0_scratch2) (Memref.isWhole_whole _)) fun _ =>
      iprop(((∃ G U D, ⌜I n' G U⌝ ∗ owns (c : Thread nD τ) (Memref.whole cc0_scratch0) fullShare G ∗ owns (c : Thread nD τ) (Memref.whole cc0_scratch1) fullShare U ∗ owns (c : Thread nD τ) (Memref.whole cc0_scratch2) fullShare D) ∗ (∃ r, prngReg c r) ∗ Pipeline.ΦT pre0 pf c) ∗ Ho ∗ (∃ X, ⌜X = Y0⌝ ∗ owns (c : Thread nD τ) a0 fullShare X) ∗ (∃ X, ⌜X = Y1⌝ ∗ owns (c : Thread nD τ) a1 fullShare X) ∗ (∃ X, ⌜X = Y2⌝ ∗ owns (c : Thread nD τ) a2 fullShare X) ∗ (∃ X, ⌜X = Y3⌝ ∗ owns (c : Thread nD τ) a3 fullShare X) ∗ (∃ X, ⌜X = Y4⌝ ∗ owns (c : Thread nD τ) a4 fullShare X) ∗ (∃ X, ⌜X = Y5⌝ ∗ owns (c : Thread nD τ) a5 fullShare X) ∗ (∃ X, ⌜X = Y6⌝ ∗ owns (c : Thread nD τ) a6 fullShare X) ∗ (∃ X, ⌜X = Y7⌝ ∗ owns (c : Thread nD τ) a7 fullShare X) ∗ (∃ X, ⌜R8 t Y8 X⌝ ∗ owns (c : Thread nD τ) a8 fullShare X) ∗ (∃ X, ⌜R9 t Y9 X⌝ ∗ owns (c : Thread nD τ) a9 fullShare X)) := by
  rw [PhiT_eq]
  iintro ⟨⟨⟨%G, %U, %D, %hI, H17, H18, H19⟩, Hp, H2, H3, H4, H5, H6⟩, Ho, H7, H8, H9, H10, H11, H12, H13, H14, H15, H16⟩
  obtain ⟨h1, h8, h9⟩ := hs G U D hI
  iapply (body_wp (F := F) Variants.none c none Set.univ (grid0.coords t) (Memref.whole main_v53) (Memref.isWhole_whole _) (Memref.whole main_v29) (Memref.isWhole_whole _) (Memref.whole main_v64) (Memref.isWhole_whole _) (Memref.whole main_v75) (Memref.isWhole_whole _) (Memref.whole main_v76) (Memref.isWhole_whole _)
        a0 ha0 a1 ha1 a2 ha2 a3 ha3 a4 ha4 a5 ha5 a6 ha6 a7 ha7 a8 ha8 a9 ha9
        (Memref.whole cc0_scratch0) (Memref.isWhole_whole _) (Memref.whole cc0_scratch1) (Memref.isWhole_whole _) (Memref.whole cc0_scratch2) (Memref.isWhole_whole _)
        Y0 Y1 Y2 Y3 Y4 Y5 Y6 Y7 Y8 Y9 G U D (tE pf) (tLo pf) (tHi pf) (tLive pf))
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  iintro H3 H4 H5 H6 H7 H8 H9 H10 H11 H12 H13 H14 H15 H16 H17 H18 H19
  isplitl [H17 H18 H19 Hp H2 H3 H4 H5 H6]
  · isplitl [H17 H18 H19]
    · iexists _, _, _
      isplitr
      · ipureintro
        exact h1
      isplitl [H17]
      · iexact H17
      isplitl [H18]
      · iexact H18
      iexact H19
    isplitl [Hp]
    · iexact Hp
    isplitl [H2]
    · iexact H2
    isplitl [H3]
    · iexact H3
    isplitl [H4]
    · iexact H4
    isplitl [H5]
    · iexact H5
    iexact H6
  isplitl [Ho]
  · iexact Ho
  isplitl [H7]
  · iexists _
    isplitr
    · ipureintro
      exact rfl
    iexact H7
  isplitl [H8]
  · iexists _
    isplitr
    · ipureintro
      exact rfl
    iexact H8
  isplitl [H9]
  · iexists _
    isplitr
    · ipureintro
      exact rfl
    iexact H9
  isplitl [H10]
  · iexists _
    isplitr
    · ipureintro
      exact rfl
    iexact H10
  isplitl [H11]
  · iexists _
    isplitr
    · ipureintro
      exact rfl
    iexact H11
  isplitl [H12]
  · iexists _
    isplitr
    · ipureintro
      exact rfl
    iexact H12
  isplitl [H13]
  · iexists _
    isplitr
    · ipureintro
      exact rfl
    iexact H13
  isplitl [H14]
  · iexists _
    isplitr
    · ipureintro
      exact rfl
    iexact H14
  isplitl [H15]
  · iexists _
    isplitr
    · ipureintro
      exact h8
    iexact H15
  iexists _
  isplitr
  · ipureintro
    exact h9
  iexact H16

end Cert.KernelIdeal.Hand
-- ==== Proof.PI.Run.lean ====
module

public import proofs.«01_k».proof.Proof.PI.Region

/-! The body obligation at every grid point, and the run of the whole program. -/

@[expose] public section

set_option maxRecDepth 4096

noncomputable section

namespace Cert.KernelIdeal.Hand

open Idealize.ShloMosaic Idealize.ShloMosaic.TcCoe Idealize.SL.Sem
open Idealize.SL Idealize.SL.RA Idealize.SL.BI Idealize.SL.ProofMode
open scoped Idealize.SL.BI
open Idealize.SL.BI.BIBase Idealize.SL.BI.Laws
open Cert.KernelIdeal Cert.KernelIdeal.Gen Cert.Hand
open Idealize.ShloMosaic.Pipeline (RDat)

variable {F : FTy → Type} [FloatOps F]

local notation "𝕄" => MT nD τ sig Unit (Elt F) ℕ (UR sig nD τ) ℕ

variable (W : (c : Dev nD) → (b : Ref sig .tc) → Buf (Elt F) ((c : Thread nD τ).loc b)) (pf : pre0.Contents (Elt F)) (hok : ok0 (F := F) pf)
  (I : ℕ → (S3072x512.Idx → Elt F .bf16) → (S3072x512.Idx → Elt F .bf16) → Prop)
  (R8 : Fin grid0.N → (S512x512.Idx → Elt F .fp8e4m3) → (S512x512.Idx → Elt F .fp8e4m3) → Prop)
  (R9 : Fin grid0.N → (S1x512x4.Idx → Elt F .f32) → (S1x512x4.Idx → Elt F .f32) → Prop)

theorem Phi_at (c : Dev nD) (u : Fin ((cfgP pf hok).N + 1)) : (rdat W pf hok I R8 R9 c).Φ u = (iprop((∃ G U D, ⌜I u.val G U⌝ ∗ owns (c : Thread nD τ) (Memref.whole cc0_scratch0) fullShare G ∗ owns (c : Thread nD τ) (Memref.whole cc0_scratch1) fullShare U ∗ owns (c : Thread nD τ) (Memref.whole cc0_scratch2) fullShare D) ∗ (∃ r, prngReg c r) ∗ Pipeline.ΦT pre0 pf c) : sProp 𝕄) := rfl

theorem owes_succ (c : Dev nD) (t : Fin (cfgP pf hok).N) : (rdat W pf hok I R8 R9 c).owesAt () t.succ = (rdat W pf hok I R8 R9 c).owesAt () t.castSucc := rfl

theorem owns_pre (c : Dev nD) (t : Fin (cfgP pf hok).N) (Y : (w : Fin (cfgP pf hok).W) → ((cfgP pf hok).win w).block.Idx → Elt F ((cfgP pf hok).win w).elt) :
    (bigSep Finset.univ fun w : Fin 10 => owns (c : Thread nD τ) (((cfgP pf hok).win w).stage ((cfgP pf hok).slots t w)) fullShare (Y w) : sProp 𝕄)
      = iprop(owns (c : Thread nD τ) (spec0_0.stage ((cfgP pf hok).slots t 0)) fullShare (Y 0) ∗ owns (c : Thread nD τ) (spec0_1.stage ((cfgP pf hok).slots t 1)) fullShare (Y 1) ∗ owns (c : Thread nD τ) (spec0_2.stage ((cfgP pf hok).slots t 2)) fullShare (Y 2) ∗ owns (c : Thread nD τ) (spec0_3.stage ((cfgP pf hok).slots t 3)) fullShare (Y 3) ∗ owns (c : Thread nD τ) (spec0_4.stage ((cfgP pf hok).slots t 4)) fullShare (Y 4) ∗ owns (c : Thread nD τ) (spec0_5.stage ((cfgP pf hok).slots t 5)) fullShare (Y 5) ∗ owns (c : Thread nD τ) (spec0_6.stage ((cfgP pf hok).slots t 6)) fullShare (Y 6) ∗ owns (c : Thread nD τ) (spec0_7.stage ((cfgP pf hok).slots t 7)) fullShare (Y 7) ∗ owns (c : Thread nD τ) (spec0_8.stage ((cfgP pf hok).slots t 8)) fullShare (Y 8) ∗ owns (c : Thread nD τ) (spec0_9.stage ((cfgP pf hok).slots t 9)) fullShare (Y 9)) := bigSep_W0 _

theorem owns_post (c : Dev nD) (t : Fin (cfgP pf hok).N) (Y : (w : Fin (cfgP pf hok).W) → ((cfgP pf hok).win w).block.Idx → Elt F ((cfgP pf hok).win w).elt) :
    (bigSep Finset.univ fun w : Fin 10 => iprop(∃ X, ⌜(rdat W pf hok I R8 R9 c).after w t (Y w) X⌝ ∗ owns (c : Thread nD τ) (((cfgP pf hok).win w).stage ((cfgP pf hok).slots t w)) fullShare X) : sProp 𝕄)
      = iprop((∃ X, ⌜X = Y 0⌝ ∗ owns (c : Thread nD τ) (spec0_0.stage ((cfgP pf hok).slots t 0)) fullShare X) ∗ (∃ X, ⌜X = Y 1⌝ ∗ owns (c : Thread nD τ) (spec0_1.stage ((cfgP pf hok).slots t 1)) fullShare X) ∗ (∃ X, ⌜X = Y 2⌝ ∗ owns (c : Thread nD τ) (spec0_2.stage ((cfgP pf hok).slots t 2)) fullShare X) ∗ (∃ X, ⌜X = Y 3⌝ ∗ owns (c : Thread nD τ) (spec0_3.stage ((cfgP pf hok).slots t 3)) fullShare X) ∗ (∃ X, ⌜X = Y 4⌝ ∗ owns (c : Thread nD τ) (spec0_4.stage ((cfgP pf hok).slots t 4)) fullShare X) ∗ (∃ X, ⌜X = Y 5⌝ ∗ owns (c : Thread nD τ) (spec0_5.stage ((cfgP pf hok).slots t 5)) fullShare X) ∗ (∃ X, ⌜X = Y 6⌝ ∗ owns (c : Thread nD τ) (spec0_6.stage ((cfgP pf hok).slots t 6)) fullShare X) ∗ (∃ X, ⌜X = Y 7⌝ ∗ owns (c : Thread nD τ) (spec0_7.stage ((cfgP pf hok).slots t 7)) fullShare X) ∗ (∃ X, ⌜R8 t (Y 8) X⌝ ∗ owns (c : Thread nD τ) (spec0_8.stage ((cfgP pf hok).slots t 8)) fullShare X) ∗ (∃ X, ⌜R9 t (Y 9) X⌝ ∗ owns (c : Thread nD τ) (spec0_9.stage ((cfgP pf hok).slots t 9)) fullShare X)) := bigSep_W0 _

theorem body_obligation (c : Dev nD) (h : StepOk W pf hok I R8 R9 c) :
    (rdat W pf hok I R8 R9 c).BodyObligation (defs₀ (F := F)) Variants.none () Set.univ := by
  intro t Y hY
  show iprop((rdat W pf hok I R8 R9 c).Φ t.castSucc ∗ (rdat W pf hok I R8 R9 c).owesAt () t.castSucc
      ∗ bigSep Finset.univ fun w : Fin 10 => owns (c : Thread nD τ) (((cfgP pf hok).win w).stage ((cfgP pf hok).slots t w)) fullShare (Y w)) ⊢
    wp frame (wpE (defs₀ (F := F)) Variants.none (c : Thread nD τ) none) Set.univ
      (cc0_moe_gate_up (F := F) (grid0.coords t) (Memref.whole main_v53) (Memref.isWhole_whole _) (Memref.whole main_v29) (Memref.isWhole_whole _) (Memref.whole main_v64) (Memref.isWhole_whole _) (Memref.whole main_v75) (Memref.isWhole_whole _) (Memref.whole main_v76) (Memref.isWhole_whole _)
        (spec0_0.stage ((cfgP pf hok).slots t 0)) (hstage0_0 (((cfgP pf hok).slots t 0).cast nbuf0_0)) (spec0_1.stage ((cfgP pf hok).slots t 1)) (hstage0_1 (((cfgP pf hok).slots t 1).cast nbuf0_1)) (spec0_2.stage ((cfgP pf hok).slots t 2)) (hstage0_2 (((cfgP pf hok).slots t 2).cast nbuf0_2)) (spec0_3.stage ((cfgP pf hok).slots t 3)) (hstage0_3 (((cfgP pf hok).slots t 3).cast nbuf0_3)) (spec0_4.stage ((cfgP pf hok).slots t 4)) (hstage0_4 (((cfgP pf hok).slots t 4).cast nbuf0_4)) (spec0_5.stage ((cfgP pf hok).slots t 5)) (hstage0_5 (((cfgP pf hok).slots t 5).cast nbuf0_5)) (spec0_6.stage ((cfgP pf hok).slots t 6)) (hstage0_6 (((cfgP pf hok).slots t 6).cast nbuf0_6)) (spec0_7.stage ((cfgP pf hok).slots t 7)) (hstage0_7 (((cfgP pf hok).slots t 7).cast nbuf0_7)) (spec0_8.stage ((cfgP pf hok).slots t 8)) (hstage0_8 (((cfgP pf hok).slots t 8).cast nbuf0_8)) (spec0_9.stage ((cfgP pf hok).slots t 9)) (hstage0_9 (((cfgP pf hok).slots t 9).cast nbuf0_9))
        (Memref.whole cc0_scratch0) (Memref.isWhole_whole _) (Memref.whole cc0_scratch1) (Memref.isWhole_whole _) (Memref.whole cc0_scratch2) (Memref.isWhole_whole _)) fun _ =>
      iprop((rdat W pf hok I R8 R9 c).Φ t.succ ∗ (rdat W pf hok I R8 R9 c).owesAt () t.succ
        ∗ bigSep Finset.univ fun w : Fin 10 => iprop(∃ X, ⌜(rdat W pf hok I R8 R9 c).after w t (Y w) X⌝ ∗ owns (c : Thread nD τ) (((cfgP pf hok).win w).stage ((cfgP pf hok).slots t w)) fullShare X))
  rw [owns_pre, owns_post, Phi_at, Phi_at, owes_succ, Fin.val_castSucc, Fin.val_succ]
  exact body_step pf I R8 R9 c t t.val (t.val + 1) ((rdat W pf hok I R8 R9 c).owesAt () t.castSucc) (spec0_0.stage ((cfgP pf hok).slots t 0)) (hstage0_0 (((cfgP pf hok).slots t 0).cast nbuf0_0)) (spec0_1.stage ((cfgP pf hok).slots t 1)) (hstage0_1 (((cfgP pf hok).slots t 1).cast nbuf0_1)) (spec0_2.stage ((cfgP pf hok).slots t 2)) (hstage0_2 (((cfgP pf hok).slots t 2).cast nbuf0_2)) (spec0_3.stage ((cfgP pf hok).slots t 3)) (hstage0_3 (((cfgP pf hok).slots t 3).cast nbuf0_3)) (spec0_4.stage ((cfgP pf hok).slots t 4)) (hstage0_4 (((cfgP pf hok).slots t 4).cast nbuf0_4)) (spec0_5.stage ((cfgP pf hok).slots t 5)) (hstage0_5 (((cfgP pf hok).slots t 5).cast nbuf0_5)) (spec0_6.stage ((cfgP pf hok).slots t 6)) (hstage0_6 (((cfgP pf hok).slots t 6).cast nbuf0_6)) (spec0_7.stage ((cfgP pf hok).slots t 7)) (hstage0_7 (((cfgP pf hok).slots t 7).cast nbuf0_7)) (spec0_8.stage ((cfgP pf hok).slots t 8)) (hstage0_8 (((cfgP pf hok).slots t 8).cast nbuf0_8)) (spec0_9.stage ((cfgP pf hok).slots t 9)) (hstage0_9 (((cfgP pf hok).slots t 9).cast nbuf0_9)) (Y 0) (Y 1) (Y 2) (Y 3) (Y 4) (Y 5) (Y 6) (Y 7) (Y 8) (Y 9)
    (h t (Y 0) (Y 1) (Y 2) (Y 3) (Y 4) (Y 5) (Y 6) (Y 7) (Y 8) (Y 9) (hY 0) (hY 1) (hY 2) (hY 3) (hY 4) (hY 5) (hY 6) (hY 7))

theorem run (m : (ℓ : Loc nD τ sig) → Buf (Elt F) ℓ) (hW : ∀ 𝒱₀, Pipeline.HMainP (Ix := Unit) (Name := ℕ) (U := UR sig nD τ) (Lvl := ℕ) pcfgs 0 defs₀ 𝒱₀ m (main (F := F)) W) (hpf : ∀ c (k : Fin 5), W c (pre0.ref k) = pf k) (ρ : Dev nD → PrngReg) (h : ∀ c, StepOk W pf hok I R8 R9 c) (h0 : ∀ G U, I 0 G U) :
    θ_run (defs (F := F)) (onTc (τ := τ) (main (F := F))) ⟨m, fun _ => 0, ρ⟩
      (fun r => RDat.FramePost (cfgP pf hok) (rdat W pf hok I R8 R9) W r ∧ r.2.sem = fun _ => 0) := by
  refine RDat.θ_run_frameP_track_shared (pcfgs (F := F)) (fun _ => ⟨pf, hok⟩) 0 launch₀0 (defs₀ (F := F)) Variants.none
    (rdat W pf hok I R8 R9) m ρ (main (F := F)) (fun c => body_obligation W pf hok I R8 R9 c (h c)) (fun c w _ => rfl) (fun c t => rfl) W
    (hW _) (fun c w => rfl) (fun c k => hpf c k) ?_ ?_ (Q' := _) ?_
  · intro c
    show iprop(Pipeline.ΦA spec0 c ∗ Pipeline.ΦT pre0 pf c) ⊢ (iprop((∃ G U D, ⌜I 0 G U⌝ ∗ owns (c : Thread nD τ) (Memref.whole cc0_scratch0) fullShare G ∗ owns (c : Thread nD τ) (Memref.whole cc0_scratch1) fullShare U
      ∗ owns (c : Thread nD τ) (Memref.whole cc0_scratch2) fullShare D) ∗ (∃ r, prngReg c r) ∗ Pipeline.ΦT pre0 pf c) : sProp 𝕄)
    unfold Pipeline.ΦA
    rw [scopedRest0_eq]
    simp only [owns_whole]
    iintro ⟨⟨⟨⟨%G, HG⟩, ⟨%U, HU⟩, ⟨%X, HX⟩⟩, Hp⟩, HT⟩
    isplitl [HG HU HX]
    · iexists G, U, X
      isplitr
      · ipureintro
        exact h0 G U
      isplitl [HG]
      · iexact HG
      isplitl [HU]
      · iexact HU
      iexact HX
    isplitl [Hp]
    · iexact Hp
    iexact HT
  · intro c
    show (iprop((∃ G U D, ⌜I _ G U⌝ ∗ owns (c : Thread nD τ) (Memref.whole cc0_scratch0) fullShare G ∗ owns (c : Thread nD τ) (Memref.whole cc0_scratch1) fullShare U
      ∗ owns (c : Thread nD τ) (Memref.whole cc0_scratch2) fullShare D) ∗ (∃ r, prngReg c r) ∗ Pipeline.ΦT pre0 pf c) : sProp 𝕄) ⊢ Pipeline.ΦA spec0 c
    unfold Pipeline.ΦA
    rw [scopedRest0_eq]
    simp only [owns_whole]
    iintro ⟨⟨%G, %U, %X, %hI, HG, HU, HX⟩, Hp, HT⟩
    isplitl [HG HU HX]
    · isplitl [HG]
      · iexists G
        iexact HG
      isplitl [HU]
      · iexists U
        iexact HU
      iexists X
      iexact HX
    iexact Hp
  · exact fun r hr => hr
/-- The argument arrays after a run. -/
theorem args_of_post (r : PUnit × MemSt nD τ sig (Elt F)) (h : RDat.FramePost (cfgP pf hok) (rdat W pf hok I R8 R9) W r) (c : Dev nD) :
    r.2.mem ((c : Thread nD τ).loc main_arg0) = W c main_arg0
      ∧ r.2.mem ((c : Thread nD τ).loc main_arg1) = W c main_arg1
      ∧ r.2.mem ((c : Thread nD τ).loc main_arg2) = W c main_arg2
      ∧ r.2.mem ((c : Thread nD τ).loc main_arg3) = W c main_arg3
      ∧ r.2.mem ((c : Thread nD τ).loc main_arg4) = W c main_arg4
      ∧ r.2.mem ((c : Thread nD τ).loc main_arg5) = W c main_arg5 :=
  ⟨h.arr_in c 0 rfl, h.arr_in c 1 rfl, h.arr_in c 2 rfl, h.arr_in c 4 rfl, (h c).2 main_arg4 (show main_arg4 ∈ Pipeline.restRefs sig spec0 from Pipeline.mem_restRefs_of main_arg4 (by decide) (by decide)), (h c).2 main_arg5 (show main_arg5 ∈ Pipeline.restRefs sig spec0 from Pipeline.mem_restRefs_of main_arg5 (by decide) (by decide))⟩

include hok in
/-- The frame: the arguments end as the region finds them and every counter at zero. -/
theorem frame_of (m : (ℓ : Loc nD τ sig) → Buf (Elt F) ℓ) (hW : ∀ 𝒱₀, Pipeline.HMainP (Ix := Unit) (Name := ℕ) (U := UR sig nD τ) (Lvl := ℕ) pcfgs 0 defs₀ 𝒱₀ m (main (F := F)) W) (hpf : ∀ c (k : Fin 5), W c (pre0.ref k) = pf k) (ρ : Dev nD → PrngReg) :
    θ_run (defs (F := F)) (onTc (τ := τ) (main (F := F))) ⟨m, fun _ => 0, ρ⟩ (fun r => (∀ c : Dev nD,
      r.2.mem ((c : Thread nD τ).loc main_arg0) = W c main_arg0
      ∧ r.2.mem ((c : Thread nD τ).loc main_arg1) = W c main_arg1
      ∧ r.2.mem ((c : Thread nD τ).loc main_arg2) = W c main_arg2
      ∧ r.2.mem ((c : Thread nD τ).loc main_arg3) = W c main_arg3
      ∧ r.2.mem ((c : Thread nD τ).loc main_arg4) = W c main_arg4
      ∧ r.2.mem ((c : Thread nD τ).loc main_arg5) = W c main_arg5) ∧ r.2.sem = fun _ => 0) :=
  (θ_run _ _ _).mono (fun r h => ⟨fun c => args_of_post W pf hok _ _ _ r h.1 c, h.2⟩)
    (run W pf hok (fun _ _ _ => True) (fun _ _ _ => True) (fun _ _ _ => True) m hW hpf ρ
      (fun c t _ _ _ _ _ _ _ _ _ _ _ _ _ _ _ _ _ _ _ _ _ _ => ⟨trivial, trivial, trivial⟩) (fun _ _ => trivial))

end Cert.KernelIdeal.Hand
-- ==== Proof.PI.Frame.lean ====
module

public import proofs.«01_k».proof.Proof.PI.Ok
public import proofs.«01_k».proof.Proof.PI.Run
public import proofs.«01_k».proof.Defs
public import proofs.«01_k».proof.Proof.Gen.Pre_sizes_fit

/-! The kernel's frame: from sizes that are nonnegative and sum to the rows, every visit's blocks lie inside their arrays, and the launch ends with the arguments unchanged. -/

@[expose] public section

noncomputable section

namespace Cert.KernelIdeal.Hand

open Idealize.ShloMosaic Idealize.ShloMosaic.ValueIdx Idealize.ShloMosaic.Routing Idealize.SL.Sem
open Cert.KernelIdeal Cert.KernelIdeal.Gen

/-- What the sizes satisfy when the precondition's word is one: each between zero and the rows, and they sum to the rows. -/
theorem sizes_of (p : IVec S8 1) (g : IVec S8 32) (h1 : S8.ReducesTo [0] S_) (h2 : 0 < S_.numel)
    (hp : ∀ j : Fin 8, p (ix1 j) = IntOp.andi (IntOp.cmpi .sge (g (ix1 j)) 0#32) (IntOp.cmpi .sle (g (ix1 j)) 73728#32))
    (e : IntOp.andi (Host.reduce IntOp.andi p (constantI S_ 1 1#1) h1 h2 ValueIdx.ix0)
      (IntOp.cmpi .eq (Host.reduce IntOp.addi g (constantI S_ 32 0#32) h1 h2 ValueIdx.ix0) 73728#32) = 1#1) :
    (∀ j : Fin 8, (g (ix1 j)).toNat ≤ 73728) ∧ Plan.fin (nat8 g) 7 = 73728 := by
  obtain ⟨e1, e2⟩ := IntOp.andi_eq_one.1 e
  have hS : ∀ j : Fin 8, (g (ix1 j)).toNat ≤ 73728 := fun j => by
    haveI : Subsingleton S_.Idx := ⟨fun a b => funext fun x => x.elim0⟩
    have h := Host.reduce_andi_all p _ h1 h2 _ e1 (ix1 j)
    rw [hp] at h
    obtain ⟨ha, hb⟩ := IntOp.andi_eq_one.1 h
    have ha' : (0#32).sle (g (ix1 j)) = true := by
      have : BitVec.ofBool ((0#32).sle (g (ix1 j))) = 1#1 := ha
      revert this; cases (0#32).sle (g (ix1 j)) <;> simp
    have hb' : (g (ix1 j)).sle 73728#32 = true := by
      have : BitVec.ofBool ((g (ix1 j)).sle 73728#32) = 1#1 := hb
      revert this; cases (g (ix1 j)).sle 73728#32 <;> simp
    simp only [BitVec.sle, decide_eq_true_eq] at ha' hb'
    have hz : (0#32 : BitVec 32).toInt = 0 := rfl
    have hw : (73728#32 : BitVec 32).toInt = 73728 := rfl
    rw [hz] at ha'
    rw [hw] at hb'
    rw [BitVec.toInt_eq_toNat_cond] at ha' hb'
    split at ha' <;> omega
  refine ⟨hS, ?_⟩
  have hx (j : Fin 8) : g (ix1 j) = BitVec.ofNat 32 (nat8 g j.val) := by
    unfold nat8; rw [dif_pos j.isLt, BitVec.ofNat_toNat, BitVec.setWidth_eq]
  rw [reduce_sum g (nat8 g) hx h1 h2] at e2
  have e3 : BitVec.ofNat 32 (((List.range 8).map (nat8 g)).sum) = 73728#32 := by
    have : BitVec.ofBool (BitVec.ofNat 32 (((List.range 8).map (nat8 g)).sum) == 73728#32) = 1#1 := e2
    by_contra hne
    rw [beq_false_of_ne hne] at this
    exact absurd this (by decide)
  have hb : ((List.range 8).map (nat8 g)).sum ≤ 8 * 73728 := by
    have : ∀ x ∈ (List.range 8).map (nat8 g), x ≤ 73728 := fun x hx => by
      obtain ⟨j, hj, rfl⟩ := List.mem_map.1 hx
      have hj' := List.mem_range.1 hj
      unfold nat8
      rw [dif_pos hj']
      exact hS ⟨j, hj'⟩
    have h := List.sum_le_card_nsmul _ _ this
    simpa using h
  have e4 := congrArg BitVec.toNat e3
  rw [BitVec.toNat_ofNat, BitVec.toNat_ofNat] at e4
  show ((List.range 8).map (nat8 g)).sum = 73728
  omega

theorem sizes_of_fn {F : FTy → Type} [FloatOps F] (a0 : FVec F Cert.Pre_sizes_fit.S73728x3072 .fp8e4m3) (a1 : FVec F Cert.Pre_sizes_fit.S73728x24 .f32)
    (a2 : IVec Cert.Pre_sizes_fit.S8x1536x14336 8) (a3 : IVec Cert.Pre_sizes_fit.S8x96x14336 8) (a4 : FVec F Cert.Pre_sizes_fit.S8x14336 .f32) (g : IVec S8 32)
    (h : Cert.Pre_sizes_fit.fn (F := F) a0 a1 a2 a3 a4 g = fun _ => 1#1) :
    (∀ j : Fin 8, (g (ix1 j)).toNat ≤ 73728) ∧ Plan.fin (nat8 g) 7 = 73728 := by
  have e := congrFun h ValueIdx.ix0
  exact sizes_of _ g Cert.Pre_sizes_fit.Gen.reducesTo_S8_S_d0 Cert.Pre_sizes_fit.Gen.h_S_ (fun j => rfl) e

section
variable {F : FTy → Type} [FloatOps F]
variable (m : (ℓ : Loc nD τ sig) → Buf (Elt F) ℓ)

theorem ok_sizes (h : (∀ j : Fin 8, (sizes m (0 : Dev nD) (ix1 j)).toNat ≤ 73728) ∧ Plan.fin (nat8 (sizes m (0 : Dev nD))) 7 = 73728) : Ok m := by
  refine ok_of (tbl m) (fun i => ?_) fun i => ?_
  · obtain ⟨v, rfl⟩ : ∃ v : Fin 152, i = ix1 v := ⟨i 0, funext fun a => by
      match a with
      | ⟨0, _⟩ => rfl⟩
    have e : tbl m 0 = wTile (wFirst (sizes m (0 : Dev nD))) (wCount (sizes m (0 : Dev nD))) (wEnd (sizes m (0 : Dev nD))) := tab_tile m (0 : Dev nD)
    rw [e, tile_at _ h.1 h.2]
    rw [BitVec.toNat_ofNat]
    exact lt_of_le_of_lt (Nat.mod_le _ _) (tile_lt _ h.1 h.2 _)
  · obtain ⟨v, rfl⟩ : ∃ v : Fin 152, i = ix1 v := ⟨i 0, funext fun a => by
      match a with
      | ⟨0, _⟩ => rfl⟩
    have e : tbl m 1 = wExpert (wEnd (sizes m (0 : Dev nD))) := tab_expert m (0 : Dev nD)
    rw [e, expert_at _ h.1 h.2]
    rw [BitVec.toNat_ofNat]
    exact lt_of_le_of_lt (Nat.mod_le _ _) (expert_lt _ h.1 h.2 _)

end

theorem frame : Cert.quiescent_KernelIdeal := by
  intro m g hPre
  have hok : Ok m := ok_sizes m (sizes_of_fn _ _ _ _ _ _ (hPre (0 : Dev nD)))
  have h := frame_of (V m) (tbl m) hok m (fun 𝒱 => hmain m 𝒱) (V_pre m) g
  refine (θ_run _ _ _).mono (fun r hr => ⟨fun c => ?_, hr.2⟩) h
  obtain ⟨h0, h1, h2, h3, h4, h5⟩ := hr.1 c
  exact ⟨h0.trans (V_arg0 m c), h1.trans (V_arg1 m c), h2.trans (V_arg2 m c), h3.trans (V_arg3 m c), h4.trans (V_arg4 m c), h5.trans (V_arg5 m c)⟩

end Cert.KernelIdeal.Hand
-- ==== Proof.PreFacts.lean ====
module

public import proofs.«01_k».proof.Pre_sizes_fit_scales_normal
public import proofs.«01_k».proof.Proof.PI.Frame

/-! The side conditions of the value claim's precondition, and what it says of the sizes and of the weights' scales. -/

@[expose] public section

set_option maxRecDepth 4096

noncomputable section

namespace Cert.Pre_sizes_fit_scales_normal.Hand

open Idealize.ShloMosaic

theorem bcast_S_S8 : S_.BroadcastsInDim S8 (![] : Fin 0 → Fin S8.rank) := by decide
theorem reducesTo_S8_S_d0 : S8.ReducesTo [0] S_ := by decide
theorem h_S_ : 0 < S_.numel := by decide
theorem natLt_8_32 : 8 < 32 := by decide
theorem bcast_S_S8x96x14336 : S_.BroadcastsInDim S8x96x14336 (![] : Fin 0 → Fin S8x96x14336.rank) := by decide
theorem reducesTo_S8x96x14336_S_d0_1_2 : S8x96x14336.ReducesTo [0, 1, 2] S_ := by decide

/-- The function's facts, proved: the instance it takes. -/
instance facts : Cert.Pre_sizes_fit_scales_normal.Facts where
  bcast_S_S8 := @bcast_S_S8
  reducesTo_S8_S_d0 := @reducesTo_S8_S_d0
  h_S_ := @h_S_
  natLt_8_32 := @natLt_8_32
  bcast_S_S8x96x14336 := @bcast_S_S8x96x14336
  reducesTo_S8x96x14336_S_d0_1_2 := @reducesTo_S8x96x14336_S_d0_1_2

theorem byte_normal : ∀ s : BitVec 8, IntOp.andi (IntOp.cmpi .sge (BitVec.setWidth 32 s) 1#32) (IntOp.cmpi .sle (BitVec.setWidth 32 s) 254#32) = 1#1 → 1 ≤ s.toNat ∧ s.toNat ≤ 254 := by
  decide +kernel

open ValueIdx Cert.KernelIdeal.Hand in
theorem of_fn {F : FTy → Type} [FloatOps F] (a0 : FVec F S73728x3072 .fp8e4m3) (a1 : FVec F S73728x24 .f32)
    (a2 : IVec S8x1536x14336 8) (a3 : IVec S8x96x14336 8) (a4 : FVec F S8x14336 .f32) (g : IVec S8 32)
    (h : fn (F := F) a0 a1 a2 a3 a4 g = fun _ => 1#1) :
    ((∀ j : Fin 8, (g (ix1 j)).toNat ≤ 73728) ∧ Plan.fin (nat8 g) 7 = 73728) ∧ ∀ i, 1 ≤ (a3 i).toNat ∧ (a3 i).toNat ≤ 254 := by
  have e := congrFun h ValueIdx.ix0
  obtain ⟨e1, e2⟩ := IntOp.andi_eq_one.1 e
  refine ⟨sizes_of _ g reducesTo_S8_S_d0 h_S_ (fun j => rfl) e1, fun i => ?_⟩
  haveI : Subsingleton S_.Idx := ⟨fun a b => funext fun x => x.elim0⟩
  have h := Host.reduce_andi_all _ _ reducesTo_S8x96x14336_S_d0_1_2 h_S_ _ e2 i
  exact byte_normal _ h

end Cert.Pre_sizes_fit_scales_normal.Hand
-- ==== Proof.PI.Tables2.lean ====
module

public import proofs.«01_k».proof.Proof.PI.Tables

/-! The tables of the rows each visit writes, and the two bias arrays, as values computed from the arguments. -/

@[expose] public section

set_option maxRecDepth 4096

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

/-- A word vector kept between two words. -/
def wClip (x : IVec S152 32) (a b : IVec S_ 32) : IVec S152 32 :=
  minsi (broadcastInDim S152 ![] bcast_S_S152 b) (maxsi (broadcastInDim S152 ![] bcast_S_S152 a) x)
/-- A table of eight row numbers read at each visit's expert, counted from the visit's tile. -/
def wRel (y : IVec S8 32) (E T : IVec S152 32) : IVec S152 32 := subi (wTake y E) (muli T (wAll 512#32))
/-- Whether the visit is one of the visits. -/
def wLive (e : IVec S8 32) : IVec S152 32 :=
  extui 32 (cmpi .slt (iotaInDim S152 32 0) (broadcastInDim S152 ![] bcast_S_S152 (wTotal e))) natLt_1_32

attribute [local irreducible] Host.reduceWindow Host.gather Host.reduce
variable (U : Valuation τ sig (Elt F))

theorem l9_v63 : after hostOps0_9 U (Proc.devRef .tc main_v63) = wRel (U (Proc.devRef .tc main_v1)) (wExpert (U (Proc.devRef .tc main_v14))) (wTile (U (Proc.devRef .tc main_v2)) (U (Proc.devRef .tc main_v13)) (U (Proc.devRef .tc main_v14))) := by
  after_reads_simp; unfold wRel wTile wTake wExpert wVisit wTotal wAll; rfl
theorem l9_c16 : after hostOps0_9 U (Proc.devRef .tc main_c_16) = constantI S_ 32 0#32 := by
  after_results; try rfl
theorem l9_c17 : after hostOps0_9 U (Proc.devRef .tc main_c_17) = constantI S_ 32 512#32 := by
  after_results; try rfl
theorem l9_v19 : after hostOps0_9 U (Proc.devRef .tc main_v19) = cmpi .slt (iotaInDim S152 32 0) (broadcastInDim S152 ![] bcast_S_S152 (wTotal (U (Proc.devRef .tc main_v14)))) := by
  after_reads_simp; unfold wTotal; rfl
theorem l10_v64 : after hostOps0_10 U (Proc.devRef .tc main_v64) = wClip (U (Proc.devRef .tc main_v63)) (U (Proc.devRef .tc main_c_16)) (U (Proc.devRef .tc main_c_17)) := by
  after_results_simp; unfold wClip; rfl
theorem l11_v74 : after hostOps0_11 U (Proc.devRef .tc main_v74) = wRel (U (Proc.devRef .tc main_v0)) (U (Proc.devRef .tc main_v29)) (U (Proc.devRef .tc main_v53)) := by
  after_reads_simp; unfold wRel wTake wAll; rfl
theorem l11_c21 : after hostOps0_11 U (Proc.devRef .tc main_c_21) = constantI S_ 32 0#32 := by
  after_results; try rfl
theorem l11_c22 : after hostOps0_11 U (Proc.devRef .tc main_c_22) = constantI S_ 32 512#32 := by
  after_results; try rfl
theorem l12_v75 : after hostOps0_12 U (Proc.devRef .tc main_v75) = wClip (U (Proc.devRef .tc main_v74)) (U (Proc.devRef .tc main_c_21)) (U (Proc.devRef .tc main_c_22)) := by
  after_results_simp; unfold wClip; rfl
theorem l13_v76 : after hostOps0_13 U (Proc.devRef .tc main_v76) = extui 32 (U (Proc.devRef .tc main_v19)) natLt_1_32 := by
  after_results_simp; try rfl
theorem l13_v77 : after hostOps0_13 U (Proc.devRef .tc main_v77) = broadcastInDim S8x1x14336 ![0, 2] bcast_S8x14336_S8x1x14336_0_2 (U (Proc.devRef .tc main_arg4)) := by
  after_results_simp; try rfl
theorem l13_v78 : after hostOps0_13 U (Proc.devRef .tc main_v78) = broadcastInDim S8x1x14336 ![0, 2] bcast_S8x14336_S8x1x14336_0_2 (U (Proc.devRef .tc main_arg4)) := by
  after_results_simp; try rfl

variable (m : (ℓ : Loc nD τ sig) → Buf (Elt F) ℓ) (c : Dev nD)
theorem k5_main_v0 : val5 m c (Proc.devRef .tc main_v0) = val4 m c (Proc.devRef .tc main_v0) :=
  after_of_writes_sub _ _ hostOps0_4_writes (by decide)
theorem k6_main_v0 : val6 m c (Proc.devRef .tc main_v0) = val5 m c (Proc.devRef .tc main_v0) :=
  after_of_writes_sub _ _ hostOps0_5_writes (by decide)
theorem k7_main_v0 : val7 m c (Proc.devRef .tc main_v0) = val6 m c (Proc.devRef .tc main_v0) :=
  after_of_writes_sub _ _ hostOps0_6_writes (by decide)
theorem k8_main_v0 : val8 m c (Proc.devRef .tc main_v0) = val7 m c (Proc.devRef .tc main_v0) :=
  after_of_writes_sub _ _ hostOps0_7_writes (by decide)
theorem k9_main_v0 : val9 m c (Proc.devRef .tc main_v0) = val8 m c (Proc.devRef .tc main_v0) :=
  after_of_writes_sub _ _ hostOps0_8_writes (by decide)
theorem k10_main_v0 : val10 m c (Proc.devRef .tc main_v0) = val9 m c (Proc.devRef .tc main_v0) :=
  after_of_writes_sub _ _ hostOps0_9_writes (by decide)
theorem k11_main_v0 : val11 m c (Proc.devRef .tc main_v0) = val10 m c (Proc.devRef .tc main_v0) :=
  after_of_writes_sub _ _ hostOps0_10_writes (by decide)
theorem k11_main_v19 : val11 m c (Proc.devRef .tc main_v19) = val10 m c (Proc.devRef .tc main_v19) :=
  after_of_writes_sub _ _ hostOps0_10_writes (by decide)
theorem k12_main_v19 : val12 m c (Proc.devRef .tc main_v19) = val11 m c (Proc.devRef .tc main_v19) :=
  after_of_writes_sub _ _ hostOps0_11_writes (by decide)
theorem k13_main_v19 : val13 m c (Proc.devRef .tc main_v19) = val12 m c (Proc.devRef .tc main_v19) :=
  after_of_writes_sub _ _ hostOps0_12_writes (by decide)
theorem k12_main_v64 : val12 m c (Proc.devRef .tc main_v64) = val11 m c (Proc.devRef .tc main_v64) :=
  after_of_writes_sub _ _ hostOps0_11_writes (by decide)
theorem k13_main_v64 : val13 m c (Proc.devRef .tc main_v64) = val12 m c (Proc.devRef .tc main_v64) :=
  after_of_writes_sub _ _ hostOps0_12_writes (by decide)
theorem k14_main_v64 : val14 m c (Proc.devRef .tc main_v64) = val13 m c (Proc.devRef .tc main_v64) :=
  after_of_writes_sub _ _ hostOps0_13_writes (by decide)
theorem k14_main_v75 : val14 m c (Proc.devRef .tc main_v75) = val13 m c (Proc.devRef .tc main_v75) :=
  after_of_writes_sub _ _ hostOps0_13_writes (by decide)
theorem k1_main_arg4 : val1 m c (Proc.devRef .tc main_arg4) = val0 m c (Proc.devRef .tc main_arg4) :=
  after_of_writes_sub _ _ hostOps0_writes (by decide)
theorem k2_main_arg4 : val2 m c (Proc.devRef .tc main_arg4) = val1 m c (Proc.devRef .tc main_arg4) :=
  after_of_writes_sub _ _ hostOps0_1_writes (by decide)
theorem k3_main_arg4 : val3 m c (Proc.devRef .tc main_arg4) = val2 m c (Proc.devRef .tc main_arg4) :=
  after_of_writes_sub _ _ hostOps0_2_writes (by decide)
theorem k4_main_arg4 : val4 m c (Proc.devRef .tc main_arg4) = val3 m c (Proc.devRef .tc main_arg4) :=
  after_of_writes_sub _ _ hostOps0_3_writes (by decide)
theorem k5_main_arg4 : val5 m c (Proc.devRef .tc main_arg4) = val4 m c (Proc.devRef .tc main_arg4) :=
  after_of_writes_sub _ _ hostOps0_4_writes (by decide)
theorem k6_main_arg4 : val6 m c (Proc.devRef .tc main_arg4) = val5 m c (Proc.devRef .tc main_arg4) :=
  after_of_writes_sub _ _ hostOps0_5_writes (by decide)
theorem k7_main_arg4 : val7 m c (Proc.devRef .tc main_arg4) = val6 m c (Proc.devRef .tc main_arg4) :=
  after_of_writes_sub _ _ hostOps0_6_writes (by decide)
theorem k8_main_arg4 : val8 m c (Proc.devRef .tc main_arg4) = val7 m c (Proc.devRef .tc main_arg4) :=
  after_of_writes_sub _ _ hostOps0_7_writes (by decide)
theorem k9_main_arg4 : val9 m c (Proc.devRef .tc main_arg4) = val8 m c (Proc.devRef .tc main_arg4) :=
  after_of_writes_sub _ _ hostOps0_8_writes (by decide)
theorem k10_main_arg4 : val10 m c (Proc.devRef .tc main_arg4) = val9 m c (Proc.devRef .tc main_arg4) :=
  after_of_writes_sub _ _ hostOps0_9_writes (by decide)
theorem k11_main_arg4 : val11 m c (Proc.devRef .tc main_arg4) = val10 m c (Proc.devRef .tc main_arg4) :=
  after_of_writes_sub _ _ hostOps0_10_writes (by decide)
theorem k12_main_arg4 : val12 m c (Proc.devRef .tc main_arg4) = val11 m c (Proc.devRef .tc main_arg4) :=
  after_of_writes_sub _ _ hostOps0_11_writes (by decide)
theorem k13_main_arg4 : val13 m c (Proc.devRef .tc main_arg4) = val12 m c (Proc.devRef .tc main_arg4) :=
  after_of_writes_sub _ _ hostOps0_12_writes (by decide)
theorem a_main_v63 : val10 m c (Proc.devRef .tc main_v63) = wRel (wStart (sizes m c)) (wExpert (wEnd (sizes m c))) (wTile (wFirst (sizes m c)) (wCount (sizes m c)) (wEnd (sizes m c))) := by
  show after _ (val9 m c) _ = _
  rw [l9_v63, a_main_v14, k9_main_v13, a_main_v13, k9_main_v2, k8_main_v2, k7_main_v2, k6_main_v2, k5_main_v2, k4_main_v2, a_main_v2, k9_main_v1, k8_main_v1, k7_main_v1, k6_main_v1, k5_main_v1, k4_main_v1, k3_main_v1, a_main_v1]
theorem a_main_c_16 : val10 m c (Proc.devRef .tc main_c_16) = constantI S_ 32 0#32 := by
  show after _ (val9 m c) _ = _
  rw [l9_c16]
theorem a_main_c_17 : val10 m c (Proc.devRef .tc main_c_17) = constantI S_ 32 512#32 := by
  show after _ (val9 m c) _ = _
  rw [l9_c17]
theorem a_main_v19 : val10 m c (Proc.devRef .tc main_v19) = cmpi .slt (iotaInDim S152 32 0) (broadcastInDim S152 ![] bcast_S_S152 (wTotal (wEnd (sizes m c)))) := by
  show after _ (val9 m c) _ = _
  rw [l9_v19, a_main_v14]
theorem a_main_v64 : val11 m c (Proc.devRef .tc main_v64) = wClip (wRel (wStart (sizes m c)) (wExpert (wEnd (sizes m c))) (wTile (wFirst (sizes m c)) (wCount (sizes m c)) (wEnd (sizes m c)))) (constantI S_ 32 0#32) (constantI S_ 32 512#32) := by
  show after _ (val10 m c) _ = _
  rw [l10_v64, a_main_v63, a_main_c_16, a_main_c_17]
theorem a_main_v74 : val12 m c (Proc.devRef .tc main_v74) = wRel (wCum (sizes m c)) (wExpert (wEnd (sizes m c))) (wTile (wFirst (sizes m c)) (wCount (sizes m c)) (wEnd (sizes m c))) := by
  show after _ (val11 m c) _ = _
  rw [l11_v74, k11_main_v0, k10_main_v0, k9_main_v0, k8_main_v0, k7_main_v0, k6_main_v0, k5_main_v0, k4_main_v0, k3_main_v0, k2_main_v0, a_main_v0, k11_main_v29, a_main_v29, k11_main_v53, a_main_v53]
theorem a_main_c_21 : val12 m c (Proc.devRef .tc main_c_21) = constantI S_ 32 0#32 := by
  show after _ (val11 m c) _ = _
  rw [l11_c21]
theorem a_main_c_22 : val12 m c (Proc.devRef .tc main_c_22) = constantI S_ 32 512#32 := by
  show after _ (val11 m c) _ = _
  rw [l11_c22]
theorem a_main_v75 : val13 m c (Proc.devRef .tc main_v75) = wClip (wRel (wCum (sizes m c)) (wExpert (wEnd (sizes m c))) (wTile (wFirst (sizes m c)) (wCount (sizes m c)) (wEnd (sizes m c)))) (constantI S_ 32 0#32) (constantI S_ 32 512#32) := by
  show after _ (val12 m c) _ = _
  rw [l12_v75, a_main_v74, a_main_c_21, a_main_c_22]
theorem a_main_v76 : val14 m c (Proc.devRef .tc main_v76) = wLive (wEnd (sizes m c)) := by
  show after _ (val13 m c) _ = _
  rw [l13_v76, k13_main_v19, k12_main_v19, k11_main_v19, a_main_v19]
  rfl
theorem a_main_v77 : val14 m c (Proc.devRef .tc main_v77) = broadcastInDim S8x1x14336 ![0, 2] bcast_S8x14336_S8x1x14336_0_2 (val0 m c (Proc.devRef .tc main_arg4)) := by
  show after _ (val13 m c) _ = _
  rw [l13_v77, k13_main_arg4, k12_main_arg4, k11_main_arg4, k10_main_arg4, k9_main_arg4, k8_main_arg4, k7_main_arg4, k6_main_arg4, k5_main_arg4, k4_main_arg4, k3_main_arg4, k2_main_arg4, k1_main_arg4]
theorem a_main_v78 : val14 m c (Proc.devRef .tc main_v78) = broadcastInDim S8x1x14336 ![0, 2] bcast_S8x14336_S8x1x14336_0_2 (val0 m c (Proc.devRef .tc main_arg4)) := by
  show after _ (val13 m c) _ = _
  rw [l13_v78, k13_main_arg4, k12_main_arg4, k11_main_arg4, k10_main_arg4, k9_main_arg4, k8_main_arg4, k7_main_arg4, k6_main_arg4, k5_main_arg4, k4_main_arg4, k3_main_arg4, k2_main_arg4, k1_main_arg4]
theorem tab_lo : V m c main_v64 = wClip (wRel (wStart (sizes m c)) (wExpert (wEnd (sizes m c))) (wTile (wFirst (sizes m c)) (wCount (sizes m c)) (wEnd (sizes m c)))) (constantI S_ 32 0#32) (constantI S_ 32 512#32) := by
  rw [V_val, k14_main_v64, k13_main_v64, k12_main_v64, a_main_v64]
theorem tab_hi : V m c main_v75 = wClip (wRel (wCum (sizes m c)) (wExpert (wEnd (sizes m c))) (wTile (wFirst (sizes m c)) (wCount (sizes m c)) (wEnd (sizes m c)))) (constantI S_ 32 0#32) (constantI S_ 32 512#32) := by
  rw [V_val, k14_main_v75, a_main_v75]
theorem tab_live : V m c main_v76 = wLive (wEnd (sizes m c)) := by
  rw [V_val, a_main_v76]
theorem bias_gate : V m c main_v77 = broadcastInDim S8x1x14336 ![0, 2] bcast_S8x14336_S8x1x14336_0_2 (m ((c : Thread nD τ).loc main_arg4) : FVec F S8x14336 .f32) := by
  rw [V_val, a_main_v77]
  rfl
theorem bias_up : V m c main_v78 = broadcastInDim S8x1x14336 ![0, 2] bcast_S8x14336_S8x1x14336_0_2 (m ((c : Thread nD τ).loc main_arg4) : FVec F S8x14336 .f32) := by
  rw [V_val, a_main_v78]
  rfl

end Cert.KernelIdeal.Hand
-- ==== Proof.Visits.lean ====
module

public import proofs.«01_k».proof.Proof.Plan

/-! The visits in order: their tiles rise by at most one, the rows they write meet, and every tile is visited. -/

@[expose] public section

namespace Cert.Plan

variable (s : ℕ → ℕ)

/-- Where the visit's rows begin in its tile. -/
def lo (w : ℕ) : ℕ := min 512 (fin s (expert s w) - s (expert s w) - 512 * tile s w)
/-- Where the visit's rows end in its tile. -/
def hi (w : ℕ) : ℕ := min 512 (fin s (expert s w) - 512 * tile s w)
/-- The expert of a row. -/
def rowExpert (r : ℕ) : ℕ := Nat.count (fun q => fin s q ≤ r) 8

theorem fin_of_upto {i j : ℕ} (h : i ≤ j) (e : upto s i = upto s j) : fin s i = fin s j := by
  induction h with
  | refl => rfl
  | @step m hm ih =>
    have h1 := upto_mono s hm
    rw [Nat.succ_eq_add_one, upto_succ] at e
    rw [Nat.succ_eq_add_one, fin_succ]
    have h2 : cnt s (m + 1) = 0 := by omega
    have h3 : s (m + 1) = 0 := by
      unfold cnt at h2
      split at h2 <;> omega
    have := ih (by omega)
    omega

theorem rowExpert_eq (r e : ℕ) (he : e < 8) (h1 : fin s e - s e ≤ r) (h2 : r < fin s e) : rowExpert s r = e := by
  obtain ⟨c1, c2, c3⟩ := count_spec (fun q => fin s q ≤ r) (fun i j hij hj => le_trans (fin_mono s hij) hj) 8
  change rowExpert s r ≤ 8 at c1
  rcases Nat.lt_trichotomy (rowExpert s r) e with h | h | h
  · have h3 := c3 (rowExpert s r) le_rfl (by omega)
    obtain ⟨k, rfl⟩ : ∃ k, e = k + 1 := ⟨e - 1, by omega⟩
    have h4 := fin_mono s (show rowExpert s r ≤ k by omega)
    rw [fin_succ] at h1
    omega
  · exact h
  · have h3 := c2 e h
    omega

theorem visit_spec (w : ℕ) (hw : w < upto s 7) :
    0 < s (expert s w) ∧ tile s w = (fin s (expert s w) - s (expert s w)) / 512 + (w - (upto s (expert s w) - cnt s (expert s w)))
      ∧ cnt s (expert s w) = (fin s (expert s w) - 1) / 512 - (fin s (expert s w) - s (expert s w)) / 512 + 1 := by
  obtain ⟨h1, h2, h3⟩ := expert_spec s w hw
  have h4 := cnt_le_upto s (expert s w)
  have hp : 0 < s (expert s w) := by
    by_contra h
    have : cnt s (expert s w) = 0 := by unfold cnt; rw [if_neg h]
    omega
  refine ⟨hp, ?_, by unfold cnt; rw [if_pos hp]⟩
  unfold tile
  omega

/-- One visit to the next. -/
theorem next (w : ℕ) (hw : w + 1 < upto s 7) :
    (tile s (w + 1) = tile s w ∧ lo s (w + 1) ≤ hi s w) ∨ (tile s (w + 1) = tile s w + 1 ∧ lo s (w + 1) = 0 ∧ hi s w = 512) := by
  obtain ⟨a1, a2, a3⟩ := expert_spec s w (by omega)
  obtain ⟨b1, b2, b3⟩ := expert_spec s (w + 1) hw
  obtain ⟨p1, p2, p3⟩ := visit_spec s w (by omega)
  obtain ⟨q1, q2, q3⟩ := visit_spec s (w + 1) hw
  have t1 := tile_le s (w + 1) hw
  have l1 := le_fin s (expert s w)
  have l2 := le_fin s (expert s (w + 1))
  have u1 := cnt_le_upto s (expert s w)
  have u2 := cnt_le_upto s (expert s (w + 1))
  have hmono : expert s w ≤ expert s (w + 1) := by
    by_contra h
    have := upto_mono s (show expert s (w + 1) ≤ expert s w - 1 by omega)
    obtain ⟨k, hk⟩ : ∃ k, expert s w = k + 1 := ⟨expert s w - 1, by omega⟩
    have h5 := upto_succ s k
    rw [← hk] at h5
    rw [hk] at this
    simp only [Nat.add_sub_cancel] at this
    omega
  rcases Nat.lt_or_ge (expert s w) (expert s (w + 1)) with hlt | hge
  · obtain ⟨k, hk⟩ : ∃ k, expert s (w + 1) = k + 1 := ⟨expert s (w + 1) - 1, by omega⟩
    have h5 := upto_succ s k
    have h6 := fin_succ s k
    rw [← hk] at h5 h6
    have h7 := upto_mono s (show expert s w ≤ k by omega)
    have h8 : upto s (expert s w) = upto s k := by omega
    have h9 := fin_of_upto s (show expert s w ≤ k by omega) h8
    have e1 : fin s (expert s (w + 1)) - s (expert s (w + 1)) = fin s (expert s w) := by omega
    have e2 : tile s (w + 1) = fin s (expert s w) / 512 := by rw [q2, e1]; omega
    have e3 : tile s w = (fin s (expert s w) - 1) / 512 := by rw [p2]; omega
    unfold lo hi
    rw [e1, e2, e3]
    omega
  · have he : expert s (w + 1) = expert s w := by omega
    rw [he] at q2 t1 b2 b3
    have e2 : tile s (w + 1) = tile s w + 1 := by rw [q2, p2]; omega
    right
    refine ⟨e2, ?_, ?_⟩
    · unfold lo
      rw [he, e2]
      omega
    · unfold hi
      omega

theorem first_visit (h : 0 < upto s 7) : tile s 0 = 0 ∧ lo s 0 = 0 := by
  obtain ⟨b1, b2, b3⟩ := expert_spec s 0 h
  obtain ⟨q1, q2, q3⟩ := visit_spec s 0 h
  have u2 := cnt_le_upto s (expert s 0)
  have hz : fin s (expert s 0) - s (expert s 0) = 0 := by
    rcases Nat.eq_zero_or_pos (expert s 0) with h0 | h0
    · rw [h0, fin_zero]; omega
    · obtain ⟨k, hk⟩ : ∃ k, expert s 0 = k + 1 := ⟨expert s 0 - 1, by omega⟩
      have h5 := upto_succ s k
      have h6 := fin_succ s k
      rw [← hk] at h5 h6
      have := (upto_bounds s k).1
      omega
  have e : tile s 0 = 0 := by rw [q2, hz]; omega
  refine ⟨e, ?_⟩
  unfold lo
  rw [hz]
  omega

theorem last_visit (hs : fin s 7 = 73728) : tile s (upto s 7 - 1) = 143 ∧ hi s (upto s 7 - 1) = 512 := by
  have hp := (upto_bounds s 7).1
  obtain ⟨b1, b2, b3⟩ := expert_spec s (upto s 7 - 1) (by omega)
  obtain ⟨q1, q2, q3⟩ := visit_spec s (upto s 7 - 1) (by omega)
  have u2 := cnt_le_upto s (expert s (upto s 7 - 1))
  have l2 := le_fin s (expert s (upto s 7 - 1))
  have h7 := upto_mono s (show expert s (upto s 7 - 1) ≤ 7 by omega)
  have h9 := fin_of_upto s (show expert s (upto s 7 - 1) ≤ 7 by omega) (by omega)
  have e : tile s (upto s 7 - 1) = 143 := by rw [q2]; omega
  refine ⟨e, ?_⟩
  unfold hi
  omega

/-- Every tile is visited. -/
theorem tile_surj (hs : fin s 7 = 73728) (k : ℕ) (hk : k < 144) : ∃ w < upto s 7, tile s w = k := by
  have hp := (upto_bounds s 7).1
  have key : ∀ w, w < upto s 7 → ∀ k ≤ tile s w, ∃ u ≤ w, tile s u = k := by
    intro w
    induction w with
    | zero =>
      intro h k hk
      exact ⟨0, le_rfl, by have := (first_visit s h).1; omega⟩
    | succ w ih =>
      intro h k hk
      by_cases hk' : k ≤ tile s w
      · obtain ⟨u, hu, hu'⟩ := ih (by omega) k hk'
        exact ⟨u, by omega, hu'⟩
      · rcases next s w h with ⟨h1, -⟩ | ⟨h1, -⟩ <;> exact ⟨w + 1, le_rfl, by omega⟩
  obtain ⟨u, hu, hu'⟩ := key (upto s 7 - 1) (by omega) k (by rw [(last_visit s hs).1]; omega)
  exact ⟨u, by omega, hu'⟩

/-- A row the visit writes is a row of its expert. -/
theorem rowExpert_of (w r : ℕ) (hw : w < upto s 7) (h1 : lo s w ≤ r) (h2 : r < hi s w) : rowExpert s (512 * tile s w + r) = expert s w := by
  unfold lo hi at *
  have := tile_le s w hw
  exact rowExpert_eq s _ _ (expert_spec s w hw).1 (by omega) (by omega)

end Cert.Plan
-- ==== Proof.PI.TableFacts2.lean ====
module

public import proofs.«01_k».proof.Proof.PI.Tables2
public import proofs.«01_k».proof.Proof.PI.TableFacts
public import proofs.«01_k».proof.Proof.Visits

/-! The rows each visit writes and whether it is live, as natural numbers. -/

@[expose] public section

noncomputable section

namespace Cert.KernelIdeal.Hand

open Idealize.ShloMosaic Idealize.ShloMosaic.TcCoe Idealize.ShloMosaic.StableHlo Idealize.ShloMosaic.Routing Idealize.ShloMosaic.ValueIdx
open Cert.KernelIdeal Cert.KernelIdeal.Gen

theorem clip_word (a b : ℕ) (ha : a ≤ 73728) (hb : b < 144) :
    IntOp.minsi 512#32 (IntOp.maxsi 0#32 (BitVec.ofNat 32 a - BitVec.ofNat 32 b * 512#32)) = BitVec.ofNat 32 (min 512 (a - 512 * b)) := by
  have e : BitVec.ofNat 32 b * 512#32 = BitVec.ofNat 32 (512 * b) := by
    apply BitVec.eq_of_toNat_eq
    rw [BitVec.toNat_mul, BitVec.toNat_ofNat, BitVec.toNat_ofNat, BitVec.toNat_ofNat]
    omega
  rw [e]
  have em : IntOp.maxsi 0#32 (BitVec.ofNat 32 a - BitVec.ofNat 32 (512 * b)) = BitVec.ofNat 32 (a - 512 * b) := by
    rcases Nat.lt_or_ge a (512 * b) with h | h
    · have en : (BitVec.ofNat 32 a - BitVec.ofNat 32 (512 * b)).toNat = 2 ^ 32 - (512 * b - a) := by
        rw [BitVec.toNat_sub, BitVec.toNat_ofNat, BitVec.toNat_ofNat]
        omega
      have es : (BitVec.ofNat 32 a - BitVec.ofNat 32 (512 * b)).slt 0#32 = true := by
        unfold BitVec.slt
        rw [BitVec.toInt_eq_toNat_cond, en, decide_eq_true_eq]
        have : (0#32 : BitVec 32).toInt = 0 := rfl
        rw [this]
        split <;> omega
      unfold IntOp.maxsi
      rw [es, Nat.sub_eq_zero_of_le h.le]
      rfl
    · rw [ofNat32_sub h, maxsi_zero_left (by omega)]
  rw [em]
  unfold IntOp.minsi
  rw [show (512#32 : BitVec 32) = BitVec.ofNat 32 512 from rfl, slt_ofNat32 (by norm_num) (by omega)]
  by_cases h : 512 < a - 512 * b
  · rw [decide_eq_true h, Nat.min_eq_left h.le]; rfl
  · rw [decide_eq_false h, Nat.min_eq_right (by omega)]; rfl

section
variable (g : IVec S8 32) (hfit : ∀ j : Fin 8, (g (ix1 j)).toNat ≤ 73728) (hsum : Plan.fin (nat8 g) 7 = 73728)
include hfit hsum

theorem clip_at (y : IVec S8 32) (f : ℕ → ℕ) (hy : ∀ j : Fin 8, y (ix1 j) = BitVec.ofNat 32 (f j.val)) (hf : ∀ j : Fin 8, f j.val ≤ 73728) (v : Fin 152) :
    wClip (wRel y (wExpert (wEnd g)) (wTile (wFirst g) (wCount g) (wEnd g))) (constantI S_ 32 0#32) (constantI S_ 32 512#32) (ix1 v)
      = BitVec.ofNat 32 (min 512 (f (Plan.expert (nat8 g) (vis g v.val)) - 512 * Plan.tile (nat8 g) (vis g v.val))) := by
  have he := expert_at g hfit hsum v
  have hl := expert_lt g hfit hsum v.val
  have ht := wTake_at y _ v ⟨Plan.expert (nat8 g) (vis g v.val), hl⟩ he
  show IntOp.minsi (broadcastInDim S152 ![] bcast_S_S152 (constantI S_ 32 512#32) (ix1 v))
    (IntOp.maxsi (broadcastInDim S152 ![] bcast_S_S152 (constantI S_ 32 0#32) (ix1 v))
      (wTake y (wExpert (wEnd g)) (ix1 v) - wTile (wFirst g) (wCount g) (wEnd g) (ix1 v) * wAll 512#32 (ix1 v))) = _
  rw [bc0, bc0, ht, hy, tile_at g hfit hsum, wAll_at]
  exact clip_word _ _ (hf ⟨_, hl⟩) (tile_lt g hfit hsum v.val)

theorem lo_at (v : Fin 152) :
    wClip (wRel (wStart g) (wExpert (wEnd g)) (wTile (wFirst g) (wCount g) (wEnd g))) (constantI S_ 32 0#32) (constantI S_ 32 512#32) (ix1 v)
      = BitVec.ofNat 32 (Plan.lo (nat8 g) (vis g v.val)) :=
  clip_at g hfit hsum _ (fun j => Plan.fin (nat8 g) j - nat8 g j) (start_at g hfit hsum) (fun j => by have := fin_le g hfit hsum j; show _ - _ ≤ _; omega) v

theorem hi_at (v : Fin 152) :
    wClip (wRel (wCum g) (wExpert (wEnd g)) (wTile (wFirst g) (wCount g) (wEnd g))) (constantI S_ 32 0#32) (constantI S_ 32 512#32) (ix1 v)
      = BitVec.ofNat 32 (Plan.hi (nat8 g) (vis g v.val)) :=
  clip_at g hfit hsum _ (fun j => Plan.fin (nat8 g) j) (ends_at g hfit hsum) (fin_le g hfit hsum) v

theorem live_at (v : Fin 152) : wLive (wEnd g) (ix1 v) = if v.val < Plan.upto (nat8 g) 7 then 1#32 else 0#32 := by
  have h1 := upto_le g hfit hsum (7 : Fin 8)
  have hv := v.isLt
  have h3 : Plan.upto (nat8 g) 7 ≤ 151 := h1
  show (BitVec.ofBool ((BitVec.ofNat 32 v.val).slt (broadcastInDim S152 ![] bcast_S_S152 (wTotal (wEnd g)) (ix1 v)))).setWidth 32 = _
  rw [bc0, total_at g hfit hsum, slt_ofNat32 (by omega) (by omega)]
  by_cases h : v.val < Plan.upto (nat8 g) 7
  · rw [decide_eq_true h, if_pos h]; rfl
  · rw [decide_eq_false h, if_neg h]; rfl

end

end Cert.KernelIdeal.Hand
-- ==== Proof.PI.Cover.lean ====
module

public import proofs.«01_k».proof.Proof.PI.Run
public import proofs.«01_k».proof.Proof.PI.TableFacts2
public import Idealize.ShloMosaic.Lib.Pipeline.ArrRel
public import Idealize.ShloMosaic.Lib.Pipeline.ValueKit
public import Idealize.ShloMosaic.Lib.Pipeline.Covers
public import Idealize.ShloMosaic.Lib.Pointwise.Index

/-! The blocks the visits write make up the whole of the two results. -/

@[expose] public section

set_option maxRecDepth 4096

noncomputable section

namespace Cert.KernelIdeal.Hand

open Idealize.ShloMosaic Idealize.ShloMosaic.TcCoe Idealize.SL.Sem
open Idealize.ShloMosaic.Pipeline (RDat)
open Cert.KernelIdeal Cert.KernelIdeal.Gen Cert.Hand

variable {F : FTy → Type} [FloatOps F]

/-- The visit kept below the number of visits. -/
def visP (s : ℕ → ℕ) (v : ℕ) : ℕ := min v (Plan.upto s 7 - 1)

/-- The tables hold the plan of the sizes `s`. -/
structure Tab (pf : pre0.Contents (Elt F)) (s : ℕ → ℕ) : Prop where
  hs : Plan.fin s 7 = 73728
  hT : ∀ v : Fin 152, tT pf (ix1 v) = BitVec.ofNat 32 (Plan.tile s (visP s v.val))
  hE : ∀ v : Fin 152, tE pf (ix1 v) = BitVec.ofNat 32 (Plan.expert s (visP s v.val))
  hLo : ∀ v : Fin 152, tLo pf (ix1 v) = BitVec.ofNat 32 (Plan.lo s (visP s v.val))
  hHi : ∀ v : Fin 152, tHi pf (ix1 v) = BitVec.ofNat 32 (Plan.hi s (visP s v.val))
  hLive : ∀ v : Fin 152, tLive pf (ix1 v) = if v.val < Plan.upto s 7 then 1#32 else 0#32

section Plan
variable (s : ℕ → ℕ) (hs : Plan.fin s 7 = 73728)
include hs
theorem upto_bd : 144 ≤ Plan.upto s 7 ∧ Plan.upto s 7 ≤ 151 := by
  have := Plan.upto_bounds s 7
  omega
theorem visP_lt (v : ℕ) : visP s v < Plan.upto s 7 := by
  have := upto_bd s hs
  unfold visP
  omega
theorem visP_tile_lt (v : ℕ) : Plan.tile s (visP s v) < 144 := Plan.tile_lt s hs _ (visP_lt s hs v)
end Plan

theorem coords_n (t : Fin grid0.N) : (grid0.coords t 0).val = t.val / 152 := by
  have h : t.val < 2128 := t.isLt
  show t.val / 152 % 14 = t.val / 152
  omega
theorem coords_v (t : Fin grid0.N) : (grid0.coords t 1).val = t.val % 152 := by
  show t.val / 1 % 152 = _
  omega

/-- The visit of a grid point. -/
abbrev vOf (t : Fin grid0.N) : Fin 152 := ⟨t.val % 152, Nat.mod_lt _ (by decide)⟩

theorem idx_off (i : grid0.Coords) (off : Fin 1 → ℕ) (inb : ∀ a, off a + S1.size a ≤ S152.size a) (x : (Rect.unit (s := S152) off S1.size inb).shape.Idx) (v : Fin 152) (h : off 0 = v.val) :
    (Rect.unit (s := S152) off S1.size inb).emb x = ix1 v := by
  funext a
  obtain rfl : a = 0 := Subsingleton.elim _ _
  apply Fin.ext
  have hx : (x 0).val < 1 := (x 0).isLt
  show off 0 + 1 * (x 0).val = v.val
  omega

theorem off1 (t : Fin grid0.N) : k0_off1 (grid0.coords t) 0 = (vOf t).val := by
  show (BitVec.ofNat 32 (grid0.coords t 1).val).toNat = _
  rw [coords_v, BitVec.toNat_ofNat]
  show _ % _ = t.val % 152
  omega

theorem wordAt1 (T : S152.Idx → Elt F .i32) (t : Fin grid0.N) : wordAt T (k0_off1 (grid0.coords t)) (k0_off1_inb _) = T (ix1 (vOf t)) :=
  congrArg T (idx_off (grid0.coords t) _ _ _ _ (off1 t))
theorem wordAt3 (T : S152.Idx → Elt F .i32) (t : Fin grid0.N) : wordAt T (k0_off3 (grid0.coords t)) (k0_off3_inb _) = T (ix1 (vOf t)) :=
  congrArg T (idx_off (grid0.coords t) _ _ _ _ (off1 t))
theorem wordAt4 (T : S152.Idx → Elt F .i32) (t : Fin grid0.N) : wordAt T (k0_off4 (grid0.coords t)) (k0_off4_inb _) = T (ix1 (vOf t)) :=
  congrArg T (idx_off (grid0.coords t) _ _ _ _ (off1 t))

section
variable (W : (c : Dev nD) → (b : Ref sig .tc) → Buf (Elt F) ((c : Thread nD τ).loc b)) (pf : pre0.Contents (Elt F)) (hok : ok0 (F := F) pf)
  (s : ℕ → ℕ) (tab : Tab pf s)
  (I : ℕ → (S3072x512.Idx → Elt F .bf16) → (S3072x512.Idx → Elt F .bf16) → Prop)
  (CT : ℕ → ℕ → Elt F .fp8e4m3) (ST : ℕ → ℕ → ℕ → Elt F .f32)

/-- The tile of a grid point. -/
abbrev tl (t : Fin grid0.N) : ℕ := Plan.tile s (visP s (t.val % 152))
/-- Whether the point writes the row. -/
def wr (t : Fin grid0.N) (r : ℕ) : Prop :=
  t.val % 152 < Plan.upto s 7 ∧ Plan.lo s (visP s (t.val % 152)) ≤ r ∧ r < Plan.hi s (visP s (t.val % 152))

/-- The codes a point leaves: the target's on its rows, what was there on the others. -/
def R8v (t : Fin grid0.N) (Y X : S512x512.Idx → Elt F .fp8e4m3) : Prop :=
  ∀ r c : Fin 512, (wr s t r.val → X (ix2 r c) = CT (512 * tl s t + r.val) (512 * (t.val / 152) + c.val)) ∧ (¬ wr s t r.val → X (ix2 r c) = Y (ix2 r c))
/-- The scales a point leaves. -/
def R9v (t : Fin grid0.N) (Y X : S1x512x4.Idx → Elt F .f32) : Prop :=
  ∀ (r : Fin 512) (q : Fin 4), (wr s t r.val → X (ix3 (0 : Fin 1) r q) = ST (t.val / 152) (512 * tl s t + r.val) q.val) ∧ (¬ wr s t r.val → X (ix3 (0 : Fin 1) r q) = Y (ix3 (0 : Fin 1) r q))

include tab in
theorem index8 (t : Fin grid0.N) : ((cfgP pf hok).win 8).index t (0 : Fin 2) = tl s t ∧ ((cfgP pf hok).win 8).index t (1 : Fin 2) = t.val / 152 := by
  have hb := visP_tile_lt s tab.hs (t.val % 152)
  constructor
  · refine (congrArg (fun i => BitVec.toNat (w := 32) (tT pf i)) (idx_off (grid0.coords t) (k0_off1 (grid0.coords t)) (k0_off1_inb _) _ (vOf t) (off1 t))).trans ?_
    show BitVec.toNat (w := 32) (tT pf (ix1 (vOf t))) = _
    rw [tab.hT]
    show (BitVec.ofNat 32 _).toNat = _
    rw [BitVec.toNat_ofNat]
    exact Nat.mod_eq_of_lt (Nat.lt_trans hb (by omega))
  · show (BitVec.ofNat 32 (grid0.coords t 0).val).toNat = _
    rw [coords_n, BitVec.toNat_ofNat]
    have h : t.val < 2128 := t.isLt
    omega
include tab in
theorem index9 (t : Fin grid0.N) : ((cfgP pf hok).win 9).index t (0 : Fin 3) = t.val / 152 ∧ ((cfgP pf hok).win 9).index t (1 : Fin 3) = tl s t ∧ ((cfgP pf hok).win 9).index t (2 : Fin 3) = 0 := by
  refine ⟨?_, (index8 pf hok s tab t).1, rfl⟩
  show (BitVec.ofNat 32 (grid0.coords t 0).val).toNat = _
  rw [coords_n, BitVec.toNat_ofNat]
  have h : t.val < 2128 := t.isLt
  omega

include tab in
theorem index8_eq (t t' : Fin grid0.N) : ((cfgP pf hok).win 8).index t = ((cfgP pf hok).win 8).index t' ↔ tl s t = tl s t' ∧ t.val / 152 = t'.val / 152 := by
  obtain ⟨a, b⟩ := index8 pf hok s tab t
  obtain ⟨a', b'⟩ := index8 pf hok s tab t'
  constructor
  · intro h
    exact ⟨by rw [← a, ← a', h], by rw [← b, ← b', h]⟩
  · rintro ⟨h1, h2⟩
    funext x
    match x with
    | ⟨0, _⟩ => exact a.trans (h1.trans a'.symm)
    | ⟨1, _⟩ => exact b.trans (h2.trans b'.symm)
include tab in
theorem index9_eq (t t' : Fin grid0.N) : ((cfgP pf hok).win 9).index t = ((cfgP pf hok).win 9).index t' ↔ tl s t = tl s t' ∧ t.val / 152 = t'.val / 152 := by
  obtain ⟨a, b, d⟩ := index9 pf hok s tab t
  obtain ⟨a', b', d'⟩ := index9 pf hok s tab t'
  constructor
  · intro h
    exact ⟨by rw [← b, ← b', h], by rw [← a, ← a', h]⟩
  · rintro ⟨h1, h2⟩
    funext x
    match x with
    | ⟨0, _⟩ => exact a.trans (h2.trans a'.symm)
    | ⟨1, _⟩ => exact b.trans (h1.trans b'.symm)
    | ⟨2, _⟩ => exact d.trans d'.symm

include tab in
/-- A row below the end of the visit's rows is written by it, or the point before is at the same blocks and has it below its end. -/
theorem back (t : Fin grid0.N) (r : ℕ) (h : r < Plan.hi s (visP s (t.val % 152))) :
    wr s t r ∨ ∃ ht : t.val ≠ 0, tl s t = tl s ⟨t.val - 1, Nat.lt_of_le_of_lt (Nat.sub_le _ _) t.isLt⟩ ∧ t.val / 152 = (t.val - 1) / 152 ∧ r < Plan.hi s (visP s ((t.val - 1) % 152)) := by
  obtain ⟨b1, b2⟩ := upto_bd s tab.hs
  by_cases hw : wr s t r
  · exact .inl hw
  right
  have hlt : t.val < 2128 := t.isLt
  by_cases hv : t.val % 152 < Plan.upto s 7
  · have hvis : visP s (t.val % 152) = t.val % 152 := by unfold visP; omega
    have hlo : r < Plan.lo s (t.val % 152) := by
      by_contra hge
      exact hw ⟨hv, by rw [hvis]; omega, h⟩
    have h0 : t.val % 152 ≠ 0 := by
      intro h0
      rw [h0, (Plan.first_visit s (by omega)).2] at hlo
      omega
    have hm : (t.val - 1) % 152 = t.val % 152 - 1 := by omega
    have hvis' : visP s ((t.val - 1) % 152) = t.val % 152 - 1 := by unfold visP; omega
    have hn := Plan.next s (t.val % 152 - 1) (by omega)
    rw [show t.val % 152 - 1 + 1 = t.val % 152 by omega] at hn
    rcases hn with ⟨n1, n2⟩ | ⟨n1, n2, n3⟩
    · refine ⟨by omega, ?_, by omega, ?_⟩
      · show Plan.tile s (visP s (t.val % 152)) = Plan.tile s (visP s ((t.val - 1) % 152))
        rw [hvis, hvis', n1]
      · rw [hvis']; omega
    · omega
  · have hm : (t.val - 1) % 152 = t.val % 152 - 1 := by omega
    have hvis : visP s ((t.val - 1) % 152) = visP s (t.val % 152) := by unfold visP; omega
    refine ⟨by omega, ?_, by omega, ?_⟩
    · show Plan.tile s (visP s (t.val % 152)) = Plan.tile s (visP s ((t.val - 1) % 152))
      rw [hvis]
    · rw [hvis]; exact h

include tab in
/-- Where the blocks are written back every row of them is below the end. -/
theorem end_of_move (t : Fin grid0.N) (h : t.val + 1 = 2128 ∨ ∃ h : t.val + 1 < 2128, ¬ (tl s ⟨t.val + 1, h⟩ = tl s t ∧ (t.val + 1) / 152 = t.val / 152)) :
    Plan.hi s (visP s (t.val % 152)) = 512 := by
  obtain ⟨b1, b2⟩ := upto_bd s tab.hs
  have hlt : t.val < 2128 := t.isLt
  have hlast := (Plan.last_visit s tab.hs).2
  by_cases hv : t.val % 152 + 1 < Plan.upto s 7
  · have hvis : visP s (t.val % 152) = t.val % 152 := by unfold visP; omega
    rcases h with h | ⟨h, hne⟩
    · omega
    · have hm : (t.val + 1) % 152 = t.val % 152 + 1 := by omega
      have hd : (t.val + 1) / 152 = t.val / 152 := by omega
      have hvis' : visP s ((t.val + 1) % 152) = t.val % 152 + 1 := by unfold visP; omega
      rcases Plan.next s (t.val % 152) hv with ⟨n1, n2⟩ | ⟨n1, n2, n3⟩
      · refine absurd ⟨?_, hd⟩ hne
        show Plan.tile s (visP s ((t.val + 1) % 152)) = Plan.tile s (visP s (t.val % 152))
        rw [hvis, hvis', n1]
      · rw [hvis]; exact n3
  · have hvis : visP s (t.val % 152) = Plan.upto s 7 - 1 := by unfold visP; omega
    rw [hvis]; exact hlast

variable (c : Dev nD)

include tab in
theorem leaves8 (R9 : Fin grid0.N → (S1x512x4.Idx → Elt F .f32) → (S1x512x4.Idx → Elt F .f32) → Prop) : ∀ (t : Fin grid0.N) X, (rdat W pf hok I (R8v s CT) R9 c).Leaves 8 t X →
    ∀ r q : Fin 512, r.val < Plan.hi s (visP s (t.val % 152)) → X (ix2 r q) = CT (512 * tl s t + r.val) (512 * (t.val / 152) + q.val) := by
  intro t
  induction hn : t.val using Nat.strong_induction_on generalizing t with
  | _ n ih =>
    subst hn
    rintro X ⟨Y, hY, hR⟩ r q hr
    have hR' : R8v s CT t Y X := hR
    rcases back pf s tab t r.val hr with hw | ⟨ht, e1, e2, hr'⟩
    · exact (hR' r q).1 hw
    by_cases hw : wr s t r.val
    · exact (hR' r q).1 hw
    rw [(hR' r q).2 hw]
    have hf : ((cfgP pf hok).win 8).fetch t = false := Pipeline.Window.fetch_out _ rfl _
    rcases ((rdat W pf hok I (R8v s CT) R9 c).finds_of_pos hf ht Y).1 hY with hfl | hL
    · exfalso
      rcases (Pipeline.Window.flush_out _ rfl _).1 hfl with h | ⟨h, hne⟩
      · have h' : t.val - 1 + 1 = 2128 := h
        have := t.isLt
        have h2 : t.val < 2128 := this
        omega
      · apply hne
        have ee : (⟨t.val - 1 + 1, h⟩ : Fin grid0.N) = t := Fin.ext (by show t.val - 1 + 1 = t.val; omega)
        refine ((index8_eq pf hok s tab _ _).2 ?_)
        rw [ee]
        exact ⟨e1, e2⟩
    · have := ih (t.val - 1) (by omega) ⟨t.val - 1, Nat.lt_of_le_of_lt (Nat.sub_le _ _) t.isLt⟩ rfl Y hL r q hr'
      rw [this, ← e1, ← e2]

include tab in
theorem leaves9 (R8 : Fin grid0.N → (S512x512.Idx → Elt F .fp8e4m3) → (S512x512.Idx → Elt F .fp8e4m3) → Prop) : ∀ (t : Fin grid0.N) X, (rdat W pf hok I R8 (R9v s ST) c).Leaves 9 t X →
    ∀ (r : Fin 512) (q : Fin 4), r.val < Plan.hi s (visP s (t.val % 152)) → X (ix3 (0 : Fin 1) r q) = ST (t.val / 152) (512 * tl s t + r.val) q.val := by
  intro t
  induction hn : t.val using Nat.strong_induction_on generalizing t with
  | _ n ih =>
    subst hn
    rintro X ⟨Y, hY, hR⟩ r q hr
    have hR' : R9v s ST t Y X := hR
    rcases back pf s tab t r.val hr with hw | ⟨ht, e1, e2, hr'⟩
    · exact (hR' r q).1 hw
    by_cases hw : wr s t r.val
    · exact (hR' r q).1 hw
    rw [(hR' r q).2 hw]
    have hf : ((cfgP pf hok).win 9).fetch t = false := Pipeline.Window.fetch_out _ rfl _
    rcases ((rdat W pf hok I R8 (R9v s ST) c).finds_of_pos hf ht Y).1 hY with hfl | hL
    · exfalso
      rcases (Pipeline.Window.flush_out _ rfl _).1 hfl with h | ⟨h, hne⟩
      · have h' : t.val - 1 + 1 = 2128 := h
        have := t.isLt
        have h2 : t.val < 2128 := this
        omega
      · apply hne
        have ee : (⟨t.val - 1 + 1, h⟩ : Fin grid0.N) = t := Fin.ext (by show t.val - 1 + 1 = t.val; omega)
        refine ((index9_eq pf hok s tab _ _).2 ?_)
        rw [ee]
        exact ⟨e1, e2⟩
    · have := ih (t.val - 1) (by omega) ⟨t.val - 1, Nat.lt_of_le_of_lt (Nat.sub_le _ _) t.isLt⟩ rfl Y hL r q hr'
      rw [this, ← e1, ← e2]

include tab in
theorem flush8 (t : Fin grid0.N) (h : ((cfgP pf hok).win 8).flush t = true) : Plan.hi s (visP s (t.val % 152)) = 512 := by
  refine end_of_move pf s tab t ?_
  rcases (Pipeline.Window.flush_out _ rfl _).1 h with h | ⟨h, hne⟩
  · exact .inl h
  · exact .inr ⟨h, fun e => hne ((index8_eq pf hok s tab _ _).2 e)⟩
include tab in
theorem flush9 (t : Fin grid0.N) (h : ((cfgP pf hok).win 9).flush t = true) : Plan.hi s (visP s (t.val % 152)) = 512 := by
  refine end_of_move pf s tab t ?_
  rcases (Pipeline.Window.flush_out _ rfl _).1 h with h | ⟨h, hne⟩
  · exact .inl h
  · exact .inr ⟨h, fun e => hne ((index9_eq pf hok s tab _ _).2 e)⟩

include tab in
theorem point_of (k n : ℕ) (hk : k < 144) (hn : n < 14) : ∃ t : Fin grid0.N, tl s t = k ∧ t.val / 152 = n := by
  obtain ⟨b1, b2⟩ := upto_bd s tab.hs
  obtain ⟨w, hw, e⟩ := Plan.tile_surj s tab.hs k hk
  refine ⟨⟨n * 152 + w, show _ < 2128 by omega⟩, ?_, ?_⟩
  · show Plan.tile s (visP s ((n * 152 + w) % 152)) = k
    rw [show (n * 152 + w) % 152 = w by omega, show visP s w = w by unfold visP; omega, e]
  · show (n * 152 + w) / 152 = n
    omega

theorem nblk_2_0 : ((cfgP pf hok).win 8).nblk (0 : Fin 2) = 144 := by
  unfold Pipeline.Window.nblk
  show (73728 + 512 - 1) / 512 = _
  norm_num
theorem nblk_2_1 : ((cfgP pf hok).win 8).nblk (1 : Fin 2) = 14 := by
  unfold Pipeline.Window.nblk
  show (7168 + 512 - 1) / 512 = _
  norm_num
theorem nblk_3_0 : ((cfgP pf hok).win 9).nblk (0 : Fin 3) = 14 := by
  unfold Pipeline.Window.nblk
  show (14 + 1 - 1) / 1 = _
  norm_num
theorem nblk_3_1 : ((cfgP pf hok).win 9).nblk (1 : Fin 3) = 144 := by
  unfold Pipeline.Window.nblk
  show (73728 + 512 - 1) / 512 = _
  norm_num
theorem nblk_3_2 : ((cfgP pf hok).win 9).nblk (2 : Fin 3) = 1 := by
  unfold Pipeline.Window.nblk
  show (4 + 4 - 1) / 4 = _
  norm_num
include tab in
theorem covers8 : ((cfgP pf hok).win 8).Covers := by
  refine Pipeline.Window.covers_of_index_surj _ rfl (by intro a; match a with | ⟨0, _⟩ => exact Nat.succ_pos 511 | ⟨1, _⟩ => exact Nat.succ_pos 511) fun β => ?_
  have h0 : (β (0 : Fin 2)).val < 144 := Nat.lt_of_lt_of_eq (β (0 : Fin 2)).isLt (by exact nblk_2_0 pf hok)
  have h1 : (β (1 : Fin 2)).val < 14 := Nat.lt_of_lt_of_eq (β (1 : Fin 2)).isLt (by exact nblk_2_1 pf hok)
  obtain ⟨t, e0, e1⟩ := point_of pf s tab _ _ h0 h1
  refine ⟨t, fun a => ?_⟩
  match a with
  | ⟨0, _⟩ => exact (index8 pf hok s tab t).1.trans e0
  | ⟨1, _⟩ => exact (index8 pf hok s tab t).2.trans e1
include tab in
theorem covers9 : ((cfgP pf hok).win 9).Covers := by
  refine Pipeline.Window.covers_of_index_surj _ rfl (by intro a; match a with | ⟨0, _⟩ => exact Nat.succ_pos 0 | ⟨1, _⟩ => exact Nat.succ_pos 511 | ⟨2, _⟩ => exact Nat.succ_pos 3) fun β => ?_
  have h0 : (β (0 : Fin 3)).val < 14 := Nat.lt_of_lt_of_eq (β (0 : Fin 3)).isLt (by exact nblk_3_0 pf hok)
  have h1 : (β (1 : Fin 3)).val < 144 := Nat.lt_of_lt_of_eq (β (1 : Fin 3)).isLt (by exact nblk_3_1 pf hok)
  have h2 : (β (2 : Fin 3)).val < 1 := Nat.lt_of_lt_of_eq (β (2 : Fin 3)).isLt (by exact nblk_3_2 pf hok)
  obtain ⟨t, e0, e1⟩ := point_of pf s tab _ _ h1 h0
  refine ⟨t, fun a => ?_⟩
  match a with
  | ⟨0, _⟩ => exact (index9 pf hok s tab t).1.trans e1
  | ⟨1, _⟩ => exact (index9 pf hok s tab t).2.1.trans e0
  | ⟨2, _⟩ => exact (index9 pf hok s tab t).2.2.trans (show 0 = (β (2 : Fin 3)).val by omega)

theorem emb8 (t : Fin grid0.N) (y : S512x512.Idx) (a : Fin 2) : ((((cfgP pf hok).win 8).blk t).view.emb y a).val = ((cfgP pf hok).win 8).index t a * S512x512.size a + 1 * (y a).val := rfl
theorem emb9 (t : Fin grid0.N) (y : S1x512x4.Idx) (a : Fin 3) : ((((cfgP pf hok).win 9).blk t).view.emb y a).val = ((cfgP pf hok).win 9).index t a * S1x512x4.size a + 1 * (y a).val := rfl

theorem ST_congr (a b d a' b' d' : ℕ) (h : a = a') (h' : b = b') (h'' : d = d') : ST a b d = ST a' b' d' := by subst h h' h''; rfl

include tab in
theorem cell8 (t : Fin grid0.N) (X : S512x512.Idx → Elt F .fp8e4m3) (hl : ∀ r q : Fin 512, X (ix2 r q) = CT (512 * tl s t + r.val) (512 * (t.val / 152) + q.val)) (y : S512x512.Idx) :
    X y = CT ((((cfgP pf hok).win 8).blk t).view.emb y (0 : Fin 2)).val ((((cfgP pf hok).win 8).blk t).view.emb y (1 : Fin 2)).val := by
  obtain ⟨i0, i1⟩ := index8 pf hok s tab t
  have i0' : ((cfgP pf hok).win 8).index t (0 : Fin 2) = tl s t := i0
  have i1' : ((cfgP pf hok).win 8).index t (1 : Fin 2) = t.val / 152 := i1
  rw [emb8 pf hok t y 0, emb8 pf hok t y 1, i0', i1']
  have e : y = ix2 (y 0 : Fin 512) (y 1 : Fin 512) := by
    funext a
    match a with
    | ⟨0, _⟩ => rfl
    | ⟨1, _⟩ => rfl
  refine (congrArg X e).trans ((hl _ _).trans (congrArg₂ CT ?_ ?_))
  · show _ = tl s t * 512 + 1 * (y 0).val
    omega
  · show _ = t.val / 152 * 512 + 1 * (y 1).val
    omega
include tab in
theorem cell9 (t : Fin grid0.N) (X : S1x512x4.Idx → Elt F .f32) (hl : ∀ (r : Fin 512) (q : Fin 4), X (ix3 (0 : Fin 1) r q) = ST (t.val / 152) (512 * tl s t + r.val) q.val) (y : S1x512x4.Idx) :
    X y = ST ((((cfgP pf hok).win 9).blk t).view.emb y (0 : Fin 3)).val ((((cfgP pf hok).win 9).blk t).view.emb y (1 : Fin 3)).val ((((cfgP pf hok).win 9).blk t).view.emb y (2 : Fin 3)).val := by
  obtain ⟨i0, i1, i2⟩ := index9 pf hok s tab t
  have i0' : ((cfgP pf hok).win 9).index t (0 : Fin 3) = t.val / 152 := i0
  have i1' : ((cfgP pf hok).win 9).index t (1 : Fin 3) = tl s t := i1
  have i2' : ((cfgP pf hok).win 9).index t (2 : Fin 3) = 0 := i2
  rw [emb9 pf hok t y 0, emb9 pf hok t y 1, emb9 pf hok t y 2, i0', i1', i2']
  have hy0 : (y 0).val < 1 := (y 0).isLt
  have e : y = ix3 (0 : Fin 1) (y 1 : Fin 512) (y 2 : Fin 4) := by
    funext a
    match a with
    | ⟨0, _⟩ => exact Fin.ext (by show (y 0).val = 0; omega)
    | ⟨1, _⟩ => rfl
    | ⟨2, _⟩ => rfl
  refine (congrArg X e).trans ((hl _ _).trans (ST_congr ST _ _ _ _ _ _ ?_ ?_ ?_))
  · show _ = t.val / 152 * 1 + 1 * (y 0).val
    omega
  · show _ = tl s t * 512 + 1 * (y 1).val
    omega
  · show _ = 0 * 4 + 1 * (y 2).val
    omega

include tab in
/-- The codes after a run. -/
theorem result8 [∀ e, Nonempty (Elt F e)] (R9 : Fin grid0.N → (S1x512x4.Idx → Elt F .f32) → (S1x512x4.Idx → Elt F .f32) → Prop)
    (r : PUnit × MemSt nD τ sig (Elt F)) (h : RDat.FramePost (cfgP pf hok) (rdat W pf hok I (R8v s CT) R9) W r) :
    r.2.mem ((c : Thread nD τ).loc main_v79_0) = (fun i : S73728x7168.Idx => CT (i 0).val (i 1).val) := by
  obtain ⟨after, hL, hA⟩ := RDat.FramePost.exists_exact h c
  refine (hA 8).trans (Pipeline.Dat.arrAt_eq_of_covers _ 8 _ (covers8 pf hok s tab) ?_ (Memref.isWhole_whole _))
  intro t hf
  have hh := flush8 pf hok s tab t hf
  have hl := leaves8 W pf hok s tab I CT c R9 t _ (hL 8 t hf)
  exact cell8 pf hok s tab CT t (after 8 t) (fun r q => hl r q (by rw [hh]; exact r.isLt))
include tab in
/-- The scales after a run. -/
theorem result9 [∀ e, Nonempty (Elt F e)] (R8 : Fin grid0.N → (S512x512.Idx → Elt F .fp8e4m3) → (S512x512.Idx → Elt F .fp8e4m3) → Prop)
    (r : PUnit × MemSt nD τ sig (Elt F)) (h : RDat.FramePost (cfgP pf hok) (rdat W pf hok I R8 (R9v s ST)) W r) :
    r.2.mem ((c : Thread nD τ).loc main_v79_1) = (fun i : S14x73728x4.Idx => ST (i 0).val (i 1).val (i 2).val) := by
  obtain ⟨after, hL, hA⟩ := RDat.FramePost.exists_exact h c
  refine (hA 9).trans (Pipeline.Dat.arrAt_eq_of_covers _ 9 _ (covers9 pf hok s tab) ?_ (Memref.isWhole_whole _))
  intro t hf
  have hh := flush9 pf hok s tab t hf
  have hl := leaves9 W pf hok s tab I ST c R8 t _ (hL 9 t hf)
  exact cell9 pf hok s tab ST t (after 9 t) (fun r q => hl r q (by rw [hh]; exact r.isLt))

end

end Cert.KernelIdeal.Hand
-- ==== Proof.PI.In.lean ====
module

public import proofs.«01_k».proof.Proof.PI.Cover

/-! What the input windows hold at a grid point. -/

@[expose] public section

set_option maxRecDepth 4096

noncomputable section

namespace Cert.KernelIdeal.Hand

open Idealize.ShloMosaic Idealize.ShloMosaic.TcCoe Idealize.SL.Sem
open Idealize.ShloMosaic.Pipeline (RDat)
open Cert.KernelIdeal Cert.KernelIdeal.Gen Cert.Hand

variable {F : FTy → Type} [FloatOps F]
variable (W : (c : Dev nD) → (b : Ref sig .tc) → Buf (Elt F) ((c : Thread nD τ).loc b)) (pf : pre0.Contents (Elt F)) (hok : ok0 (F := F) pf)
  (s : ℕ → ℕ) (tab : Tab pf s)
  (I : ℕ → (S3072x512.Idx → Elt F .bf16) → (S3072x512.Idx → Elt F .bf16) → Prop)
  (R8 : Fin grid0.N → (S512x512.Idx → Elt F .fp8e4m3) → (S512x512.Idx → Elt F .fp8e4m3) → Prop)
  (R9 : Fin grid0.N → (S1x512x4.Idx → Elt F .f32) → (S1x512x4.Idx → Elt F .f32) → Prop) (c : Dev nD)

/-- The expert of a grid point. -/
abbrev ex (t : Fin grid0.N) : ℕ := Plan.expert s (visP s (t.val % 152))

include tab in
theorem ex_lt (t : Fin grid0.N) : ex s t < 8 := (Plan.expert_spec s _ (visP_lt s tab.hs _)).1

include tab in
theorem ex_word (t : Fin grid0.N) : (BitVec.toNat (w := 32) (tE pf ((Rect.unit (s := S152) (k0_off1 (grid0.coords t)) S1.size (k0_off1_inb _)).emb (Shape.Idx.first (numel1_S1.symm ▸ Nat.one_pos))))) = ex s t := by
  have hb := ex_lt pf s tab t
  refine (congrArg (fun i => BitVec.toNat (w := 32) (tE pf i)) (idx_off (grid0.coords t) (k0_off1 (grid0.coords t)) (k0_off1_inb _) _ (vOf t) (off1 t))).trans ?_
  show BitVec.toNat (w := 32) (tE pf (ix1 (vOf t))) = _
  rw [tab.hE]
  show (BitVec.ofNat 32 _).toNat = _
  rw [BitVec.toNat_ofNat]
  exact Nat.mod_eq_of_lt (Nat.lt_trans hb (by omega))

theorem col_word (t : Fin grid0.N) : (BitVec.ofNat 32 (grid0.coords t 0).val + 0#32).toNat = t.val / 152 := by
  rw [coords_n, BitVec.toNat_add, BitVec.toNat_ofNat, BitVec.toNat_ofNat]
  have h : t.val < 2128 := t.isLt
  omega
theorem col_word' (t : Fin grid0.N) : (BitVec.ofNat 32 (grid0.coords t 0).val + 14#32).toNat = t.val / 152 + 14 := by
  rw [coords_n, BitVec.toNat_add, BitVec.toNat_ofNat, BitVec.toNat_ofNat]
  have h : t.val < 2128 := t.isLt
  omega

include tab in
theorem index0 (t : Fin grid0.N) : ((cfgP pf hok).win 0).index t (0 : Fin 2) = tl s t ∧ ((cfgP pf hok).win 0).index t (1 : Fin 2) = 0 := ⟨(index8 pf hok s tab t).1, rfl⟩
theorem emb0 (t : Fin grid0.N) (y : S512x3072.Idx) (a : Fin 2) : ((((cfgP pf hok).win 0).blk t).view.emb y a).val = ((cfgP pf hok).win 0).index t a * S512x3072.size a + 1 * (y a).val := rfl
variable [∀ e, Nonempty (Elt F e)] in
include tab in
theorem in0 (A : S73728x3072.Idx → Elt F .fp8e4m3) (hA : W c (Pipeline.arrRef spec0 0) = A) (t : Fin grid0.N) (Y : S512x3072.Idx → Elt F .fp8e4m3)
    (h : (rdat W pf hok I R8 R9 c).Finds 0 t Y) (y : S512x3072.Idx) (z : S73728x3072.Idx) (h0 : (z 0).val = 512 * tl s t + (y 0).val) (h1 : (z 1).val = (y 1).val) : Y y = A z := by
  obtain ⟨d, rfl⟩ := (rdat W pf hok I R8 R9 c).finds_in_eq_fetched 0 rfl (fun _ _ _ => rfl) (fun _ _ _ h => h) t Y h
  have hm : ((cfgP pf hok).win 0).moved ((cfgP pf hok).grid.coords t) y = true := (((cfgP pf hok).win 0).moved_iff _ y).mpr fun a => (y a).isLt
  unfold RDat.fetched Pipeline.Window.fill
  refine (dif_pos hm).trans ?_
  show W c (Pipeline.arrRef spec0 0) ((((cfgP pf hok).win 0).blk t).view.emb y) = A z
  rw [hA]
  obtain ⟨i0, i1⟩ := index0 pf hok s tab t
  refine congrArg A (funext fun a => Fin.ext ?_)
  refine (emb0 pf hok t y a).trans ?_
  match a with
  | ⟨0, _⟩ =>
    refine (congrArg (· * 512 + 1 * (y 0).val) i0).trans ?_
    show tl s t * 512 + 1 * (y 0).val = (z 0).val
    omega
  | ⟨1, _⟩ =>
    refine (congrArg (· * S512x3072.size 1 + 1 * (y 1).val) i1).trans ?_
    show 0 * _ + 1 * (y 1).val = (z 1).val
    omega

include tab in
theorem index1 (t : Fin grid0.N) : ((cfgP pf hok).win 1).index t (0 : Fin 2) = tl s t ∧ ((cfgP pf hok).win 1).index t (1 : Fin 2) = 0 := ⟨(index8 pf hok s tab t).1, rfl⟩
theorem emb1 (t : Fin grid0.N) (y : S512x24.Idx) (a : Fin 2) : ((((cfgP pf hok).win 1).blk t).view.emb y a).val = ((cfgP pf hok).win 1).index t a * S512x24.size a + 1 * (y a).val := rfl
variable [∀ e, Nonempty (Elt F e)] in
include tab in
theorem in1 (A : S73728x24.Idx → Elt F .f32) (hA : W c (Pipeline.arrRef spec0 1) = A) (t : Fin grid0.N) (Y : S512x24.Idx → Elt F .f32)
    (h : (rdat W pf hok I R8 R9 c).Finds 1 t Y) (y : S512x24.Idx) (z : S73728x24.Idx) (h0 : (z 0).val = 512 * tl s t + (y 0).val) (h1 : (z 1).val = (y 1).val) : Y y = A z := by
  obtain ⟨d, rfl⟩ := (rdat W pf hok I R8 R9 c).finds_in_eq_fetched 1 rfl (fun _ _ _ => rfl) (fun _ _ _ h => h) t Y h
  have hm : ((cfgP pf hok).win 1).moved ((cfgP pf hok).grid.coords t) y = true := (((cfgP pf hok).win 1).moved_iff _ y).mpr fun a => (y a).isLt
  unfold RDat.fetched Pipeline.Window.fill
  refine (dif_pos hm).trans ?_
  show W c (Pipeline.arrRef spec0 1) ((((cfgP pf hok).win 1).blk t).view.emb y) = A z
  rw [hA]
  obtain ⟨i0, i1⟩ := index1 pf hok s tab t
  refine congrArg A (funext fun a => Fin.ext ?_)
  refine (emb1 pf hok t y a).trans ?_
  match a with
  | ⟨0, _⟩ =>
    refine (congrArg (· * 512 + 1 * (y 0).val) i0).trans ?_
    show tl s t * 512 + 1 * (y 0).val = (z 0).val
    omega
  | ⟨1, _⟩ =>
    refine (congrArg (· * S512x24.size 1 + 1 * (y 1).val) i1).trans ?_
    show 0 * _ + 1 * (y 1).val = (z 1).val
    omega

include tab in
theorem index2 (t : Fin grid0.N) : ((cfgP pf hok).win 2).index t (0 : Fin 3) = ex s t ∧ ((cfgP pf hok).win 2).index t (1 : Fin 3) = 0 ∧ ((cfgP pf hok).win 2).index t (2 : Fin 3) = t.val / 152 := ⟨ex_word pf s tab t, rfl, col_word t⟩
theorem emb2 (t : Fin grid0.N) (y : S1x1536x512.Idx) (a : Fin 3) : ((((cfgP pf hok).win 2).blk t).view.emb y a).val = ((cfgP pf hok).win 2).index t a * S1x1536x512.size a + 1 * (y a).val := rfl
variable [∀ e, Nonempty (Elt F e)] in
include tab in
theorem in2 (A : S8x1536x14336.Idx → Elt F .i8) (hA : W c (Pipeline.arrRef spec0 2) = A) (t : Fin grid0.N) (Y : S1x1536x512.Idx → Elt F .i8)
    (h : (rdat W pf hok I R8 R9 c).Finds 2 t Y) (y : S1x1536x512.Idx) (z : S8x1536x14336.Idx) (h0 : (z 0).val = ex s t) (h1 : (z 1).val = (y 1).val) (h2 : (z 2).val = 512 * (t.val / 152) + (y 2).val) : Y y = A z := by
  obtain ⟨d, rfl⟩ := (rdat W pf hok I R8 R9 c).finds_in_eq_fetched 2 rfl (fun _ _ _ => rfl) (fun _ _ _ h => h) t Y h
  have hm : ((cfgP pf hok).win 2).moved ((cfgP pf hok).grid.coords t) y = true := (((cfgP pf hok).win 2).moved_iff _ y).mpr fun a => (y a).isLt
  unfold RDat.fetched Pipeline.Window.fill
  refine (dif_pos hm).trans ?_
  show W c (Pipeline.arrRef spec0 2) ((((cfgP pf hok).win 2).blk t).view.emb y) = A z
  rw [hA]
  obtain ⟨i0, i1, i2⟩ := index2 pf hok s tab t
  have hy0 : (y 0).val < 1 := (y 0).isLt
  refine congrArg A (funext fun a => Fin.ext ?_)
  refine (emb2 pf hok t y a).trans ?_
  match a with
  | ⟨0, _⟩ =>
    refine (congrArg (· * 1 + 1 * (y 0).val) i0).trans ?_
    show ex s t * 1 + 1 * (y 0).val = (z 0).val
    omega
  | ⟨1, _⟩ =>
    refine (congrArg (· * S1x1536x512.size 1 + 1 * (y 1).val) i1).trans ?_
    show 0 * _ + 1 * (y 1).val = (z 1).val
    omega
  | ⟨2, _⟩ =>
    refine (congrArg (· * 512 + 1 * (y 2).val) i2).trans ?_
    show t.val / 152 * 512 + 1 * (y 2).val = (z 2).val
    omega

include tab in
theorem index3 (t : Fin grid0.N) : ((cfgP pf hok).win 3).index t (0 : Fin 3) = ex s t ∧ ((cfgP pf hok).win 3).index t (1 : Fin 3) = 0 ∧ ((cfgP pf hok).win 3).index t (2 : Fin 3) = (t.val / 152 + 14) := ⟨ex_word pf s tab t, rfl, col_word' t⟩
theorem emb3 (t : Fin grid0.N) (y : S1x1536x512.Idx) (a : Fin 3) : ((((cfgP pf hok).win 3).blk t).view.emb y a).val = ((cfgP pf hok).win 3).index t a * S1x1536x512.size a + 1 * (y a).val := rfl
variable [∀ e, Nonempty (Elt F e)] in
include tab in
theorem in3 (A : S8x1536x14336.Idx → Elt F .i8) (hA : W c (Pipeline.arrRef spec0 3) = A) (t : Fin grid0.N) (Y : S1x1536x512.Idx → Elt F .i8)
    (h : (rdat W pf hok I R8 R9 c).Finds 3 t Y) (y : S1x1536x512.Idx) (z : S8x1536x14336.Idx) (h0 : (z 0).val = ex s t) (h1 : (z 1).val = (y 1).val) (h2 : (z 2).val = 512 * (t.val / 152 + 14) + (y 2).val) : Y y = A z := by
  obtain ⟨d, rfl⟩ := (rdat W pf hok I R8 R9 c).finds_in_eq_fetched 3 rfl (fun _ _ _ => rfl) (fun _ _ _ h => h) t Y h
  have hm : ((cfgP pf hok).win 3).moved ((cfgP pf hok).grid.coords t) y = true := (((cfgP pf hok).win 3).moved_iff _ y).mpr fun a => (y a).isLt
  unfold RDat.fetched Pipeline.Window.fill
  refine (dif_pos hm).trans ?_
  show W c (Pipeline.arrRef spec0 3) ((((cfgP pf hok).win 3).blk t).view.emb y) = A z
  rw [hA]
  obtain ⟨i0, i1, i2⟩ := index3 pf hok s tab t
  have hy0 : (y 0).val < 1 := (y 0).isLt
  refine congrArg A (funext fun a => Fin.ext ?_)
  refine (emb3 pf hok t y a).trans ?_
  match a with
  | ⟨0, _⟩ =>
    refine (congrArg (· * 1 + 1 * (y 0).val) i0).trans ?_
    show ex s t * 1 + 1 * (y 0).val = (z 0).val
    omega
  | ⟨1, _⟩ =>
    refine (congrArg (· * S1x1536x512.size 1 + 1 * (y 1).val) i1).trans ?_
    show 0 * _ + 1 * (y 1).val = (z 1).val
    omega
  | ⟨2, _⟩ =>
    refine (congrArg (· * 512 + 1 * (y 2).val) i2).trans ?_
    show (t.val / 152 + 14) * 512 + 1 * (y 2).val = (z 2).val
    omega

include tab in
theorem index4 (t : Fin grid0.N) : ((cfgP pf hok).win 4).index t (0 : Fin 3) = ex s t ∧ ((cfgP pf hok).win 4).index t (1 : Fin 3) = 0 ∧ ((cfgP pf hok).win 4).index t (2 : Fin 3) = t.val / 152 := ⟨ex_word pf s tab t, rfl, col_word t⟩
theorem emb4 (t : Fin grid0.N) (y : S1x96x512.Idx) (a : Fin 3) : ((((cfgP pf hok).win 4).blk t).view.emb y a).val = ((cfgP pf hok).win 4).index t a * S1x96x512.size a + 1 * (y a).val := rfl
variable [∀ e, Nonempty (Elt F e)] in
include tab in
theorem in4 (A : S8x96x14336.Idx → Elt F .i8) (hA : W c (Pipeline.arrRef spec0 4) = A) (t : Fin grid0.N) (Y : S1x96x512.Idx → Elt F .i8)
    (h : (rdat W pf hok I R8 R9 c).Finds 4 t Y) (y : S1x96x512.Idx) (z : S8x96x14336.Idx) (h0 : (z 0).val = ex s t) (h1 : (z 1).val = (y 1).val) (h2 : (z 2).val = 512 * (t.val / 152) + (y 2).val) : Y y = A z := by
  obtain ⟨d, rfl⟩ := (rdat W pf hok I R8 R9 c).finds_in_eq_fetched 4 rfl (fun _ _ _ => rfl) (fun _ _ _ h => h) t Y h
  have hm : ((cfgP pf hok).win 4).moved ((cfgP pf hok).grid.coords t) y = true := (((cfgP pf hok).win 4).moved_iff _ y).mpr fun a => (y a).isLt
  unfold RDat.fetched Pipeline.Window.fill
  refine (dif_pos hm).trans ?_
  show W c (Pipeline.arrRef spec0 4) ((((cfgP pf hok).win 4).blk t).view.emb y) = A z
  rw [hA]
  obtain ⟨i0, i1, i2⟩ := index4 pf hok s tab t
  have hy0 : (y 0).val < 1 := (y 0).isLt
  refine congrArg A (funext fun a => Fin.ext ?_)
  refine (emb4 pf hok t y a).trans ?_
  match a with
  | ⟨0, _⟩ =>
    refine (congrArg (· * 1 + 1 * (y 0).val) i0).trans ?_
    show ex s t * 1 + 1 * (y 0).val = (z 0).val
    omega
  | ⟨1, _⟩ =>
    refine (congrArg (· * S1x96x512.size 1 + 1 * (y 1).val) i1).trans ?_
    show 0 * _ + 1 * (y 1).val = (z 1).val
    omega
  | ⟨2, _⟩ =>
    refine (congrArg (· * 512 + 1 * (y 2).val) i2).trans ?_
    show t.val / 152 * 512 + 1 * (y 2).val = (z 2).val
    omega

include tab in
theorem index5 (t : Fin grid0.N) : ((cfgP pf hok).win 5).index t (0 : Fin 3) = ex s t ∧ ((cfgP pf hok).win 5).index t (1 : Fin 3) = 0 ∧ ((cfgP pf hok).win 5).index t (2 : Fin 3) = (t.val / 152 + 14) := ⟨ex_word pf s tab t, rfl, col_word' t⟩
theorem emb5 (t : Fin grid0.N) (y : S1x96x512.Idx) (a : Fin 3) : ((((cfgP pf hok).win 5).blk t).view.emb y a).val = ((cfgP pf hok).win 5).index t a * S1x96x512.size a + 1 * (y a).val := rfl
variable [∀ e, Nonempty (Elt F e)] in
include tab in
theorem in5 (A : S8x96x14336.Idx → Elt F .i8) (hA : W c (Pipeline.arrRef spec0 5) = A) (t : Fin grid0.N) (Y : S1x96x512.Idx → Elt F .i8)
    (h : (rdat W pf hok I R8 R9 c).Finds 5 t Y) (y : S1x96x512.Idx) (z : S8x96x14336.Idx) (h0 : (z 0).val = ex s t) (h1 : (z 1).val = (y 1).val) (h2 : (z 2).val = 512 * (t.val / 152 + 14) + (y 2).val) : Y y = A z := by
  obtain ⟨d, rfl⟩ := (rdat W pf hok I R8 R9 c).finds_in_eq_fetched 5 rfl (fun _ _ _ => rfl) (fun _ _ _ h => h) t Y h
  have hm : ((cfgP pf hok).win 5).moved ((cfgP pf hok).grid.coords t) y = true := (((cfgP pf hok).win 5).moved_iff _ y).mpr fun a => (y a).isLt
  unfold RDat.fetched Pipeline.Window.fill
  refine (dif_pos hm).trans ?_
  show W c (Pipeline.arrRef spec0 5) ((((cfgP pf hok).win 5).blk t).view.emb y) = A z
  rw [hA]
  obtain ⟨i0, i1, i2⟩ := index5 pf hok s tab t
  have hy0 : (y 0).val < 1 := (y 0).isLt
  refine congrArg A (funext fun a => Fin.ext ?_)
  refine (emb5 pf hok t y a).trans ?_
  match a with
  | ⟨0, _⟩ =>
    refine (congrArg (· * 1 + 1 * (y 0).val) i0).trans ?_
    show ex s t * 1 + 1 * (y 0).val = (z 0).val
    omega
  | ⟨1, _⟩ =>
    refine (congrArg (· * S1x96x512.size 1 + 1 * (y 1).val) i1).trans ?_
    show 0 * _ + 1 * (y 1).val = (z 1).val
    omega
  | ⟨2, _⟩ =>
    refine (congrArg (· * 512 + 1 * (y 2).val) i2).trans ?_
    show (t.val / 152 + 14) * 512 + 1 * (y 2).val = (z 2).val
    omega

include tab in
theorem index6 (t : Fin grid0.N) : ((cfgP pf hok).win 6).index t (0 : Fin 3) = ex s t ∧ ((cfgP pf hok).win 6).index t (1 : Fin 3) = 0 ∧ ((cfgP pf hok).win 6).index t (2 : Fin 3) = t.val / 152 := ⟨ex_word pf s tab t, rfl, col_word t⟩
theorem emb6 (t : Fin grid0.N) (y : S1x1x512.Idx) (a : Fin 3) : ((((cfgP pf hok).win 6).blk t).view.emb y a).val = ((cfgP pf hok).win 6).index t a * S1x1x512.size a + 1 * (y a).val := rfl
variable [∀ e, Nonempty (Elt F e)] in
include tab in
theorem in6 (A : S8x1x14336.Idx → Elt F .f32) (hA : W c (Pipeline.arrRef spec0 6) = A) (t : Fin grid0.N) (Y : S1x1x512.Idx → Elt F .f32)
    (h : (rdat W pf hok I R8 R9 c).Finds 6 t Y) (y : S1x1x512.Idx) (z : S8x1x14336.Idx) (h0 : (z 0).val = ex s t) (h1 : (z 1).val = (y 1).val) (h2 : (z 2).val = 512 * (t.val / 152) + (y 2).val) : Y y = A z := by
  obtain ⟨d, rfl⟩ := (rdat W pf hok I R8 R9 c).finds_in_eq_fetched 6 rfl (fun _ _ _ => rfl) (fun _ _ _ h => h) t Y h
  have hm : ((cfgP pf hok).win 6).moved ((cfgP pf hok).grid.coords t) y = true := (((cfgP pf hok).win 6).moved_iff _ y).mpr fun a => (y a).isLt
  unfold RDat.fetched Pipeline.Window.fill
  refine (dif_pos hm).trans ?_
  show W c (Pipeline.arrRef spec0 6) ((((cfgP pf hok).win 6).blk t).view.emb y) = A z
  rw [hA]
  obtain ⟨i0, i1, i2⟩ := index6 pf hok s tab t
  have hy0 : (y 0).val < 1 := (y 0).isLt
  refine congrArg A (funext fun a => Fin.ext ?_)
  refine (emb6 pf hok t y a).trans ?_
  match a with
  | ⟨0, _⟩ =>
    refine (congrArg (· * 1 + 1 * (y 0).val) i0).trans ?_
    show ex s t * 1 + 1 * (y 0).val = (z 0).val
    omega
  | ⟨1, _⟩ =>
    refine (congrArg (· * S1x1x512.size 1 + 1 * (y 1).val) i1).trans ?_
    show 0 * _ + 1 * (y 1).val = (z 1).val
    omega
  | ⟨2, _⟩ =>
    refine (congrArg (· * 512 + 1 * (y 2).val) i2).trans ?_
    show t.val / 152 * 512 + 1 * (y 2).val = (z 2).val
    omega

include tab in
theorem index7 (t : Fin grid0.N) : ((cfgP pf hok).win 7).index t (0 : Fin 3) = ex s t ∧ ((cfgP pf hok).win 7).index t (1 : Fin 3) = 0 ∧ ((cfgP pf hok).win 7).index t (2 : Fin 3) = (t.val / 152 + 14) := ⟨ex_word pf s tab t, rfl, col_word' t⟩
theorem emb7 (t : Fin grid0.N) (y : S1x1x512.Idx) (a : Fin 3) : ((((cfgP pf hok).win 7).blk t).view.emb y a).val = ((cfgP pf hok).win 7).index t a * S1x1x512.size a + 1 * (y a).val := rfl
variable [∀ e, Nonempty (Elt F e)] in
include tab in
theorem in7 (A : S8x1x14336.Idx → Elt F .f32) (hA : W c (Pipeline.arrRef spec0 7) = A) (t : Fin grid0.N) (Y : S1x1x512.Idx → Elt F .f32)
    (h : (rdat W pf hok I R8 R9 c).Finds 7 t Y) (y : S1x1x512.Idx) (z : S8x1x14336.Idx) (h0 : (z 0).val = ex s t) (h1 : (z 1).val = (y 1).val) (h2 : (z 2).val = 512 * (t.val / 152 + 14) + (y 2).val) : Y y = A z := by
  obtain ⟨d, rfl⟩ := (rdat W pf hok I R8 R9 c).finds_in_eq_fetched 7 rfl (fun _ _ _ => rfl) (fun _ _ _ h => h) t Y h
  have hm : ((cfgP pf hok).win 7).moved ((cfgP pf hok).grid.coords t) y = true := (((cfgP pf hok).win 7).moved_iff _ y).mpr fun a => (y a).isLt
  unfold RDat.fetched Pipeline.Window.fill
  refine (dif_pos hm).trans ?_
  show W c (Pipeline.arrRef spec0 7) ((((cfgP pf hok).win 7).blk t).view.emb y) = A z
  rw [hA]
  obtain ⟨i0, i1, i2⟩ := index7 pf hok s tab t
  have hy0 : (y 0).val < 1 := (y 0).isLt
  refine congrArg A (funext fun a => Fin.ext ?_)
  refine (emb7 pf hok t y a).trans ?_
  match a with
  | ⟨0, _⟩ =>
    refine (congrArg (· * 1 + 1 * (y 0).val) i0).trans ?_
    show ex s t * 1 + 1 * (y 0).val = (z 0).val
    omega
  | ⟨1, _⟩ =>
    refine (congrArg (· * S1x1x512.size 1 + 1 * (y 1).val) i1).trans ?_
    show 0 * _ + 1 * (y 1).val = (z 1).val
    omega
  | ⟨2, _⟩ =>
    refine (congrArg (· * 512 + 1 * (y 2).val) i2).trans ?_
    show (t.val / 152 + 14) * 512 + 1 * (y 2).val = (z 2).val
    omega

end Cert.KernelIdeal.Hand
-- ==== Proof.Goal.lean ====
module

public import Idealize.ShloMosaic.PureOps.Ideal
public import Idealize.ShloMosaic.Lib.Pointwise

@[expose] public section

/-!
# The layer's values, in real numbers

The function both programs compute, stated on the arguments' elements: the decoded weights, the
projection of one row on one column, the activation, and the quantiser of a group of 128.
-/

noncomputable section
namespace Cert.Goal
open Idealize.ShloMosaic

/-- One four-bit code out of its byte: the low half for an even row, the high half for an odd one. -/
def nib (w : BitVec 8) (k : ℕ) : BitVec 32 :=
  if _h : k % 2 < 1 then IntOp.andi (BitVec.setWidth 32 w) 15#32 else IntOp.shrsi ArithUnit.vector (BitVec.setWidth 32 w) 4#32

def bit (n b : BitVec 32) : BitVec 1 := IntOp.cmpi .ne (IntOp.andi n b) 0#32

/-- The magnitude a code's three low bits name. -/
def mag (n : BitVec 32) : EReal :=
  Scalar.select (bit n 4#32)
    (Scalar.select (bit n 2#32)
      (Scalar.select (bit n 1#32) (Ideal.ofBits .f32 0x40C00000#32) (Ideal.ofBits .f32 0x40800000#32))
      (Scalar.select (bit n 1#32) (Ideal.ofBits .f32 0x40400000#32) (Ideal.ofBits .f32 0x40000000#32)))
    (Scalar.select (bit n 2#32)
      (Scalar.select (bit n 1#32) (Ideal.ofBits .f32 0x3FC00000#32) 1)
      (Scalar.select (bit n 1#32) (Ideal.ofBits .f32 0x3F000000#32) 0))

/-- The value of a code. -/
def dec (n : BitVec 32) : EReal := Scalar.select (bit n 8#32) (0 - mag n) (mag n)

/-- The value of a scale byte. -/
def sc (s : BitVec 8) : EReal :=
  FloatOps.exp2 (F := Ideal) (φ := .f32) (FloatOps.sitofp .f32 (IntOp.subi (BitVec.setWidth 32 s) 127#32))

/-- One row against one column. -/
def lin (x : Fin 3072 → EReal) (w : Fin 1536 → BitVec 8) (s : Fin 96 → BitVec 8) (b : EReal) : EReal :=
  (∑ k : Fin 3072, x k * (dec (nib (w ⟨k.val / 2, by omega⟩) k.val) * sc (s ⟨k.val / 32, by omega⟩))) + b

def seven : EReal := Ideal.ofBits .f32 0x40E00000#32

/-- The clamped activation of a gate and an up value. -/
def act (g u : EReal) : EReal :=
  (min seven (max (Ideal.ofBits .f32 0xC0E00000#32) u) + 1) * min g seven * Ideal.logistic (Ideal.ofBits .f32 0x3FD9DB23#32 * min g seven)

/-- The quantity a group's scale is chosen from. -/
def amax (h : Fin 128 → EReal) : EReal :=
  Finset.fold max (Ideal.ofBits .f32 0xFF800000#32) (fun x => (FloatOps.absf (F := Ideal) (φ := .f32) (h x) : EReal)) Finset.univ * Ideal.ofBits .f32 0x3B124925#32

/-- The powers of two a scale is chosen from. -/
def pw (i : ℕ) : EReal := FloatOps.exp2 (F := Ideal) (φ := .f32) (FloatOps.sitofp .f32 (IntOp.subi (BitVec.ofNat 32 i) 126#32))

/-- A group's scale: one for a zero group, otherwise the least power of two above `a`. -/
def scale (a : EReal) : EReal :=
  if a = 0 then 1 else Finset.fold min (Ideal.ofBits .f32 0x7F800000#32) (fun i : Fin 254 => if a < pw i.val then pw i.val else Ideal.ofBits .f32 0x7F800000#32) Finset.univ

/-- A value's code at a scale. -/
def code (h s : EReal) : EReal :=
  min (Ideal.ofBits .f32 0x43E00000#32) (max (Ideal.ofBits .f32 0xC3E00000#32) (h * Ideal.div 1 s))

end Cert.Goal
-- ==== Proof.MathA.lean ====
module

public import proofs.«01_k».proof.Proof.Goal
public import Idealize.ShloMosaic.Lib.IdealHost

@[expose] public section

/-! # The decoded weights and the powers of two -/

noncomputable section
namespace Cert.Goal
open Idealize.ShloMosaic

theorem emax (a b : ℝ) : ((max a b : ℝ) : EReal) = max (a : EReal) (b : EReal) := EReal.coe_strictMono.monotone.map_max
theorem emin (a b : ℝ) : ((min a b : ℝ) : EReal) = min (a : EReal) (b : EReal) := EReal.coe_strictMono.monotone.map_min

theorem c_half : Ideal.ofBits .f32 0x3F000000#32 = ((1 / 2 : ℝ) : EReal) := by
  simp [Ideal.ofBits, Ideal.ieee, -EReal.coe_mul]; norm_num
theorem c_onehalf : Ideal.ofBits .f32 0x3FC00000#32 = ((3 / 2 : ℝ) : EReal) := by
  simp [Ideal.ofBits, Ideal.ieee, -EReal.coe_mul]; norm_num
theorem c_one : Ideal.ofBits .f32 0x3F800000#32 = ((1 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_three : Ideal.ofBits .f32 0x40400000#32 = ((3 : ℝ) : EReal) := by
  simp [Ideal.ofBits, Ideal.ieee, -EReal.coe_mul]; norm_num
theorem c_four : Ideal.ofBits .f32 0x40800000#32 = ((4 : ℝ) : EReal) := by
  simp [Ideal.ofBits, Ideal.ieee, -EReal.coe_mul]; norm_num
theorem c_six : Ideal.ofBits .f32 0x40C00000#32 = ((6 : ℝ) : EReal) := by
  simp [Ideal.ofBits, Ideal.ieee, -EReal.coe_mul]; norm_num
theorem c_eight : Ideal.ofBits .f32 0x41000000#32 = ((8 : ℝ) : EReal) := by
  simp [Ideal.ofBits, Ideal.ieee, -EReal.coe_mul]; norm_num
theorem c_top : Ideal.ofBits .f32 0x7F800000#32 = ⊤ := by
  simp [Ideal.ofBits, Ideal.ieee]

/-- The kernel's magnitude: the largest of three lines through the code. -/
def kmag (n : BitVec 32) : EReal :=
  max (Ideal.ofBits .f32 0x3F000000#32 * (FloatOps.sitofp (F := Ideal) .f32 (IntOp.andi n 7#32) : EReal))
    (max ((FloatOps.sitofp (F := Ideal) .f32 (IntOp.andi n 7#32) : EReal) - Ideal.ofBits .f32 0x40000000#32)
      (Ideal.ofBits .f32 0x40000000#32 * (FloatOps.sitofp (F := Ideal) .f32 (IntOp.andi n 7#32) : EReal) - Ideal.ofBits .f32 0x41000000#32))

def kdec (n : BitVec 32) : EReal := Scalar.select (IntOp.cmpi .sge n 8#32) (0 - kmag n) (kmag n)

theorem nib_lt (w : BitVec 8) (k : ℕ) : (nib w k).toNat < 16 := by
  unfold nib
  have hw := w.isLt
  split
  · show (BitVec.setWidth 32 w &&& 15#32).toNat < 16
    rw [BitVec.toNat_and]
    exact lt_of_le_of_lt Nat.and_le_right (by decide)
  · have e : IntOp.shrsi ArithUnit.vector (BitVec.setWidth 32 w) 4#32 = (BitVec.setWidth 32 w).sshiftRight 4 := rfl
    rw [e, BitVec.sshiftRight_eq_of_msb_false, BitVec.toNat_ushiftRight, BitVec.toNat_setWidth, Nat.shiftRight_eq_div_pow]
    · rw [Nat.mod_eq_of_lt (by omega)]
      omega
    · rw [BitVec.msb_eq_false_iff_two_mul_lt, BitVec.toNat_setWidth, Nat.mod_eq_of_lt (by omega)]
      omega

theorem kmag_of (n : BitVec 32) (i : ℤ) (h : (IntOp.andi n 7#32).toInt = i) :
    kmag n = ((max (1 / 2 * (i : ℝ)) (max ((i : ℝ) - 2) (2 * (i : ℝ) - 8)) : ℝ) : EReal) := by
  unfold kmag
  rw [show (FloatOps.sitofp (F := Ideal) .f32 (IntOp.andi n 7#32) : EReal) = (((IntOp.andi n 7#32).toInt : ℝ) : EReal) from rfl, h, c_half, c_two, c_eight]
  rw [← EReal.coe_mul, ← EReal.coe_sub, ← EReal.coe_mul, ← EReal.coe_sub, emax, emax]

theorem mag_of (n : BitVec 32) (b4 b2 b1 : Bool) (h4 : bit n 4#32 = BitVec.ofBool b4) (h2 : bit n 2#32 = BitVec.ofBool b2) (h1 : bit n 1#32 = BitVec.ofBool b1) :
    mag n = ((if b4 then (if b2 then (if b1 then 6 else 4) else (if b1 then 3 else 2)) else (if b2 then (if b1 then 3 / 2 else 1) else (if b1 then 1 / 2 else 0)) : ℝ) : EReal) := by
  unfold mag
  rw [h4, h2, h1, c_six, c_four, c_three, c_two, c_onehalf, c_half]
  cases b4 <;> cases b2 <;> cases b1 <;> simp [Scalar.select]

theorem kmag_eq (n : BitVec 32) (h : n.toNat < 16) : kmag n = mag n := by
  obtain ⟨i, hi, rfl⟩ : ∃ i : ℕ, i < 16 ∧ n = BitVec.ofNat 32 i := ⟨n.toNat, h, by simp⟩
  clear h
  interval_cases i
  · rw [kmag_of _ 0 (by decide), mag_of _ false false false (by decide) (by decide) (by decide)]; norm_num
  · rw [kmag_of _ 1 (by decide), mag_of _ false false true (by decide) (by decide) (by decide)]; norm_num
  · rw [kmag_of _ 2 (by decide), mag_of _ false true false (by decide) (by decide) (by decide)]; norm_num
  · rw [kmag_of _ 3 (by decide), mag_of _ false true true (by decide) (by decide) (by decide)]; norm_num
  · rw [kmag_of _ 4 (by decide), mag_of _ true false false (by decide) (by decide) (by decide)]; norm_num
  · rw [kmag_of _ 5 (by decide), mag_of _ true false true (by decide) (by decide) (by decide)]; norm_num
  · rw [kmag_of _ 6 (by decide), mag_of _ true true false (by decide) (by decide) (by decide)]; norm_num
  · rw [kmag_of _ 7 (by decide), mag_of _ true true true (by decide) (by decide) (by decide)]; norm_num
  · rw [kmag_of _ 0 (by decide), mag_of _ false false false (by decide) (by decide) (by decide)]; norm_num
  · rw [kmag_of _ 1 (by decide), mag_of _ false false true (by decide) (by decide) (by decide)]; norm_num
  · rw [kmag_of _ 2 (by decide), mag_of _ false true false (by decide) (by decide) (by decide)]; norm_num
  · rw [kmag_of _ 3 (by decide), mag_of _ false true true (by decide) (by decide) (by decide)]; norm_num
  · rw [kmag_of _ 4 (by decide), mag_of _ true false false (by decide) (by decide) (by decide)]; norm_num
  · rw [kmag_of _ 5 (by decide), mag_of _ true false true (by decide) (by decide) (by decide)]; norm_num
  · rw [kmag_of _ 6 (by decide), mag_of _ true true false (by decide) (by decide) (by decide)]; norm_num
  · rw [kmag_of _ 7 (by decide), mag_of _ true true true (by decide) (by decide) (by decide)]; norm_num

theorem sign_eq (n : BitVec 32) (h : n.toNat < 16) : IntOp.cmpi .sge n 8#32 = bit n 8#32 := by
  obtain ⟨i, hi, rfl⟩ : ∃ i : ℕ, i < 16 ∧ n = BitVec.ofNat 32 i := ⟨n.toNat, h, by simp⟩
  clear h
  interval_cases i <;> decide

/-- The kernel's decoding of a code is the format's. -/
theorem kdec_eq (w : BitVec 8) (k : ℕ) : kdec (nib w k) = dec (nib w k) := by
  unfold kdec dec
  rw [kmag_eq _ (nib_lt w k), sign_eq _ (nib_lt w k)]

/-- A word whose exponent field is `i` and whose other fields are zero. -/
theorem ofBits_pow (b : BitVec 32) (i : ℕ) (h : b.toNat = i * 8388608) (h0 : 1 ≤ i) (h1 : i < 255) :
    Ideal.ofBits .f32 b = (((2 : ℝ) ^ ((i : ℤ) - 127) : ℝ) : EReal) := by
  have e31 : b.extractLsb' 31 1 = 0#1 := by
    apply BitVec.eq_of_toNat_eq
    rw [BitVec.extractLsb'_toNat, h, Nat.shiftRight_eq_div_pow]
    show _ = 0
    omega
  have e23 : (b.extractLsb' 23 8).toNat = i := by
    rw [BitVec.extractLsb'_toNat, h, Nat.shiftRight_eq_div_pow]
    omega
  have e0 : (b.extractLsb' 0 23).toNat = 0 := by
    rw [BitVec.extractLsb'_toNat, h, Nat.shiftRight_eq_div_pow]
    omega
  show Ideal.ieee 8 23 b = _
  unfold Ideal.ieee
  simp only [e23, e0, Nat.reduceAdd, e31]
  rw [if_neg (by norm_num; omega), if_neg (by omega)]
  congr 1
  simp only [show ((0#1 : BitVec 1) == 1#1) = false from rfl]
  norm_num
  rw [show ((8388608 : ℝ)) = (2 : ℝ) ^ (23 : ℤ) by norm_num, ← zpow_add₀ (by norm_num)]
  congr 1
  ring

theorem shl_toNat (b : BitVec 32) (h : b.toNat < 256) : (IntOp.shli ArithUnit.vector b 23#32).toNat = b.toNat * 8388608 := by
  have e : IntOp.shli ArithUnit.vector b 23#32 = b <<< 23 := rfl
  rw [e, BitVec.toNat_shiftLeft, Nat.shiftLeft_eq, Nat.mod_eq_of_lt (by omega)]

theorem shl_pow (b : BitVec 32) (h0 : 1 ≤ b.toNat) (h : b.toNat < 255) :
    Ideal.ofBits .f32 (IntOp.shli ArithUnit.vector b 23#32) = (((2 : ℝ) ^ ((b.toNat : ℤ) - 127) : ℝ) : EReal) :=
  ofBits_pow _ _ (shl_toNat b (by omega)) h0 h

theorem shl_zero : Ideal.ofBits .f32 (IntOp.shli ArithUnit.vector 0#32 23#32) = 0 := Ideal.ofBits_zero_f32

theorem sub_toInt : ∀ j : Fin 256, ∀ d : Fin 2, (IntOp.subi (BitVec.ofNat 32 j.val) (BitVec.ofNat 32 (126 + d.val))).toInt = (j.val : ℤ) - 126 - d.val := by
  decide +kernel

theorem exp2_int (b : BitVec 32) (n : ℤ) (h : b.toInt = n) :
    (FloatOps.exp2 (F := Ideal) (φ := .f32) (FloatOps.sitofp .f32 b) : EReal) = (((2 : ℝ) ^ n : ℝ) : EReal) := by
  show Ideal.exp2 (((b.toInt : ℝ)) : EReal) = _
  rw [h]
  show ((Real.rpow 2 (n : ℝ) : ℝ) : EReal) = _
  congr 1
  exact Real.rpow_intCast 2 n

theorem pw_eq (i : ℕ) (h : i < 256) : pw i = (((2 : ℝ) ^ ((i : ℤ) - 126) : ℝ) : EReal) :=
  exp2_int _ _ (by simpa using sub_toInt ⟨i, h⟩ 0)

theorem sc_eq (s : BitVec 8) : sc s = (((2 : ℝ) ^ ((s.toNat : ℤ) - 127) : ℝ) : EReal) := by
  refine exp2_int _ _ ?_
  have e : BitVec.setWidth 32 s = BitVec.ofNat 32 s.toNat := by
    apply BitVec.eq_of_toNat_eq
    simp
  rw [e]
  have h := sub_toInt ⟨s.toNat, s.isLt⟩ 1
  rw [show (BitVec.ofNat 32 (126 + (1 : Fin 2).val)) = 127#32 from rfl] at h
  rw [h]
  simp
  omega

/-- The kernel's scale of a block is the byte's, for a normal byte. -/
theorem ksc_eq (s : BitVec 8) (h0 : 1 ≤ s.toNat) (h1 : s.toNat ≤ 254) :
    Ideal.ofBits .f32 (IntOp.shli ArithUnit.vector (BitVec.setWidth 32 s) 23#32) = sc s := by
  have hs := s.isLt
  have e : (BitVec.setWidth 32 s).toNat = s.toNat := by
    rw [BitVec.toNat_setWidth, Nat.mod_eq_of_lt (by omega)]
  rw [shl_pow _ (by omega) (by omega), sc_eq, e]

/-- The kernel's count of the powers of two at most `a`. -/
def kcount (a : EReal) : BitVec 32 :=
  Finset.fold IntOp.addi 0#32 (fun x : Fin 256 => BitVec.setWidth 32 (BitVec.ofBool (decide (Ideal.ofBits .f32 (IntOp.shli ArithUnit.vector (BitVec.ofNat 32 x.val) 23#32) ≤ a)))) Finset.univ

/-- The kernel's exponent. -/
def kexp (a : EReal) : BitVec 32 := if a = 0 then 127#32 else IntOp.addi (IntOp.subi (kcount a) 1#32) 1#32

theorem fold_count {α : Type} [DecidableEq α] (p : α → Prop) [DecidablePred p] (s : Finset α) :
    Finset.fold IntOp.addi 0#32 (fun x => BitVec.setWidth 32 (BitVec.ofBool (decide (p x)))) s = BitVec.ofNat 32 (s.filter p).card := by
  induction s using Finset.induction_on with
  | empty => rfl
  | insert a s ha ih =>
    rw [Finset.fold_insert ha, ih, Finset.filter_insert]
    by_cases hp : p a
    · rw [if_pos hp, Finset.card_insert_of_notMem (by simp [ha]), decide_eq_true hp]
      show 1#32 + _ = _
      rw [Nat.add_comm, BitVec.ofNat_add]
    · rw [if_neg hp, decide_eq_false hp]
      show 0#32 + _ = _
      simp

theorem card_below (E : ℕ) (h : E ≤ 256) : (Finset.univ.filter (fun x : Fin 256 => x.val < E)).card = E := by
  refine (Finset.card_bij (t := Finset.range E) (fun x _ => x.val) (fun x hx => ?_) (fun x _ y _ e => Fin.ext e) fun b hb => ?_).trans (Finset.card_range E)
  · exact Finset.mem_range.2 (Finset.mem_filter.1 hx).2
  · have := Finset.mem_range.1 hb
    exact ⟨⟨b, by omega⟩, Finset.mem_filter.2 ⟨Finset.mem_univ _, this⟩, rfl⟩

/-- The kernel's powers of two. -/
theorem kpw (x : ℕ) (h : x < 256) : ∀ a : EReal, 0 ≤ a → a ≤ 1 → ∀ E : ℕ, 1 ≤ E → E ≤ 128 →
    (∀ i : ℕ, 1 ≤ i → i < 255 → (a < (((2 : ℝ) ^ ((i : ℤ) - 127) : ℝ) : EReal) ↔ E ≤ i)) →
    (Ideal.ofBits .f32 (IntOp.shli ArithUnit.vector (BitVec.ofNat 32 x) 23#32) ≤ a ↔ x < E) := by
  intro a a0 a1 E hE hE' hm
  have ex : (BitVec.ofNat 32 x).toNat = x := by
    rw [BitVec.toNat_ofNat, Nat.mod_eq_of_lt (by omega)]
  rcases Nat.eq_zero_or_pos x with rfl | hx
  · rw [show BitVec.ofNat 32 0 = 0#32 from rfl, shl_zero]
    exact ⟨fun _ => hE, fun _ => a0⟩
  · rcases Nat.lt_or_ge x 255 with hx' | hx'
    · rw [shl_pow _ (by omega) (by omega), ex, ← not_lt, hm x hx hx', not_le]
    · obtain rfl : x = 255 := by omega
      have : Ideal.ofBits .f32 (IntOp.shli ArithUnit.vector (BitVec.ofNat 32 255) 23#32) = ⊤ := c_top
      rw [this]
      constructor
      · intro h
        have := lt_of_le_of_lt (le_trans h a1) (EReal.coe_lt_top 1)
        exact absurd this (lt_irrefl _)
      · intro h
        omega

/-- The least power of two above `a`. -/
theorem exists_exp (a : EReal) (a1 : a ≤ 1) : ∃ E : ℕ, 1 ≤ E ∧ E ≤ 128 ∧
    ∀ i : ℕ, 1 ≤ i → i < 255 → (a < (((2 : ℝ) ^ ((i : ℤ) - 127) : ℝ) : EReal) ↔ E ≤ i) := by
  classical
  have h128 : a < (((2 : ℝ) ^ (((128 : ℕ) : ℤ) - 127) : ℝ) : EReal) := by
    refine lt_of_le_of_lt a1 ?_
    rw [← EReal.coe_one, EReal.coe_lt_coe_iff]
    norm_num
  have hex : ∃ i : ℕ, 1 ≤ i ∧ a < (((2 : ℝ) ^ ((i : ℤ) - 127) : ℝ) : EReal) := ⟨128, by omega, h128⟩
  refine ⟨Nat.find hex, (Nat.find_spec hex).1, Nat.find_min' hex ⟨by omega, h128⟩, fun i hi _ => ⟨fun h => Nat.find_min' hex ⟨hi, h⟩, fun h => ?_⟩⟩
  refine lt_of_lt_of_le (Nat.find_spec hex).2 ?_
  rw [EReal.coe_le_coe_iff]
  exact zpow_le_zpow_right₀ (by norm_num) (by omega)

theorem scale_eq (a : EReal) (a0 : a ≠ 0) (E : ℕ) (hE : 1 ≤ E) (hE' : E ≤ 128)
    (hm : ∀ i : ℕ, 1 ≤ i → i < 255 → (a < (((2 : ℝ) ^ ((i : ℤ) - 127) : ℝ) : EReal) ↔ E ≤ i)) :
    scale a = (((2 : ℝ) ^ ((E : ℤ) - 127) : ℝ) : EReal) := by
  have hp : ∀ i : Fin 254, pw i.val = (((2 : ℝ) ^ (((i.val + 1 : ℕ) : ℤ) - 127) : ℝ) : EReal) := fun i => by
    rw [pw_eq _ (by omega)]
    congr 2
    push_cast
    ring
  unfold scale
  rw [if_neg a0, c_top]
  apply le_antisymm
  · rw [Finset.fold_min_le]
    refine .inr ⟨⟨E - 1, by omega⟩, Finset.mem_univ _, ?_⟩
    have h := hp ⟨E - 1, by omega⟩
    rw [if_pos, h]
    · rw [show E - 1 + 1 = E by omega]
    · rw [h]
      exact (hm _ (by omega) (by simp; omega)).2 (by simp; omega)
  · rw [Finset.le_fold_min]
    refine ⟨le_top, fun i _ => ?_⟩
    split
    · rename_i h
      rw [hp i] at h ⊢
      have := (hm _ (by omega) (by omega)).1 h
      rw [EReal.coe_le_coe_iff]
      exact zpow_le_zpow_right₀ (by norm_num) (by push_cast; omega)
    · exact le_top

theorem div_pow (n : ℤ) : Ideal.div 1 (((2 : ℝ) ^ n : ℝ) : EReal) = (((2 : ℝ) ^ (-n) : ℝ) : EReal) := by
  rw [Ideal.div_coe (by positivity), one_mul, one_div, zpow_neg]

/-- The kernel's scale and its inverse are the quantiser's. -/
theorem kscale_eq (a : EReal) (a0 : 0 ≤ a) (a1 : a ≤ 1) :
    Ideal.ofBits .f32 (IntOp.shli ArithUnit.vector (kexp a) 23#32) = scale a
    ∧ Ideal.ofBits .f32 (IntOp.shli ArithUnit.vector (IntOp.subi 254#32 (kexp a)) 23#32) = Ideal.div 1 (scale a) := by
  by_cases hz : a = 0
  · have h1 : kexp a = 127#32 := if_pos hz
    have h2 : scale a = 1 := if_pos hz
    rw [h1, h2, show IntOp.subi 254#32 127#32 = 127#32 from rfl, shl_pow _ (by decide) (by decide)]
    have : (((2 : ℝ) ^ (((127#32).toNat : ℤ) - 127) : ℝ) : EReal) = 1 := by
      simp
    rw [this]
    refine ⟨rfl, ?_⟩
    have h := div_pow 0
    simpa using h.symm
  · obtain ⟨E, hE, hE', hm⟩ := exists_exp a a1
    have hk : kexp a = BitVec.ofNat 32 E := by
      unfold kexp kcount
      rw [if_neg hz, fold_count]
      have : (Finset.univ.filter fun x : Fin 256 => Ideal.ofBits .f32 (IntOp.shli ArithUnit.vector (BitVec.ofNat 32 x.val) 23#32) ≤ a)
          = Finset.univ.filter (fun x : Fin 256 => x.val < E) := by
        apply Finset.filter_congr
        intro x _
        exact kpw x.val x.isLt a a0 a1 E hE hE' hm
      rw [this, card_below E (by omega)]
      show BitVec.ofNat 32 E - 1#32 + 1#32 = _
      rw [BitVec.sub_add_cancel]
    have e1 : (BitVec.ofNat 32 E).toNat = E := by
      rw [BitVec.toNat_ofNat, Nat.mod_eq_of_lt (by omega)]
    have e2 : (IntOp.subi 254#32 (BitVec.ofNat 32 E)).toNat = 254 - E := by
      show (254#32 - BitVec.ofNat 32 E).toNat = _
      rw [BitVec.toNat_sub, e1]
      show (2 ^ 32 - E + 254) % 2 ^ 32 = _
      omega
    rw [hk, shl_pow _ (by omega) (by omega), shl_pow _ (by omega) (by omega), e1, e2, scale_eq a hz E hE hE' hm, div_pow]
    refine ⟨rfl, ?_⟩
    congr 2
    omega

end Cert.Goal
-- ==== Proof.MathB.lean ====
module

public import proofs.«01_k».proof.Proof.MathA

@[expose] public section

/-! # The activation: the two ways of writing it, and its bound -/

noncomputable section
namespace Cert.Goal
open Idealize.ShloMosaic

theorem c_seven : seven = ((7 : ℝ) : EReal) := by
  simp [seven, Ideal.ofBits, Ideal.ieee, -EReal.coe_mul]; norm_num
theorem c_neg7 : Ideal.ofBits .f32 0xC0E00000#32 = ((-7 : ℝ) : EReal) := by
  simp [Ideal.ofBits, Ideal.ieee, -EReal.coe_mul]; norm_num
theorem c_alpha : Ideal.ofBits .f32 0x3FD9DB23#32 = ((14277411 / 8388608 : ℝ) : EReal) := by
  simp [Ideal.ofBits, Ideal.ieee, -EReal.coe_mul]; norm_num
theorem c_nalpha : Ideal.ofBits .f32 0xBFD9DB23#32 = ((-(14277411 / 8388608) : ℝ) : EReal) := by
  simp [Ideal.ofBits, Ideal.ieee, -EReal.coe_mul]; norm_num
theorem c_inv : Ideal.ofBits .f32 0x3B124925#32 = ((9586981 / 4294967296 : ℝ) : EReal) := by
  simp [Ideal.ofBits, Ideal.ieee, -EReal.coe_mul]; norm_num
theorem c_bot : Ideal.ofBits .f32 0xFF800000#32 = ⊥ := by
  simp [Ideal.ofBits, Ideal.ieee]

/-- The kernel's activation. -/
def kact (g u : EReal) : EReal :=
  Ideal.div ((min (Ideal.ofBits .f32 0x40E00000#32) (max (Ideal.ofBits .f32 0xC0E00000#32) u) + 1) * min g (Ideal.ofBits .f32 0x40E00000#32))
    (1 + Ideal.exp (Ideal.ofBits .f32 0xBFD9DB23#32 * min g (Ideal.ofBits .f32 0x40E00000#32)))

theorem clip_real (u : EReal) : ∃ p : ℝ, -7 ≤ p ∧ p ≤ 7 ∧ min seven (max (Ideal.ofBits .f32 0xC0E00000#32) u) = (p : EReal) := by
  rw [c_seven, c_neg7]
  induction u using EReal.rec with
  | bot => exact ⟨-7, by norm_num, by norm_num, by rw [max_eq_left bot_le, min_eq_right]; exact EReal.coe_le_coe_iff.2 (by norm_num)⟩
  | top => exact ⟨7, by norm_num, by norm_num, by rw [max_eq_right le_top, min_eq_left le_top]⟩
  | coe u => exact ⟨min 7 (max (-7) u), le_min (by norm_num) (le_max_left _ _), min_le_left _ _, by rw [emin, emax]⟩

theorem gate_real (g : EReal) : min g seven = ⊥ ∨ ∃ p : ℝ, p ≤ 7 ∧ min g seven = (p : EReal) := by
  rw [c_seven]
  induction g using EReal.rec with
  | bot => exact .inl (min_eq_left bot_le)
  | top => exact .inr ⟨7, le_refl _, min_eq_right le_top⟩
  | coe u => exact .inr ⟨min u 7, min_le_right _ _, by rw [emin]⟩

theorem act_real (g u : EReal) : kact g u = act g u ∧ ∃ r : ℝ, |r| ≤ 56 ∧ act g u = (r : EReal) := by
  obtain ⟨p, p0, p1, hp⟩ := clip_real u
  unfold kact act
  rw [show Ideal.ofBits .f32 0x40E00000#32 = seven from rfl, hp]
  rcases gate_real g with hg | ⟨q, hq, hg⟩
  · rw [hg, c_alpha, c_nalpha, EReal.coe_mul_bot_of_neg (show (-(14277411 / 8388608) : ℝ) < 0 by norm_num), EReal.coe_mul_bot_of_pos (show (0 : ℝ) < 14277411 / 8388608 by norm_num), Ideal.logistic_bot, mul_zero]
    refine ⟨?_, 0, by norm_num, by simp⟩
    show Ideal.div _ (1 + ⊤) = 0
    rw [EReal.add_top_of_ne_bot (show (1 : EReal) ≠ ⊥ from EReal.coe_ne_bot 1)]
    simp [Ideal.div]
  · rw [hg, c_alpha, c_nalpha, ← EReal.coe_mul, ← EReal.coe_mul, Ideal.logistic_coe, Ideal.exp_coe, ← EReal.coe_one, ← EReal.coe_add, ← EReal.coe_add, ← EReal.coe_mul]
    have hpos : 0 < 1 + Real.exp (-(14277411 / 8388608) * q) := by positivity
    rw [Ideal.div_coe hpos.ne', ← EReal.coe_mul, ← EReal.coe_mul]
    have e : -(14277411 / 8388608 * q) = -(14277411 / 8388608) * q := by ring
    rw [e]
    refine ⟨by rw [one_div], _, ?_, rfl⟩
    rw [abs_mul, abs_mul, abs_of_pos (inv_pos.2 hpos)]
    have h1 : |p + 1| ≤ 8 := abs_le.2 ⟨by linarith, by linarith⟩
    have h2 : |q| * (1 + Real.exp (-(14277411 / 8388608) * q))⁻¹ ≤ 7 := by
      rw [mul_inv_le_iff₀ hpos]
      rcases le_total 0 q with h | h
      · rw [abs_of_nonneg h]
        nlinarith [Real.exp_pos (-(14277411 / 8388608) * q)]
      · rw [abs_of_nonpos h]
        have := Real.add_one_le_exp (-(14277411 / 8388608) * q)
        nlinarith
    rw [mul_assoc]
    calc |p + 1| * (|q| * (1 + Real.exp (-(14277411 / 8388608) * q))⁻¹) ≤ 8 * 7 :=
          mul_le_mul h1 h2 (by positivity) (by norm_num)
      _ = 56 := by norm_num

theorem amax_bound (h : Fin 128 → EReal) (hh : ∀ x, ∃ r : ℝ, |r| ≤ 56 ∧ h x = (r : EReal)) : 0 ≤ amax h ∧ amax h ≤ 1 := by
  have hb : ∀ x, ∃ r : ℝ, 0 ≤ r ∧ r ≤ 56 ∧ (FloatOps.absf (F := Ideal) (φ := .f32) (h x) : EReal) = (r : EReal) := fun x => by
    obtain ⟨r, hr, e⟩ := hh x
    refine ⟨|r|, abs_nonneg _, hr, ?_⟩
    rw [e]
    show max (r : EReal) (-(r : EReal)) = _
    rw [← EReal.coe_neg, ← emax]
    rfl
  have hm : ∃ M : ℝ, 0 ≤ M ∧ M ≤ 56 ∧ Finset.fold max (⊥ : EReal) (fun x => (FloatOps.absf (F := Ideal) (φ := .f32) (h x) : EReal)) Finset.univ = (M : EReal) := by
    set f := Finset.fold max (⊥ : EReal) (fun x => (FloatOps.absf (F := Ideal) (φ := .f32) (h x) : EReal)) Finset.univ with hf
    have l : (0 : EReal) ≤ f := by
      rw [hf, Finset.le_fold_max]
      obtain ⟨r, h0, _, e⟩ := hb 0
      exact .inr ⟨0, Finset.mem_univ _, by rw [e]; exact_mod_cast h0⟩
    have u : f ≤ ((56 : ℝ) : EReal) := by
      rw [hf, Finset.fold_max_le]
      refine ⟨bot_le, fun x _ => ?_⟩
      obtain ⟨r, _, h1, e⟩ := hb x
      rw [e]
      exact_mod_cast h1
    have ht : f ≠ ⊤ := fun e => by
      rw [e] at u
      exact absurd u (not_le.2 (EReal.coe_lt_top _))
    have hbot : f ≠ ⊥ := fun e => by
      rw [e] at l
      exact absurd l (not_le.2 (EReal.bot_lt_zero))
    refine ⟨f.toReal, ?_, ?_, (EReal.coe_toReal ht hbot).symm⟩
    · rw [← EReal.coe_toReal ht hbot] at l
      exact_mod_cast l
    · rw [← EReal.coe_toReal ht hbot] at u
      exact_mod_cast u
  obtain ⟨M, M0, M1, e⟩ := hm
  unfold amax
  rw [c_bot, e, c_inv, ← EReal.coe_mul]
  constructor
  · have : 0 ≤ M * (9586981 / 4294967296) := by positivity
    exact_mod_cast this
  · have : M * (9586981 / 4294967296) ≤ 1 := by nlinarith
    exact_mod_cast this

end Cert.Goal
-- ==== Proof.PI.Elem.lean ====
module

public import proofs.«01_k».proof.Proof.PI.BodyWp
public import proofs.«01_k».proof.Proof.MathB

@[expose] public section

/-! # The kernel's blocks at an index, in real numbers -/

noncomputable section
namespace Cert.KernelIdeal.Hand
open Idealize.ShloMosaic Cert.KernelIdeal.Gen
set_option maxHeartbeats 1000000

section
variable {sh : Shape} {α : Type} (off size : Fin sh.rank → ℕ) (inb : ∀ a, off a + size a ≤ sh.size a) (X : sh.Idx → α)
  (G : (Rect.unit (s := sh) off size inb).shape.Idx → α) (j : sh.Idx)

theorem unit_hit (i : (Rect.unit (s := sh) off size inb).shape.Idx) (h : ∀ a, (j a).val = off a + (i a).val) :
    (Rect.unit (s := sh) off size inb).overlay X G j = G i := by
  have e : j = (Rect.unit (s := sh) off size inb).emb i := funext fun a => Fin.ext (by
    rw [h a]
    show _ = off a + 1 * (i a).val
    omega)
  rw [e, Rect.overlay_emb]

theorem unit_miss (a : Fin sh.rank) (h : (j a).val < off a ∨ off a + size a ≤ (j a).val) :
    (Rect.unit (s := sh) off size inb).overlay X G j = X j := by
  refine Rect.overlay_of_not_mem _ _ _ fun hm => ?_
  rw [← Rect.map_emb_univ] at hm
  obtain ⟨i, _, e⟩ := Finset.mem_map.1 hm
  have e' : (j a).val = off a + 1 * (i a).val := by rw [← e]; rfl
  have hi : (i a).val < size a := (i a).isLt
  omega
end

/-- A decoded weight, off a block's bytes. -/
def kw (W : S1x1536x512.Idx → Elt Ideal .i8) (S : S1x96x512.Idx → Elt Ideal .i8) (k : Fin 3072) (c : Fin 512) : EReal :=
  Goal.kdec (Goal.nib (W (ix3 0 ⟨k.val / 2, by omega⟩ c)) k.val)
    * Ideal.ofBits .f32 (IntOp.shli ArithUnit.vector (BitVec.setWidth 32 (S (ix3 0 ⟨k.val / 32, by omega⟩ c))) 23#32)

theorem deqVal_at (w : Vec Ideal S1x16x512 .i8) (s : Vec Ideal S1x1x512 .i8) (r : Fin 32) (c : Fin 512) :
    deqVal (F := Ideal) w s (ix2 r c) = Goal.kdec (Goal.nib (w (ix3 0 ⟨r.val / 2, by omega⟩ c)) r.val)
      * Ideal.ofBits .f32 (IntOp.shli ArithUnit.vector (BitVec.setWidth 32 (s (ix3 0 0 c))) 23#32) := by
  pointwise [deqVal]
  rfl

theorem nib_congr (w : BitVec 8) (k k' : ℕ) (h : k % 2 = k' % 2) : Goal.nib w k = Goal.nib w k' := by
  unfold Goal.nib
  simp only [h]

theorem deqBlk_at (W : S1x1536x512.Idx → Elt Ideal .i8) (S : S1x96x512.Idx → Elt Ideal .i8) (b : ℕ) (hb : b < 96) (r : Fin 32) (c : Fin 512)
    (k : Fin 3072) (hk : k.val = 32 * b + r.val) : deqBlk (F := Ideal) W S b hb (ix2 r c) = kw W S k c := by
  unfold deqBlk kw
  rw [deqVal_at, nib_congr _ r.val k.val (by omega)]
  have e1 : (Rect.unit (s := S1x1536x512) ![0, 16 * b, 0] S1x16x512.size (inbW b hb)).toLoadRect.idx (ix3 0 (⟨r.val / 2, by omega⟩ : Fin 16) c)
      = ix3 0 ⟨k.val / 2, by omega⟩ c := by
    funext a
    apply Fin.ext
    match a with
    | ⟨0, _⟩ => rfl
    | ⟨1, _⟩ => show 16 * b + 1 * (r.val / 2) = k.val / 2; omega
    | ⟨2, _⟩ => show 0 + 1 * c.val = c.val; omega
  have e2 : (Rect.unit (s := S1x96x512) ![0, b, 0] S1x1x512.size (inbS b hb)).toLoadRect.idx (ix3 0 0 c)
      = ix3 0 ⟨k.val / 32, by omega⟩ c := by
    funext a
    apply Fin.ext
    match a with
    | ⟨0, _⟩ => rfl
    | ⟨1, _⟩ => show b + 1 * 0 = k.val / 32; omega
    | ⟨2, _⟩ => show 0 + 1 * c.val = c.val; omega
  rw [e1, e2]

theorem deqFill_at (W : S1x1536x512.Idx → Elt Ideal .i8) (S : S1x96x512.Idx → Elt Ideal .i8) (n : ℕ) : ∀ (b : ℕ) (h : n + b ≤ 96)
    (D : S3072x512.Idx → Elt Ideal .bf16) (k : Fin 3072) (c : Fin 512),
    deqFill (F := Ideal) W S n b h D (ix2 k c) = if 32 * b ≤ k.val ∧ k.val < 32 * (b + n) then kw W S k c else D (ix2 k c) := by
  induction n with
  | zero => intro b h D k c; rw [if_neg (by omega)]; rfl
  | succ n ih =>
    intro b h D k c
    rw [deqFill, ih]
    by_cases h1 : 32 * (b + 1) ≤ k.val ∧ k.val < 32 * (b + 1 + n)
    · rw [if_pos h1, if_pos (by omega)]
    · rw [if_neg h1]
      by_cases h2 : 32 * b ≤ k.val ∧ k.val < 32 * (b + 1)
      · rw [if_pos (by omega)]
        refine (unit_hit (sh := S3072x512) _ _ _ _ _ (ix2 k c) (ix2 (⟨k.val - 32 * b, by omega⟩ : Fin 32) c) ?_).trans ?_
        · intro a
          match a with
          | ⟨0, _⟩ => show k.val = 32 * b + (k.val - 32 * b); omega
          | ⟨1, _⟩ => show c.val = 0 + c.val; omega
        · exact deqBlk_at W S b (by omega) _ c k (by show k.val = 32 * b + (k.val - 32 * b); omega)
      · rw [if_neg (by omega)]
        refine unit_miss (sh := S3072x512) _ _ _ _ _ (ix2 k c) (0 : Fin 2) ?_
        show k.val < 32 * b ∨ 32 * b + 32 ≤ k.val
        omega

theorem xVal_at (s : Vec Ideal S512x1 .f32) (x : Vec Ideal S512x128 .fp8e4m3) (r : Fin 512) (c : Fin 128) :
    xVal (F := Ideal) s x (ix2 r c) = x (ix2 r c) * s (ix2 r 0) := by
  pointwise [xVal]

theorem xFill_at (X : S512x3072.Idx → Elt Ideal .fp8e4m3) (S : S512x24.Idx → Elt Ideal .f32) (n : ℕ) : ∀ (g : ℕ) (h : n + g ≤ 24)
    (D : S512x3072.Idx → Elt Ideal .bf16) (r : Fin 512) (k : Fin 3072),
    xFill (F := Ideal) X S n g h D (ix2 r k)
      = if 128 * g ≤ k.val ∧ k.val < 128 * (g + n) then (X (ix2 r k) * S (ix2 r ⟨k.val / 128, by omega⟩) : EReal) else D (ix2 r k) := by
  induction n with
  | zero => intro b h D k c; rw [if_neg (by omega)]; rfl
  | succ n ih =>
    intro b h D r k
    rw [xFill, ih]
    by_cases h1 : 128 * (b + 1) ≤ k.val ∧ k.val < 128 * (b + 1 + n)
    · rw [if_pos h1, if_pos (by omega)]
    · rw [if_neg h1]
      by_cases h2 : 128 * b ≤ k.val ∧ k.val < 128 * (b + 1)
      · rw [if_pos (by omega)]
        refine (unit_hit (sh := S512x3072) _ _ _ _ _ (ix2 r k) (ix2 r (⟨k.val - 128 * b, by omega⟩ : Fin 128)) ?_).trans ?_
        · intro a
          match a with
          | ⟨0, _⟩ => show r.val = 0 + r.val; omega
          | ⟨1, _⟩ => show k.val = 128 * b + (k.val - 128 * b); omega
        · unfold xBlk
          rw [xVal_at]
          have e1 : (Rect.unit (s := S512x3072) ![0, 128 * b] S512x128.size (inbX b (by omega))).toLoadRect.idx (ix2 r (⟨k.val - 128 * b, by omega⟩ : Fin 128)) = ix2 r k := by
            funext a
            apply Fin.ext
            match a with
            | ⟨0, _⟩ => show 0 + 1 * r.val = r.val; omega
            | ⟨1, _⟩ => show 128 * b + 1 * (k.val - 128 * b) = k.val; omega
          have e2 : (Rect.unit (s := S512x24) ![0, b] S512x1.size (inbXS b (by omega))).toLoadRect.idx (ix2 r 0) = ix2 r ⟨k.val / 128, by omega⟩ := by
            funext a
            apply Fin.ext
            match a with
            | ⟨0, _⟩ => show 0 + 1 * r.val = r.val; omega
            | ⟨1, _⟩ => show b + 1 * 0 = k.val / 128; omega
          rw [e1, e2]
      · rw [if_neg (by omega)]
        refine unit_miss (sh := S512x3072) _ _ _ _ _ (ix2 r k) (1 : Fin 2) ?_
        show k.val < 128 * b ∨ 128 * b + 128 ≤ k.val
        omega

/-- The activation of a row and a column of a block. -/
def hK (XB : S512x3072.Idx → Elt Ideal .bf16) (G U : S3072x512.Idx → Elt Ideal .bf16) (bg bu : S1x1x512.Idx → Elt Ideal .f32) (r c : Fin 512) : EReal :=
  Goal.kact ((∑ x : Fin 3072, (XB (ix2 r x) * G (ix2 x c) : EReal)) + bg (ix3 0 0 c)) ((∑ x : Fin 3072, (XB (ix2 r x) * U (ix2 x c) : EReal)) + bu (ix3 0 0 c))

theorem hVal_at (xb : Vec Ideal S512x3072 .bf16) (g : Vec Ideal S3072x256 .bf16) (bg : Vec Ideal S1x1x256 .f32) (u : Vec Ideal S3072x256 .bf16) (bu : Vec Ideal S1x1x256 .f32)
    (r : Fin 512) (c : Fin 256) :
    hVal (F := Ideal) xb g bg xb u bu (ix2 r c)
      = Goal.kact ((∑ x : Fin 3072, (xb (ix2 r x) * g (ix2 x c) : EReal)) + bg (ix3 0 0 c)) ((∑ x : Fin 3072, (xb (ix2 r x) * u (ix2 x c) : EReal)) + bu (ix3 0 0 c)) := by
  pointwise [hVal]
  rfl

theorem hOut_at (XB : S512x3072.Idx → Elt Ideal .bf16) (G U : S3072x512.Idx → Elt Ideal .bf16) (bg bu : S1x1x512.Idx → Elt Ideal .f32)
    (k : ℕ) (hk : k < 2) (r : Fin 512) (c : Fin 256) (c' : Fin 512) (hc : c'.val = 256 * k + c.val) :
    hOut (F := Ideal) XB G U bg bu k hk (ix2 r c) = hK XB G U bg bu r c' := by
  unfold hOut hK
  rw [hVal_at]
  have e1 : ∀ x : Fin 3072, (Rect.unit (s := S512x3072) ![0, 0] S512x3072.size inb_S512x3072_S512x3072_0_0).toLoadRect.idx (ix2 r x) = ix2 r x := fun x => by
    funext a
    apply Fin.ext
    match a with
    | ⟨0, _⟩ => show 0 + 1 * r.val = r.val; omega
    | ⟨1, _⟩ => show 0 + 1 * x.val = x.val; omega
  have e2 : ∀ x : Fin 3072, (Rect.unit (s := S3072x512) ![0, 256 * k] S3072x256.size (inbG k hk)).toLoadRect.idx (ix2 x c) = ix2 x c' := fun x => by
    funext a
    apply Fin.ext
    match a with
    | ⟨0, _⟩ => show 0 + 1 * x.val = x.val; omega
    | ⟨1, _⟩ => show 256 * k + 1 * c.val = c'.val; omega
  have e3 : (Rect.unit (s := S1x1x512) ![0, 0, 256 * k] S1x1x256.size (inbB k hk)).toLoadRect.idx (ix3 0 0 c) = ix3 0 0 c' := by
    funext a
    apply Fin.ext
    match a with
    | ⟨0, _⟩ => rfl
    | ⟨1, _⟩ => rfl
    | ⟨2, _⟩ => show 256 * k + 1 * c.val = c'.val; omega
  simp only [e1, e2, e3]

theorem half0_at (h : FVec Ideal S512x256 .f32) (r : Fin 512) (c : Fin 128) : half0 (F := Ideal) h (ix2 r c) = h (ix2 r ⟨c.val, by omega⟩) := by
  pointwise [half0]
theorem half1_at (h : FVec Ideal S512x256 .f32) (r : Fin 512) (c : Fin 128) : half1 (F := Ideal) h (ix2 r c) = h (ix2 r ⟨128 + c.val, by omega⟩) := by
  pointwise [half1]

theorem grpE_at (h : FVec Ideal S512x128 .f32) (r : Fin 512) : grpE (F := Ideal) h (ix2 r 0) = Goal.kexp (Goal.amax fun x => h (ix2 r x)) := by
  pointwise [grpE]
  rfl

theorem grpScale_at (h : FVec Ideal S512x128 .f32) (r : Fin 512) (hb : 0 ≤ Goal.amax (fun x => h (ix2 r x)) ∧ Goal.amax (fun x => h (ix2 r x)) ≤ 1) :
    grpScale (F := Ideal) h (ix2 r 0) = Goal.scale (Goal.amax fun x => h (ix2 r x)) := by
  rw [← (Goal.kscale_eq _ hb.1 hb.2).1, ← grpE_at]
  pointwise [grpScale]

theorem grpCode_at (h : FVec Ideal S512x128 .f32) (r : Fin 512) (c : Fin 128) (hb : 0 ≤ Goal.amax (fun x => h (ix2 r x)) ∧ Goal.amax (fun x => h (ix2 r x)) ≤ 1) :
    grpCode (F := Ideal) h (ix2 r c) = Goal.code (h (ix2 r c)) (Goal.scale (Goal.amax fun x => h (ix2 r x))) := by
  unfold Goal.code
  rw [← (Goal.kscale_eq _ hb.1 hb.2).2, ← grpE_at]
  pointwise [grpCode]

/-- The bit of a row of the visit. -/
def rowBit (l h : BitVec 32) (r : Fin 512) : BitVec 1 :=
  IntOp.andi (IntOp.cmpi .sge (BitVec.ofNat 32 r.val) l) (IntOp.cmpi .slt (BitVec.ofNat 32 r.val) h)

theorem mergeCode_at (l h : BitVec 32) (a : FVec Ideal S512x128 .f32) (b : Vec Ideal S512x128 .fp8e4m3) (r : Fin 512) (c : Fin 128) :
    mergeCode (F := Ideal) (maskVal (F := Ideal) l h) a b (ix2 r c) = Scalar.select (rowBit l h r) (a (ix2 r c)) (b (ix2 r c)) := by
  pointwise [mergeCode, maskVal]
  rfl

theorem mergeScale_at (l h : BitVec 32) (a : FVec Ideal S512x1 .f32) (b : Vec Ideal S1x512x1 .f32) (r : Fin 512) :
    mergeScale (F := Ideal) (maskVal (F := Ideal) l h) a b (ix3 0 r 0) = Scalar.select (rowBit l h r) (a (ix2 r 0)) (b (ix3 0 r 0)) := by
  pointwise [mergeScale, maskVal]
  rfl

end Cert.KernelIdeal.Hand
-- ==== Proof.PI.Elem2.lean ====
module

public import proofs.«01_k».proof.Proof.PI.Elem

@[expose] public section

/-! # A visit's output blocks at an index -/

noncomputable section
namespace Cert.KernelIdeal.Hand
open Idealize.ShloMosaic Cert.KernelIdeal.Gen
set_option maxHeartbeats 1000000

variable (l h : BitVec 32) (H : Fin 512 → Fin 512 → EReal) (hH : ∀ r c, ∃ x : ℝ, |x| ≤ 56 ∧ H r c = (x : EReal))

/-- The group of a column of a block. -/
def gcol (q : ℕ) (hq : q < 4) (x : Fin 128) : Fin 512 := ⟨q * 128 + x.val, by omega⟩

/-- The code of a row and a column of a block. -/
def codeK (r c : Fin 512) : EReal := Goal.code (H r c) (Goal.scale (Goal.amax fun x => H r (gcol (c.val / 128) (by omega) x)))
/-- The scale of a row and a group of a block. -/
def scaleK (r : Fin 512) (q : Fin 4) : EReal := Goal.scale (Goal.amax fun x => H r (gcol q.val q.isLt x))

section
variable (hq : FVec Ideal S512x128 .f32) (i : ℕ) (hi : i < 4)

include hH in
theorem cOv_hit (C : S512x512.Idx → Elt Ideal .fp8e4m3) (r c : Fin 512)
    (hh : ∀ x : Fin 128, hq (ix2 r x) = H r (gcol i hi x)) (hc : c.val / 128 = i) :
    cOv (F := Ideal) (maskVal (F := Ideal) l h) hq i hi C (ix2 r c) = Scalar.select (rowBit l h r) (codeK H r c) (C (ix2 r c)) := by
  subst hc
  unfold cOv codeK
  refine (unit_hit (sh := S512x512) _ _ _ _ _ (ix2 r c) (ix2 r (⟨c.val % 128, by omega⟩ : Fin 128)) ?_).trans ?_
  · intro a
    match a with
    | ⟨0, _⟩ => show r.val = 0 + r.val; omega
    | ⟨1, _⟩ => show c.val = 128 * (c.val / 128) + c.val % 128; omega
  · have hf : (fun x => hq (ix2 r x)) = fun x => H r (gcol (c.val / 128) (by omega) x) := funext hh
    rw [mergeCode_at, grpCode_at _ _ _ (by rw [hf]; exact Goal.amax_bound _ fun x => hH _ _), hf, hh]
    have e1 : gcol (c.val / 128) (by omega) (⟨c.val % 128, by omega⟩ : Fin 128) = c := by
      apply Fin.ext
      show c.val / 128 * 128 + c.val % 128 = c.val
      omega
    have e2 : (Rect.unit (s := S512x512) ![0, 128 * (c.val / 128)] S512x128.size (inbC (c.val / 128) (by omega))).toLoadRect.idx (ix2 r (⟨c.val % 128, by omega⟩ : Fin 128)) = ix2 r c := by
      funext a
      apply Fin.ext
      match a with
      | ⟨0, _⟩ => show 0 + 1 * r.val = r.val; omega
      | ⟨1, _⟩ => show 128 * (c.val / 128) + 1 * (c.val % 128) = c.val; omega
    rw [e1, e2]

theorem cOv_miss (m : IVec S512x128 1) (C : S512x512.Idx → Elt Ideal .fp8e4m3) (r c : Fin 512) (hc : c.val / 128 ≠ i) :
    cOv (F := Ideal) m hq i hi C (ix2 r c) = C (ix2 r c) := by
  unfold cOv
  refine unit_miss (sh := S512x512) _ _ _ _ _ (ix2 r c) (1 : Fin 2) ?_
  show c.val < 128 * i ∨ 128 * i + 128 ≤ c.val
  omega

include hH in
theorem sOv_hit (Z : S1x512x4.Idx → Elt Ideal .f32) (r : Fin 512) (q : Fin 4)
    (hh : ∀ x : Fin 128, hq (ix2 r x) = H r (gcol i hi x)) (hc : q.val = i) :
    sOv (F := Ideal) (maskVal (F := Ideal) l h) hq i hi Z (ix3 0 r q) = Scalar.select (rowBit l h r) (scaleK H r q) (Z (ix3 0 r q)) := by
  subst hc
  unfold sOv scaleK
  refine (unit_hit (sh := S1x512x4) _ _ _ _ _ (ix3 0 r q) (ix3 0 r 0) ?_).trans ?_
  · intro a
    match a with
    | ⟨0, _⟩ => rfl
    | ⟨1, _⟩ => show r.val = 0 + r.val; omega
    | ⟨2, _⟩ => rfl
  · have hf : (fun x => hq (ix2 r x)) = fun x => H r (gcol q.val q.isLt x) := funext hh
    rw [mergeScale_at, grpScale_at _ _ (by rw [hf]; exact Goal.amax_bound _ fun x => hH _ _), hf]
    have e2 : (Rect.unit (s := S1x512x4) ![0, 0, q.val] S1x512x1.size (inbCS q.val hi)).toLoadRect.idx (ix3 0 r 0) = ix3 0 r q := by
      funext a
      apply Fin.ext
      match a with
      | ⟨0, _⟩ => rfl
      | ⟨1, _⟩ => show 0 + 1 * r.val = r.val; omega
      | ⟨2, _⟩ => show q.val + 1 * 0 = q.val; omega
    rw [e2]

theorem sOv_miss (m : IVec S512x128 1) (Z : S1x512x4.Idx → Elt Ideal .f32) (r : Fin 512) (q : Fin 4) (hc : q.val ≠ i) :
    sOv (F := Ideal) m hq i hi Z (ix3 0 r q) = Z (ix3 0 r q) := by
  unfold sOv
  refine unit_miss (sh := S1x512x4) _ _ _ _ _ (ix3 0 r q) (2 : Fin 3) ?_
  show q.val < i ∨ i + 1 ≤ q.val
  omega
end

variable (h0 h1 : FVec Ideal S512x256 .f32)
  (e0 : ∀ (r : Fin 512) (c : Fin 256), h0 (ix2 r c) = H r ⟨c.val, by omega⟩) (e1 : ∀ (r : Fin 512) (c : Fin 256), h1 (ix2 r c) = H r ⟨256 + c.val, by omega⟩)

include e0 in
theorem hq0 (r : Fin 512) (x : Fin 128) : half0 (F := Ideal) h0 (ix2 r x) = H r (gcol 0 (by decide) x) := by
  rw [half0_at, e0]
  exact congrArg (H r) (Fin.ext (by show x.val = 0 * 128 + x.val; omega))
include e0 in
theorem hq1 (r : Fin 512) (x : Fin 128) : half1 (F := Ideal) h0 (ix2 r x) = H r (gcol 1 (by decide) x) := by
  rw [half1_at, e0]
  exact congrArg (H r) (Fin.ext (by show 128 + x.val = 1 * 128 + x.val; omega))
include e1 in
theorem hq2 (r : Fin 512) (x : Fin 128) : half0 (F := Ideal) h1 (ix2 r x) = H r (gcol 2 (by decide) x) := by
  rw [half0_at, e1]
  exact congrArg (H r) (Fin.ext (by show 256 + x.val = 2 * 128 + x.val; omega))
include e1 in
theorem hq3 (r : Fin 512) (x : Fin 128) : half1 (F := Ideal) h1 (ix2 r x) = H r (gcol 3 (by decide) x) := by
  rw [half1_at, e1]
  exact congrArg (H r) (Fin.ext (by show 256 + (128 + x.val) = 3 * 128 + x.val; omega))

include hH e0 e1 in
theorem cOut_at (C : S512x512.Idx → Elt Ideal .fp8e4m3) (r c : Fin 512) :
    cOut (F := Ideal) (maskVal (F := Ideal) l h) h0 h1 C (ix2 r c) = Scalar.select (rowBit l h r) (codeK H r c) (C (ix2 r c)) := by
  unfold cOut
  have hc : c.val / 128 = 0 ∨ c.val / 128 = 1 ∨ c.val / 128 = 2 ∨ c.val / 128 = 3 := by omega
  rcases hc with hc | hc | hc | hc
  · rw [cOv_miss _ 3 _ _ _ _ _ (by omega), cOv_miss _ 2 _ _ _ _ _ (by omega), cOv_miss _ 1 _ _ _ _ _ (by omega), cOv_hit l h H hH _ 0 _ _ _ _ (hq0 H h0 e0 r) hc]
  · rw [cOv_miss _ 3 _ _ _ _ _ (by omega), cOv_miss _ 2 _ _ _ _ _ (by omega), cOv_hit l h H hH _ 1 _ _ _ _ (hq1 H h0 e0 r) hc, cOv_miss _ 0 _ _ _ _ _ (by omega)]
  · rw [cOv_miss _ 3 _ _ _ _ _ (by omega), cOv_hit l h H hH _ 2 _ _ _ _ (hq2 H h1 e1 r) hc, cOv_miss _ 1 _ _ _ _ _ (by omega), cOv_miss _ 0 _ _ _ _ _ (by omega)]
  · rw [cOv_hit l h H hH _ 3 _ _ _ _ (hq3 H h1 e1 r) hc, cOv_miss _ 2 _ _ _ _ _ (by omega), cOv_miss _ 1 _ _ _ _ _ (by omega), cOv_miss _ 0 _ _ _ _ _ (by omega)]

include hH e0 e1 in
theorem sOut_at (Z : S1x512x4.Idx → Elt Ideal .f32) (r : Fin 512) (q : Fin 4) :
    sOut (F := Ideal) (maskVal (F := Ideal) l h) h0 h1 Z (ix3 0 r q) = Scalar.select (rowBit l h r) (scaleK H r q) (Z (ix3 0 r q)) := by
  unfold sOut
  have hc : q.val = 0 ∨ q.val = 1 ∨ q.val = 2 ∨ q.val = 3 := by omega
  rcases hc with hc | hc | hc | hc
  · rw [sOv_miss _ 3 _ _ _ _ _ (by omega), sOv_miss _ 2 _ _ _ _ _ (by omega), sOv_miss _ 1 _ _ _ _ _ (by omega), sOv_hit l h H hH _ 0 _ _ _ _ (hq0 H h0 e0 r) hc]
  · rw [sOv_miss _ 3 _ _ _ _ _ (by omega), sOv_miss _ 2 _ _ _ _ _ (by omega), sOv_hit l h H hH _ 1 _ _ _ _ (hq1 H h0 e0 r) hc, sOv_miss _ 0 _ _ _ _ _ (by omega)]
  · rw [sOv_miss _ 3 _ _ _ _ _ (by omega), sOv_hit l h H hH _ 2 _ _ _ _ (hq2 H h1 e1 r) hc, sOv_miss _ 1 _ _ _ _ _ (by omega), sOv_miss _ 0 _ _ _ _ _ (by omega)]
  · rw [sOv_hit l h H hH _ 3 _ _ _ _ (hq3 H h1 e1 r) hc, sOv_miss _ 2 _ _ _ _ _ (by omega), sOv_miss _ 1 _ _ _ _ _ (by omega), sOv_miss _ 0 _ _ _ _ _ (by omega)]

end Cert.KernelIdeal.Hand
-- ==== Proof.Layer.lean ====
module

public import proofs.«01_k».proof.Proof.Goal
public import proofs.«01_k».proof.Proof.Visits
public import Idealize.ShloMosaic.Lib.Pointwise.Index

/-! The two results of the layer over its arguments, element by element. -/

@[expose] public section

noncomputable section
namespace Cert.Goal
open Idealize.ShloMosaic Cert

variable (X : (⟨2, ![73728, 3072]⟩ : Shape).Idx → EReal) (XS : (⟨2, ![73728, 24]⟩ : Shape).Idx → EReal)
  (Wt : (⟨3, ![8, 1536, 14336]⟩ : Shape).Idx → BitVec 8) (S : (⟨3, ![8, 96, 14336]⟩ : Shape).Idx → BitVec 8)
  (B : (⟨2, ![8, 14336]⟩ : Shape).Idx → EReal) (s : ℕ → ℕ)

/-- An element of the input, rescaled. -/
def xr (r : ℕ) (k : Fin 3072) : EReal := if h : r < 73728 then X (ix2 ⟨r, h⟩ k) * XS (ix2 ⟨r, h⟩ ⟨k.val / 128, by omega⟩) else 0
/-- An element of an expert's weights, decoded and rescaled. -/
def wt (e j : ℕ) (k : Fin 3072) : EReal :=
  if h : e < 8 ∧ j < 14336 then dec (nib (Wt (ix3 ⟨e, h.1⟩ ⟨k.val / 2, by omega⟩ ⟨j, h.2⟩)) k.val) * sc (S (ix3 ⟨e, h.1⟩ ⟨k.val / 32, by omega⟩ ⟨j, h.2⟩)) else 0
/-- An element of an expert's bias. -/
def bs (e j : ℕ) : EReal := if h : e < 8 ∧ j < 14336 then B (ix2 ⟨e, h.1⟩ ⟨j, h.2⟩) else 0
/-- A row's projection on a column of an expert. -/
def proj (e r j : ℕ) : EReal := (∑ k : Fin 3072, xr X XS r k * wt Wt S e j k) + bs B e j
/-- A row's hidden value at a column of an expert. -/
def hid (e r j : ℕ) : EReal := act (proj X XS Wt S B e r j) (proj X XS Wt S B e r (7168 + j))
/-- The scale of a group that starts at column `j`. -/
def scaleAt (r j : ℕ) : EReal := scale (amax fun x : Fin 128 => hid X XS Wt S B (Plan.rowExpert s r) r (j + x.val))
/-- The codes. -/
def codeT (r j : ℕ) : EReal := code (hid X XS Wt S B (Plan.rowExpert s r) r j) (scaleAt X XS Wt S B s r (128 * (j / 128)))
/-- The scales. -/
def scaleT (n r q : ℕ) : EReal := scaleAt X XS Wt S B s r (512 * n + 128 * q)

end Cert.Goal
-- ==== Proof.PI.Step.lean ====
module

public import proofs.«01_k».proof.Proof.PI.In
public import proofs.«01_k».proof.Proof.PI.Elem2
public import proofs.«01_k».proof.Proof.Layer

/-! One visit: what it leaves of the decoded weights, of the codes and of the scales. -/

@[expose] public section

set_option maxRecDepth 4096

noncomputable section

namespace Cert.KernelIdeal.Hand

open Idealize.ShloMosaic Idealize.ShloMosaic.TcCoe Idealize.SL.Sem
open Idealize.ShloMosaic.Pipeline (RDat)
open Cert.KernelIdeal Cert.KernelIdeal.Gen Cert.Hand

theorem reloadBit_of (i : grid0.Coords) (a b : BitVec 32) (h : (i 1).val = 0 ∨ a ≠ b) : reloadBit (F := Ideal) i a b = 1#1 := by
  have key : ∀ p q : BitVec 1, p = 1#1 ∨ q = 1#1 → Scalar.cmpi .ne (Scalar.extui (Scalar.ori p q : BitVec 1) : BitVec 32) 0#32 = 1#1 := by decide
  unfold reloadBit
  apply key
  rcases h with h | h
  · left; rw [h]; rfl
  · right
    show BitVec.ofBool (a != b) = 1#1
    rw [bne_iff_ne.mpr h]; rfl

theorem off2_val : ∀ v : Fin 152, (Scalar.indexCast (Scalar.maxsi (Scalar.subi (BitVec.ofNat 32 v.val) 1#32) 0#32) : Index).toNat = v.val - 1 := by decide +kernel

theorem off2 (t : Fin grid0.N) : k0_off2 (grid0.coords t) 0 = (vOf t).val - 1 := by
  rw [← off2_val (vOf t)]
  show (Scalar.indexCast (Scalar.maxsi (Scalar.subi (BitVec.ofNat 32 (grid0.coords t 1).val) 1#32) 0#32) : Index).toNat = _
  rw [coords_v]

theorem wordAt2 (T : S152.Idx → Elt Ideal .i32) (t : Fin grid0.N) : wordAt T (k0_off2 (grid0.coords t)) (k0_off2_inb _) = T (ix1 (⟨t.val % 152 - 1, by omega⟩ : Fin 152)) :=
  congrArg T (idx_off (grid0.coords t) _ _ _ _ (off2 t))

section Words
variable (pf : pre0.Contents (Elt Ideal)) (s : ℕ → ℕ) (tab : Tab pf s)

include tab in
theorem ofNat_expert (v v' : ℕ) (h : BitVec.ofNat 32 (Plan.expert s (visP s v)) = BitVec.ofNat 32 (Plan.expert s (visP s v'))) : Plan.expert s (visP s v) = Plan.expert s (visP s v') := by
  have a := (Plan.expert_spec s _ (visP_lt s tab.hs v)).1
  have b := (Plan.expert_spec s _ (visP_lt s tab.hs v')).1
  have e := congrArg BitVec.toNat h
  rw [BitVec.toNat_ofNat, BitVec.toNat_ofNat] at e
  omega

include tab in
theorem not_reload (t : Fin grid0.N) (h : ¬ reloads (F := Ideal) (grid0.coords t) (tE pf)) : t.val % 152 ≠ 0 ∧ Plan.expert s (visP s (t.val % 152 - 1)) = ex s t := by
  unfold reloads at h
  rw [wordAt1, wordAt2, tab.hE, tab.hE] at h
  constructor
  · intro h0
    exact h (reloadBit_of _ _ _ (.inl (by rw [coords_v]; exact h0)))
  · by_contra hne
    exact h (reloadBit_of _ _ _ (.inr fun e => hne (ofNat_expert pf s tab _ _ e).symm))

include tab in
theorem live_iff (t : Fin grid0.N) : live (F := Ideal) (grid0.coords t) (tLive pf) ↔ t.val % 152 < Plan.upto s 7 := by
  unfold live
  rw [wordAt3, tab.hLive]
  by_cases h : t.val % 152 < Plan.upto s 7
  · rw [if_pos (by exact h)]
    exact ⟨fun _ => h, fun _ => by decide⟩
  · rw [if_neg (by exact h)]
    exact ⟨fun e => absurd e (by decide), fun e => absurd e h⟩

theorem toInt_small (n : ℕ) (h : n ≤ 512) : (BitVec.ofNat 32 n).toInt = n := by
  rw [BitVec.toInt_eq_toNat_cond, BitVec.toNat_ofNat]
  rw [if_pos (by omega)]
  omega

theorem rowBit_eq (l h : ℕ) (hl : l ≤ 512) (hh : h ≤ 512) (r : Fin 512) : rowBit (BitVec.ofNat 32 l) (BitVec.ofNat 32 h) r = if l ≤ r.val ∧ r.val < h then 1#1 else 0#1 := by
  have hr := r.isLt
  have e1 : IntOp.cmpi .sge (BitVec.ofNat 32 r.val) (BitVec.ofNat 32 l) = BitVec.ofBool (decide (l ≤ r.val)) := by
    show BitVec.ofBool (BitVec.sle _ _) = _
    unfold BitVec.sle
    rw [toInt_small _ hl, toInt_small _ (by omega)]
    simp
  have e2 : IntOp.cmpi .slt (BitVec.ofNat 32 r.val) (BitVec.ofNat 32 h) = BitVec.ofBool (decide (r.val < h)) := by
    show BitVec.ofBool (BitVec.slt _ _) = _
    unfold BitVec.slt
    rw [toInt_small _ hh, toInt_small _ (by omega)]
    simp
  unfold rowBit
  rw [e1, e2]
  by_cases a : l ≤ r.val <;> by_cases b : r.val < h <;> simp [a, b, IntOp.andi]

theorem select_one {α : Type} (a b : α) : Scalar.select 1#1 a b = a := rfl
theorem select_zero {α : Type} (a b : α) : Scalar.select 0#1 a b = b := rfl
end Words

section
variable (W : (c : Dev nD) → (b : Ref sig .tc) → Buf (Elt Ideal) ((c : Thread nD τ).loc b)) (pf : pre0.Contents (Elt Ideal)) (hok : ok0 (F := Ideal) pf)
  (s : ℕ → ℕ) (tab : Tab pf s)
  (X : S73728x3072.Idx → EReal) (XS : S73728x24.Idx → EReal) (Wt : S8x1536x14336.Idx → BitVec 8) (S : S8x96x14336.Idx → BitVec 8) (B : S8x14336.Idx → EReal)

/-- What the decoded weights hold before a point: those of the point before. -/
def Iv (t : ℕ) (G U : S3072x512.Idx → Elt Ideal .bf16) : Prop :=
  t = 0 ∨ ∀ (k : Fin 3072) (c : Fin 512),
    G (ix2 k c) = Goal.wt Wt S (Plan.expert s (visP s ((t - 1) % 152))) (512 * ((t - 1) / 152) + c.val) k
      ∧ U (ix2 k c) = Goal.wt Wt S (Plan.expert s (visP s ((t - 1) % 152))) (7168 + (512 * ((t - 1) / 152) + c.val)) k

theorem row_lt (t : Fin grid0.N) (hT : tl s t < 144) (r : Fin 512) : 512 * tl s t + r.val < 73728 := by omega

theorem gate_step (Y2 : S1x1536x512.Idx → Elt Ideal .i8) (Y4 : S1x96x512.Idx → Elt Ideal .i8) (e j : ℕ) (c : Fin 512) (k : Fin 3072) (he : e < 8) (hj : j < 14336)
    (hS : ∀ i, 1 ≤ (S i).toNat ∧ (S i).toNat ≤ 254)
    (h2 : Y2 (ix3 0 ⟨k.val / 2, by omega⟩ c) = Wt (ix3 ⟨e, he⟩ ⟨k.val / 2, by omega⟩ ⟨j, hj⟩))
    (h4 : Y4 (ix3 0 ⟨k.val / 32, by omega⟩ c) = S (ix3 ⟨e, he⟩ ⟨k.val / 32, by omega⟩ ⟨j, hj⟩)) :
    kw Y2 Y4 k c = Goal.wt Wt S e j k := by
  unfold kw Goal.wt
  rw [dif_pos ⟨he, hj⟩, h2, h4, Goal.kdec_eq, Goal.ksc_eq _ (hS _).1 (hS _).2]

variable (c : Dev nD)

theorem hid_step (Y0 : S512x3072.Idx → Elt Ideal .fp8e4m3) (Y1 : S512x24.Idx → Elt Ideal .f32) (Y6 Y7 : S1x1x512.Idx → Elt Ideal .f32) (G U : S3072x512.Idx → Elt Ideal .bf16)
    (D : S512x3072.Idx → Elt Ideal .bf16) (e R j : ℕ) (r q : Fin 512)
    (h0 : ∀ k : Fin 3072, (Y0 (ix2 r k) * Y1 (ix2 r ⟨k.val / 128, by omega⟩) : EReal) = Goal.xr X XS R k)
    (hG : ∀ k, G (ix2 k q) = Goal.wt Wt S e j k) (hU : ∀ k, U (ix2 k q) = Goal.wt Wt S e (7168 + j) k)
    (h6 : Y6 (ix3 0 0 q) = Goal.bs B e j) (h7 : Y7 (ix3 0 0 q) = Goal.bs B e (7168 + j)) :
    hK (xFill (F := Ideal) Y0 Y1 24 0 (by omega) D) G U Y6 Y7 r q = Goal.hid X XS Wt S B e R j := by
  have hx : ∀ k : Fin 3072, xFill (F := Ideal) Y0 Y1 24 0 (by omega) D (ix2 r k) = Goal.xr X XS R k := fun k => by
    rw [xFill_at, if_pos ⟨by omega, by omega⟩]
    exact h0 k
  unfold hK
  rw [(Goal.act_real _ _).1]
  unfold Goal.hid Goal.proj
  rw [h6, h7]
  simp only [hx, hG, hU]

include tab in
theorem stepOk (hS : ∀ i, 1 ≤ (S i).toNat ∧ (S i).toNat ≤ 254)
    (a0 : W c (Pipeline.arrRef spec0 0) = X) (a1 : W c (Pipeline.arrRef spec0 1) = XS) (a2 : W c (Pipeline.arrRef spec0 2) = Wt) (a3 : W c (Pipeline.arrRef spec0 3) = Wt)
    (a4 : W c (Pipeline.arrRef spec0 4) = S) (a5 : W c (Pipeline.arrRef spec0 5) = S)
    (A6 A7 : S8x1x14336.Idx → EReal) (a6 : W c (Pipeline.arrRef spec0 6) = A6) (a7 : W c (Pipeline.arrRef spec0 7) = A7)
    (b6 : ∀ (e : Fin 8) (j : Fin 14336), A6 (ix3 e 0 j) = B (ix2 e j)) (b7 : ∀ (e : Fin 8) (j : Fin 14336), A7 (ix3 e 0 j) = B (ix2 e j)) :
    StepOk W pf hok (Iv s Wt S) (R8v s (Goal.codeT X XS Wt S B s)) (R9v s (Goal.scaleT X XS Wt S B s)) c := by
  intro t Y0 Y1 Y2 Y3 Y4 Y5 Y6 Y7 Y8 Y9 f0 f1 f2 f3 f4 f5 f6 f7 G U D hI
  have ht : t.val < 2128 := t.isLt
  have hn : t.val / 152 < 14 := by omega
  have hT : tl s t < 144 := visP_tile_lt s tab.hs _
  have he : ex s t < 8 := ex_lt pf s tab t
  have x0 : ∀ (r : Fin 512) (k : Fin 3072), (Y0 (ix2 r k) * Y1 (ix2 r ⟨k.val / 128, by omega⟩) : EReal) = Goal.xr X XS (512 * tl s t + r.val) k := fun r k => by
    unfold Goal.xr
    rw [dif_pos (row_lt s t hT r),
      in0 W pf hok s tab _ _ _ c X a0 t Y0 f0 (ix2 r k) (ix2 ⟨512 * tl s t + r.val, row_lt s t hT r⟩ k) rfl rfl,
      in1 W pf hok s tab _ _ _ c XS a1 t Y1 f1 (ix2 r ⟨k.val / 128, by omega⟩) (ix2 ⟨512 * tl s t + r.val, row_lt s t hT r⟩ ⟨k.val / 128, by omega⟩) rfl rfl]
  have x2 : ∀ (k : Fin 3072) (q : Fin 512), kw Y2 Y4 k q = Goal.wt Wt S (ex s t) (512 * (t.val / 152) + q.val) k := fun k q =>
    gate_step Wt S Y2 Y4 _ _ q k he (by omega) hS
      (in2 W pf hok s tab _ _ _ c Wt a2 t Y2 f2 _ _ rfl rfl rfl) (in4 W pf hok s tab _ _ _ c S a4 t Y4 f4 _ _ rfl rfl rfl)
  have x3 : ∀ (k : Fin 3072) (q : Fin 512), kw Y3 Y5 k q = Goal.wt Wt S (ex s t) (7168 + (512 * (t.val / 152) + q.val)) k := fun k q =>
    gate_step Wt S Y3 Y5 _ _ q k he (by omega) hS
      (in3 W pf hok s tab _ _ _ c Wt a3 t Y3 f3 _ _ rfl rfl (by show 7168 + (512 * (t.val / 152) + q.val) = 512 * (t.val / 152 + 14) + q.val; omega))
      (in5 W pf hok s tab _ _ _ c S a5 t Y5 f5 _ _ rfl rfl (by show 7168 + (512 * (t.val / 152) + q.val) = 512 * (t.val / 152 + 14) + q.val; omega))
  have x6 : ∀ q : Fin 512, Y6 (ix3 0 0 q) = Goal.bs B (ex s t) (512 * (t.val / 152) + q.val) := fun q => by
    have hj : 512 * (t.val / 152) + q.val < 14336 := by omega
    unfold Goal.bs
    rw [dif_pos ⟨he, hj⟩, ← b6]
    exact in6 W pf hok s tab _ _ _ c A6 a6 t Y6 f6 _ _ rfl rfl rfl
  have x7 : ∀ q : Fin 512, Y7 (ix3 0 0 q) = Goal.bs B (ex s t) (7168 + (512 * (t.val / 152) + q.val)) := fun q => by
    have hj : 7168 + (512 * (t.val / 152) + q.val) < 14336 := by omega
    unfold Goal.bs
    rw [dif_pos ⟨he, hj⟩, ← b7]
    exact in7 W pf hok s tab _ _ _ c A7 a7 t Y7 f7 _ _ rfl rfl (by show 7168 + (512 * (t.val / 152) + q.val) = 512 * (t.val / 152 + 14) + q.val; omega)
  have hG : ∀ (k : Fin 3072) (q : Fin 512), gateAfter (F := Ideal) (grid0.coords t) (tE pf) Y2 Y4 G (ix2 k q) = Goal.wt Wt S (ex s t) (512 * (t.val / 152) + q.val) k
      ∧ gateAfter (F := Ideal) (grid0.coords t) (tE pf) Y3 Y5 U (ix2 k q) = Goal.wt Wt S (ex s t) (7168 + (512 * (t.val / 152) + q.val)) k := fun k q => by
    unfold gateAfter
    by_cases hr : reloads (F := Ideal) (grid0.coords t) (tE pf)
    · rw [if_pos hr, if_pos hr, deqFill_at, deqFill_at, if_pos ⟨by omega, by omega⟩, if_pos ⟨by omega, by omega⟩]
      exact ⟨x2 k q, x3 k q⟩
    · rw [if_neg hr, if_neg hr]
      obtain ⟨h0, h1⟩ := not_reload pf s tab t hr
      rcases hI with hI | hI
      · omega
      · have := hI k q
        rw [show (t.val - 1) % 152 = t.val % 152 - 1 by omega, show (t.val - 1) / 152 = t.val / 152 by omega, h1] at this
        exact this
  generalize gateAfter (F := Ideal) (grid0.coords t) (tE pf) Y2 Y4 G = G' at hG ⊢
  generalize gateAfter (F := Ideal) (grid0.coords t) (tE pf) Y3 Y5 U = U' at hG ⊢
  have hmask : visitMask (F := Ideal) (grid0.coords t) (tLo pf) (tHi pf) = maskVal (F := Ideal) (BitVec.ofNat 32 (Plan.lo s (visP s (t.val % 152)))) (BitVec.ofNat 32 (Plan.hi s (visP s (t.val % 152)))) := by
    unfold visitMask
    rw [wordAt4, wordAt4, tab.hLo, tab.hHi]
  have hbit : ∀ r : Fin 512, rowBit (BitVec.ofNat 32 (Plan.lo s (visP s (t.val % 152)))) (BitVec.ofNat 32 (Plan.hi s (visP s (t.val % 152)))) r
      = if Plan.lo s (visP s (t.val % 152)) ≤ r.val ∧ r.val < Plan.hi s (visP s (t.val % 152)) then 1#1 else 0#1 := fun r =>
    rowBit_eq _ _ (Nat.min_le_left _ _) (Nat.min_le_left _ _) r
  have hk : ∀ r q : Fin 512, hK (xFill (F := Ideal) Y0 Y1 24 0 (by omega) D) G' U' Y6 Y7 r q = Goal.hid X XS Wt S B (ex s t) (512 * tl s t + r.val) (512 * (t.val / 152) + q.val) := fun r q =>
    hid_step X XS Wt S B Y0 Y1 Y6 Y7 G' U' D _ _ _ r q (x0 r) (fun k => (hG k q).1) (fun k => (hG k q).2) (x6 q) (x7 q)
  have hrow : ∀ r : Fin 512, wr s t r.val → Plan.rowExpert s (512 * tl s t + r.val) = ex s t := fun r hw =>
    Plan.rowExpert_of s _ _ (visP_lt s tab.hs _) hw.2.1 hw.2.2
  have e0 : ∀ (r : Fin 512) (q : Fin 256), hOut (F := Ideal) (xFill (F := Ideal) Y0 Y1 24 0 (by omega) D) G' U' Y6 Y7 0 (by decide) (ix2 r q)
      = (fun r q : Fin 512 => Goal.hid X XS Wt S B (ex s t) (512 * tl s t + r.val) (512 * (t.val / 152) + q.val)) r ⟨q.val, by omega⟩ := fun r q =>
    (hOut_at _ _ _ _ _ 0 _ r q ⟨q.val, by omega⟩ (by show q.val = 256 * 0 + q.val; omega)).trans (hk _ _)
  have e1 : ∀ (r : Fin 512) (q : Fin 256), hOut (F := Ideal) (xFill (F := Ideal) Y0 Y1 24 0 (by omega) D) G' U' Y6 Y7 1 (by decide) (ix2 r q)
      = (fun r q : Fin 512 => Goal.hid X XS Wt S B (ex s t) (512 * tl s t + r.val) (512 * (t.val / 152) + q.val)) r ⟨256 + q.val, by omega⟩ := fun r q =>
    (hOut_at _ _ _ _ _ 1 _ r q ⟨256 + q.val, by omega⟩ (by show 256 + q.val = 256 * 1 + q.val; omega)).trans (hk _ _)
  have hH : ∀ r q : Fin 512, ∃ x : ℝ, |x| ≤ 56 ∧ (fun r q : Fin 512 => Goal.hid X XS Wt S B (ex s t) (512 * tl s t + r.val) (512 * (t.val / 152) + q.val)) r q = (x : EReal) := fun r q =>
    (Goal.act_real _ _).2
  refine ⟨.inr fun k q => ?_, fun r q => ?_, fun r q => ?_⟩
  · rw [show t.val + 1 - 1 = t.val by omega]
    exact hG k q
  · unfold codesAfter
    by_cases hl : live (F := Ideal) (grid0.coords t) (tLive pf)
    · rw [if_pos hl, hmask, cOut_at _ _ _ hH _ _ e0 e1, hbit]
      have hv := (live_iff pf s tab t).1 hl
      constructor
      · intro hw
        rw [if_pos hw.2, select_one]
        unfold codeK Goal.codeT Goal.scaleAt
        rw [hrow r hw]
        refine congrArg (fun f => Goal.code _ (Goal.scale (Goal.amax f))) (funext fun x => congrArg (Goal.hid X XS Wt S B (ex s t) (512 * tl s t + r.val)) ?_)
        show 512 * (t.val / 152) + (q.val / 128 * 128 + x.val) = 128 * ((512 * (t.val / 152) + q.val) / 128) + x.val
        omega
      · intro hw
        rw [if_neg (fun h => hw ⟨hv, h⟩), select_zero]
    · rw [if_neg hl]
      have hv := (live_iff pf s tab t).not.1 hl
      exact ⟨fun hw => absurd hw.1 hv, fun _ => rfl⟩
  · unfold scalesAfter
    by_cases hl : live (F := Ideal) (grid0.coords t) (tLive pf)
    · rw [if_pos hl, hmask, sOut_at _ _ _ hH _ _ e0 e1, hbit]
      have hv := (live_iff pf s tab t).1 hl
      constructor
      · intro hw
        rw [if_pos hw.2, select_one]
        unfold scaleK Goal.scaleT Goal.scaleAt
        rw [hrow r hw]
        refine congrArg (fun f => Goal.scale (Goal.amax f)) (funext fun x => congrArg (Goal.hid X XS Wt S B (ex s t) (512 * tl s t + r.val)) ?_)
        show 512 * (t.val / 152) + (q.val * 128 + x.val) = 512 * (t.val / 152) + 128 * q.val + x.val
        omega
      · intro hw
        rw [if_neg (fun h => hw ⟨hv, h⟩), select_zero]
    · rw [if_neg hl]
      have hv := (live_iff pf s tab t).not.1 hl
      exact ⟨fun hw => absurd hw.1 hv, fun _ => rfl⟩

end

end Cert.KernelIdeal.Hand
-- ==== Proof.PI.Value.lean ====
module

public import proofs.«01_k».proof.Proof.PI.Step
public import proofs.«01_k».proof.Proof.PI.Frame
public import proofs.«01_k».proof.Proof.PI.Tables2
public import proofs.«01_k».proof.Proof.PI.TableFacts2

/-! The kernel's two results. -/

@[expose] public section

set_option maxRecDepth 4096

noncomputable section

namespace Cert.KernelIdeal.Hand

open Idealize.ShloMosaic Idealize.ShloMosaic.TcCoe Idealize.SL.Sem
open Idealize.ShloMosaic.Pipeline (RDat)
open Cert.KernelIdeal Cert.KernelIdeal.Gen Cert.Hand

theorem ix_eq (v : Fin 152) : (ix1 v : S152.Idx) = ValueIdx.ix1 v := by
  funext a
  match a with
  | ⟨0, _⟩ => rfl

variable (m : (ℓ : Loc nD τ sig) → Buf (Elt Ideal) ℓ)

theorem tab_of (h : (∀ j : Fin 8, (sizes m (0 : Dev nD) (ValueIdx.ix1 j)).toNat ≤ 73728) ∧ Plan.fin (nat8 (sizes m (0 : Dev nD))) 7 = 73728) :
    Tab (F := Ideal) (tbl m) (nat8 (sizes m (0 : Dev nD))) where
  hs := h.2
  hT v := by
    have e : tT (tbl m) = wTile (wFirst (sizes m (0 : Dev nD))) (wCount (sizes m (0 : Dev nD))) (wEnd (sizes m (0 : Dev nD))) := tab_tile m (0 : Dev nD)
    rw [e, ix_eq]
    exact tile_at _ h.1 h.2 v
  hE v := by
    have e : tE (tbl m) = wExpert (wEnd (sizes m (0 : Dev nD))) := tab_expert m (0 : Dev nD)
    rw [e, ix_eq]
    exact expert_at _ h.1 h.2 v
  hLo v := by
    have e : tLo (tbl m) = _ := tab_lo m (0 : Dev nD)
    rw [e, ix_eq]
    exact lo_at _ h.1 h.2 v
  hHi v := by
    have e : tHi (tbl m) = _ := tab_hi m (0 : Dev nD)
    rw [e, ix_eq]
    exact hi_at _ h.1 h.2 v
  hLive v := by
    have e : tLive (tbl m) = _ := tab_live m (0 : Dev nD)
    rw [e, ix_eq]
    exact live_at _ h.1 h.2 v

/-- The arguments as tensors. -/
abbrev aX (c : Dev nD) : S73728x3072.Idx → EReal := m ((c : Thread nD τ).loc main_arg0)
abbrev aXS (c : Dev nD) : S73728x24.Idx → EReal := m ((c : Thread nD τ).loc main_arg1)
abbrev aW (c : Dev nD) : S8x1536x14336.Idx → BitVec 8 := m ((c : Thread nD τ).loc main_arg2)
abbrev aS (c : Dev nD) : S8x96x14336.Idx → BitVec 8 := m ((c : Thread nD τ).loc main_arg3)
abbrev aB (c : Dev nD) : S8x14336.Idx → EReal := m ((c : Thread nD τ).loc main_arg4)

theorem bias_at (A : S8x14336.Idx → EReal) (e : Fin 8) (j : Fin 14336) :
    (broadcastInDim S8x1x14336 ![0, 2] bcast_S8x14336_S8x1x14336_0_2 A : S8x1x14336.Idx → EReal) (ix3 e 0 j) = A (ix2 e j) := by
  refine congrArg A (funext fun a => ?_)
  match a with
  | ⟨0, _⟩ => rfl
  | ⟨1, _⟩ => rfl

theorem value_run (g : Dev nD → PrngReg) (h : (∀ j : Fin 8, (sizes m (0 : Dev nD) (ValueIdx.ix1 j)).toNat ≤ 73728) ∧ Plan.fin (nat8 (sizes m (0 : Dev nD))) 7 = 73728)
    (hS : ∀ (c : Dev nD) i, 1 ≤ (aS m c i).toNat ∧ (aS m c i).toNat ≤ 254) :
    θ_run (defs (F := Ideal)) (onTc (τ := τ) (main (F := Ideal))) ⟨m, fun _ => 0, g⟩ (fun r => ∀ c : Dev nD,
      (r.2.mem ((c : Thread nD τ).loc main_v79_0) = (fun i : S73728x7168.Idx => Goal.codeT (aX m c) (aXS m c) (aW m c) (aS m c) (aB m c) (nat8 (sizes m (0 : Dev nD))) (i 0).val (i 1).val))
      ∧ (r.2.mem ((c : Thread nD τ).loc main_v79_1) = (fun i : S14x73728x4.Idx => Goal.scaleT (aX m c) (aXS m c) (aW m c) (aS m c) (aB m c) (nat8 (sizes m (0 : Dev nD))) (i 0).val (i 1).val (i 2).val))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) := by
  have hok : Ok m := ok_sizes m h
  have tab := tab_of m h
  have hstep : ∀ c : Dev nD, StepOk (V m) (tbl m) hok (Iv (nat8 (sizes m (0 : Dev nD))) (aW m 0) (aS m 0))
      (R8v (nat8 (sizes m (0 : Dev nD))) (Goal.codeT (aX m 0) (aXS m 0) (aW m 0) (aS m 0) (aB m 0) (nat8 (sizes m (0 : Dev nD)))))
      (R9v (nat8 (sizes m (0 : Dev nD))) (Goal.scaleT (aX m 0) (aXS m 0) (aW m 0) (aS m 0) (aB m 0) (nat8 (sizes m (0 : Dev nD))))) c := fun c => by
    obtain rfl : c = 0 := Subsingleton.elim _ _
    exact stepOk (V m) (tbl m) hok _ tab (aX m 0) (aXS m 0) (aW m 0) (aS m 0) (aB m 0) 0 (hS 0)
      (V_arg0 m 0) (V_arg1 m 0) (V_arg2 m 0) (V_arg2 m 0) (V_arg3 m 0) (V_arg3 m 0) _ _ (bias_gate m 0) (bias_up m 0) (bias_at _) (bias_at _)
  refine (θ_run _ _ _).mono (fun r hr c => ?_) (run (V m) (tbl m) hok _ _ _ m (fun 𝒱 => hmain m 𝒱) (V_pre m) g hstep (fun G U => .inl rfl))
  obtain rfl : c = 0 := Subsingleton.elim _ _
  obtain ⟨h0, h1, h2, h3, h4, h5⟩ := args_of_post (V m) (tbl m) hok _ _ _ r hr.1 0
  exact ⟨result8 (V m) (tbl m) hok _ tab _ _ 0 _ r hr.1, result9 (V m) (tbl m) hok _ tab _ _ 0 _ r hr.1,
    h0.trans (V_arg0 m 0), h1.trans (V_arg1 m 0), h2.trans (V_arg2 m 0), h3.trans (V_arg3 m 0), h4.trans (V_arg4 m 0), h5.trans (V_arg5 m 0)⟩

end Cert.KernelIdeal.Hand
-- ==== Proof.P.Kit.lean ====
module

public import proofs.«01_k».proof.Proof.Gen.Kernel.Launch
public import Idealize.ShloMosaic.Lib.Pipeline.Frame
public import Idealize.ShloMosaic.Lib.Tactic

/-! The program up to its region: the contents the region finds, and the prefetched tables. -/

@[expose] public section

set_option maxRecDepth 4096

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The host operations before the region. -/
abbrev hostAll : List (HloOp τ sig (Elt F)) := List.flatten [hostOps0, hostOps0_1, hostOps0_2, hostOps0_3, hostOps0_4, hostOps0_5, hostOps0_6, hostOps0_7, hostOps0_8, hostOps0_9, hostOps0_10, hostOps0_11, hostOps0_12, hostOps0_13]
/-- The buffers the region finds. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13]) (fun b => m (c, b)) b
theorem hostOps0_fresh : (hostOps0 : List (HloOp τ sig (Elt F))).Forall fun op => op.fresh = ∅ := by
  simp only [List.Forall]; repeat' constructor
abbrev hostOps0_W : List (Ref sig .tc) := [main_call0_call0_c, main_call0_call0_v0, main_v0]
theorem hostOps0_writes : (hostOps0 : List (HloOp τ sig (Elt F))).Forall fun op => op.writes ⊆ (hostOps0_W.map (Proc.devRef (τ := τ) .tc)).toFinset :=
  StableHlo.forall_writes_sub_of_map rfl
theorem hostOps0_1_fresh : (hostOps0_1 : List (HloOp τ sig (Elt F))).Forall fun op => op.fresh = ∅ := by
  simp only [List.Forall]; repeat' constructor
abbrev hostOps0_1_W : List (Ref sig .tc) := [main_v1, main_c]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_2_fresh : (hostOps0_2 : List (HloOp τ sig (Elt F))).Forall fun op => op.fresh = ∅ := by
  simp only [List.Forall]; repeat' constructor
abbrev hostOps0_2_W : List (Ref sig .tc) := [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v2]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_3_fresh : (hostOps0_3 : List (HloOp τ sig (Elt F))).Forall fun op => op.fresh = ∅ := by
  simp only [List.Forall]; repeat' constructor
abbrev hostOps0_3_W : List (Ref sig .tc) := [main_c_0, main_v3, main_v4, main_c_1, main_v5, main_v6, main_c_2]
theorem hostOps0_3_writes : (hostOps0_3 : List (HloOp τ sig (Elt F))).Forall fun op => op.writes ⊆ (hostOps0_3_W.map (Proc.devRef (τ := τ) .tc)).toFinset :=
  StableHlo.forall_writes_sub_of_map rfl
theorem hostOps0_4_fresh : (hostOps0_4 : List (HloOp τ sig (Elt F))).Forall fun op => op.fresh = ∅ := by
  simp only [List.Forall]; repeat' constructor
abbrev hostOps0_4_W : List (Ref sig .tc) := [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v7]
theorem hostOps0_4_writes : (hostOps0_4 : List (HloOp τ sig (Elt F))).Forall fun op => op.writes ⊆ (hostOps0_4_W.map (Proc.devRef (τ := τ) .tc)).toFinset :=
  StableHlo.forall_writes_sub_of_map rfl
theorem hostOps0_5_fresh : (hostOps0_5 : List (HloOp τ sig (Elt F))).Forall fun op => op.fresh = ∅ := by
  simp only [List.Forall]; repeat' constructor
abbrev hostOps0_5_W : List (Ref sig .tc) := [main_c_3, main_v8, main_v9]
theorem hostOps0_5_writes : (hostOps0_5 : List (HloOp τ sig (Elt F))).Forall fun op => op.writes ⊆ (hostOps0_5_W.map (Proc.devRef (τ := τ) .tc)).toFinset :=
  StableHlo.forall_writes_sub_of_map rfl
theorem hostOps0_6_fresh : (hostOps0_6 : List (HloOp τ sig (Elt F))).Forall fun op => op.fresh = ∅ := by
  simp only [List.Forall]; repeat' constructor
abbrev hostOps0_6_W : List (Ref sig .tc) := [main_v10]
theorem hostOps0_6_writes : (hostOps0_6 : List (HloOp τ sig (Elt F))).Forall fun op => op.writes ⊆ (hostOps0_6_W.map (Proc.devRef (τ := τ) .tc)).toFinset :=
  StableHlo.forall_writes_sub_of_map rfl
theorem hostOps0_7_fresh : (hostOps0_7 : List (HloOp τ sig (Elt F))).Forall fun op => op.fresh = ∅ := by
  simp only [List.Forall]; repeat' constructor
abbrev hostOps0_7_W : List (Ref sig .tc) := [main_v11, main_c_4, main_v12, main_v13]
theorem hostOps0_7_writes : (hostOps0_7 : List (HloOp τ sig (Elt F))).Forall fun op => op.writes ⊆ (hostOps0_7_W.map (Proc.devRef (τ := τ) .tc)).toFinset :=
  StableHlo.forall_writes_sub_of_map rfl
theorem hostOps0_8_fresh : (hostOps0_8 : List (HloOp τ sig (Elt F))).Forall fun op => op.fresh = ∅ := by
  simp only [List.Forall]; repeat' constructor
abbrev hostOps0_8_W : List (Ref sig .tc) := [main_call4_call0_c, main_call4_call0_v0, main_v14]
theorem hostOps0_8_writes : (hostOps0_8 : List (HloOp τ sig (Elt F))).Forall fun op => op.writes ⊆ (hostOps0_8_W.map (Proc.devRef (τ := τ) .tc)).toFinset :=
  StableHlo.forall_writes_sub_of_map rfl
theorem hostOps0_9_fresh : (hostOps0_9 : List (HloOp τ sig (Elt F))).Forall fun op => op.fresh = ∅ := by
  simp only [List.Forall]; repeat' constructor
abbrev hostOps0_9_W : List (Ref sig .tc) := [main_v15, main_v16, main_v17, main_v18, main_v19, main_c_5, main_v20, main_v21, main_v22, main_v23, main_v24, main_v25, main_v26, main_v27, main_v28, main_c_6, main_v29, main_c_7, main_v30, main_v31, main_c_8, main_v32, main_v33, main_v34, main_v35, main_v36, main_v37, main_c_9, main_v38, main_v39, main_c_10, main_v40, main_v41, main_v42, main_v43, main_v44, main_c_11, main_v45, main_v46, main_c_12, main_v47, main_v48, main_v49, main_v50, main_v51, main_v52, main_v53, main_c_13, main_v54, main_v55, main_c_14, main_v56, main_v57, main_v58, main_v59, main_v60, main_c_15, main_v61, main_v62, main_v63, main_c_16, main_c_17]
theorem hostOps0_9_writes : (hostOps0_9 : List (HloOp τ sig (Elt F))).Forall fun op => op.writes ⊆ (hostOps0_9_W.map (Proc.devRef (τ := τ) .tc)).toFinset :=
  StableHlo.forall_writes_sub_of_map rfl
theorem hostOps0_10_fresh : (hostOps0_10 : List (HloOp τ sig (Elt F))).Forall fun op => op.fresh = ∅ := by
  simp only [List.Forall]; repeat' constructor
abbrev hostOps0_10_W : List (Ref sig .tc) := [main_call5_v0, main_call5_v1, main_call5_v2, main_call5_v3, main_call5_v4, main_v64]
theorem hostOps0_10_writes : (hostOps0_10 : List (HloOp τ sig (Elt F))).Forall fun op => op.writes ⊆ (hostOps0_10_W.map (Proc.devRef (τ := τ) .tc)).toFinset :=
  StableHlo.forall_writes_sub_of_map rfl
theorem hostOps0_11_fresh : (hostOps0_11 : List (HloOp τ sig (Elt F))).Forall fun op => op.fresh = ∅ := by
  simp only [List.Forall]; repeat' constructor
abbrev hostOps0_11_W : List (Ref sig .tc) := [main_c_18, main_v65, main_v66, main_c_19, main_v67, main_v68, main_v69, main_v70, main_v71, main_c_20, main_v72, main_v73, main_v74, main_c_21, main_c_22]
theorem hostOps0_11_writes : (hostOps0_11 : List (HloOp τ sig (Elt F))).Forall fun op => op.writes ⊆ (hostOps0_11_W.map (Proc.devRef (τ := τ) .tc)).toFinset :=
  StableHlo.forall_writes_sub_of_map rfl
theorem hostOps0_12_fresh : (hostOps0_12 : List (HloOp τ sig (Elt F))).Forall fun op => op.fresh = ∅ := by
  simp only [List.Forall]; repeat' constructor
abbrev hostOps0_12_W : List (Ref sig .tc) := [main_call6_v0, main_call6_v1, main_call6_v2, main_call6_v3, main_call6_v4, main_v75]
theorem hostOps0_12_writes : (hostOps0_12 : List (HloOp τ sig (Elt F))).Forall fun op => op.writes ⊆ (hostOps0_12_W.map (Proc.devRef (τ := τ) .tc)).toFinset :=
  StableHlo.forall_writes_sub_of_map rfl
theorem hostOps0_13_fresh : (hostOps0_13 : List (HloOp τ sig (Elt F))).Forall fun op => op.fresh = ∅ := by
  simp only [List.Forall]; repeat' constructor
abbrev hostOps0_13_W : List (Ref sig .tc) := [main_v76, main_v77, main_v78]
theorem hostOps0_13_writes : (hostOps0_13 : List (HloOp τ sig (Elt F))).Forall fun op => op.writes ⊆ (hostOps0_13_W.map (Proc.devRef (τ := τ) .tc)).toFinset :=
  StableHlo.forall_writes_sub_of_map rfl

set_option maxHeartbeats 2000000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh⟩) main_chain

/-- A buffer no host operation writes is found as launched. -/
theorem V_of_not_written (c : Dev nD) (b : Ref sig .tc)
    (h : ∀ l ∈ [hostOps0_W, hostOps0_1_W, hostOps0_2_W, hostOps0_3_W, hostOps0_4_W, hostOps0_5_W, hostOps0_6_W, hostOps0_7_W, hostOps0_8_W, hostOps0_9_W, hostOps0_10_W, hostOps0_11_W, hostOps0_12_W, hostOps0_13_W], b ∉ l) :
    V m c b = m ((c : Thread nD τ).loc b) := by
  refine StableHlo.after_of_forall_not_mem (b := Proc.devRef .tc b) _ _ ?_
  intro op hop hb
  simp only [List.mem_flatten, List.mem_cons, List.mem_nil_iff, or_false] at hop
  obtain ⟨l, hl, hop⟩ := hop
  rcases hl with rfl | rfl | rfl | rfl | rfl | rfl | rfl | rfl | rfl | rfl | rfl | rfl | rfl | rfl
  · have h1 := (List.forall_iff_forall_mem.mp hostOps0_writes) op hop hb
    rw [List.mem_toFinset, List.mem_map] at h1
    obtain ⟨b', hb', he⟩ := h1
    exact h _ (by simp) (Proc.devRef_injective _ he ▸ hb')
  · have h1 := (List.forall_iff_forall_mem.mp hostOps0_1_writes) op hop hb
    rw [List.mem_toFinset, List.mem_map] at h1
    obtain ⟨b', hb', he⟩ := h1
    exact h _ (by simp) (Proc.devRef_injective _ he ▸ hb')
  · have h1 := (List.forall_iff_forall_mem.mp hostOps0_2_writes) op hop hb
    rw [List.mem_toFinset, List.mem_map] at h1
    obtain ⟨b', hb', he⟩ := h1
    exact h _ (by simp) (Proc.devRef_injective _ he ▸ hb')
  · have h1 := (List.forall_iff_forall_mem.mp hostOps0_3_writes) op hop hb
    rw [List.mem_toFinset, List.mem_map] at h1
    obtain ⟨b', hb', he⟩ := h1
    exact h _ (by simp) (Proc.devRef_injective _ he ▸ hb')
  · have h1 := (List.forall_iff_forall_mem.mp hostOps0_4_writes) op hop hb
    rw [List.mem_toFinset, List.mem_map] at h1
    obtain ⟨b', hb', he⟩ := h1
    exact h _ (by simp) (Proc.devRef_injective _ he ▸ hb')
  · have h1 := (List.forall_iff_forall_mem.mp hostOps0_5_writes) op hop hb
    rw [List.mem_toFinset, List.mem_map] at h1
    obtain ⟨b', hb', he⟩ := h1
    exact h _ (by simp) (Proc.devRef_injective _ he ▸ hb')
  · have h1 := (List.forall_iff_forall_mem.mp hostOps0_6_writes) op hop hb
    rw [List.mem_toFinset, List.mem_map] at h1
    obtain ⟨b', hb', he⟩ := h1
    exact h _ (by simp) (Proc.devRef_injective _ he ▸ hb')
  · have h1 := (List.forall_iff_forall_mem.mp hostOps0_7_writes) op hop hb
    rw [List.mem_toFinset, List.mem_map] at h1
    obtain ⟨b', hb', he⟩ := h1
    exact h _ (by simp) (Proc.devRef_injective _ he ▸ hb')
  · have h1 := (List.forall_iff_forall_mem.mp hostOps0_8_writes) op hop hb
    rw [List.mem_toFinset, List.mem_map] at h1
    obtain ⟨b', hb', he⟩ := h1
    exact h _ (by simp) (Proc.devRef_injective _ he ▸ hb')
  · have h1 := (List.forall_iff_forall_mem.mp hostOps0_9_writes) op hop hb
    rw [List.mem_toFinset, List.mem_map] at h1
    obtain ⟨b', hb', he⟩ := h1
    exact h _ (by simp) (Proc.devRef_injective _ he ▸ hb')
  · have h1 := (List.forall_iff_forall_mem.mp hostOps0_10_writes) op hop hb
    rw [List.mem_toFinset, List.mem_map] at h1
    obtain ⟨b', hb', he⟩ := h1
    exact h _ (by simp) (Proc.devRef_injective _ he ▸ hb')
  · have h1 := (List.forall_iff_forall_mem.mp hostOps0_11_writes) op hop hb
    rw [List.mem_toFinset, List.mem_map] at h1
    obtain ⟨b', hb', he⟩ := h1
    exact h _ (by simp) (Proc.devRef_injective _ he ▸ hb')
  · have h1 := (List.forall_iff_forall_mem.mp hostOps0_12_writes) op hop hb
    rw [List.mem_toFinset, List.mem_map] at h1
    obtain ⟨b', hb', he⟩ := h1
    exact h _ (by simp) (Proc.devRef_injective _ he ▸ hb')
  · have h1 := (List.forall_iff_forall_mem.mp hostOps0_13_writes) op hop hb
    rw [List.mem_toFinset, List.mem_map] at h1
    obtain ⟨b', hb', he⟩ := h1
    exact h _ (by simp) (Proc.devRef_injective _ he ▸ hb')
theorem V_arg0 (c : Dev nD) : V m c main_arg0 = m ((c : Thread nD τ).loc main_arg0) := V_of_not_written m c _ (by decide)
theorem V_arg1 (c : Dev nD) : V m c main_arg1 = m ((c : Thread nD τ).loc main_arg1) := V_of_not_written m c _ (by decide)
theorem V_arg2 (c : Dev nD) : V m c main_arg2 = m ((c : Thread nD τ).loc main_arg2) := V_of_not_written m c _ (by decide)
theorem V_arg3 (c : Dev nD) : V m c main_arg3 = m ((c : Thread nD τ).loc main_arg3) := V_of_not_written m c _ (by decide)
theorem V_arg4 (c : Dev nD) : V m c main_arg4 = m ((c : Thread nD τ).loc main_arg4) := V_of_not_written m c _ (by decide)
theorem V_arg5 (c : Dev nD) : V m c main_arg5 = m ((c : Thread nD τ).loc main_arg5) := V_of_not_written m c _ (by decide)

/-- The tables' contents when the region is entered. -/
def tbl : pre0.Contents (Elt F) := fun j => V m (0 : Dev nD) (pre0.ref j)
theorem V_pre (c : Dev nD) (j : Fin 5) : V m c (pre0.ref j) = tbl m j := by
  obtain rfl : c = 0 := Subsingleton.elim _ _; rfl
/-- The side condition of the tables' contents. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables as words. -/
def tabT : S152.Idx → Elt F .i32 := V m (0 : Dev nD) main_v53
def tabE : S152.Idx → Elt F .i32 := V m (0 : Dev nD) main_v29
def tabLo : S152.Idx → Elt F .i32 := V m (0 : Dev nD) main_v64
def tabHi : S152.Idx → Elt F .i32 := V m (0 : Dev nD) main_v75
def tabLive : S152.Idx → Elt F .i32 := V m (0 : Dev nD) main_v76

theorem PhiT0_eq (c : Dev nD) : (Pipeline.ΦT pre0 (tbl m) c : sProp 𝕄) =
    iprop(owns (c : Thread nD τ) (Memref.whole main_v53) fullShare.right (tabT m) ∗ owns (c : Thread nD τ) (Memref.whole main_v29) fullShare.right (tabE m)
      ∗ owns (c : Thread nD τ) (Memref.whole main_v64) fullShare.right (tabLo m) ∗ owns (c : Thread nD τ) (Memref.whole main_v75) fullShare.right (tabHi m)
      ∗ owns (c : Thread nD τ) (Memref.whole main_v76) fullShare.right (tabLive m)) := by
  unfold Pipeline.ΦT Pipeline.prefHeld
  rw [show (Finset.univ : Finset (Fin 5)) = {(0 : Fin 5), (1 : Fin 5), (2 : Fin 5), (3 : Fin 5), (4 : Fin 5)} from by decide,
    bigSep_insert (by decide), bigSep_insert (by decide), bigSep_insert (by decide), bigSep_insert (by decide), bigSep_singleton]
  simp only [owns_whole]
  rfl

end Cert.Kernel.Hand
-- ==== Proof.P.Tables.lean ====
module

public import proofs.«01_k».proof.Proof.P.Kit
public import Idealize.ShloMosaic.Lib.StableHlo.RunRead

/-! The visit tables, as words computed from the group sizes. -/

@[expose] public section

set_option maxRecDepth 4096

noncomputable section

namespace Cert.Kernel.Hand

open Idealize.ShloMosaic Idealize.ShloMosaic.TcCoe Idealize.SL.Sem Idealize.ShloMosaic.StableHlo
open Cert.Kernel Cert.Kernel.Gen

variable {F : FTy → Type} [FloatOps F]

/-- The running sum of eight words. -/
def wCum (x : IVec S8 32) : IVec S8 32 :=
  Host.reduceWindow IntOp.addi ![8] ![1] ![7] ![0] x (broadcastInDim S_ ![] bcast_S_S_ (constantI S_ 32 0#32)) reduceWindows_S8_S8_w8s1p7_0 h_S_

/-- A word vector divided by a word, rounding down. -/
def wDiv (x : IVec S8 32) (d : IVec S_ 32) : IVec S8 32 :=
  select (andi (cmpi .ne (signi x) (broadcastInDim S8 ![] bcast_S_S8 (signi d)))
      (cmpi .ne (Host.remsi x (broadcastInDim S8 ![] bcast_S_S8 d)) (broadcastInDim S8 ![] bcast_S_S8 (constantI S_ 32 0#32))))
    (subi (Host.divsi x (broadcastInDim S8 ![] bcast_S_S8 d)) (broadcastInDim S8 ![] bcast_S_S8 (constantI S_ 32 1#32)))
    (Host.divsi x (broadcastInDim S8 ![] bcast_S_S8 d))

/-- The word `k` at eight positions. -/
def wAll8 (k : BitVec 32) : IVec S8 32 := broadcastInDim S8 ![] bcast_S_S8 (constantI S_ 32 k)
/-- The word `k` at every visit. -/
def wAll (k : BitVec 32) : IVec S152 32 := broadcastInDim S152 ![] bcast_S_S152 (constantI S_ 32 k)

def wStart (g : IVec S8 32) : IVec S8 32 := subi (wCum g) g
def wFirst (g : IVec S8 32) : IVec S8 32 := wDiv (wStart g) (constantI S_ 32 512#32)
def wLast (g : IVec S8 32) : IVec S8 32 :=
  select (cmpi .sgt g (wAll8 0#32)) (wDiv (subi (wCum g) (wAll8 1#32)) (constantI S_ 32 512#32)) (subi (wFirst g) (wAll8 1#32))
def wCount (g : IVec S8 32) : IVec S8 32 := addi (subi (wLast g) (wFirst g)) (wAll8 1#32)
def wEnd (g : IVec S8 32) : IVec S8 32 := wCum (wCount g)
/-- The number of visits. -/
def wTotal (e : IVec S8 32) : IVec S_ 32 := shapeCast S_ (extractStridedSlice S1 ![7] e slices_S8_S1_7) shapeCasts_S1_S_
/-- The visit, kept below the number of visits. -/
def wVisit (e : IVec S8 32) : IVec S152 32 := minsi (iotaInDim S152 32 0) (broadcastInDim S152 ![] bcast_S_S152 (subi (wTotal e) (constantI S_ 32 1#32)))
/-- The expert of each visit. -/
def wExpert (e : IVec S8 32) : IVec S152 32 :=
  Host.reduce IntOp.addi (extui 32 (cmpi .sge (broadcastInDim S152x8 ![0, 1] bcast_S152x1_S152x8_0_1 (broadcastInDim S152x1 ![0] bcast_S152_S152x1_0 (wVisit e)))
    (broadcastInDim S152x8 ![0, 1] bcast_S1x8_S152x8_0_1 (broadcastInDim S1x8 ![1] bcast_S8_S1x8_1 e))) natLt_1_32) (constantI S_ 32 0#32) reducesTo_S152x8_S152_d1 h_S_
/-- A table of eight words read at each visit's expert `x`. -/
def wTake (y : IVec S8 32) (x : IVec S152 32) : IVec S152 32 :=
  Host.gather gather_S8_S152x1_S152_n_0_n_n_0_1_1 y
    (broadcastInDim S152x1 ![0] bcast_S152_S152x1_0 (select (cmpi .slt x (wAll 0#32)) (addi x (wAll 8#32)) x))
/-- The row tile of each visit. -/
def wTile (first counts e : IVec S8 32) : IVec S152 32 :=
  subi (addi (wTake first (wExpert e)) (wVisit e)) (subi (wTake e (wExpert e)) (wTake counts (wExpert e)))

attribute [local irreducible] Host.reduceWindow Host.gather Host.reduce
variable (U : Valuation τ sig (Elt F))

theorem l0_v0 : after hostOps0 U (Proc.devRef .tc main_v0) = wCum (U (Proc.devRef .tc main_arg5)) := by
  after_results_simp; unfold wCum; rfl
theorem l1_v1 : after hostOps0_1 U (Proc.devRef .tc main_v1) = subi (U (Proc.devRef .tc main_v0)) (U (Proc.devRef .tc main_arg5)) := by
  after_results; try rfl
theorem l1_c : after hostOps0_1 U (Proc.devRef .tc main_c) = constantI S_ 32 512#32 := by
  after_results; try rfl
theorem l2_v2 : after hostOps0_2 U (Proc.devRef .tc main_v2) = wDiv (U (Proc.devRef .tc main_v1)) (U (Proc.devRef .tc main_c)) := by
  after_results; try rfl
theorem l3_v4 : after hostOps0_3 U (Proc.devRef .tc main_v4) = cmpi .sgt (U (Proc.devRef .tc main_arg5)) (wAll8 0#32) := by
  after_results; try rfl
theorem l3_v6 : after hostOps0_3 U (Proc.devRef .tc main_v6) = subi (U (Proc.devRef .tc main_v0)) (wAll8 1#32) := by
  after_results; try rfl
theorem l3_c : after hostOps0_3 U (Proc.devRef .tc main_c_2) = constantI S_ 32 512#32 := by
  after_results; try rfl
theorem l4_v7 : after hostOps0_4 U (Proc.devRef .tc main_v7) = wDiv (U (Proc.devRef .tc main_v6)) (U (Proc.devRef .tc main_c_2)) := by
  after_results; try rfl
theorem l5_v9 : after hostOps0_5 U (Proc.devRef .tc main_v9) = subi (U (Proc.devRef .tc main_v2)) (wAll8 1#32) := by
  after_results; try rfl
theorem l6_v10 : after hostOps0_6 U (Proc.devRef .tc main_v10) = select (U (Proc.devRef .tc main_v4)) (U (Proc.devRef .tc main_v7)) (U (Proc.devRef .tc main_v9)) := by
  after_results; try rfl
theorem l7_v13 : after hostOps0_7 U (Proc.devRef .tc main_v13) = addi (subi (U (Proc.devRef .tc main_v10)) (U (Proc.devRef .tc main_v2))) (wAll8 1#32) := by
  after_results; try rfl
theorem l8_v14 : after hostOps0_8 U (Proc.devRef .tc main_v14) = wCum (U (Proc.devRef .tc main_v13)) := by
  after_results_simp; unfold wCum; rfl
theorem l9_v29 : after hostOps0_9 U (Proc.devRef .tc main_v29) = wExpert (U (Proc.devRef .tc main_v14)) := by
  after_reads_simp; unfold wExpert wVisit wTotal; rfl
theorem l9_v53 : after hostOps0_9 U (Proc.devRef .tc main_v53) = wTile (U (Proc.devRef .tc main_v2)) (U (Proc.devRef .tc main_v13)) (U (Proc.devRef .tc main_v14)) := by
  after_reads_simp; unfold wTile wTake wExpert wVisit wTotal wAll; rfl

variable (m : (ℓ : Loc nD τ sig) → Buf (Elt F) ℓ) (c : Dev nD)
def val0 : Valuation τ sig (Elt F) := fun b => m (c, b)
def val1 : Valuation τ sig (Elt F) := after hostOps0 (val0 m c)
def val2 : Valuation τ sig (Elt F) := after hostOps0_1 (val1 m c)
def val3 : Valuation τ sig (Elt F) := after hostOps0_2 (val2 m c)
def val4 : Valuation τ sig (Elt F) := after hostOps0_3 (val3 m c)
def val5 : Valuation τ sig (Elt F) := after hostOps0_4 (val4 m c)
def val6 : Valuation τ sig (Elt F) := after hostOps0_5 (val5 m c)
def val7 : Valuation τ sig (Elt F) := after hostOps0_6 (val6 m c)
def val8 : Valuation τ sig (Elt F) := after hostOps0_7 (val7 m c)
def val9 : Valuation τ sig (Elt F) := after hostOps0_8 (val8 m c)
def val10 : Valuation τ sig (Elt F) := after hostOps0_9 (val9 m c)
def val11 : Valuation τ sig (Elt F) := after hostOps0_10 (val10 m c)
def val12 : Valuation τ sig (Elt F) := after hostOps0_11 (val11 m c)
def val13 : Valuation τ sig (Elt F) := after hostOps0_12 (val12 m c)
def val14 : Valuation τ sig (Elt F) := after hostOps0_13 (val13 m c)
theorem af_append (l₁ l₂ : List (HloOp τ sig (Elt F))) (V : Valuation τ sig (Elt F)) :
    after (l₁ ++ l₂) V = after l₂ (after l₁ V) := by
  induction l₁ generalizing V with
  | nil => rfl
  | cons op l ih => exact ih _
theorem V_val (b : Ref sig .tc) : V m c b = val14 m c (Proc.devRef .tc b) := by
  show after (List.flatten [hostOps0, hostOps0_1, hostOps0_2, hostOps0_3, hostOps0_4, hostOps0_5, hostOps0_6, hostOps0_7, hostOps0_8, hostOps0_9, hostOps0_10, hostOps0_11, hostOps0_12, hostOps0_13]) (val0 m c) _ = _
  simp only [List.flatten_cons, List.flatten_nil, List.append_nil, af_append]
  rfl
theorem k1_main_arg5 : val1 m c (Proc.devRef .tc main_arg5) = val0 m c (Proc.devRef .tc main_arg5) :=
  after_of_writes_sub _ _ hostOps0_writes (by decide)
theorem k2_main_arg5 : val2 m c (Proc.devRef .tc main_arg5) = val1 m c (Proc.devRef .tc main_arg5) :=
  after_of_writes_sub _ _ hostOps0_1_writes (by decide)
theorem k3_main_arg5 : val3 m c (Proc.devRef .tc main_arg5) = val2 m c (Proc.devRef .tc main_arg5) :=
  after_of_writes_sub _ _ hostOps0_2_writes (by decide)
theorem k4_main_arg5 : val4 m c (Proc.devRef .tc main_arg5) = val3 m c (Proc.devRef .tc main_arg5) :=
  after_of_writes_sub _ _ hostOps0_3_writes (by decide)
theorem k2_main_v0 : val2 m c (Proc.devRef .tc main_v0) = val1 m c (Proc.devRef .tc main_v0) :=
  after_of_writes_sub _ _ hostOps0_1_writes (by decide)
theorem k3_main_v0 : val3 m c (Proc.devRef .tc main_v0) = val2 m c (Proc.devRef .tc main_v0) :=
  after_of_writes_sub _ _ hostOps0_2_writes (by decide)
theorem k4_main_v0 : val4 m c (Proc.devRef .tc main_v0) = val3 m c (Proc.devRef .tc main_v0) :=
  after_of_writes_sub _ _ hostOps0_3_writes (by decide)
theorem k3_main_v1 : val3 m c (Proc.devRef .tc main_v1) = val2 m c (Proc.devRef .tc main_v1) :=
  after_of_writes_sub _ _ hostOps0_2_writes (by decide)
theorem k4_main_v1 : val4 m c (Proc.devRef .tc main_v1) = val3 m c (Proc.devRef .tc main_v1) :=
  after_of_writes_sub _ _ hostOps0_3_writes (by decide)
theorem k5_main_v1 : val5 m c (Proc.devRef .tc main_v1) = val4 m c (Proc.devRef .tc main_v1) :=
  after_of_writes_sub _ _ hostOps0_4_writes (by decide)
theorem k6_main_v1 : val6 m c (Proc.devRef .tc main_v1) = val5 m c (Proc.devRef .tc main_v1) :=
  after_of_writes_sub _ _ hostOps0_5_writes (by decide)
theorem k7_main_v1 : val7 m c (Proc.devRef .tc main_v1) = val6 m c (Proc.devRef .tc main_v1) :=
  after_of_writes_sub _ _ hostOps0_6_writes (by decide)
theorem k8_main_v1 : val8 m c (Proc.devRef .tc main_v1) = val7 m c (Proc.devRef .tc main_v1) :=
  after_of_writes_sub _ _ hostOps0_7_writes (by decide)
theorem k9_main_v1 : val9 m c (Proc.devRef .tc main_v1) = val8 m c (Proc.devRef .tc main_v1) :=
  after_of_writes_sub _ _ hostOps0_8_writes (by decide)
theorem k10_main_v1 : val10 m c (Proc.devRef .tc main_v1) = val9 m c (Proc.devRef .tc main_v1) :=
  after_of_writes_sub _ _ hostOps0_9_writes (by decide)
theorem k4_main_v2 : val4 m c (Proc.devRef .tc main_v2) = val3 m c (Proc.devRef .tc main_v2) :=
  after_of_writes_sub _ _ hostOps0_3_writes (by decide)
theorem k5_main_v2 : val5 m c (Proc.devRef .tc main_v2) = val4 m c (Proc.devRef .tc main_v2) :=
  after_of_writes_sub _ _ hostOps0_4_writes (by decide)
theorem k6_main_v2 : val6 m c (Proc.devRef .tc main_v2) = val5 m c (Proc.devRef .tc main_v2) :=
  after_of_writes_sub _ _ hostOps0_5_writes (by decide)
theorem k7_main_v2 : val7 m c (Proc.devRef .tc main_v2) = val6 m c (Proc.devRef .tc main_v2) :=
  after_of_writes_sub _ _ hostOps0_6_writes (by decide)
theorem k8_main_v2 : val8 m c (Proc.devRef .tc main_v2) = val7 m c (Proc.devRef .tc main_v2) :=
  after_of_writes_sub _ _ hostOps0_7_writes (by decide)
theorem k9_main_v2 : val9 m c (Proc.devRef .tc main_v2) = val8 m c (Proc.devRef .tc main_v2) :=
  after_of_writes_sub _ _ hostOps0_8_writes (by decide)
theorem k10_main_v2 : val10 m c (Proc.devRef .tc main_v2) = val9 m c (Proc.devRef .tc main_v2) :=
  after_of_writes_sub _ _ hostOps0_9_writes (by decide)
theorem k5_main_v4 : val5 m c (Proc.devRef .tc main_v4) = val4 m c (Proc.devRef .tc main_v4) :=
  after_of_writes_sub _ _ hostOps0_4_writes (by decide)
theorem k6_main_v4 : val6 m c (Proc.devRef .tc main_v4) = val5 m c (Proc.devRef .tc main_v4) :=
  after_of_writes_sub _ _ hostOps0_5_writes (by decide)
theorem k7_main_v4 : val7 m c (Proc.devRef .tc main_v4) = val6 m c (Proc.devRef .tc main_v4) :=
  after_of_writes_sub _ _ hostOps0_6_writes (by decide)
theorem k9_main_v13 : val9 m c (Proc.devRef .tc main_v13) = val8 m c (Proc.devRef .tc main_v13) :=
  after_of_writes_sub _ _ hostOps0_8_writes (by decide)
theorem k10_main_v13 : val10 m c (Proc.devRef .tc main_v13) = val9 m c (Proc.devRef .tc main_v13) :=
  after_of_writes_sub _ _ hostOps0_9_writes (by decide)
theorem k10_main_v14 : val10 m c (Proc.devRef .tc main_v14) = val9 m c (Proc.devRef .tc main_v14) :=
  after_of_writes_sub _ _ hostOps0_9_writes (by decide)
theorem k6_main_v7 : val6 m c (Proc.devRef .tc main_v7) = val5 m c (Proc.devRef .tc main_v7) :=
  after_of_writes_sub _ _ hostOps0_5_writes (by decide)
theorem k7_main_v7 : val7 m c (Proc.devRef .tc main_v7) = val6 m c (Proc.devRef .tc main_v7) :=
  after_of_writes_sub _ _ hostOps0_6_writes (by decide)
theorem k7_main_v9 : val7 m c (Proc.devRef .tc main_v9) = val6 m c (Proc.devRef .tc main_v9) :=
  after_of_writes_sub _ _ hostOps0_6_writes (by decide)
theorem k11_main_v29 : val11 m c (Proc.devRef .tc main_v29) = val10 m c (Proc.devRef .tc main_v29) :=
  after_of_writes_sub _ _ hostOps0_10_writes (by decide)
theorem k12_main_v29 : val12 m c (Proc.devRef .tc main_v29) = val11 m c (Proc.devRef .tc main_v29) :=
  after_of_writes_sub _ _ hostOps0_11_writes (by decide)
theorem k13_main_v29 : val13 m c (Proc.devRef .tc main_v29) = val12 m c (Proc.devRef .tc main_v29) :=
  after_of_writes_sub _ _ hostOps0_12_writes (by decide)
theorem k14_main_v29 : val14 m c (Proc.devRef .tc main_v29) = val13 m c (Proc.devRef .tc main_v29) :=
  after_of_writes_sub _ _ hostOps0_13_writes (by decide)
theorem k11_main_v53 : val11 m c (Proc.devRef .tc main_v53) = val10 m c (Proc.devRef .tc main_v53) :=
  after_of_writes_sub _ _ hostOps0_10_writes (by decide)
theorem k12_main_v53 : val12 m c (Proc.devRef .tc main_v53) = val11 m c (Proc.devRef .tc main_v53) :=
  after_of_writes_sub _ _ hostOps0_11_writes (by decide)
theorem k13_main_v53 : val13 m c (Proc.devRef .tc main_v53) = val12 m c (Proc.devRef .tc main_v53) :=
  after_of_writes_sub _ _ hostOps0_12_writes (by decide)
theorem k14_main_v53 : val14 m c (Proc.devRef .tc main_v53) = val13 m c (Proc.devRef .tc main_v53) :=
  after_of_writes_sub _ _ hostOps0_13_writes (by decide)

/-- The group sizes. -/
def sizes : IVec S8 32 := m ((c : Thread nD τ).loc main_arg5)
theorem a_g : val0 m c (Proc.devRef .tc main_arg5) = sizes m c := rfl
theorem a_main_v0 : val1 m c (Proc.devRef .tc main_v0) = wCum (sizes m c) := by
  show after _ (val0 m c) _ = _
  rw [l0_v0, a_g]
theorem a_main_v1 : val2 m c (Proc.devRef .tc main_v1) = wStart (sizes m c) := by
  show after _ (val1 m c) _ = _
  rw [l1_v1, a_main_v0, k1_main_arg5, a_g]
  rfl
theorem a_main_c : val2 m c (Proc.devRef .tc main_c) = constantI S_ 32 512#32 := by
  show after _ (val1 m c) _ = _
  rw [l1_c]
theorem a_main_v2 : val3 m c (Proc.devRef .tc main_v2) = wFirst (sizes m c) := by
  show after _ (val2 m c) _ = _
  rw [l2_v2, a_main_v1, a_main_c]
  rfl
theorem a_main_v4 : val4 m c (Proc.devRef .tc main_v4) = cmpi .sgt (sizes m c) (wAll8 0#32) := by
  show after _ (val3 m c) _ = _
  rw [l3_v4, k3_main_arg5, k2_main_arg5, k1_main_arg5, a_g]
theorem a_main_v6 : val4 m c (Proc.devRef .tc main_v6) = subi (wCum (sizes m c)) (wAll8 1#32) := by
  show after _ (val3 m c) _ = _
  rw [l3_v6, k3_main_v0, k2_main_v0, a_main_v0]
theorem a_main_c_2 : val4 m c (Proc.devRef .tc main_c_2) = constantI S_ 32 512#32 := by
  show after _ (val3 m c) _ = _
  rw [l3_c]
theorem a_main_v7 : val5 m c (Proc.devRef .tc main_v7) = wDiv (subi (wCum (sizes m c)) (wAll8 1#32)) (constantI S_ 32 512#32) := by
  show after _ (val4 m c) _ = _
  rw [l4_v7, a_main_v6, a_main_c_2]
theorem a_main_v9 : val6 m c (Proc.devRef .tc main_v9) = subi (wFirst (sizes m c)) (wAll8 1#32) := by
  show after _ (val5 m c) _ = _
  rw [l5_v9, k5_main_v2, k4_main_v2, a_main_v2]
theorem a_main_v10 : val7 m c (Proc.devRef .tc main_v10) = wLast (sizes m c) := by
  show after _ (val6 m c) _ = _
  rw [l6_v10, k6_main_v4, k5_main_v4, a_main_v4, k6_main_v7, a_main_v7, a_main_v9]
  rfl
theorem a_main_v13 : val8 m c (Proc.devRef .tc main_v13) = wCount (sizes m c) := by
  show after _ (val7 m c) _ = _
  rw [l7_v13, a_main_v10, k7_main_v2, k6_main_v2, k5_main_v2, k4_main_v2, a_main_v2]
  rfl
theorem a_main_v14 : val9 m c (Proc.devRef .tc main_v14) = wEnd (sizes m c) := by
  show after _ (val8 m c) _ = _
  rw [l8_v14, a_main_v13]
  rfl
theorem a_main_v29 : val10 m c (Proc.devRef .tc main_v29) = wExpert (wEnd (sizes m c)) := by
  show after _ (val9 m c) _ = _
  rw [l9_v29, a_main_v14]
theorem a_main_v53 : val10 m c (Proc.devRef .tc main_v53) = wTile (wFirst (sizes m c)) (wCount (sizes m c)) (wEnd (sizes m c)) := by
  show after _ (val9 m c) _ = _
  rw [l9_v53, a_main_v14, k9_main_v13, a_main_v13, k9_main_v2, k8_main_v2, k7_main_v2, k6_main_v2, k5_main_v2, k4_main_v2, a_main_v2]
theorem tab_expert : V m c main_v29 = wExpert (wEnd (sizes m c)) := by
  rw [V_val, k14_main_v29, k13_main_v29, k12_main_v29, k11_main_v29, a_main_v29]
theorem tab_tile : V m c main_v53 = wTile (wFirst (sizes m c)) (wCount (sizes m c)) (wEnd (sizes m c)) := by
  rw [V_val, k14_main_v53, k13_main_v53, k12_main_v53, k11_main_v53, a_main_v53]

end Cert.Kernel.Hand
-- ==== Proof.P.TableFacts.lean ====
module

public import proofs.«01_k».proof.Proof.P.Tables
public import proofs.«01_k».proof.Proof.Plan
public import Idealize.ShloMosaic.Lib.Routing.Ops
public import Idealize.ShloMosaic.Lib.Routing.BitFacts
public import Idealize.ShloMosaic.Lib.Routing.Words

/-! The visit tables hold the plan's numbers. -/

@[expose] public section

set_option maxRecDepth 4096

noncomputable section

namespace Cert.Kernel.Hand

open Idealize.ShloMosaic Idealize.ShloMosaic.ValueIdx Idealize.ShloMosaic.Routing
open Cert.Kernel Cert.Kernel.Gen

/-- The sizes as natural numbers. -/
def nat8 (g : IVec S8 32) (j : ℕ) : ℕ := if h : j < 8 then (g (ix1 (⟨j, h⟩ : Fin 8))).toNat else 0

theorem wCum_at (x : IVec S8 32) (f : ℕ → ℕ) (hx : ∀ i : Fin 8, x (ix1 i) = BitVec.ofNat 32 (f i.val)) (j : Fin 8) :
    wCum x (ix1 j) = BitVec.ofNat 32 (((List.range (j.val + 1)).map f).sum) :=
  cumsum1 (N := 8) (Nm1 := 7) rfl x f hx _ (bc0 _ _ _) _ _ j

theorem wAll8_at (k : BitVec 32) (j : Fin 8) : wAll8 k (ix1 j) = k := bc0 _ _ _
theorem wAll_at (k : BitVec 32) (v : Fin 152) : wAll k (ix1 v) = k := bc0 _ _ _

theorem wDiv_at (x : IVec S8 32) (j : Fin 8) (n : ℕ) (h : n < 2 ^ 31) (hx : x (ix1 j) = BitVec.ofNat 32 n) :
    wDiv x (constantI S_ 32 512#32) (ix1 j) = BitVec.ofNat 32 (n / 512) := by
  exact pyDiv_ap bcast_S_S8 x (constantI S_ 32 512#32) (ix1 j) (a := n) (b := 512) hx rfl h (by norm_num) (by norm_num)

section Sizes
variable (g : IVec S8 32) (hfit : ∀ j : Fin 8, (g (ix1 j)).toNat ≤ 73728) (hsum : Plan.fin (nat8 g) 7 = 73728)
include hfit hsum

theorem size_at (j : Fin 8) : g (ix1 j) = BitVec.ofNat 32 (nat8 g j.val) := by
  unfold nat8; rw [dif_pos j.isLt, BitVec.ofNat_toNat, BitVec.setWidth_eq]

theorem fin_le (j : Fin 8) : Plan.fin (nat8 g) j.val ≤ 73728 := hsum ▸ Plan.fin_mono _ (Nat.le_of_lt_succ j.isLt)

theorem ends_at (j : Fin 8) : wCum g (ix1 j) = BitVec.ofNat 32 (Plan.fin (nat8 g) j.val) :=
  wCum_at g _ (size_at g hfit hsum) j

theorem start_at (j : Fin 8) : wStart g (ix1 j) = BitVec.ofNat 32 (Plan.fin (nat8 g) j.val - nat8 g j.val) := by
  show wCum g (ix1 j) - g (ix1 j) = _
  rw [ends_at g hfit hsum, size_at g hfit hsum, ofNat32_sub (Plan.le_fin _ _)]

theorem first_at (j : Fin 8) : wFirst g (ix1 j) = BitVec.ofNat 32 ((Plan.fin (nat8 g) j.val - nat8 g j.val) / 512) :=
  wDiv_at _ j _ (by have := fin_le g hfit hsum j; omega) (start_at g hfit hsum j)

theorem count_at (j : Fin 8) : wCount g (ix1 j) = BitVec.ofNat 32 (Plan.cnt (nat8 g) j.val) := by
  show (Scalar.select (IntOp.cmpi .sgt (g (ix1 j)) (wAll8 0#32 (ix1 j))) (wDiv (subi (wCum g) (wAll8 1#32)) (constantI S_ 32 512#32) (ix1 j))
    (wFirst g (ix1 j) - wAll8 1#32 (ix1 j)) - wFirst g (ix1 j)) + wAll8 1#32 (ix1 j) = _
  have hf := fin_le g hfit hsum j
  have hle := Plan.le_fin (nat8 g) j.val
  rw [wAll8_at, wAll8_at, first_at g hfit hsum, size_at g hfit hsum]
  unfold Plan.cnt
  have hc : IntOp.cmpi .sgt (BitVec.ofNat 32 (nat8 g j.val)) 0#32 = BitVec.ofBool (decide (0 < nat8 g j.val)) := by
    show BitVec.ofBool ((BitVec.ofNat 32 0).slt (BitVec.ofNat 32 (nat8 g j.val))) = _
    rw [slt_ofNat32 (by norm_num) (by omega)]
  rw [hc]
  by_cases h : 0 < nat8 g j.val
  · rw [if_pos h, decide_eq_true h]
    have hd := wDiv_at (subi (wCum g) (wAll8 1#32)) j (Plan.fin (nat8 g) j.val - 1) (by omega) (by
      show wCum g (ix1 j) - wAll8 1#32 (ix1 j) = _
      rw [wAll8_at, ends_at g hfit hsum]
      exact ofNat32_sub (a := Plan.fin (nat8 g) j.val) (b := 1) (by omega))
    rw [hd]
    show (BitVec.ofNat 32 _ - BitVec.ofNat 32 _) + BitVec.ofNat 32 1 = _
    rw [ofNat32_sub (by omega), ← BitVec.ofNat_add]
  · rw [if_neg h, decide_eq_false h]
    show ((BitVec.ofNat 32 _ - 1#32) - BitVec.ofNat 32 _) + 1#32 = 0#32
    generalize BitVec.ofNat 32 ((Plan.fin (nat8 g) j.val - nat8 g j.val) / 512) = z
    bv_omega

theorem end_at (j : Fin 8) : wEnd g (ix1 j) = BitVec.ofNat 32 (Plan.upto (nat8 g) j.val) :=
  wCum_at _ _ (count_at g hfit hsum) j

theorem upto_le (j : Fin 8) : Plan.upto (nat8 g) j.val ≤ 151 := by
  have h := (Plan.upto_bounds (nat8 g) j.val).2
  have := fin_le g hfit hsum j
  have := j.isLt
  omega

theorem upto_pos : 144 ≤ Plan.upto (nat8 g) 7 := by
  have h := (Plan.upto_bounds (nat8 g) 7).1
  omega

/-- The visit kept below the number of visits. -/
abbrev vis (g : IVec S8 32) (v : ℕ) : ℕ := min v (Plan.upto (nat8 g) 7 - 1)

theorem total_at : wTotal (wEnd g) ValueIdx.ix0 = BitVec.ofNat 32 (Plan.upto (nat8 g) 7) := by
  rw [show Plan.upto (nat8 g) 7 = Plan.upto (nat8 g) (7 : Fin 8).val from rfl, ← end_at g hfit hsum (7 : Fin 8)]
  generalize wEnd g = y
  unfold wTotal shapeCast
  have hI (i : S1.Idx) : i = ix1 (0 : Fin 1) := funext fun a => Fin.ext (by
    match a with
    | ⟨0, h⟩ =>
      have := (i ⟨0, h⟩).isLt
      change (i ⟨0, h⟩).val < 1 at this
      show (i ⟨0, h⟩).val = 0
      omega)
  refine Eq.trans (congrArg (extractStridedSlice S1 ![7] y slices_S8_S1_7) (hI _)) ?_
  exact slice1 7 y slices_S8_S1_7 (0 : Fin 1) (by norm_num)

theorem visit_at (v : Fin 152) : wVisit (wEnd g) (ix1 v) = BitVec.ofNat 32 (vis g v.val) := by
  have h1 := upto_le g hfit hsum (7 : Fin 8)
  have h2 := upto_pos g hfit hsum
  have hv := v.isLt
  have h3 : Plan.upto (nat8 g) 7 ≤ 151 := h1
  show IntOp.minsi (BitVec.ofNat 32 v.val) (broadcastInDim S152 ![] bcast_S_S152 (subi (wTotal (wEnd g)) (constantI S_ 32 1#32)) (ix1 v)) = _
  rw [bc0]
  show IntOp.minsi (BitVec.ofNat 32 v.val) (wTotal (wEnd g) ValueIdx.ix0 - BitVec.ofNat 32 1) = _
  rw [total_at g hfit hsum, ofNat32_sub (by omega)]
  unfold IntOp.minsi
  rw [slt_ofNat32 (by omega) (by omega)]
  unfold vis
  by_cases h : v.val < Plan.upto (nat8 g) 7 - 1
  · rw [decide_eq_true h, if_pos rfl, Nat.min_eq_left (by omega)]
  · rw [decide_eq_false h, if_neg (by decide), Nat.min_eq_right (by omega)]

theorem vis_lt (v : ℕ) : vis g v < Plan.upto (nat8 g) 7 := by
  have h2 := upto_pos g hfit hsum
  unfold vis; omega

theorem expert_at (v : Fin 152) : wExpert (wEnd g) (ix1 v) = BitVec.ofNat 32 (Plan.expert (nat8 g) (vis g v.val)) := by
  refine reduce_count (n := 152) (m := 8) (by norm_num) _ _ _ _ v (fun q => Plan.upto (nat8 g) q ≤ vis g v.val) fun q => ?_
  show IntOp.cmpi .sge _ _ = 1#1 ↔ _
  rw [bcRows, bcCols, visit_at g hfit hsum, end_at g hfit hsum]
  have h1 := upto_le g hfit hsum q
  have h3 : Plan.upto (nat8 g) 7 ≤ 151 := upto_le g hfit hsum (7 : Fin 8)
  show BitVec.ofBool ((BitVec.ofNat 32 _).sle (BitVec.ofNat 32 _)) = 1#1 ↔ _
  rw [sle_ofNat32 (by omega) (by unfold vis; omega)]
  by_cases h : Plan.upto (nat8 g) q.val ≤ vis g v.val <;> simp [h]

theorem expert_lt (v : ℕ) : Plan.expert (nat8 g) (vis g v) < 8 := (Plan.expert_spec _ _ (vis_lt g hfit hsum v)).1

end Sizes

theorem wTake_at (y : IVec S8 32) (x : IVec S152 32) (v : Fin 152) (e : Fin 8) (hx : x (ix1 v) = BitVec.ofNat 32 e.val) : wTake y x (ix1 v) = y (ix1 e) := by
  unfold wTake Host.gather
  refine congrArg y (funext fun a => Fin.ext ?_)
  obtain rfl : a = 0 := Subsingleton.elim _ _
  show (gather_S8_S152x1_S152_n_0_n_n_0_1_1).start (ix1 v) _ 0 + (gather_S8_S152x1_S152_n_0_n_n_0_1_1).batchCoord (ix1 v) 0 + (gather_S8_S152x1_S152_n_0_n_n_0_1_1).offCoord (ix1 v) 0 = e.val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather_S8_S152x1_S152_n_0_n_n_0_1_1).startIndexMap from List.mem_singleton.mpr rfl)]
  have hsi : (gather_S8_S152x1_S152_n_0_n_n_0_1_1).siIdx (ix1 v) ⟨List.idxOf (0 : Fin 1) (gather_S8_S152x1_S152_n_0_n_n_0_1_1).startIndexMap,
      List.idxOf_lt_length_iff.2 (List.mem_singleton.mpr rfl)⟩ = ix2 v (0 : Fin 1) := by
    funext b; refine Fin.ext ?_
    match b with
    | ⟨0, _⟩ => rfl
    | ⟨1, _⟩ => rfl
  rw [hsi, bcCol]
  have he := e.isLt
  have hs : select (cmpi .slt x (wAll 0#32)) (addi x (wAll 8#32)) x (ix1 v) = BitVec.ofNat 32 e.val := by
    show Scalar.select (IntOp.cmpi .slt (x (ix1 v)) (wAll 0#32 (ix1 v))) _ (x (ix1 v)) = _
    rw [hx, wAll_at]
    have : IntOp.cmpi .slt (BitVec.ofNat 32 e.val) 0#32 = 0#1 := by
      show BitVec.ofBool ((BitVec.ofNat 32 e.val).slt (BitVec.ofNat 32 0)) = _
      rw [slt_ofNat32 (by omega) (by norm_num)]
      rfl
    rw [this]
    rfl
  rw [hs, StableHlo.Predicate.toInt_ofNat_small _ (by omega)]
  show min ((e.val : Int)).toNat (8 - 1) = e.val
  omega

section Sizes2
variable (g : IVec S8 32) (hfit : ∀ j : Fin 8, (g (ix1 j)).toNat ≤ 73728) (hsum : Plan.fin (nat8 g) 7 = 73728)
include hfit hsum

theorem tile_at (v : Fin 152) : wTile (wFirst g) (wCount g) (wEnd g) (ix1 v) = BitVec.ofNat 32 (Plan.tile (nat8 g) (vis g v.val)) := by
  have he := expert_at g hfit hsum v
  have hl := expert_lt g hfit hsum v.val
  have t := fun y => wTake_at y _ v ⟨Plan.expert (nat8 g) (vis g v.val), hl⟩ he
  show (wTake (wFirst g) (wExpert (wEnd g)) (ix1 v) + wVisit (wEnd g) (ix1 v))
    - (wTake (wEnd g) (wExpert (wEnd g)) (ix1 v) - wTake (wCount g) (wExpert (wEnd g)) (ix1 v)) = _
  rw [t, t, t, first_at g hfit hsum, end_at g hfit hsum, count_at g hfit hsum, visit_at g hfit hsum]
  have h3 := (Plan.expert_spec _ _ (vis_lt g hfit hsum v.val)).2.2
  rw [ofNat32_sub (Plan.cnt_le_upto _ _), ← BitVec.ofNat_add, ofNat32_sub (by simp only; omega)]
  rfl

theorem tile_lt (v : ℕ) : Plan.tile (nat8 g) (vis g v) < 144 := Plan.tile_lt _ hsum _ (vis_lt g hfit hsum v)

end Sizes2

end Cert.Kernel.Hand
-- ==== Proof.P.Ok.lean ====
module

public import proofs.«01_k».proof.Proof.P.TableFacts
public import Idealize.ShloMosaic.Lib.PairWhole
public import Idealize.ShloMosaic.Lib.ReduceAll

/-! Every block a visit takes lies inside its array when the tables hold experts below 8 and row tiles below 144. -/

@[expose] public section

noncomputable section

namespace Cert.Kernel.Hand

open Idealize.ShloMosaic Idealize.ShloMosaic.Routing Idealize.SL.Sem
open Cert.Kernel Cert.Kernel.Gen

variable {F : FTy → Type} [FloatOps F]

theorem grid_add (n k : ℕ) (hn : n < 14) (hk : k ≤ 14) : (Scalar.addi (BitVec.ofNat 32 n) (BitVec.ofNat 32 k)).toNat = n + k := by
  show (BitVec.ofNat 32 n + BitVec.ofNat 32 k).toNat = _
  rw [BitVec.toNat_add, BitVec.toNat_ofNat, BitVec.toNat_ofNat]
  omega
theorem grid_word (n : ℕ) (hn : n < 14) : (BitVec.ofNat 32 n).toNat = n := by
  rw [BitVec.toNat_ofNat]
  omega

theorem ok_of (pf : pre0.Contents (Elt F)) (hT : ∀ i : S152.Idx, BitVec.toNat (w := 32) (pf 0 i) < 144) (hE : ∀ i : S152.Idx, BitVec.toNat (w := 32) (pf 1 i) < 8) :
    ok0 pf := by
  unfold ok0
  have hn (i : grid0.Coords) : (i 0).val < 14 := (i 0).isLt
  have aT (i : grid0.Coords) : BitVec.toNat (w := 32) (pf.at 0 (Rect.unit (s := S152) ![(Scalar.indexCast (BitVec.ofNat 32 (i 1).val)).toNat] S1.size (k0_off1_inb i)) numel1_S1) < 144 := hT _
  have aE (i : grid0.Coords) : BitVec.toNat (w := 32) (pf.at 1 (Rect.unit (s := S152) ![(Scalar.indexCast (BitVec.ofNat 32 (i 1).val)).toNat] S1.size (k0_off1_inb i)) numel1_S1) < 8 := hE _
  refine ⟨?_, ?_, ?_, ?_, ?_, ?_, ?_, ?_, ?_, ?_⟩
  · refine fun i => ⟨fun a => ?_, .inr ((Rect.packedRows_of_rowAxis _ _ (by decide) ?_ ?_ rfl).wholeWords)⟩
    · match a with
      | ⟨0, _⟩ =>
        show (BitVec.toNat (w := 32) (pf.at 0 (Rect.unit (s := S152) ![(Scalar.indexCast (BitVec.ofNat 32 (i 1).val)).toNat] S1.size (k0_off1_inb i)) numel1_S1) + 1) * 512 ≤ 73728
        have := aT i
        omega
      | ⟨1, _⟩ =>
        show (0 + 1) * 3072 ≤ 3072
        omega
    · show 4 ∣ BitVec.toNat (w := 32) (pf.at 0 (Rect.unit (s := S152) ![(Scalar.indexCast (BitVec.ofNat 32 (i 1).val)).toNat] S1.size (k0_off1_inb i)) numel1_S1) * 512
      exact Dvd.dvd.mul_left (by decide) _
    · show 4 ∣ 512
      decide
  · refine fun i => ⟨fun a => ?_, .inl rfl⟩
    · match a with
      | ⟨0, _⟩ =>
        show (BitVec.toNat (w := 32) (pf.at 0 (Rect.unit (s := S152) ![(Scalar.indexCast (BitVec.ofNat 32 (i 1).val)).toNat] S1.size (k0_off1_inb i)) numel1_S1) + 1) * 512 ≤ 73728
        have := aT i
        omega
      | ⟨1, _⟩ =>
        show (0 + 1) * 24 ≤ 24
        omega
  · refine fun i => ⟨fun a => ?_, .inr ((Rect.packedRows_of_rowAxis _ _ (by decide) ?_ ?_ rfl).wholeWords)⟩
    · match a with
      | ⟨0, _⟩ =>
        show (BitVec.toNat (w := 32) (pf.at 1 (Rect.unit (s := S152) ![(Scalar.indexCast (BitVec.ofNat 32 (i 1).val)).toNat] S1.size (k0_off1_inb i)) numel1_S1) + 1) * 1 ≤ 8
        have := aE i
        omega
      | ⟨1, _⟩ =>
        show (0 + 1) * 1536 ≤ 1536
        omega
      | ⟨2, _⟩ =>
        show ((Scalar.addi (BitVec.ofNat 32 (i 0).val) 0#32).toNat + 1) * 512 ≤ 14336
        have := hn i
        rw [grid_add _ 0 (hn i) (by norm_num)]
        omega
    · show 4 ∣ 0 * 1536
      exact Dvd.dvd.mul_left (by decide) _
    · show 4 ∣ 1536
      decide
  · refine fun i => ⟨fun a => ?_, .inr ((Rect.packedRows_of_rowAxis _ _ (by decide) ?_ ?_ rfl).wholeWords)⟩
    · match a with
      | ⟨0, _⟩ =>
        show (BitVec.toNat (w := 32) (pf.at 1 (Rect.unit (s := S152) ![(Scalar.indexCast (BitVec.ofNat 32 (i 1).val)).toNat] S1.size (k0_off1_inb i)) numel1_S1) + 1) * 1 ≤ 8
        have := aE i
        omega
      | ⟨1, _⟩ =>
        show (0 + 1) * 1536 ≤ 1536
        omega
      | ⟨2, _⟩ =>
        show ((Scalar.addi (BitVec.ofNat 32 (i 0).val) 14#32).toNat + 1) * 512 ≤ 14336
        have := hn i
        rw [grid_add _ 14 (hn i) (by norm_num)]
        omega
    · show 4 ∣ 0 * 1536
      exact Dvd.dvd.mul_left (by decide) _
    · show 4 ∣ 1536
      decide
  · refine fun i => ⟨fun a => ?_, .inr ((Rect.packedRows_of_rowAxis _ _ (by decide) ?_ ?_ rfl).wholeWords)⟩
    · match a with
      | ⟨0, _⟩ =>
        show (BitVec.toNat (w := 32) (pf.at 1 (Rect.unit (s := S152) ![(Scalar.indexCast (BitVec.ofNat 32 (i 1).val)).toNat] S1.size (k0_off1_inb i)) numel1_S1) + 1) * 1 ≤ 8
        have := aE i
        omega
      | ⟨1, _⟩ =>
        show (0 + 1) * 96 ≤ 96
        omega
      | ⟨2, _⟩ =>
        show ((Scalar.addi (BitVec.ofNat 32 (i 0).val) 0#32).toNat + 1) * 512 ≤ 14336
        have := hn i
        rw [grid_add _ 0 (hn i) (by norm_num)]
        omega
    · show 4 ∣ 0 * 96
      exact Dvd.dvd.mul_left (by decide) _
    · show 4 ∣ 96
      decide
  · refine fun i => ⟨fun a => ?_, .inr ((Rect.packedRows_of_rowAxis _ _ (by decide) ?_ ?_ rfl).wholeWords)⟩
    · match a with
      | ⟨0, _⟩ =>
        show (BitVec.toNat (w := 32) (pf.at 1 (Rect.unit (s := S152) ![(Scalar.indexCast (BitVec.ofNat 32 (i 1).val)).toNat] S1.size (k0_off1_inb i)) numel1_S1) + 1) * 1 ≤ 8
        have := aE i
        omega
      | ⟨1, _⟩ =>
        show (0 + 1) * 96 ≤ 96
        omega
      | ⟨2, _⟩ =>
        show ((Scalar.addi (BitVec.ofNat 32 (i 0).val) 14#32).toNat + 1) * 512 ≤ 14336
        have := hn i
        rw [grid_add _ 14 (hn i) (by norm_num)]
        omega
    · show 4 ∣ 0 * 96
      exact Dvd.dvd.mul_left (by decide) _
    · show 4 ∣ 96
      decide
  · refine fun i => ⟨fun a => ?_, .inl rfl⟩
    · match a with
      | ⟨0, _⟩ =>
        show (BitVec.toNat (w := 32) (pf.at 1 (Rect.unit (s := S152) ![(Scalar.indexCast (BitVec.ofNat 32 (i 1).val)).toNat] S1.size (k0_off1_inb i)) numel1_S1) + 1) * 1 ≤ 8
        have := aE i
        omega
      | ⟨1, _⟩ =>
        show (0 + 1) * 1 ≤ 1
        omega
      | ⟨2, _⟩ =>
        show ((Scalar.addi (BitVec.ofNat 32 (i 0).val) 0#32).toNat + 1) * 512 ≤ 14336
        have := hn i
        rw [grid_add _ 0 (hn i) (by norm_num)]
        omega
  · refine fun i => ⟨fun a => ?_, .inl rfl⟩
    · match a with
      | ⟨0, _⟩ =>
        show (BitVec.toNat (w := 32) (pf.at 1 (Rect.unit (s := S152) ![(Scalar.indexCast (BitVec.ofNat 32 (i 1).val)).toNat] S1.size (k0_off1_inb i)) numel1_S1) + 1) * 1 ≤ 8
        have := aE i
        omega
      | ⟨1, _⟩ =>
        show (0 + 1) * 1 ≤ 1
        omega
      | ⟨2, _⟩ =>
        show ((Scalar.addi (BitVec.ofNat 32 (i 0).val) 14#32).toNat + 1) * 512 ≤ 14336
        have := hn i
        rw [grid_add _ 14 (hn i) (by norm_num)]
        omega
  · refine fun i => ⟨fun a => ?_, .inr ((Rect.packedRows_of_rowAxis _ _ (by decide) ?_ ?_ rfl).wholeWords)⟩
    · match a with
      | ⟨0, _⟩ =>
        show (BitVec.toNat (w := 32) (pf.at 0 (Rect.unit (s := S152) ![(Scalar.indexCast (BitVec.ofNat 32 (i 1).val)).toNat] S1.size (k0_off1_inb i)) numel1_S1) + 1) * 512 ≤ 73728
        have := aT i
        omega
      | ⟨1, _⟩ =>
        show ((BitVec.ofNat 32 (i 0).val).toNat + 1) * 512 ≤ 7168
        have := hn i
        rw [grid_word _ (hn i)]
        omega
    · show 4 ∣ BitVec.toNat (w := 32) (pf.at 0 (Rect.unit (s := S152) ![(Scalar.indexCast (BitVec.ofNat 32 (i 1).val)).toNat] S1.size (k0_off1_inb i)) numel1_S1) * 512
      exact Dvd.dvd.mul_left (by decide) _
    · show 4 ∣ 512
      decide
  · refine fun i => ⟨fun a => ?_, .inl rfl⟩
    · match a with
      | ⟨0, _⟩ =>
        show ((BitVec.ofNat 32 (i 0).val).toNat + 1) * 1 ≤ 14
        have := hn i
        rw [grid_word _ (hn i)]
        omega
      | ⟨1, _⟩ =>
        show (BitVec.toNat (w := 32) (pf.at 0 (Rect.unit (s := S152) ![(Scalar.indexCast (BitVec.ofNat 32 (i 1).val)).toNat] S1.size (k0_off1_inb i)) numel1_S1) + 1) * 512 ≤ 73728
        have := aT i
        omega
      | ⟨2, _⟩ =>
        show (0 + 1) * 4 ≤ 4
        omega

end Cert.Kernel.Hand
-- ==== Proof.P.Blocks.lean ====
module

public import proofs.«01_k».proof.Proof.Gen.Kernel

/-! The dequantising branch of the body as a chain of equal blocks: 96 blocks of 32 rows for the
    gate half, then 96 for the up half. -/

@[expose] public section

noncomputable section

namespace Cert.Kernel.Hand

open Idealize.ShloMosaic Idealize.SL.Sem
open Cert.Kernel Facts₀ Facts

variable {F : FTy → Type} [FloatOps F] [Facts]

theorem inbW (b : ℕ) (hb : b < 96) :
    ∀ a, (![0, 16 * b, 0] : Fin 3 → Nat) a + S1x16x512.size a ≤ S1x1536x512.size a := by
  intro a; fin_cases a
  · show 0 + 1 ≤ 1; omega
  · show 16 * b + 16 ≤ 1536; omega
  · show 0 + 512 ≤ 512; omega
theorem inbS (b : ℕ) (hb : b < 96) :
    ∀ a, (![0, b, 0] : Fin 3 → Nat) a + S1x1x512.size a ≤ S1x96x512.size a := by
  intro a; fin_cases a
  · show 0 + 1 ≤ 1; omega
  · show b + 1 ≤ 96; omega
  · show 0 + 512 ≤ 512; omega
theorem inbD (b : ℕ) (hb : b < 96) :
    ∀ a, (![32 * b, 0] : Fin 2 → Nat) a + S32x512.size a ≤ S3072x512.size a := by
  intro a; fin_cases a
  · show 32 * b + 32 ≤ 3072; omega
  · show 0 + 512 ≤ 512; omega
theorem packD (b : ℕ) (hb : b < 96) :
    (Rect.unit (s := S3072x512) ![32 * b, 0] S32x512.size (inbD b hb)).PackedRows (EltTy.packing .bf16) := by
  refine Or.inr ⟨by decide, rfl, Or.inl ⟨?_, ?_⟩⟩
  · show 2 ∣ 32 * b
    omega
  · show 2 ∣ 32
    omega

/-- The 32 rows of values one block of packed bytes and one row of scale bytes decode to. -/
def deqVal (v16 : Vec F S1x16x512 .i8) (v46 : Vec F S1x1x512 .i8) : FVec F S32x512 .bf16 :=
  have v17 : IVec S16x512 8 := shapeCast S16x512 v16 shapeCasts_S1x16x512_S16x512
  have v18 : IVec S16x512 32 := extui 32 v17 natLt_8_32
  let c15_i32 : BitVec 32 := 15#32
  have v19 : IVec S16x512 32 := broadcast S16x512 c15_i32
  have v20 : IVec S16x512 32 := andi v18 v19
  have v21 : IVec S16x1x512 32 := shapeCast S16x1x512 v20 shapeCasts_S16x512_S16x1x512
  let c4_i32 : BitVec 32 := 4#32
  have v22 : IVec S16x512 32 := broadcast S16x512 c4_i32
  have v23 : IVec S16x512 32 := shrsi v18 v22
  have v24 : IVec S16x1x512 32 := shapeCast S16x1x512 v23 shapeCasts_S16x512_S16x1x512
  have v25 : IVec S16x2x512 32 := concatenate S16x2x512 1 [⟨S16x1x512, v21⟩, ⟨S16x1x512, v24⟩] concatenates_S16x1x512_S16x1x512_S16x2x512_d1
  have v26 : IVec S32x512 32 := shapeCast S32x512 v25 shapeCasts_S16x2x512_S32x512
  let c7_i32 : BitVec 32 := 7#32
  have v27 : IVec S32x512 32 := broadcast S32x512 c7_i32
  have v28 : IVec S32x512 32 := andi v26 v27
  have v29 : FVec F S32x512 .f32 := sitofp .f32 v28
  have cst : F .f32 := Scalar.ofBits .f32 0x3F000000#32
  have v30 : FVec F S32x512 .f32 := broadcast S32x512 cst
  have v31 : FVec F S32x512 .f32 := mulf v30 v29
  have cst_6 : F .f32 := Scalar.ofBits .f32 0x40000000#32
  have v32 : FVec F S32x512 .f32 := broadcast S32x512 cst_6
  have v33 : FVec F S32x512 .f32 := subf v29 v32
  have cst_7 : F .f32 := Scalar.ofBits .f32 0x40000000#32
  have v34 : FVec F S32x512 .f32 := broadcast S32x512 cst_7
  have v35 : FVec F S32x512 .f32 := mulf v34 v29
  have cst_8 : F .f32 := Scalar.ofBits .f32 0x41000000#32
  have v36 : FVec F S32x512 .f32 := broadcast S32x512 cst_8
  have v37 : FVec F S32x512 .f32 := subf v35 v36
  have v38 : FVec F S32x512 .f32 := maximumf v33 v37
  have v39 : FVec F S32x512 .f32 := maximumf v31 v38
  let c8_i32 : BitVec 32 := 8#32
  have v40 : IVec S32x512 32 := broadcast S32x512 c8_i32
  have v41 : IVec S32x512 1 := cmpi .sge v26 v40
  have cst_9 : F .f32 := Scalar.ofBits .f32 0x00000000#32
  have v42 : FVec F S32x512 .f32 := broadcast S32x512 cst_9
  have v43 : FVec F S32x512 .f32 := subf v42 v39
  have v44 : FVec F S32x512 .f32 := select v41 v43 v39
  have v45 : FVec F S32x512 .bf16 := truncf .bf16 v44 bitsLt_bf16_f32
  let c0_10 : Index := 0#32
  let c0_11 : Index := 0#32
  let c0_12 : Index := 0#32
  have v47 : IVec S1x512 8 := shapeCast S1x512 v46 shapeCasts_S1x1x512_S1x512
  have v48 : IVec S1x512 32 := extui 32 v47 natLt_8_32
  let c23_i32 : BitVec 32 := 23#32
  have v49 : IVec S1x512 32 := broadcast S1x512 c23_i32
  have v50 : IVec S1x512 32 := shli v48 v49
  have v51 : FVec F S1x512 .f32 := bitcastToFloat .f32 v50
  have v52 : FVec F S1x512 .bf16 := truncf .bf16 v51 bitsLt_bf16_f32
  have v53 : FVec F S32x512 .bf16 := broadcastTo S32x512 v52 broadcasts_S1x512_S32x512
  have v54 : FVec F S32x512 .bf16 := mulf v45 v53
  let c0_13 : Index := 0#32
  let c0_14 : Index := 0#32
  have v57 : FVec F S32x512 .bf16 := shapeCast S32x512 v54 shapeCasts_S32x512_S32x512
  v57

/-- One block, then `k`. -/
def deqK (w : Memref sig .tc .vmem S1x1536x512 .i8) (s : Memref sig .tc .vmem S1x96x512 .i8)
    (d : Memref sig .tc .vmem S3072x512 .bf16) (hd : d.IsWhole) (b : ℕ) (hb : b < 96)
    (k : Prog (TpuEff nD τ sig (Elt F) Λ₀ .tc) PUnit) : Prog (TpuEff nD τ sig (Elt F) Λ₀ .tc) PUnit :=
  Prog.op (.load w (Rect.unit (s := S1x1536x512) ![0, 16 * b, 0] S1x16x512.size (inbW b hb)).toLoadRect (View.loadsAt_vmem h_S1x16x512)) fun v16 =>
  Prog.op (.load s (Rect.unit (s := S1x96x512) ![0, b, 0] S1x1x512.size (inbS b hb)).toLoadRect (View.loadsAt_vmem h_S1x1x512)) fun v46 =>
  Prog.op (.load d (Rect.unit (s := S3072x512) ![32 * b, 0] S32x512.size (inbD b hb)).toLoadRect (View.loadsAt_vmem h_S32x512)) fun _ =>
  Prog.op (.store d (Rect.unit (s := S3072x512) ![32 * b, 0] S32x512.size (inbD b hb)) (deqVal v16 v46) Finset.univ (View.stores_vmem h_S32x512 (hd.storeExact_slice rfl _ (packD b hb)) (fun _ => rfl)) (.inl rfl)) fun _ =>
  k

/-- The blocks `b, …, b + n - 1`, then `k`. -/
def deqRun (w : Memref sig .tc .vmem S1x1536x512 .i8) (s : Memref sig .tc .vmem S1x96x512 .i8)
    (d : Memref sig .tc .vmem S3072x512 .bf16) (hd : d.IsWhole) (k : Prog (TpuEff nD τ sig (Elt F) Λ₀ .tc) PUnit) :
    (n b : ℕ) → n + b ≤ 96 → Prog (TpuEff nD τ sig (Elt F) Λ₀ .tc) PUnit
  | 0, _, _ => k
  | n + 1, b, h => deqK w s d hd b (by omega) (deqRun w s d hd k n (b + 1) (by omega))

/-- The printed branch. -/
def deqBranch (i : grid0.Coords) (arg2 : Memref sig .tc .smem S152 .i32) (harg2 : arg2.IsWhole) (arg3 : Memref sig .tc .smem S152 .i32) (harg3 : arg3.IsWhole) (arg4 : Memref sig .tc .smem S152 .i32) (harg4 : arg4.IsWhole) (arg5 : Memref sig .tc .smem S152 .i32) (harg5 : arg5.IsWhole) (arg6 : Memref sig .tc .smem S152 .i32) (harg6 : arg6.IsWhole) (arg7 : Memref sig .tc .vmem S512x3072 .fp8e4m3) (harg7 : arg7.IsWhole) (arg8 : Memref sig .tc .vmem S512x24 .f32) (harg8 : arg8.IsWhole) (arg9 : Memref sig .tc .vmem S1x1536x512 .i8) (harg9 : arg9.IsWhole) (arg10 : Memref sig .tc .vmem S1x1536x512 .i8) (harg10 : arg10.IsWhole) (arg11 : Memref sig .tc .vmem S1x96x512 .i8) (harg11 : arg11.IsWhole) (arg12 : Memref sig .tc .vmem S1x96x512 .i8) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S512x512 .fp8e4m3) (harg15 : arg15.IsWhole) (arg16 : Memref sig .tc .vmem S1x512x4 .f32) (harg16 : arg16.IsWhole) (arg17 : Memref sig .tc .vmem S3072x512 .bf16) (harg17 : arg17.IsWhole) (arg18 : Memref sig .tc .vmem S3072x512 .bf16) (harg18 : arg18.IsWhole) (arg19 : Memref sig .tc .vmem S512x3072 .bf16) (harg19 : arg19.IsWhole) (jp : Unit → Prog (TpuEff nD τ sig (Elt F) Λ₀ .tc) PUnit) : Prog (TpuEff nD τ sig (Elt F) Λ₀ .tc) PUnit := do
  k0_part196 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  k0_part197 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  k0_part198 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  k0_part181 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  k0_part182 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  k0_part183 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let v7617 : FVec F S32x512 .bf16 ← k0_part184 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let v7656 : FVec F S32x512 .bf16 ← k0_part185 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v7617
  let ⟨v7698, v7699⟩ : Σ' (v7698 : FVec F S32x512 .bf16), Vec F S32x512 .bf16 ← k0_part186 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v7656
  let v7740 : FVec F S32x512 .bf16 ← k0_part187 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v7698 v7699
  let v7782 : FVec F S32x512 .bf16 ← k0_part188 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v7740
  let v7824 : FVec F S32x512 .bf16 ← k0_part189 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v7782
  let ⟨v7857, v7865⟩ : Σ' (v7857 : FVec F S32x512 .bf16), FVec F S32x512 .bf16 ← k0_part190 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v7824
  let ⟨v7899, v7906⟩ : Σ' (v7899 : FVec F S32x512 .bf16), FVec F S1x512 .bf16 ← k0_part191 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v7857 v7865
  let ⟨v7941, v7947⟩ : Σ' (v7941 : FVec F S32x512 .bf16), FVec F S1x512 .f32 ← k0_part192 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v7899 v7906
  let ⟨v7983, v7988⟩ : Σ' (v7983 : FVec F S32x512 .bf16), IVec S1x512 32 ← k0_part193 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v7941 v7947
  let ⟨v8025, v8028, v8029⟩ : Σ' (v8025 : FVec F S32x512 .bf16) (v8028 : IVec S1x512 32), IVec S1x512 32 ← k0_part194 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v7983 v7988
  let ⟨v8067, v8070, c23_i32_3217⟩ : Σ' (v8067 : FVec F S32x512 .bf16) (v8070 : IVec S1x512 32), BitVec 32 ← k0_part195 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8025 v8028 v8029
  have v8071 : IVec S1x512 32 := broadcast S1x512 c23_i32_3217
  have v8072 : IVec S1x512 32 := shli v8070 v8071
  have v8073 : FVec F S1x512 .f32 := bitcastToFloat .f32 v8072
  have v8074 : FVec F S1x512 .bf16 := truncf .bf16 v8073 bitsLt_bf16_f32
  have v8075 : FVec F S32x512 .bf16 := broadcastTo S32x512 v8074 broadcasts_S1x512_S32x512
  have v8076 : FVec F S32x512 .bf16 := mulf v8067 v8075
  let c3040_3218 : Index := 3040#32
  let c0_3219 : Index := 0#32
  let v8077 : Vec F S32x512 .bf16 ← Prog.lift (.load arg18 (Rect.unit (s := S3072x512) ![3040, 0] S32x512.size inb_S3072x512_S32x512_3040_0).toLoadRect (View.loadsAt_vmem h_S32x512))
  have v8078 : FVec F S32x512 .bf16 := shapeCast S32x512 v8077 shapeCasts_S32x512_S32x512
  have v8079 : FVec F S32x512 .bf16 := shapeCast S32x512 v8076 shapeCasts_S32x512_S32x512
  Prog.lift (.store arg18 (Rect.unit (s := S3072x512) ![3040, 0] S32x512.size inb_S3072x512_S32x512_3040_0) v8079 Finset.univ (View.stores_vmem h_S32x512 (harg18.storeExact_slice rfl _ packedbf16_S3072x512_S32x512_3040_0) (fun _ => rfl)) (.inl rfl))
  jp ⟨⟩

set_option maxRecDepth 1000000 in
set_option maxHeartbeats 0 in
theorem deqBranch_eq (i : grid0.Coords) (arg2 : Memref sig .tc .smem S152 .i32) (harg2 : arg2.IsWhole) (arg3 : Memref sig .tc .smem S152 .i32) (harg3 : arg3.IsWhole) (arg4 : Memref sig .tc .smem S152 .i32) (harg4 : arg4.IsWhole) (arg5 : Memref sig .tc .smem S152 .i32) (harg5 : arg5.IsWhole) (arg6 : Memref sig .tc .smem S152 .i32) (harg6 : arg6.IsWhole) (arg7 : Memref sig .tc .vmem S512x3072 .fp8e4m3) (harg7 : arg7.IsWhole) (arg8 : Memref sig .tc .vmem S512x24 .f32) (harg8 : arg8.IsWhole) (arg9 : Memref sig .tc .vmem S1x1536x512 .i8) (harg9 : arg9.IsWhole) (arg10 : Memref sig .tc .vmem S1x1536x512 .i8) (harg10 : arg10.IsWhole) (arg11 : Memref sig .tc .vmem S1x96x512 .i8) (harg11 : arg11.IsWhole) (arg12 : Memref sig .tc .vmem S1x96x512 .i8) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S512x512 .fp8e4m3) (harg15 : arg15.IsWhole) (arg16 : Memref sig .tc .vmem S1x512x4 .f32) (harg16 : arg16.IsWhole) (arg17 : Memref sig .tc .vmem S3072x512 .bf16) (harg17 : arg17.IsWhole) (arg18 : Memref sig .tc .vmem S3072x512 .bf16) (harg18 : arg18.IsWhole) (arg19 : Memref sig .tc .vmem S512x3072 .bf16) (harg19 : arg19.IsWhole) (jp : Unit → Prog (TpuEff nD τ sig (Elt F) Λ₀ .tc) PUnit) :
    deqBranch (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 jp = (
    deqK (F := F) arg9 arg11 arg17 harg17 0 (by decide) <|
    deqK (F := F) arg9 arg11 arg17 harg17 1 (by decide) <|
    deqK (F := F) arg9 arg11 arg17 harg17 2 (by decide) <|
    deqK (F := F) arg9 arg11 arg17 harg17 3 (by decide) <|
    deqK (F := F) arg9 arg11 arg17 harg17 4 (by decide) <|
    deqK (F := F) arg9 arg11 arg17 harg17 5 (by decide) <|
    deqK (F := F) arg9 arg11 arg17 harg17 6 (by decide) <|
    deqK (F := F) arg9 arg11 arg17 harg17 7 (by decide) <|
    deqK (F := F) arg9 arg11 arg17 harg17 8 (by decide) <|
    deqK (F := F) arg9 arg11 arg17 harg17 9 (by decide) <|
    deqK (F := F) arg9 arg11 arg17 harg17 10 (by decide) <|
    deqK (F := F) arg9 arg11 arg17 harg17 11 (by decide) <|
    deqK (F := F) arg9 arg11 arg17 harg17 12 (by decide) <|
    deqK (F := F) arg9 arg11 arg17 harg17 13 (by decide) <|
    deqK (F := F) arg9 arg11 arg17 harg17 14 (by decide) <|
    deqK (F := F) arg9 arg11 arg17 harg17 15 (by decide) <|
    deqK (F := F) arg9 arg11 arg17 harg17 16 (by decide) <|
    deqK (F := F) arg9 arg11 arg17 harg17 17 (by decide) <|
    deqK (F := F) arg9 arg11 arg17 harg17 18 (by decide) <|
    deqK (F := F) arg9 arg11 arg17 harg17 19 (by decide) <|
    deqK (F := F) arg9 arg11 arg17 harg17 20 (by decide) <|
    deqK (F := F) arg9 arg11 arg17 harg17 21 (by decide) <|
    deqK (F := F) arg9 arg11 arg17 harg17 22 (by decide) <|
    deqK (F := F) arg9 arg11 arg17 harg17 23 (by decide) <|
    deqK (F := F) arg9 arg11 arg17 harg17 24 (by decide) <|
    deqK (F := F) arg9 arg11 arg17 harg17 25 (by decide) <|
    deqK (F := F) arg9 arg11 arg17 harg17 26 (by decide) <|
    deqK (F := F) arg9 arg11 arg17 harg17 27 (by decide) <|
    deqK (F := F) arg9 arg11 arg17 harg17 28 (by decide) <|
    deqK (F := F) arg9 arg11 arg17 harg17 29 (by decide) <|
    deqK (F := F) arg9 arg11 arg17 harg17 30 (by decide) <|
    deqK (F := F) arg9 arg11 arg17 harg17 31 (by decide) <|
    deqK (F := F) arg9 arg11 arg17 harg17 32 (by decide) <|
    deqK (F := F) arg9 arg11 arg17 harg17 33 (by decide) <|
    deqK (F := F) arg9 arg11 arg17 harg17 34 (by decide) <|
    deqK (F := F) arg9 arg11 arg17 harg17 35 (by decide) <|
    deqK (F := F) arg9 arg11 arg17 harg17 36 (by decide) <|
    deqK (F := F) arg9 arg11 arg17 harg17 37 (by decide) <|
    deqK (F := F) arg9 arg11 arg17 harg17 38 (by decide) <|
    deqK (F := F) arg9 arg11 arg17 harg17 39 (by decide) <|
    deqK (F := F) arg9 arg11 arg17 harg17 40 (by decide) <|
    deqK (F := F) arg9 arg11 arg17 harg17 41 (by decide) <|
    deqK (F := F) arg9 arg11 arg17 harg17 42 (by decide) <|
    deqK (F := F) arg9 arg11 arg17 harg17 43 (by decide) <|
    deqK (F := F) arg9 arg11 arg17 harg17 44 (by decide) <|
    deqK (F := F) arg9 arg11 arg17 harg17 45 (by decide) <|
    deqK (F := F) arg9 arg11 arg17 harg17 46 (by decide) <|
    deqK (F := F) arg9 arg11 arg17 harg17 47 (by decide) <|
    deqK (F := F) arg9 arg11 arg17 harg17 48 (by decide) <|
    deqK (F := F) arg9 arg11 arg17 harg17 49 (by decide) <|
    deqK (F := F) arg9 arg11 arg17 harg17 50 (by decide) <|
    deqK (F := F) arg9 arg11 arg17 harg17 51 (by decide) <|
    deqK (F := F) arg9 arg11 arg17 harg17 52 (by decide) <|
    deqK (F := F) arg9 arg11 arg17 harg17 53 (by decide) <|
    deqK (F := F) arg9 arg11 arg17 harg17 54 (by decide) <|
    deqK (F := F) arg9 arg11 arg17 harg17 55 (by decide) <|
    deqK (F := F) arg9 arg11 arg17 harg17 56 (by decide) <|
    deqK (F := F) arg9 arg11 arg17 harg17 57 (by decide) <|
    deqK (F := F) arg9 arg11 arg17 harg17 58 (by decide) <|
    deqK (F := F) arg9 arg11 arg17 harg17 59 (by decide) <|
    deqK (F := F) arg9 arg11 arg17 harg17 60 (by decide) <|
    deqK (F := F) arg9 arg11 arg17 harg17 61 (by decide) <|
    deqK (F := F) arg9 arg11 arg17 harg17 62 (by decide) <|
    deqK (F := F) arg9 arg11 arg17 harg17 63 (by decide) <|
    deqK (F := F) arg9 arg11 arg17 harg17 64 (by decide) <|
    deqK (F := F) arg9 arg11 arg17 harg17 65 (by decide) <|
    deqK (F := F) arg9 arg11 arg17 harg17 66 (by decide) <|
    deqK (F := F) arg9 arg11 arg17 harg17 67 (by decide) <|
    deqK (F := F) arg9 arg11 arg17 harg17 68 (by decide) <|
    deqK (F := F) arg9 arg11 arg17 harg17 69 (by decide) <|
    deqK (F := F) arg9 arg11 arg17 harg17 70 (by decide) <|
    deqK (F := F) arg9 arg11 arg17 harg17 71 (by decide) <|
    deqK (F := F) arg9 arg11 arg17 harg17 72 (by decide) <|
    deqK (F := F) arg9 arg11 arg17 harg17 73 (by decide) <|
    deqK (F := F) arg9 arg11 arg17 harg17 74 (by decide) <|
    deqK (F := F) arg9 arg11 arg17 harg17 75 (by decide) <|
    deqK (F := F) arg9 arg11 arg17 harg17 76 (by decide) <|
    deqK (F := F) arg9 arg11 arg17 harg17 77 (by decide) <|
    deqK (F := F) arg9 arg11 arg17 harg17 78 (by decide) <|
    deqK (F := F) arg9 arg11 arg17 harg17 79 (by decide) <|
    deqK (F := F) arg9 arg11 arg17 harg17 80 (by decide) <|
    deqK (F := F) arg9 arg11 arg17 harg17 81 (by decide) <|
    deqK (F := F) arg9 arg11 arg17 harg17 82 (by decide) <|
    deqK (F := F) arg9 arg11 arg17 harg17 83 (by decide) <|
    deqK (F := F) arg9 arg11 arg17 harg17 84 (by decide) <|
    deqK (F := F) arg9 arg11 arg17 harg17 85 (by decide) <|
    deqK (F := F) arg9 arg11 arg17 harg17 86 (by decide) <|
    deqK (F := F) arg9 arg11 arg17 harg17 87 (by decide) <|
    deqK (F := F) arg9 arg11 arg17 harg17 88 (by decide) <|
    deqK (F := F) arg9 arg11 arg17 harg17 89 (by decide) <|
    deqK (F := F) arg9 arg11 arg17 harg17 90 (by decide) <|
    deqK (F := F) arg9 arg11 arg17 harg17 91 (by decide) <|
    deqK (F := F) arg9 arg11 arg17 harg17 92 (by decide) <|
    deqK (F := F) arg9 arg11 arg17 harg17 93 (by decide) <|
    deqK (F := F) arg9 arg11 arg17 harg17 94 (by decide) <|
    deqK (F := F) arg9 arg11 arg17 harg17 95 (by decide) <|
    deqK (F := F) arg10 arg12 arg18 harg18 0 (by decide) <|
    deqK (F := F) arg10 arg12 arg18 harg18 1 (by decide) <|
    deqK (F := F) arg10 arg12 arg18 harg18 2 (by decide) <|
    deqK (F := F) arg10 arg12 arg18 harg18 3 (by decide) <|
    deqK (F := F) arg10 arg12 arg18 harg18 4 (by decide) <|
    deqK (F := F) arg10 arg12 arg18 harg18 5 (by decide) <|
    deqK (F := F) arg10 arg12 arg18 harg18 6 (by decide) <|
    deqK (F := F) arg10 arg12 arg18 harg18 7 (by decide) <|
    deqK (F := F) arg10 arg12 arg18 harg18 8 (by decide) <|
    deqK (F := F) arg10 arg12 arg18 harg18 9 (by decide) <|
    deqK (F := F) arg10 arg12 arg18 harg18 10 (by decide) <|
    deqK (F := F) arg10 arg12 arg18 harg18 11 (by decide) <|
    deqK (F := F) arg10 arg12 arg18 harg18 12 (by decide) <|
    deqK (F := F) arg10 arg12 arg18 harg18 13 (by decide) <|
    deqK (F := F) arg10 arg12 arg18 harg18 14 (by decide) <|
    deqK (F := F) arg10 arg12 arg18 harg18 15 (by decide) <|
    deqK (F := F) arg10 arg12 arg18 harg18 16 (by decide) <|
    deqK (F := F) arg10 arg12 arg18 harg18 17 (by decide) <|
    deqK (F := F) arg10 arg12 arg18 harg18 18 (by decide) <|
    deqK (F := F) arg10 arg12 arg18 harg18 19 (by decide) <|
    deqK (F := F) arg10 arg12 arg18 harg18 20 (by decide) <|
    deqK (F := F) arg10 arg12 arg18 harg18 21 (by decide) <|
    deqK (F := F) arg10 arg12 arg18 harg18 22 (by decide) <|
    deqK (F := F) arg10 arg12 arg18 harg18 23 (by decide) <|
    deqK (F := F) arg10 arg12 arg18 harg18 24 (by decide) <|
    deqK (F := F) arg10 arg12 arg18 harg18 25 (by decide) <|
    deqK (F := F) arg10 arg12 arg18 harg18 26 (by decide) <|
    deqK (F := F) arg10 arg12 arg18 harg18 27 (by decide) <|
    deqK (F := F) arg10 arg12 arg18 harg18 28 (by decide) <|
    deqK (F := F) arg10 arg12 arg18 harg18 29 (by decide) <|
    deqK (F := F) arg10 arg12 arg18 harg18 30 (by decide) <|
    deqK (F := F) arg10 arg12 arg18 harg18 31 (by decide) <|
    deqK (F := F) arg10 arg12 arg18 harg18 32 (by decide) <|
    deqK (F := F) arg10 arg12 arg18 harg18 33 (by decide) <|
    deqK (F := F) arg10 arg12 arg18 harg18 34 (by decide) <|
    deqK (F := F) arg10 arg12 arg18 harg18 35 (by decide) <|
    deqK (F := F) arg10 arg12 arg18 harg18 36 (by decide) <|
    deqK (F := F) arg10 arg12 arg18 harg18 37 (by decide) <|
    deqK (F := F) arg10 arg12 arg18 harg18 38 (by decide) <|
    deqK (F := F) arg10 arg12 arg18 harg18 39 (by decide) <|
    deqK (F := F) arg10 arg12 arg18 harg18 40 (by decide) <|
    deqK (F := F) arg10 arg12 arg18 harg18 41 (by decide) <|
    deqK (F := F) arg10 arg12 arg18 harg18 42 (by decide) <|
    deqK (F := F) arg10 arg12 arg18 harg18 43 (by decide) <|
    deqK (F := F) arg10 arg12 arg18 harg18 44 (by decide) <|
    deqK (F := F) arg10 arg12 arg18 harg18 45 (by decide) <|
    deqK (F := F) arg10 arg12 arg18 harg18 46 (by decide) <|
    deqK (F := F) arg10 arg12 arg18 harg18 47 (by decide) <|
    deqK (F := F) arg10 arg12 arg18 harg18 48 (by decide) <|
    deqK (F := F) arg10 arg12 arg18 harg18 49 (by decide) <|
    deqK (F := F) arg10 arg12 arg18 harg18 50 (by decide) <|
    deqK (F := F) arg10 arg12 arg18 harg18 51 (by decide) <|
    deqK (F := F) arg10 arg12 arg18 harg18 52 (by decide) <|
    deqK (F := F) arg10 arg12 arg18 harg18 53 (by decide) <|
    deqK (F := F) arg10 arg12 arg18 harg18 54 (by decide) <|
    deqK (F := F) arg10 arg12 arg18 harg18 55 (by decide) <|
    deqK (F := F) arg10 arg12 arg18 harg18 56 (by decide) <|
    deqK (F := F) arg10 arg12 arg18 harg18 57 (by decide) <|
    deqK (F := F) arg10 arg12 arg18 harg18 58 (by decide) <|
    deqK (F := F) arg10 arg12 arg18 harg18 59 (by decide) <|
    deqK (F := F) arg10 arg12 arg18 harg18 60 (by decide) <|
    deqK (F := F) arg10 arg12 arg18 harg18 61 (by decide) <|
    deqK (F := F) arg10 arg12 arg18 harg18 62 (by decide) <|
    deqK (F := F) arg10 arg12 arg18 harg18 63 (by decide) <|
    deqK (F := F) arg10 arg12 arg18 harg18 64 (by decide) <|
    deqK (F := F) arg10 arg12 arg18 harg18 65 (by decide) <|
    deqK (F := F) arg10 arg12 arg18 harg18 66 (by decide) <|
    deqK (F := F) arg10 arg12 arg18 harg18 67 (by decide) <|
    deqK (F := F) arg10 arg12 arg18 harg18 68 (by decide) <|
    deqK (F := F) arg10 arg12 arg18 harg18 69 (by decide) <|
    deqK (F := F) arg10 arg12 arg18 harg18 70 (by decide) <|
    deqK (F := F) arg10 arg12 arg18 harg18 71 (by decide) <|
    deqK (F := F) arg10 arg12 arg18 harg18 72 (by decide) <|
    deqK (F := F) arg10 arg12 arg18 harg18 73 (by decide) <|
    deqK (F := F) arg10 arg12 arg18 harg18 74 (by decide) <|
    deqK (F := F) arg10 arg12 arg18 harg18 75 (by decide) <|
    deqK (F := F) arg10 arg12 arg18 harg18 76 (by decide) <|
    deqK (F := F) arg10 arg12 arg18 harg18 77 (by decide) <|
    deqK (F := F) arg10 arg12 arg18 harg18 78 (by decide) <|
    deqK (F := F) arg10 arg12 arg18 harg18 79 (by decide) <|
    deqK (F := F) arg10 arg12 arg18 harg18 80 (by decide) <|
    deqK (F := F) arg10 arg12 arg18 harg18 81 (by decide) <|
    deqK (F := F) arg10 arg12 arg18 harg18 82 (by decide) <|
    deqK (F := F) arg10 arg12 arg18 harg18 83 (by decide) <|
    deqK (F := F) arg10 arg12 arg18 harg18 84 (by decide) <|
    deqK (F := F) arg10 arg12 arg18 harg18 85 (by decide) <|
    deqK (F := F) arg10 arg12 arg18 harg18 86 (by decide) <|
    deqK (F := F) arg10 arg12 arg18 harg18 87 (by decide) <|
    deqK (F := F) arg10 arg12 arg18 harg18 88 (by decide) <|
    deqK (F := F) arg10 arg12 arg18 harg18 89 (by decide) <|
    deqK (F := F) arg10 arg12 arg18 harg18 90 (by decide) <|
    deqK (F := F) arg10 arg12 arg18 harg18 91 (by decide) <|
    deqK (F := F) arg10 arg12 arg18 harg18 92 (by decide) <|
    deqK (F := F) arg10 arg12 arg18 harg18 93 (by decide) <|
    deqK (F := F) arg10 arg12 arg18 harg18 94 (by decide) <|
    deqK (F := F) arg10 arg12 arg18 harg18 95 (by decide) <|
    jp ⟨⟩) := rfl

end Cert.Kernel.Hand
-- ==== Proof.P.Compute.lean ====
module

public import proofs.«01_k».proof.Proof.Gen.Kernel

/-! The computing branch of the body as a chain: 24 groups of input columns rescaled, then two chunks of
    output columns, each two quantised groups. -/

@[expose] public section

noncomputable section

namespace Cert.Kernel.Hand

open Idealize.ShloMosaic Idealize.SL.Sem
open Cert.Kernel Facts₀ Facts

variable {F : FTy → Type} [FloatOps F] [Facts]

theorem inbX (g : ℕ) (hg : g < 24) :
    ∀ a, (![0, 128 * g] : Fin 2 → Nat) a + S512x128.size a ≤ S512x3072.size a := by
  intro a; fin_cases a
  · show 0 + 512 ≤ 512; omega
  · show 128 * g + 128 ≤ 3072; omega
theorem inbXS (g : ℕ) (hg : g < 24) :
    ∀ a, (![0, g] : Fin 2 → Nat) a + S512x1.size a ≤ S512x24.size a := by
  intro a; fin_cases a
  · show 0 + 512 ≤ 512; omega
  · show g + 1 ≤ 24; omega
theorem packX (g : ℕ) (hg : g < 24) :
    (Rect.unit (s := S512x3072) ![0, 128 * g] S512x128.size (inbX g hg)).PackedRows (EltTy.packing .bf16) := by
  refine Or.inr ⟨by decide, rfl, Or.inl ⟨?_, ?_⟩⟩
  · show 2 ∣ 0
    omega
  · show 2 ∣ 512
    omega
theorem inbC (i : ℕ) (hi : i < 4) :
    ∀ a, (![0, 128 * i] : Fin 2 → Nat) a + S512x128.size a ≤ S512x512.size a := by
  intro a; fin_cases a
  · show 0 + 512 ≤ 512; omega
  · show 128 * i + 128 ≤ 512; omega
theorem packC (i : ℕ) (hi : i < 4) :
    (Rect.unit (s := S512x512) ![0, 128 * i] S512x128.size (inbC i hi)).PackedRows (EltTy.packing .fp8e4m3) := by
  refine Or.inr ⟨by decide, rfl, Or.inl ⟨?_, ?_⟩⟩
  · show 4 ∣ 0
    omega
  · show 4 ∣ 512
    omega
theorem inbCS (i : ℕ) (hi : i < 4) :
    ∀ a, (![0, 0, i] : Fin 3 → Nat) a + S1x512x1.size a ≤ S1x512x4.size a := by
  intro a; fin_cases a
  · show 0 + 1 ≤ 1; omega
  · show 0 + 512 ≤ 512; omega
  · show i + 1 ≤ 4; omega
theorem inbG (c : ℕ) (hc : c < 2) :
    ∀ a, (![0, 256 * c] : Fin 2 → Nat) a + S3072x256.size a ≤ S3072x512.size a := by
  intro a; fin_cases a
  · show 0 + 3072 ≤ 3072; omega
  · show 256 * c + 256 ≤ 512; omega
theorem inbB (c : ℕ) (hc : c < 2) :
    ∀ a, (![0, 0, 256 * c] : Fin 3 → Nat) a + S1x1x256.size a ≤ S1x1x512.size a := by
  intro a; fin_cases a
  · show 0 + 1 ≤ 1; omega
  · show 0 + 1 ≤ 1; omega
  · show 256 * c + 256 ≤ 512; omega

/-- One group of 128 columns of the input, times its column of scales. -/
def xVal (v16 : Vec F S512x1 .f32) (v20 : Vec F S512x128 .fp8e4m3) : FVec F S512x128 .bf16 :=
  have v17 : FVec F S512x1 .f32 := shapeCast S512x1 v16 shapeCasts_S512x1_S512x1
  have v18 : FVec F S512x128 .f32 := broadcastTo S512x128 v17 broadcasts_S512x1_S512x128
  have v19 : FVec F S512x128 .bf16 := truncf .bf16 v18 bitsLt_bf16_f32
  have v21 : FVec F S512x128 .bf16 := extf .bf16 v20 bitsLt_fp8e4m3_bf16
  have v22 : FVec F S512x128 .bf16 := mulf v21 v19
  have v25 : FVec F S512x128 .bf16 := shapeCast S512x128 v22 shapeCasts_S512x128_S512x128
  v25

/-- The rows of the visit, as a mask. -/
def maskVal (v258 v262 : Elt F .i32) : IVec S512x128 1 :=
  have v256 : IVec S512x128 32 := iota .tc S512x128 32 [0] iota_S512x128_d0_w32
  have v259 : IVec S512x128 32 := broadcast S512x128 v258
  have v260 : IVec S512x128 1 := cmpi .sge v256 v259
  have v263 : IVec S512x128 32 := broadcast S512x128 v262
  have v264 : IVec S512x128 1 := cmpi .slt v256 v263
  have v265 : IVec S512x128 1 := andi v260 v264
  v265

/-- The gated activation of one chunk of 256 output columns. -/
def hVal (v266 : Vec F S512x3072 .bf16) (v267 : Vec F S3072x256 .bf16) (v269 : Vec F S1x1x256 .f32)
    (v273 : Vec F S512x3072 .bf16) (v274 : Vec F S3072x256 .bf16) (v276 : Vec F S1x1x256 .f32) : FVec F S512x256 .f32 :=
  have cst : FVec F S512x256 .f32 := constant S512x256 .f32 0x00000000#32
  have v268 : FVec F S512x256 .f32 := matmul dot_S512x3072_S3072x256_S512x256_1_0_0_1_n_n none v266 v267 cst
  let c0_105 : Index := 0#32
  let c0_106 : Index := 0#32
  let c0_107 : Index := 0#32
  have v270 : FVec F S1x256 .f32 := shapeCast S1x256 v269 shapeCasts_S1x1x256_S1x256
  have v271 : FVec F S512x256 .f32 := broadcastTo S512x256 v270 broadcasts_S1x256_S512x256
  have v272 : FVec F S512x256 .f32 := addf v268 v271
  let c0_108 : Index := 0#32
  let c0_109 : Index := 0#32
  let c0_110 : Index := 0#32
  let c0_111 : Index := 0#32
  have cst_112 : FVec F S512x256 .f32 := constant S512x256 .f32 0x00000000#32
  have v275 : FVec F S512x256 .f32 := matmul dot_S512x3072_S3072x256_S512x256_1_0_0_1_n_n none v273 v274 cst_112
  let c0_113 : Index := 0#32
  let c0_114 : Index := 0#32
  let c0_115 : Index := 0#32
  have v277 : FVec F S1x256 .f32 := shapeCast S1x256 v276 shapeCasts_S1x1x256_S1x256
  have v278 : FVec F S512x256 .f32 := broadcastTo S512x256 v277 broadcasts_S1x256_S512x256
  have v279 : FVec F S512x256 .f32 := addf v275 v278
  have cst_116 : F .f32 := Scalar.ofBits .f32 0x40E00000#32
  have v280 : FVec F S512x256 .f32 := broadcast S512x256 cst_116
  have v281 : FVec F S512x256 .f32 := minimumf v272 v280
  have cst_117 : F .f32 := Scalar.ofBits .f32 0xC0E00000#32
  have cst_118 : F .f32 := Scalar.ofBits .f32 0x40E00000#32
  have v282 : FVec F S512x256 .f32 := broadcast S512x256 cst_117
  have v283 : FVec F S512x256 .f32 := maximumf v282 v279
  have v284 : FVec F S512x256 .f32 := broadcast S512x256 cst_118
  have v285 : FVec F S512x256 .f32 := minimumf v284 v283
  have cst_119 : F .f32 := Scalar.ofBits .f32 0x3F800000#32
  have v286 : FVec F S512x256 .f32 := broadcast S512x256 cst_119
  have v287 : FVec F S512x256 .f32 := addf v285 v286
  have v288 : FVec F S512x256 .f32 := mulf v287 v281
  have cst_120 : F .f32 := Scalar.ofBits .f32 0xBFD9DB23#32
  have v289 : FVec F S512x256 .f32 := broadcast S512x256 cst_120
  have v290 : FVec F S512x256 .f32 := mulf v289 v281
  have v291 : FVec F S512x256 .f32 := exp v290
  have cst_121 : F .f32 := Scalar.ofBits .f32 0x3F800000#32
  have v292 : FVec F S512x256 .f32 := broadcast S512x256 cst_121
  have v293 : FVec F S512x256 .f32 := addf v292 v291
  have v294 : FVec F S512x256 .f32 := divf v288 v293
  v294

/-- The exponent field of a group's scale. -/
def grpE (v295 : FVec F S512x128 .f32) : IVec S512x1 32 :=
  have v296 : FVec F S512x128 .f32 := absf v295
  have cst_122 : FVec F S512 .f32 := constant S512 .f32 0xFF800000#32
  have v297 : FVec F S512 .f32 := multiReduction .maximumf [1] S512 v296 0xFF800000#32 reduces_S512x128_S512 (.inl rfl) rfl
  have v298 : FVec F S512x1 .f32 := shapeCast S512x1 v297 shapeCasts_S512_S512x1
  have cst_123 : F .f32 := Scalar.ofBits .f32 0x3B124925#32
  have v299 : FVec F S512x1 .f32 := broadcast S512x1 cst_123
  have v300 : FVec F S512x1 .f32 := mulf v298 v299
  have cst_124 : F .f32 := Scalar.ofBits .f32 0x00000000#32
  have v301 : FVec F S512x1 .f32 := broadcast S512x1 cst_124
  have v302 : IVec S512x1 1 := cmpf .oeq v300 v301
  have v303 : IVec S512x256 32 := iota .tc S512x256 32 [1] iota_S512x256_d1_w32
  let c23_i32 : BitVec 32 := 23#32
  have v304 : IVec S512x256 32 := broadcast S512x256 c23_i32
  have v305 : IVec S512x256 32 := shli v303 v304
  have v306 : FVec F S512x256 .f32 := bitcastToFloat .f32 v305
  have v307 : FVec F S512x256 .f32 := broadcastTo S512x256 v300 broadcasts_S512x1_S512x256
  have v308 : IVec S512x256 1 := cmpf .oge v307 v306
  have v309 : IVec S512x256 32 := extui 32 v308 natLt_1_32
  have cst_125 : IVec S512 32 := constantI S512 32 0#32
  have v310 : IVec S512 32 := multiReductionI .add [1] S512 v309 0#32 reduces_S512x256_S512 rfl
  have v311 : IVec S512x1 32 := shapeCast S512x1 v310 shapeCasts_S512_S512x1
  let c1_i32_126 : BitVec 32 := 1#32
  have v312 : IVec S512x1 32 := broadcast S512x1 c1_i32_126
  have v313 : IVec S512x1 32 := subi v311 v312
  let c1_i32_127 : BitVec 32 := 1#32
  have v314 : IVec S512x1 32 := broadcast S512x1 c1_i32_127
  have v315 : IVec S512x1 32 := addi v313 v314
  let c127_i32 : BitVec 32 := 127#32
  have v316 : IVec S512x1 32 := broadcast S512x1 c127_i32
  have v317 : IVec S512x1 32 := select v302 v316 v315
  v317

/-- The scale of a group. -/
def grpScale (v295 : FVec F S512x128 .f32) : FVec F S512x1 .f32 :=
  have v317 : IVec S512x1 32 := grpE v295
  let c23_i32_128 : BitVec 32 := 23#32
  have v318 : IVec S512x1 32 := broadcast S512x1 c23_i32_128
  have v319 : IVec S512x1 32 := shli v317 v318
  have v320 : FVec F S512x1 .f32 := bitcastToFloat .f32 v319
  v320

/-- The values of a group over its scale, clipped. -/
def grpCode (v295 : FVec F S512x128 .f32) : FVec F S512x128 .f32 :=
  have v317 : IVec S512x1 32 := grpE v295
  let c254_i32 : BitVec 32 := 254#32
  have v321 : IVec S512x1 32 := broadcast S512x1 c254_i32
  have v322 : IVec S512x1 32 := subi v321 v317
  let c23_i32_129 : BitVec 32 := 23#32
  have v323 : IVec S512x1 32 := broadcast S512x1 c23_i32_129
  have v324 : IVec S512x1 32 := shli v322 v323
  have v325 : FVec F S512x1 .f32 := bitcastToFloat .f32 v324
  have v326 : FVec F S512x128 .f32 := broadcastTo S512x128 v325 broadcasts_S512x1_S512x128
  have v327 : FVec F S512x128 .f32 := mulf v295 v326
  have cst_130 : F .f32 := Scalar.ofBits .f32 0xC3E00000#32
  have cst_131 : F .f32 := Scalar.ofBits .f32 0x43E00000#32
  have v328 : FVec F S512x128 .f32 := broadcast S512x128 cst_130
  have v329 : FVec F S512x128 .f32 := maximumf v328 v327
  have v330 : FVec F S512x128 .f32 := broadcast S512x128 cst_131
  have v331 : FVec F S512x128 .f32 := minimumf v330 v329
  v331

/-- The codes stored over the old ones. -/
def mergeCode (v265 : IVec S512x128 1) (v331 : FVec F S512x128 .f32) (v332 : Vec F S512x128 .fp8e4m3) : FVec F S512x128 .fp8e4m3 :=
  have v333 : FVec F S512x128 .fp8e4m3 := shapeCast S512x128 v332 shapeCasts_S512x128_S512x128
  have v334 : FVec F S512x128 .f32 := extf .f32 v333 bitsLt_fp8e4m3_f32
  have v335 : FVec F S512x128 .f32 := select v265 v331 v334
  have v336 : FVec F S512x128 .fp8e4m3 := truncf .fp8e4m3 v335 bitsLt_fp8e4m3_f32
  v336

/-- The scales stored over the old ones. -/
def mergeScale (v265 : IVec S512x128 1) (v320 : FVec F S512x1 .f32) (v338 : Vec F S1x512x1 .f32) : FVec F S1x512x1 .f32 :=
  have v339 : FVec F S512x1 .f32 := shapeCast S512x1 v338 shapeCasts_S1x512x1_S512x1
  have v340 : IVec S512x1 1 := extractStridedSlice S512x1 ![0, 0] v265 slices_S512x128_o0_0_S512x1
  have v341 : FVec F S512x1 .f32 := select v340 v320 v339
  have v344 : FVec F S1x512x1 .f32 := shapeCast S1x512x1 v341 shapeCasts_S512x1_S1x512x1
  v344

/-- One group of input columns, then `k`. -/
def xK (x : Memref sig .tc .vmem S512x3072 .fp8e4m3) (xs : Memref sig .tc .vmem S512x24 .f32)
    (d : Memref sig .tc .vmem S512x3072 .bf16) (hd : d.IsWhole) (g : ℕ) (hg : g < 24) (k : Prog (TpuEff nD τ sig (Elt F) Λ₀ .tc) PUnit) : Prog (TpuEff nD τ sig (Elt F) Λ₀ .tc) PUnit :=
  Prog.op (.load xs (Rect.unit (s := S512x24) ![0, g] S512x1.size (inbXS g hg)).toLoadRect (View.loadsAt_vmem h_S512x1)) fun v16 =>
  Prog.op (.load x (Rect.unit (s := S512x3072) ![0, 128 * g] S512x128.size (inbX g hg)).toLoadRect (View.loadsAt_vmem h_S512x128)) fun v20 =>
  Prog.op (.load d (Rect.unit (s := S512x3072) ![0, 128 * g] S512x128.size (inbX g hg)).toLoadRect (View.loadsAt_vmem h_S512x128)) fun _ =>
  Prog.op (.store d (Rect.unit (s := S512x3072) ![0, 128 * g] S512x128.size (inbX g hg)) (xVal v16 v20) Finset.univ (View.stores_vmem h_S512x128 (hd.storeExact_slice rfl _ (packX g hg)) (fun _ => rfl)) (.inl rfl)) fun _ =>
  k

/-- The groups `g, …, g + n - 1`, then `k`. -/
def xRun (x : Memref sig .tc .vmem S512x3072 .fp8e4m3) (xs : Memref sig .tc .vmem S512x24 .f32)
    (d : Memref sig .tc .vmem S512x3072 .bf16) (hd : d.IsWhole) (k : Prog (TpuEff nD τ sig (Elt F) Λ₀ .tc) PUnit) : (n g : ℕ) → n + g ≤ 24 → Prog (TpuEff nD τ sig (Elt F) Λ₀ .tc) PUnit
  | 0, _, _ => k
  | n + 1, g, h => xK x xs d hd g (by omega) (xRun x xs d hd k n (g + 1) (by omega))

/-- One quantised group of output columns, then `k`. -/
def grpK (co : Memref sig .tc .vmem S512x512 .fp8e4m3) (hco : co.IsWhole) (sc : Memref sig .tc .vmem S1x512x4 .f32)
    (mask : IVec S512x128 1) (hq : FVec F S512x128 .f32) (i : ℕ) (hi : i < 4) (k : Prog (TpuEff nD τ sig (Elt F) Λ₀ .tc) PUnit) : Prog (TpuEff nD τ sig (Elt F) Λ₀ .tc) PUnit :=
  Prog.op (.load co (Rect.unit (s := S512x512) ![0, 128 * i] S512x128.size (inbC i hi)).toLoadRect (View.loadsAt_vmem h_S512x128)) fun v332 =>
  Prog.op (.load co (Rect.unit (s := S512x512) ![0, 128 * i] S512x128.size (inbC i hi)).toLoadRect (View.loadsAt_vmem h_S512x128)) fun _ =>
  Prog.op (.store co (Rect.unit (s := S512x512) ![0, 128 * i] S512x128.size (inbC i hi)) (mergeCode mask (grpCode hq) v332) Finset.univ (View.stores_vmem h_S512x128 (hco.storeExact_slice rfl _ (packC i hi)) (fun _ => rfl)) (.inl rfl)) fun _ =>
  Prog.op (.load sc (Rect.unit (s := S1x512x4) ![0, 0, i] S1x512x1.size (inbCS i hi)).toLoadRect (View.loadsAt_vmem h_S1x512x1)) fun v338 =>
  Prog.op (.load sc (Rect.unit (s := S1x512x4) ![0, 0, i] S1x512x1.size (inbCS i hi)).toLoadRect (View.loadsAt_vmem h_S1x512x1)) fun _ =>
  Prog.op (.store sc (Rect.unit (s := S1x512x4) ![0, 0, i] S1x512x1.size (inbCS i hi)) (mergeScale mask (grpScale hq) v338) Finset.univ (View.stores_vmem_bits_univ h_S1x512x1 rfl) (.inl rfl)) fun _ =>
  k

/-- One chunk of output columns, then `k` at its activations. -/
def chunkK (gw uw : Memref sig .tc .vmem S3072x512 .bf16) (xb : Memref sig .tc .vmem S512x3072 .bf16)
    (bg bu : Memref sig .tc .vmem S1x1x512 .f32) (c : ℕ) (hc : c < 2) (k : FVec F S512x256 .f32 → Prog (TpuEff nD τ sig (Elt F) Λ₀ .tc) PUnit) : Prog (TpuEff nD τ sig (Elt F) Λ₀ .tc) PUnit :=
  Prog.op (.load xb (Rect.unit (s := S512x3072) ![0, 0] S512x3072.size inb_S512x3072_S512x3072_0_0).toLoadRect (View.loadsAt_vmem h_S512x3072)) fun v266 =>
  Prog.op (.load gw (Rect.unit (s := S3072x512) ![0, 256 * c] S3072x256.size (inbG c hc)).toLoadRect (View.loadsAt_vmem h_S3072x256)) fun v267 =>
  Prog.op (.load bg (Rect.unit (s := S1x1x512) ![0, 0, 256 * c] S1x1x256.size (inbB c hc)).toLoadRect (View.loadsAt_vmem h_S1x1x256)) fun v269 =>
  Prog.op (.load xb (Rect.unit (s := S512x3072) ![0, 0] S512x3072.size inb_S512x3072_S512x3072_0_0).toLoadRect (View.loadsAt_vmem h_S512x3072)) fun v273 =>
  Prog.op (.load uw (Rect.unit (s := S3072x512) ![0, 256 * c] S3072x256.size (inbG c hc)).toLoadRect (View.loadsAt_vmem h_S3072x256)) fun v274 =>
  Prog.op (.load bu (Rect.unit (s := S1x1x512) ![0, 0, 256 * c] S1x1x256.size (inbB c hc)).toLoadRect (View.loadsAt_vmem h_S1x1x256)) fun v276 =>
  k (hVal v266 v267 v269 v273 v274 v276)

/-- The two groups of a chunk, then `k`. -/
def chunkGrpK (co : Memref sig .tc .vmem S512x512 .fp8e4m3) (hco : co.IsWhole) (sc : Memref sig .tc .vmem S1x512x4 .f32)
    (mask : IVec S512x128 1) (h : FVec F S512x256 .f32) (c : ℕ) (hc : c < 2) (k : Prog (TpuEff nD τ sig (Elt F) Λ₀ .tc) PUnit) : Prog (TpuEff nD τ sig (Elt F) Λ₀ .tc) PUnit :=
  grpK co hco sc mask (extractStridedSlice S512x128 ![0, 0] h slices_S512x256_o0_0_S512x128) (2 * c) (by omega) <|
  grpK co hco sc mask (extractStridedSlice S512x128 ![0, 128] h slices_S512x256_o0_128_S512x128) (2 * c + 1) (by omega) k

/-- The printed branch. -/
def compBranch (i : grid0.Coords) (arg2 : Memref sig .tc .smem S152 .i32) (harg2 : arg2.IsWhole) (arg3 : Memref sig .tc .smem S152 .i32) (harg3 : arg3.IsWhole) (arg4 : Memref sig .tc .smem S152 .i32) (harg4 : arg4.IsWhole) (arg5 : Memref sig .tc .smem S152 .i32) (harg5 : arg5.IsWhole) (arg6 : Memref sig .tc .smem S152 .i32) (harg6 : arg6.IsWhole) (arg7 : Memref sig .tc .vmem S512x3072 .fp8e4m3) (harg7 : arg7.IsWhole) (arg8 : Memref sig .tc .vmem S512x24 .f32) (harg8 : arg8.IsWhole) (arg9 : Memref sig .tc .vmem S1x1536x512 .i8) (harg9 : arg9.IsWhole) (arg10 : Memref sig .tc .vmem S1x1536x512 .i8) (harg10 : arg10.IsWhole) (arg11 : Memref sig .tc .vmem S1x96x512 .i8) (harg11 : arg11.IsWhole) (arg12 : Memref sig .tc .vmem S1x96x512 .i8) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S512x512 .fp8e4m3) (harg15 : arg15.IsWhole) (arg16 : Memref sig .tc .vmem S1x512x4 .f32) (harg16 : arg16.IsWhole) (arg17 : Memref sig .tc .vmem S3072x512 .bf16) (harg17 : arg17.IsWhole) (arg18 : Memref sig .tc .vmem S3072x512 .bf16) (harg18 : arg18.IsWhole) (arg19 : Memref sig .tc .vmem S512x3072 .bf16) (harg19 : arg19.IsWhole) (v12 : Elt F .i32) (k0_h2 : k0_cond2 v12 = 1#1) (jp : Unit → Prog (TpuEff nD τ sig (Elt F) Λ₀ .tc) PUnit) : Prog (TpuEff nD τ sig (Elt F) Λ₀ .tc) PUnit := do
  let arg1 : BitVec 32 := BitVec.ofNat 32 (i 1).val
  let ⟨v49, v50⟩ : Σ' (v49 : FVec F S512x128 .bf16), Vec F S512x128 .fp8e4m3 ← k0_part199 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  k0_part200 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v49 v50
  let ⟨v119, v121⟩ : Σ' (v119 : FVec F S512x128 .bf16), FVec F S512x128 .bf16 ← k0_part201 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  k0_part202 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v119 v121
  let v192 : FVec F S512x128 .bf16 ← k0_part203 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let v226 : Vec F S512x1 .f32 ← k0_part204 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v192
  let v265 : IVec S512x128 1 ← k0_part205 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v226
  let ⟨v294, v295, v300, v302⟩ : Σ' (v294 : FVec F S512x256 .f32) (v295 : FVec F S512x128 .f32) (v300 : FVec F S512x1 .f32), IVec S512x1 1 ← k0_part206 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let v341 : FVec F S512x1 .f32 ← k0_part207 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v265 v295 v300 v302
  let ⟨v370, v385⟩ : Σ' (v370 : FVec F S512x1 .f32), FVec F S512x128 .f32 ← k0_part208 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v265 v294 v341
  let ⟨v410, v414, v415⟩ : Σ' (v410 : FVec F S512x256 .f32) (v414 : FVec F S512x256 .f32), FVec F S512x256 .f32 ← k0_part209 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v265 v370 v385
  let ⟨v423, v449, v460⟩ : Σ' (v423 : FVec F S512x256 .f32) (v449 : FVec F S512x1 .f32), FVec F S512x128 .f32 ← k0_part210 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v410 v414 v415
  let ⟨v474, v496, v499⟩ : Σ' (v474 : FVec F S512x128 .f32) (v496 : IVec S512x1 32), FVec F S512x1 .f32 ← k0_part211 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v265 v423 v449 v460
  let c254_i32_219 : BitVec 32 := 254#32
  have v500 : IVec S512x1 32 := broadcast S512x1 c254_i32_219
  have v501 : IVec S512x1 32 := subi v500 v496
  let c23_i32_220 : BitVec 32 := 23#32
  have v502 : IVec S512x1 32 := broadcast S512x1 c23_i32_220
  have v503 : IVec S512x1 32 := shli v501 v502
  have v504 : FVec F S512x1 .f32 := bitcastToFloat .f32 v503
  have v505 : FVec F S512x128 .f32 := broadcastTo S512x128 v504 broadcasts_S512x1_S512x128
  have v506 : FVec F S512x128 .f32 := mulf v474 v505
  have cst_221 : F .f32 := Scalar.ofBits .f32 0xC3E00000#32
  have cst_222 : F .f32 := Scalar.ofBits .f32 0x43E00000#32
  have v507 : FVec F S512x128 .f32 := broadcast S512x128 cst_221
  have v508 : FVec F S512x128 .f32 := maximumf v507 v506
  have v509 : FVec F S512x128 .f32 := broadcast S512x128 cst_222
  have v510 : FVec F S512x128 .f32 := minimumf v509 v508
  let c0_223 : Index := 0#32
  let c384_224 : Index := 384#32
  let v511 : Vec F S512x128 .fp8e4m3 ← Prog.lift (.load arg15 (Rect.unit (s := S512x512) ![0, 384] S512x128.size inb_S512x512_S512x128_0_384).toLoadRect (View.loadsAt_vmem h_S512x128))
  have v512 : FVec F S512x128 .fp8e4m3 := shapeCast S512x128 v511 shapeCasts_S512x128_S512x128
  have v513 : FVec F S512x128 .f32 := extf .f32 v512 bitsLt_fp8e4m3_f32
  have v514 : FVec F S512x128 .f32 := select v265 v510 v513
  have v515 : FVec F S512x128 .fp8e4m3 := truncf .fp8e4m3 v514 bitsLt_fp8e4m3_f32
  let c0_225 : Index := 0#32
  let c384_226 : Index := 384#32
  let v516 : Vec F S512x128 .fp8e4m3 ← Prog.lift (.load arg15 (Rect.unit (s := S512x512) ![0, 384] S512x128.size inb_S512x512_S512x128_0_384).toLoadRect (View.loadsAt_vmem h_S512x128))
  Prog.lift (.store arg15 (Rect.unit (s := S512x512) ![0, 384] S512x128.size inb_S512x512_S512x128_0_384) v515 Finset.univ (View.stores_vmem h_S512x128 (harg15.storeExact_slice rfl _ packedfp8e4m3_S512x512_S512x128_0_384) (fun _ => rfl)) (.inl rfl))
  let c0_227 : Index := 0#32
  let c0_228 : Index := 0#32
  let c3_229 : Index := 3#32
  let v517 : Vec F S1x512x1 .f32 ← Prog.lift (.load arg16 (Rect.unit (s := S1x512x4) ![0, 0, 3] S1x512x1.size inb_S1x512x4_S1x512x1_0_0_3).toLoadRect (View.loadsAt_vmem h_S1x512x1))
  have v518 : FVec F S512x1 .f32 := shapeCast S512x1 v517 shapeCasts_S1x512x1_S512x1
  have v519 : IVec S512x1 1 := extractStridedSlice S512x1 ![0, 0] v265 slices_S512x128_o0_0_S512x1
  have v520 : FVec F S512x1 .f32 := select v519 v499 v518
  let c0_230 : Index := 0#32
  let c0_231 : Index := 0#32
  let c3_232 : Index := 3#32
  let v521 : Vec F S1x512x1 .f32 ← Prog.lift (.load arg16 (Rect.unit (s := S1x512x4) ![0, 0, 3] S1x512x1.size inb_S1x512x4_S1x512x1_0_0_3).toLoadRect (View.loadsAt_vmem h_S1x512x1))
  have v522 : FVec F S512x1 .f32 := shapeCast S512x1 v521 shapeCasts_S1x512x1_S512x1
  have v523 : FVec F S1x512x1 .f32 := shapeCast S1x512x1 v520 shapeCasts_S512x1_S1x512x1
  Prog.lift (.store arg16 (Rect.unit (s := S1x512x4) ![0, 0, 3] S1x512x1.size inb_S1x512x4_S1x512x1_0_0_3) v523 Finset.univ (View.stores_vmem_bits_univ h_S1x512x1 rfl) (.inl rfl))
  jp ⟨⟩

set_option maxRecDepth 1000000 in
set_option maxHeartbeats 0 in
theorem compBranch_eq (i : grid0.Coords) (arg2 : Memref sig .tc .smem S152 .i32) (harg2 : arg2.IsWhole) (arg3 : Memref sig .tc .smem S152 .i32) (harg3 : arg3.IsWhole) (arg4 : Memref sig .tc .smem S152 .i32) (harg4 : arg4.IsWhole) (arg5 : Memref sig .tc .smem S152 .i32) (harg5 : arg5.IsWhole) (arg6 : Memref sig .tc .smem S152 .i32) (harg6 : arg6.IsWhole) (arg7 : Memref sig .tc .vmem S512x3072 .fp8e4m3) (harg7 : arg7.IsWhole) (arg8 : Memref sig .tc .vmem S512x24 .f32) (harg8 : arg8.IsWhole) (arg9 : Memref sig .tc .vmem S1x1536x512 .i8) (harg9 : arg9.IsWhole) (arg10 : Memref sig .tc .vmem S1x1536x512 .i8) (harg10 : arg10.IsWhole) (arg11 : Memref sig .tc .vmem S1x96x512 .i8) (harg11 : arg11.IsWhole) (arg12 : Memref sig .tc .vmem S1x96x512 .i8) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S512x512 .fp8e4m3) (harg15 : arg15.IsWhole) (arg16 : Memref sig .tc .vmem S1x512x4 .f32) (harg16 : arg16.IsWhole) (arg17 : Memref sig .tc .vmem S3072x512 .bf16) (harg17 : arg17.IsWhole) (arg18 : Memref sig .tc .vmem S3072x512 .bf16) (harg18 : arg18.IsWhole) (arg19 : Memref sig .tc .vmem S512x3072 .bf16) (harg19 : arg19.IsWhole) (v12 : Elt F .i32) (k0_h2 : k0_cond2 v12 = 1#1) (jp : Unit → Prog (TpuEff nD τ sig (Elt F) Λ₀ .tc) PUnit) :
    compBranch (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v12 k0_h2 jp = (
    xK (F := F) arg7 arg8 arg19 harg19 0 (by decide) <|
    xK (F := F) arg7 arg8 arg19 harg19 1 (by decide) <|
    xK (F := F) arg7 arg8 arg19 harg19 2 (by decide) <|
    xK (F := F) arg7 arg8 arg19 harg19 3 (by decide) <|
    xK (F := F) arg7 arg8 arg19 harg19 4 (by decide) <|
    xK (F := F) arg7 arg8 arg19 harg19 5 (by decide) <|
    xK (F := F) arg7 arg8 arg19 harg19 6 (by decide) <|
    xK (F := F) arg7 arg8 arg19 harg19 7 (by decide) <|
    xK (F := F) arg7 arg8 arg19 harg19 8 (by decide) <|
    xK (F := F) arg7 arg8 arg19 harg19 9 (by decide) <|
    xK (F := F) arg7 arg8 arg19 harg19 10 (by decide) <|
    xK (F := F) arg7 arg8 arg19 harg19 11 (by decide) <|
    xK (F := F) arg7 arg8 arg19 harg19 12 (by decide) <|
    xK (F := F) arg7 arg8 arg19 harg19 13 (by decide) <|
    xK (F := F) arg7 arg8 arg19 harg19 14 (by decide) <|
    xK (F := F) arg7 arg8 arg19 harg19 15 (by decide) <|
    xK (F := F) arg7 arg8 arg19 harg19 16 (by decide) <|
    xK (F := F) arg7 arg8 arg19 harg19 17 (by decide) <|
    xK (F := F) arg7 arg8 arg19 harg19 18 (by decide) <|
    xK (F := F) arg7 arg8 arg19 harg19 19 (by decide) <|
    xK (F := F) arg7 arg8 arg19 harg19 20 (by decide) <|
    xK (F := F) arg7 arg8 arg19 harg19 21 (by decide) <|
    xK (F := F) arg7 arg8 arg19 harg19 22 (by decide) <|
    xK (F := F) arg7 arg8 arg19 harg19 23 (by decide) <|
    smemLoadElt arg4 (Rect.unit (s := S152) (k0_off4 i) S1.size (k0_off4_inb i)) (View.loads_smem_one rfl numel1_S1) (Shape.Idx.first (numel1_S1.symm ▸ Nat.one_pos)) fun lo =>
    smemLoadElt arg5 (Rect.unit (s := S152) (k0_off4 i) S1.size (k0_off4_inb i)) (View.loads_smem_one rfl numel1_S1) (Shape.Idx.first (numel1_S1.symm ▸ Nat.one_pos)) fun hi =>
    chunkK arg17 arg18 arg19 arg13 arg14 0 (by decide) fun h0 =>
    chunkGrpK arg15 harg15 arg16 (maskVal (F := F) lo hi) h0 0 (by decide) <|
    chunkK arg17 arg18 arg19 arg13 arg14 1 (by decide) fun h1 =>
    chunkGrpK arg15 harg15 arg16 (maskVal (F := F) lo hi) h1 1 (by decide) <|
    jp ⟨⟩) := rfl

end Cert.Kernel.Hand
-- ==== Proof.P.Body.lean ====
module

public import proofs.«01_k».proof.Proof.P.Blocks
public import proofs.«01_k».proof.Proof.P.Compute
public import proofs.«01_k».proof.Proof.Wp

/-! What one run of the body does to the buffers it is handed. -/

@[expose] public section

noncomputable section

namespace Cert.Kernel.Hand

open Idealize.ShloMosaic Idealize.SL.Sem
open Idealize.SL Idealize.SL.RA Idealize.SL.BI Idealize.SL.ProofMode
open scoped Idealize.SL.BI
open Idealize.SL.BI.BIBase Idealize.SL.BI.Laws
open Cert.Kernel Facts₀ Facts Cert.Hand

variable {F : FTy → Type} [FloatOps F] [Facts]

local notation "𝕄" => MT nD τ sig Unit (Elt F) ℕ (Pipeline.UD sig nD τ) ℕ

/-- The bit that says whether the weights are decoded again. -/
def reloadBit (i : grid0.Coords) (v4 v6 : Elt F .i32) : BitVec 1 :=
  Scalar.cmpi .ne (Scalar.extui (Scalar.ori (Scalar.cmpi .eq (BitVec.ofNat 32 (i 1).val) 0#32) (Scalar.cmpi .ne v4 v6) : BitVec 1) : BitVec 32) 0#32

/-- The body over its two branches. -/
def body2 (i : grid0.Coords) (arg2 : Memref sig .tc .smem S152 .i32) (harg2 : arg2.IsWhole) (arg3 : Memref sig .tc .smem S152 .i32) (harg3 : arg3.IsWhole) (arg4 : Memref sig .tc .smem S152 .i32) (harg4 : arg4.IsWhole) (arg5 : Memref sig .tc .smem S152 .i32) (harg5 : arg5.IsWhole) (arg6 : Memref sig .tc .smem S152 .i32) (harg6 : arg6.IsWhole) (arg7 : Memref sig .tc .vmem S512x3072 .fp8e4m3) (harg7 : arg7.IsWhole) (arg8 : Memref sig .tc .vmem S512x24 .f32) (harg8 : arg8.IsWhole) (arg9 : Memref sig .tc .vmem S1x1536x512 .i8) (harg9 : arg9.IsWhole) (arg10 : Memref sig .tc .vmem S1x1536x512 .i8) (harg10 : arg10.IsWhole) (arg11 : Memref sig .tc .vmem S1x96x512 .i8) (harg11 : arg11.IsWhole) (arg12 : Memref sig .tc .vmem S1x96x512 .i8) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S512x512 .fp8e4m3) (harg15 : arg15.IsWhole) (arg16 : Memref sig .tc .vmem S1x512x4 .f32) (harg16 : arg16.IsWhole) (arg17 : Memref sig .tc .vmem S3072x512 .bf16) (harg17 : arg17.IsWhole) (arg18 : Memref sig .tc .vmem S3072x512 .bf16) (harg18 : arg18.IsWhole) (arg19 : Memref sig .tc .vmem S512x3072 .bf16) (harg19 : arg19.IsWhole) : Prog (TpuEff nD τ sig (Elt F) Λ₀ .tc) PUnit :=
  smemLoad arg3 (Rect.unit (s := S152) (k0_off1 i) S1.size (k0_off1_inb i)) numel1_S1 rfl >>= fun v4 =>
  smemLoad arg3 (Rect.unit (s := S152) (k0_off2 i) S1.size (k0_off2_inb i)) numel1_S1 rfl >>= fun v6 =>
  have jp : Unit → Prog (TpuEff nD τ sig (Elt F) Λ₀ .tc) PUnit := fun _ =>
    smemLoad arg6 (Rect.unit (s := S152) (k0_off3 i) S1.size (k0_off3_inb i)) numel1_S1 rfl >>= fun v12 =>
    have jp2 : Unit → Prog (TpuEff nD τ sig (Elt F) Λ₀ .tc) PUnit := fun _ => pure ⟨⟩
    if k0_h2 : k0_cond2 v12 = 1#1 then compBranch i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v12 k0_h2 jp2 else jp2 ⟨⟩
  if reloadBit i v4 v6 = 1#1 then deqBranch i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 jp else jp ⟨⟩

set_option maxRecDepth 1000000 in
set_option maxHeartbeats 0 in
theorem body2_eq (i : grid0.Coords) (arg2 : Memref sig .tc .smem S152 .i32) (harg2 : arg2.IsWhole) (arg3 : Memref sig .tc .smem S152 .i32) (harg3 : arg3.IsWhole) (arg4 : Memref sig .tc .smem S152 .i32) (harg4 : arg4.IsWhole) (arg5 : Memref sig .tc .smem S152 .i32) (harg5 : arg5.IsWhole) (arg6 : Memref sig .tc .smem S152 .i32) (harg6 : arg6.IsWhole) (arg7 : Memref sig .tc .vmem S512x3072 .fp8e4m3) (harg7 : arg7.IsWhole) (arg8 : Memref sig .tc .vmem S512x24 .f32) (harg8 : arg8.IsWhole) (arg9 : Memref sig .tc .vmem S1x1536x512 .i8) (harg9 : arg9.IsWhole) (arg10 : Memref sig .tc .vmem S1x1536x512 .i8) (harg10 : arg10.IsWhole) (arg11 : Memref sig .tc .vmem S1x96x512 .i8) (harg11 : arg11.IsWhole) (arg12 : Memref sig .tc .vmem S1x96x512 .i8) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S512x512 .fp8e4m3) (harg15 : arg15.IsWhole) (arg16 : Memref sig .tc .vmem S1x512x4 .f32) (harg16 : arg16.IsWhole) (arg17 : Memref sig .tc .vmem S3072x512 .bf16) (harg17 : arg17.IsWhole) (arg18 : Memref sig .tc .vmem S3072x512 .bf16) (harg18 : arg18.IsWhole) (arg19 : Memref sig .tc .vmem S512x3072 .bf16) (harg19 : arg19.IsWhole) :
    cc0_moe_gate_up (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = body2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  unfold cc0_moe_gate_up body2 deqBranch compBranch reloadBit
  rfl

theorem deqBranch_run (i : grid0.Coords) (arg2 : Memref sig .tc .smem S152 .i32) (harg2 : arg2.IsWhole) (arg3 : Memref sig .tc .smem S152 .i32) (harg3 : arg3.IsWhole) (arg4 : Memref sig .tc .smem S152 .i32) (harg4 : arg4.IsWhole) (arg5 : Memref sig .tc .smem S152 .i32) (harg5 : arg5.IsWhole) (arg6 : Memref sig .tc .smem S152 .i32) (harg6 : arg6.IsWhole) (arg7 : Memref sig .tc .vmem S512x3072 .fp8e4m3) (harg7 : arg7.IsWhole) (arg8 : Memref sig .tc .vmem S512x24 .f32) (harg8 : arg8.IsWhole) (arg9 : Memref sig .tc .vmem S1x1536x512 .i8) (harg9 : arg9.IsWhole) (arg10 : Memref sig .tc .vmem S1x1536x512 .i8) (harg10 : arg10.IsWhole) (arg11 : Memref sig .tc .vmem S1x96x512 .i8) (harg11 : arg11.IsWhole) (arg12 : Memref sig .tc .vmem S1x96x512 .i8) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S512x512 .fp8e4m3) (harg15 : arg15.IsWhole) (arg16 : Memref sig .tc .vmem S1x512x4 .f32) (harg16 : arg16.IsWhole) (arg17 : Memref sig .tc .vmem S3072x512 .bf16) (harg17 : arg17.IsWhole) (arg18 : Memref sig .tc .vmem S3072x512 .bf16) (harg18 : arg18.IsWhole) (arg19 : Memref sig .tc .vmem S512x3072 .bf16) (harg19 : arg19.IsWhole) (k : Unit → Prog (TpuEff nD τ sig (Elt F) Λ₀ .tc) PUnit) :
    deqBranch (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k =
      deqRun arg9 arg11 arg17 harg17 (deqRun arg10 arg12 arg18 harg18 (k ⟨⟩) 96 0 (by omega)) 96 0 (by omega) := by
  rw [deqBranch_eq]; rfl

/-- The computing branch in its chain form. -/
def compChain (i : grid0.Coords) (arg2 : Memref sig .tc .smem S152 .i32) (harg2 : arg2.IsWhole) (arg3 : Memref sig .tc .smem S152 .i32) (harg3 : arg3.IsWhole) (arg4 : Memref sig .tc .smem S152 .i32) (harg4 : arg4.IsWhole) (arg5 : Memref sig .tc .smem S152 .i32) (harg5 : arg5.IsWhole) (arg6 : Memref sig .tc .smem S152 .i32) (harg6 : arg6.IsWhole) (arg7 : Memref sig .tc .vmem S512x3072 .fp8e4m3) (harg7 : arg7.IsWhole) (arg8 : Memref sig .tc .vmem S512x24 .f32) (harg8 : arg8.IsWhole) (arg9 : Memref sig .tc .vmem S1x1536x512 .i8) (harg9 : arg9.IsWhole) (arg10 : Memref sig .tc .vmem S1x1536x512 .i8) (harg10 : arg10.IsWhole) (arg11 : Memref sig .tc .vmem S1x96x512 .i8) (harg11 : arg11.IsWhole) (arg12 : Memref sig .tc .vmem S1x96x512 .i8) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S512x512 .fp8e4m3) (harg15 : arg15.IsWhole) (arg16 : Memref sig .tc .vmem S1x512x4 .f32) (harg16 : arg16.IsWhole) (arg17 : Memref sig .tc .vmem S3072x512 .bf16) (harg17 : arg17.IsWhole) (arg18 : Memref sig .tc .vmem S3072x512 .bf16) (harg18 : arg18.IsWhole) (arg19 : Memref sig .tc .vmem S512x3072 .bf16) (harg19 : arg19.IsWhole) (jp : Unit → Prog (TpuEff nD τ sig (Elt F) Λ₀ .tc) PUnit) : Prog (TpuEff nD τ sig (Elt F) Λ₀ .tc) PUnit :=
  xRun arg7 arg8 arg19 harg19 (
    smemLoadElt arg4 (Rect.unit (s := S152) (k0_off4 i) S1.size (k0_off4_inb i)) (View.loads_smem_one rfl numel1_S1) (Shape.Idx.first (numel1_S1.symm ▸ Nat.one_pos)) fun lo =>
    smemLoadElt arg5 (Rect.unit (s := S152) (k0_off4 i) S1.size (k0_off4_inb i)) (View.loads_smem_one rfl numel1_S1) (Shape.Idx.first (numel1_S1.symm ▸ Nat.one_pos)) fun hi =>
    chunkK arg17 arg18 arg19 arg13 arg14 0 (by decide) fun h0 =>
    chunkGrpK arg15 harg15 arg16 (maskVal (F := F) lo hi) h0 0 (by decide) <|
    chunkK arg17 arg18 arg19 arg13 arg14 1 (by decide) fun h1 =>
    chunkGrpK arg15 harg15 arg16 (maskVal (F := F) lo hi) h1 1 (by decide) <|
    jp ⟨⟩) 24 0 (by omega)

theorem compBranch_run (i : grid0.Coords) (arg2 : Memref sig .tc .smem S152 .i32) (harg2 : arg2.IsWhole) (arg3 : Memref sig .tc .smem S152 .i32) (harg3 : arg3.IsWhole) (arg4 : Memref sig .tc .smem S152 .i32) (harg4 : arg4.IsWhole) (arg5 : Memref sig .tc .smem S152 .i32) (harg5 : arg5.IsWhole) (arg6 : Memref sig .tc .smem S152 .i32) (harg6 : arg6.IsWhole) (arg7 : Memref sig .tc .vmem S512x3072 .fp8e4m3) (harg7 : arg7.IsWhole) (arg8 : Memref sig .tc .vmem S512x24 .f32) (harg8 : arg8.IsWhole) (arg9 : Memref sig .tc .vmem S1x1536x512 .i8) (harg9 : arg9.IsWhole) (arg10 : Memref sig .tc .vmem S1x1536x512 .i8) (harg10 : arg10.IsWhole) (arg11 : Memref sig .tc .vmem S1x96x512 .i8) (harg11 : arg11.IsWhole) (arg12 : Memref sig .tc .vmem S1x96x512 .i8) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S512x512 .fp8e4m3) (harg15 : arg15.IsWhole) (arg16 : Memref sig .tc .vmem S1x512x4 .f32) (harg16 : arg16.IsWhole) (arg17 : Memref sig .tc .vmem S3072x512 .bf16) (harg17 : arg17.IsWhole) (arg18 : Memref sig .tc .vmem S3072x512 .bf16) (harg18 : arg18.IsWhole) (arg19 : Memref sig .tc .vmem S512x3072 .bf16) (harg19 : arg19.IsWhole) (v12 : Elt F .i32) (k0_h2 : k0_cond2 v12 = 1#1) (jp : Unit → Prog (TpuEff nD τ sig (Elt F) Λ₀ .tc) PUnit) :
    compBranch (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v12 k0_h2 jp = compChain i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 jp := by
  rw [compBranch_eq]; rfl

end Cert.Kernel.Hand
-- ==== Proof.P.Triple.lean ====
module

public import proofs.«01_k».proof.Proof.P.Body

/-! The contents the body leaves in the buffers it is handed. -/

@[expose] public section

noncomputable section

namespace Cert.Kernel.Hand

open Idealize.ShloMosaic Idealize.ShloMosaic.TcCoe Idealize.SL.Sem
open Idealize.SL Idealize.SL.RA Idealize.SL.BI Idealize.SL.ProofMode
open scoped Idealize.SL.BI
open Idealize.SL.BI.BIBase Idealize.SL.BI.Laws
open Cert.Kernel Facts₀ Facts Cert.Hand

variable {F : FTy → Type} [FloatOps F] [Facts]

local notation "𝕄" => MT nD τ sig Unit (Elt F) ℕ (UR sig nD τ) ℕ

variable {defs : Defs nD τ sig (Elt F) Λ₀} (𝒱 : Variants) (c : Dev nD) (bd : Option 𝒱.V) (E : Set ℕ)

theorem ldK {Q : PUnit → sProp 𝕄} {cs : CoreSpace} {s : Shape} {e : EltTy} (m : Memref sig .tc cs s e) {r : LoadRect s}
    {hl : m.view.LoadsAt r} {k : (r.shape.Idx → Elt F e) → Prog (TpuEff nD τ sig (Elt F) Λ₀ .tc) PUnit} {q : PosShare TreeShare} {X : s.Idx → Elt F e} :
    (owns (c : Thread nD τ) m q X : sProp 𝕄)
      ⊢ iprop((owns (c : Thread nD τ) m q X -∗ wp frame (wpE defs 𝒱 (c : Thread nD τ) bd) E (k fun x => X (r.idx x)) Q) -∗ wp frame (wpE defs 𝒱 (c : Thread nD τ) bd) E (.op (.load m r hl) k) Q) :=
  wp_load_owns 𝒱 (c : Thread nD τ) bd E
theorem stK {Q : PUnit → sProp 𝕄} {cs : CoreSpace} {s : Shape} {e : EltTy} (m : Memref sig .tc cs s e) {r : Rect s}
    {w : r.shape.Idx → Elt F e} {hx : (m.access r).Stores Finset.univ}
    {hm : Finset.univ = (Finset.univ : Finset r.shape.Idx) ∨ ∀ a, r.stride a = 1}
    {k : PUnit → Prog (TpuEff nD τ sig (Elt F) Λ₀ .tc) PUnit} {X : s.Idx → Elt F e} :
    (owns (c : Thread nD τ) m fullShare X : sProp 𝕄)
      ⊢ iprop((owns (c : Thread nD τ) m fullShare (r.overlay X w) -∗ wp frame (wpE defs 𝒱 (c : Thread nD τ) bd) E (k ⟨⟩) Q) -∗ wp frame (wpE defs 𝒱 (c : Thread nD τ) bd) E (.op (.store m r w Finset.univ hx hm) k) Q) :=
  wp_store_owns 𝒱 (c : Thread nD τ) bd E
theorem smK {Q : PUnit → sProp 𝕄} {s : Shape} {e : EltTy} (m : Memref sig .tc .smem s e) {r : Rect s} {hw : (m.access r).Loads} {x : r.shape.Idx}
    {k : Elt F e → Prog (TpuEff nD τ sig (Elt F) Λ₀ .tc) PUnit} {q : PosShare TreeShare} {X : s.Idx → Elt F e} :
    (owns (c : Thread nD τ) m q X : sProp 𝕄)
      ⊢ iprop((owns (c : Thread nD τ) m q X -∗ wp frame (wpE defs 𝒱 (c : Thread nD τ) bd) E (k (X (r.emb x))) Q) -∗ wp frame (wpE defs 𝒱 (c : Thread nD τ) bd) E (smemLoadElt m r hw x k) Q) :=
  wp_smem_owns 𝒱 (c : Thread nD τ) bd E

/-- The decoded rows of one block. -/
def deqBlk (W : S1x1536x512.Idx → Elt F .i8) (S : S1x96x512.Idx → Elt F .i8) (b : ℕ) (hb : b < 96) : FVec F S32x512 .bf16 :=
  deqVal (F := F) (fun x => W ((Rect.unit (s := S1x1536x512) ![0, 16 * b, 0] S1x16x512.size (inbW b hb)).toLoadRect.idx x))
    (fun x => S ((Rect.unit (s := S1x96x512) ![0, b, 0] S1x1x512.size (inbS b hb)).toLoadRect.idx x))

/-- The decoded scratch after the blocks `b, …, b + n - 1`. -/
def deqFill (W : S1x1536x512.Idx → Elt F .i8) (S : S1x96x512.Idx → Elt F .i8) :
    (n b : ℕ) → n + b ≤ 96 → (S3072x512.Idx → Elt F .bf16) → S3072x512.Idx → Elt F .bf16
  | 0, _, _, D => D
  | n + 1, b, h, D => deqFill W S n (b + 1) (by omega)
      ((Rect.unit (s := S3072x512) ![32 * b, 0] S32x512.size (inbD b (by omega))).overlay D (deqBlk W S b (by omega)))

theorem deqRun_wp {Q : PUnit → sProp 𝕄} {w : Memref sig .tc .vmem S1x1536x512 .i8} {s : Memref sig .tc .vmem S1x96x512 .i8}
    {d : Memref sig .tc .vmem S3072x512 .bf16} (hd : d.IsWhole) (k : Prog (TpuEff nD τ sig (Elt F) Λ₀ .tc) PUnit)
    (W : S1x1536x512.Idx → Elt F .i8) (S : S1x96x512.Idx → Elt F .i8) :
    ∀ (n b : ℕ) (h : n + b ≤ 96) (D : S3072x512.Idx → Elt F .bf16),
    (iprop(owns (c : Thread nD τ) w fullShare W ∗ owns (c : Thread nD τ) s fullShare S ∗ owns (c : Thread nD τ) d fullShare D
      ∗ (owns (c : Thread nD τ) w fullShare W -∗ owns (c : Thread nD τ) s fullShare S -∗ owns (c : Thread nD τ) d fullShare (deqFill W S n b h D) -∗ wp frame (wpE defs 𝒱 (c : Thread nD τ) bd) E k Q)) : sProp 𝕄)
    ⊢ wp frame (wpE defs 𝒱 (c : Thread nD τ) bd) E (deqRun w s d hd k n b h) Q := by
  intro n
  induction n with
  | zero =>
    intro b h D
    iintro ⟨Hw, Hs, Hd, Hk⟩
    iapply Hk $$ Hw Hs [Hd]
    iexact Hd
  | succ n ih =>
    intro b h D
    unfold deqRun deqK
    iintro ⟨Hw, Hs, Hd, Hk⟩
    iapply (ldK 𝒱 c bd E w) $$ Hw
    iintro Hw
    iapply (ldK 𝒱 c bd E s) $$ Hs
    iintro Hs
    iapply (ldK 𝒱 c bd E d) $$ Hd
    iintro Hd
    iapply (stK 𝒱 c bd E d) $$ Hd
    iintro Hd
    iapply (ih (b + 1) _ _)
    isplitl [Hw]
    · iexact Hw
    isplitl [Hs]
    · iexact Hs
    isplitl [Hd]
    · iexact Hd
    iexact Hk

/-- One group of input columns, rescaled. -/
def xBlk (X : S512x3072.Idx → Elt F .fp8e4m3) (S : S512x24.Idx → Elt F .f32) (g : ℕ) (hg : g < 24) : FVec F S512x128 .bf16 :=
  xVal (F := F) (fun x => S ((Rect.unit (s := S512x24) ![0, g] S512x1.size (inbXS g hg)).toLoadRect.idx x))
    (fun x => X ((Rect.unit (s := S512x3072) ![0, 128 * g] S512x128.size (inbX g hg)).toLoadRect.idx x))

/-- The rescaled input after the groups `g, …, g + n - 1`. -/
def xFill (X : S512x3072.Idx → Elt F .fp8e4m3) (S : S512x24.Idx → Elt F .f32) :
    (n g : ℕ) → n + g ≤ 24 → (S512x3072.Idx → Elt F .bf16) → S512x3072.Idx → Elt F .bf16
  | 0, _, _, D => D
  | n + 1, g, h, D => xFill X S n (g + 1) (by omega)
      ((Rect.unit (s := S512x3072) ![0, 128 * g] S512x128.size (inbX g (by omega))).overlay D (xBlk X S g (by omega)))

theorem xRun_wp {Q : PUnit → sProp 𝕄} {x : Memref sig .tc .vmem S512x3072 .fp8e4m3} {xs : Memref sig .tc .vmem S512x24 .f32}
    {d : Memref sig .tc .vmem S512x3072 .bf16} (hd : d.IsWhole) (k : Prog (TpuEff nD τ sig (Elt F) Λ₀ .tc) PUnit)
    (X : S512x3072.Idx → Elt F .fp8e4m3) (S : S512x24.Idx → Elt F .f32) :
    ∀ (n b : ℕ) (h : n + b ≤ 24) (D : S512x3072.Idx → Elt F .bf16),
    (iprop(owns (c : Thread nD τ) x fullShare X ∗ owns (c : Thread nD τ) xs fullShare S ∗ owns (c : Thread nD τ) d fullShare D
      ∗ (owns (c : Thread nD τ) x fullShare X -∗ owns (c : Thread nD τ) xs fullShare S -∗ owns (c : Thread nD τ) d fullShare (xFill X S n b h D) -∗ wp frame (wpE defs 𝒱 (c : Thread nD τ) bd) E k Q)) : sProp 𝕄)
    ⊢ wp frame (wpE defs 𝒱 (c : Thread nD τ) bd) E (xRun x xs d hd k n b h) Q := by
  intro n
  induction n with
  | zero =>
    intro b h D
    iintro ⟨Hw, Hs, Hd, Hk⟩
    iapply Hk $$ Hw Hs [Hd]
    iexact Hd
  | succ n ih =>
    intro b h D
    unfold xRun xK
    iintro ⟨Hw, Hs, Hd, Hk⟩
    iapply (ldK 𝒱 c bd E xs) $$ Hs
    iintro Hs
    iapply (ldK 𝒱 c bd E x) $$ Hw
    iintro Hw
    iapply (ldK 𝒱 c bd E d) $$ Hd
    iintro Hd
    iapply (stK 𝒱 c bd E d) $$ Hd
    iintro Hd
    iapply (ih (b + 1) _ _)
    isplitl [Hw]
    · iexact Hw
    isplitl [Hs]
    · iexact Hs
    isplitl [Hd]
    · iexact Hd
    iexact Hk

/-- The codes' block after one group. -/
def cOv (mask : IVec S512x128 1) (hq : FVec F S512x128 .f32) (i : ℕ) (hi : i < 4) (C : S512x512.Idx → Elt F .fp8e4m3) :
    S512x512.Idx → Elt F .fp8e4m3 :=
  (Rect.unit (s := S512x512) ![0, 128 * i] S512x128.size (inbC i hi)).overlay C
    (mergeCode (F := F) mask (grpCode hq) (fun x => C ((Rect.unit (s := S512x512) ![0, 128 * i] S512x128.size (inbC i hi)).toLoadRect.idx x)))

/-- The scales' block after one group. -/
def sOv (mask : IVec S512x128 1) (hq : FVec F S512x128 .f32) (i : ℕ) (hi : i < 4) (Z : S1x512x4.Idx → Elt F .f32) :
    S1x512x4.Idx → Elt F .f32 :=
  (Rect.unit (s := S1x512x4) ![0, 0, i] S1x512x1.size (inbCS i hi)).overlay Z
    (mergeScale (F := F) mask (grpScale hq) (fun x => Z ((Rect.unit (s := S1x512x4) ![0, 0, i] S1x512x1.size (inbCS i hi)).toLoadRect.idx x)))

theorem grpK_wp {Q : PUnit → sProp 𝕄} {co : Memref sig .tc .vmem S512x512 .fp8e4m3} (hco : co.IsWhole) {sc : Memref sig .tc .vmem S1x512x4 .f32}
    (mask : IVec S512x128 1) (hq : FVec F S512x128 .f32) (i : ℕ) (hi : i < 4) (k : Prog (TpuEff nD τ sig (Elt F) Λ₀ .tc) PUnit)
    (C : S512x512.Idx → Elt F .fp8e4m3) (Z : S1x512x4.Idx → Elt F .f32) :
    (iprop(owns (c : Thread nD τ) co fullShare C ∗ owns (c : Thread nD τ) sc fullShare Z
      ∗ (owns (c : Thread nD τ) co fullShare (cOv mask hq i hi C) -∗ owns (c : Thread nD τ) sc fullShare (sOv mask hq i hi Z) -∗ wp frame (wpE defs 𝒱 (c : Thread nD τ) bd) E k Q)) : sProp 𝕄)
    ⊢ wp frame (wpE defs 𝒱 (c : Thread nD τ) bd) E (grpK co hco sc mask hq i hi k) Q := by
  unfold grpK
  iintro ⟨Hc, Hz, Hk⟩
  iapply (ldK 𝒱 c bd E co) $$ Hc
  iintro Hc
  iapply (ldK 𝒱 c bd E co) $$ Hc
  iintro Hc
  iapply (stK 𝒱 c bd E co) $$ Hc
  iintro Hc
  iapply (ldK 𝒱 c bd E sc) $$ Hz
  iintro Hz
  iapply (ldK 𝒱 c bd E sc) $$ Hz
  iintro Hz
  iapply (stK 𝒱 c bd E sc) $$ Hz
  iintro Hz
  iapply Hk $$ [Hc] [Hz]
  · iexact Hc
  iexact Hz

/-- The activations of one chunk. -/
def hOut (XB : S512x3072.Idx → Elt F .bf16) (G U : S3072x512.Idx → Elt F .bf16) (bg bu : S1x1x512.Idx → Elt F .f32)
    (k : ℕ) (hk : k < 2) : FVec F S512x256 .f32 :=
  hVal (F := F) (fun x => XB ((Rect.unit (s := S512x3072) ![0, 0] S512x3072.size inb_S512x3072_S512x3072_0_0).toLoadRect.idx x))
    (fun x => G ((Rect.unit (s := S3072x512) ![0, 256 * k] S3072x256.size (inbG k hk)).toLoadRect.idx x))
    (fun x => bg ((Rect.unit (s := S1x1x512) ![0, 0, 256 * k] S1x1x256.size (inbB k hk)).toLoadRect.idx x))
    (fun x => XB ((Rect.unit (s := S512x3072) ![0, 0] S512x3072.size inb_S512x3072_S512x3072_0_0).toLoadRect.idx x))
    (fun x => U ((Rect.unit (s := S3072x512) ![0, 256 * k] S3072x256.size (inbG k hk)).toLoadRect.idx x))
    (fun x => bu ((Rect.unit (s := S1x1x512) ![0, 0, 256 * k] S1x1x256.size (inbB k hk)).toLoadRect.idx x))

/-- The two halves of a chunk. -/
def half0 (h : FVec F S512x256 .f32) : FVec F S512x128 .f32 := extractStridedSlice S512x128 ![0, 0] h slices_S512x256_o0_0_S512x128
def half1 (h : FVec F S512x256 .f32) : FVec F S512x128 .f32 := extractStridedSlice S512x128 ![0, 128] h slices_S512x256_o0_128_S512x128

theorem chunkK_wp {Q : PUnit → sProp 𝕄} {gw uw : Memref sig .tc .vmem S3072x512 .bf16} {xb : Memref sig .tc .vmem S512x3072 .bf16}
    {bg bu : Memref sig .tc .vmem S1x1x512 .f32} (i : ℕ) (hi : i < 2) (k : FVec F S512x256 .f32 → Prog (TpuEff nD τ sig (Elt F) Λ₀ .tc) PUnit)
    (XB : S512x3072.Idx → Elt F .bf16) (G U : S3072x512.Idx → Elt F .bf16) (Bg Bu : S1x1x512.Idx → Elt F .f32) :
    (iprop(owns (c : Thread nD τ) gw fullShare G ∗ owns (c : Thread nD τ) uw fullShare U ∗ owns (c : Thread nD τ) xb fullShare XB ∗ owns (c : Thread nD τ) bg fullShare Bg ∗ owns (c : Thread nD τ) bu fullShare Bu
      ∗ (owns (c : Thread nD τ) gw fullShare G -∗ owns (c : Thread nD τ) uw fullShare U -∗ owns (c : Thread nD τ) xb fullShare XB -∗ owns (c : Thread nD τ) bg fullShare Bg -∗ owns (c : Thread nD τ) bu fullShare Bu -∗ wp frame (wpE defs 𝒱 (c : Thread nD τ) bd) E (k (hOut XB G U Bg Bu i hi)) Q)) : sProp 𝕄)
    ⊢ wp frame (wpE defs 𝒱 (c : Thread nD τ) bd) E (chunkK gw uw xb bg bu i hi k) Q := by
  unfold chunkK
  iintro ⟨H17, H18, H19, H13, H14, Hk⟩
  iapply (ldK 𝒱 c bd E xb) $$ H19
  iintro H19
  iapply (ldK 𝒱 c bd E gw) $$ H17
  iintro H17
  iapply (ldK 𝒱 c bd E bg) $$ H13
  iintro H13
  iapply (ldK 𝒱 c bd E xb) $$ H19
  iintro H19
  iapply (ldK 𝒱 c bd E uw) $$ H18
  iintro H18
  iapply (ldK 𝒱 c bd E bu) $$ H14
  iintro H14
  iapply Hk $$ H17 H18 H19 H13 H14

theorem chunkGrpK_wp {Q : PUnit → sProp 𝕄} {co : Memref sig .tc .vmem S512x512 .fp8e4m3} (hco : co.IsWhole) {sc : Memref sig .tc .vmem S1x512x4 .f32}
    (mask : IVec S512x128 1) (h : FVec F S512x256 .f32) (i : ℕ) (hi : i < 2) (k : Prog (TpuEff nD τ sig (Elt F) Λ₀ .tc) PUnit)
    (C : S512x512.Idx → Elt F .fp8e4m3) (Z : S1x512x4.Idx → Elt F .f32) :
    (iprop(owns (c : Thread nD τ) co fullShare C ∗ owns (c : Thread nD τ) sc fullShare Z
      ∗ (owns (c : Thread nD τ) co fullShare (cOv mask (half1 h) (2 * i + 1) (by omega) (cOv mask (half0 h) (2 * i) (by omega) C)) -∗ owns (c : Thread nD τ) sc fullShare (sOv mask (half1 h) (2 * i + 1) (by omega) (sOv mask (half0 h) (2 * i) (by omega) Z)) -∗ wp frame (wpE defs 𝒱 (c : Thread nD τ) bd) E k Q)) : sProp 𝕄)
    ⊢ wp frame (wpE defs 𝒱 (c : Thread nD τ) bd) E (chunkGrpK co hco sc mask h i hi k) Q := by
  unfold chunkGrpK
  iintro ⟨H15, H16, Hk⟩
  iapply (grpK_wp 𝒱 c bd E hco _ _ _ _ _ _ _)
  isplitl [H15]
  · iexact H15
  isplitl [H16]
  · iexact H16
  iintro H15 H16
  iapply (grpK_wp 𝒱 c bd E hco _ _ _ _ _ _ _)
  isplitl [H15]
  · iexact H15
  isplitl [H16]
  · iexact H16
  iintro H15 H16
  iapply Hk $$ [H15] [H16]
  · iexact H15
  iexact H16

/-- The codes' block after a live visit. -/
def cOut (mask : IVec S512x128 1) (h0 h1 : FVec F S512x256 .f32) (C : S512x512.Idx → Elt F .fp8e4m3) : S512x512.Idx → Elt F .fp8e4m3 :=
  cOv mask (half1 h1) 3 (by decide) (cOv mask (half0 h1) 2 (by decide) (cOv mask (half1 h0) 1 (by decide) (cOv mask (half0 h0) 0 (by decide) C)))
/-- The scales' block after a live visit. -/
def sOut (mask : IVec S512x128 1) (h0 h1 : FVec F S512x256 .f32) (Z : S1x512x4.Idx → Elt F .f32) : S1x512x4.Idx → Elt F .f32 :=
  sOv mask (half1 h1) 3 (by decide) (sOv mask (half0 h1) 2 (by decide) (sOv mask (half1 h0) 1 (by decide) (sOv mask (half0 h0) 0 (by decide) Z)))

/-- The one word of a table of 152 words at an offset. -/
def wordAt (T : S152.Idx → Elt F .i32) (off : Fin 1 → ℕ) (inb : ∀ a, off a + S1.size a ≤ S152.size a) : Elt F .i32 :=
  T ((Rect.unit (s := S152) off S1.size inb).emb (Shape.Idx.first (s := (Rect.unit (s := S152) off S1.size inb).shape) (numel1_S1.symm ▸ Nat.one_pos)))

theorem compChain_wp {Q : PUnit → sProp 𝕄} (i : grid0.Coords) (arg2 : Memref sig .tc .smem S152 .i32) (harg2 : arg2.IsWhole) (arg3 : Memref sig .tc .smem S152 .i32) (harg3 : arg3.IsWhole) (arg4 : Memref sig .tc .smem S152 .i32) (harg4 : arg4.IsWhole) (arg5 : Memref sig .tc .smem S152 .i32) (harg5 : arg5.IsWhole) (arg6 : Memref sig .tc .smem S152 .i32) (harg6 : arg6.IsWhole) (arg7 : Memref sig .tc .vmem S512x3072 .fp8e4m3) (harg7 : arg7.IsWhole) (arg8 : Memref sig .tc .vmem S512x24 .f32) (harg8 : arg8.IsWhole) (arg9 : Memref sig .tc .vmem S1x1536x512 .i8) (harg9 : arg9.IsWhole) (arg10 : Memref sig .tc .vmem S1x1536x512 .i8) (harg10 : arg10.IsWhole) (arg11 : Memref sig .tc .vmem S1x96x512 .i8) (harg11 : arg11.IsWhole) (arg12 : Memref sig .tc .vmem S1x96x512 .i8) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S512x512 .fp8e4m3) (harg15 : arg15.IsWhole) (arg16 : Memref sig .tc .vmem S1x512x4 .f32) (harg16 : arg16.IsWhole) (arg17 : Memref sig .tc .vmem S3072x512 .bf16) (harg17 : arg17.IsWhole) (arg18 : Memref sig .tc .vmem S3072x512 .bf16) (harg18 : arg18.IsWhole) (arg19 : Memref sig .tc .vmem S512x3072 .bf16) (harg19 : arg19.IsWhole) (jp : Unit → Prog (TpuEff nD τ sig (Elt F) Λ₀ .tc) PUnit) (T7 : S512x3072.Idx → Elt F .fp8e4m3) (T8 : S512x24.Idx → Elt F .f32) (T9 : S1x1536x512.Idx → Elt F .i8) (T10 : S1x1536x512.Idx → Elt F .i8) (T11 : S1x96x512.Idx → Elt F .i8) (T12 : S1x96x512.Idx → Elt F .i8) (T13 : S1x1x512.Idx → Elt F .f32) (T14 : S1x1x512.Idx → Elt F .f32) (T15 : S512x512.Idx → Elt F .fp8e4m3) (T16 : S1x512x4.Idx → Elt F .f32) (T17 : S3072x512.Idx → Elt F .bf16) (T18 : S3072x512.Idx → Elt F .bf16) (T19 : S512x3072.Idx → Elt F .bf16) (T3 : S152.Idx → Elt F .i32) (T4 : S152.Idx → Elt F .i32) (T5 : S152.Idx → Elt F .i32) (T6 : S152.Idx → Elt F .i32) :
    (iprop(owns (c : Thread nD τ) arg4 fullShare.right T4 ∗ owns (c : Thread nD τ) arg5 fullShare.right T5 ∗ owns (c : Thread nD τ) arg7 fullShare T7 ∗ owns (c : Thread nD τ) arg8 fullShare T8 ∗ owns (c : Thread nD τ) arg13 fullShare T13 ∗ owns (c : Thread nD τ) arg14 fullShare T14 ∗ owns (c : Thread nD τ) arg15 fullShare T15 ∗ owns (c : Thread nD τ) arg16 fullShare T16 ∗ owns (c : Thread nD τ) arg17 fullShare T17 ∗ owns (c : Thread nD τ) arg18 fullShare T18 ∗ owns (c : Thread nD τ) arg19 fullShare T19
      ∗ (owns (c : Thread nD τ) arg4 fullShare.right T4 -∗ owns (c : Thread nD τ) arg5 fullShare.right T5 -∗ owns (c : Thread nD τ) arg7 fullShare T7 -∗ owns (c : Thread nD τ) arg8 fullShare T8 -∗ owns (c : Thread nD τ) arg13 fullShare T13 -∗ owns (c : Thread nD τ) arg14 fullShare T14 -∗ owns (c : Thread nD τ) arg15 fullShare (cOut (maskVal (F := F) (wordAt T4 (k0_off4 i) (k0_off4_inb i)) (wordAt T5 (k0_off4 i) (k0_off4_inb i))) (hOut (xFill T7 T8 24 0 (by omega) T19) T17 T18 T13 T14 0 (by decide)) (hOut (xFill T7 T8 24 0 (by omega) T19) T17 T18 T13 T14 1 (by decide)) T15) -∗ owns (c : Thread nD τ) arg16 fullShare (sOut (maskVal (F := F) (wordAt T4 (k0_off4 i) (k0_off4_inb i)) (wordAt T5 (k0_off4 i) (k0_off4_inb i))) (hOut (xFill T7 T8 24 0 (by omega) T19) T17 T18 T13 T14 0 (by decide)) (hOut (xFill T7 T8 24 0 (by omega) T19) T17 T18 T13 T14 1 (by decide)) T16) -∗ owns (c : Thread nD τ) arg17 fullShare T17 -∗ owns (c : Thread nD τ) arg18 fullShare T18 -∗ owns (c : Thread nD τ) arg19 fullShare (xFill T7 T8 24 0 (by omega) T19) -∗ wp frame (wpE defs 𝒱 (c : Thread nD τ) bd) E (jp ⟨⟩) Q)) : sProp 𝕄)
    ⊢ wp frame (wpE defs 𝒱 (c : Thread nD τ) bd) E (compChain (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 jp) Q := by
  iintro ⟨H4, H5, H7, H8, H13, H14, H15, H16, H17, H18, H19, Hk⟩
  unfold compChain
  iapply (xRun_wp 𝒱 c bd E harg19 _ T7 T8 24 0 _ T19)
  isplitl [H7]
  · iexact H7
  isplitl [H8]
  · iexact H8
  isplitl [H19]
  · iexact H19
  iintro H7 H8 H19
  iapply (smK 𝒱 c bd E arg4) $$ H4
  iintro H4
  iapply (smK 𝒱 c bd E arg5) $$ H5
  iintro H5
  iapply (chunkK_wp 𝒱 c bd E _ _ _ (xFill T7 T8 24 0 _ T19) T17 T18 T13 T14)
  isplitl [H17]
  · iexact H17
  isplitl [H18]
  · iexact H18
  isplitl [H19]
  · iexact H19
  isplitl [H13]
  · iexact H13
  isplitl [H14]
  · iexact H14
  iintro H17 H18 H19 H13 H14
  iapply (chunkGrpK_wp 𝒱 c bd E harg15 _ _ _ _ _ _ _)
  isplitl [H15]
  · iexact H15
  isplitl [H16]
  · iexact H16
  iintro H15 H16
  iapply (chunkK_wp 𝒱 c bd E _ _ _ (xFill T7 T8 24 0 _ T19) T17 T18 T13 T14)
  isplitl [H17]
  · iexact H17
  isplitl [H18]
  · iexact H18
  isplitl [H19]
  · iexact H19
  isplitl [H13]
  · iexact H13
  isplitl [H14]
  · iexact H14
  iintro H17 H18 H19 H13 H14
  iapply (chunkGrpK_wp 𝒱 c bd E harg15 _ _ _ _ _ _ _)
  isplitl [H15]
  · iexact H15
  isplitl [H16]
  · iexact H16
  iintro H15 H16
  iapply Hk $$ H4 H5 H7 H8 H13 H14 [H15] [H16] H17 H18 [H19]
  · iexact H15
  · iexact H16
  iexact H19

end Cert.Kernel.Hand
-- ==== Proof.P.BodyWp.lean ====
module

public import proofs.«01_k».proof.Proof.P.Triple

/-! One run of the whole body: from the buffers it is handed to the buffers it leaves. -/

@[expose] public section

noncomputable section

namespace Cert.Kernel.Hand

open Idealize.ShloMosaic Idealize.ShloMosaic.TcCoe Idealize.SL.Sem
open Idealize.SL Idealize.SL.RA Idealize.SL.BI Idealize.SL.ProofMode
open scoped Idealize.SL.BI
open Idealize.SL.BI.BIBase Idealize.SL.BI.Laws
open Cert.Kernel Facts₀ Facts Cert.Hand

variable {F : FTy → Type} [FloatOps F] [Facts]

local notation "𝕄" => MT nD τ sig Unit (Elt F) ℕ (UR sig nD τ) ℕ

variable {defs : Defs nD τ sig (Elt F) Λ₀} (𝒱 : Variants) (c : Dev nD) (bd : Option 𝒱.V) (E : Set ℕ)

/-- Whether the visit decodes its expert's weights. -/
def reloads (i : grid0.Coords) (T3 : S152.Idx → Elt F .i32) : Prop :=
  reloadBit (F := F) i (wordAt T3 (k0_off1 i) (k0_off1_inb i)) (wordAt T3 (k0_off2 i) (k0_off2_inb i)) = 1#1
instance (i : grid0.Coords) (T3 : S152.Idx → Elt F .i32) : Decidable (reloads i T3) := by unfold reloads; infer_instance
/-- Whether the visit has rows. -/
def live (i : grid0.Coords) (T6 : S152.Idx → Elt F .i32) : Prop := k0_cond2 (wordAt T6 (k0_off3 i) (k0_off3_inb i)) = 1#1
instance (i : grid0.Coords) (T6 : S152.Idx → Elt F .i32) : Decidable (live i T6) := by unfold live; infer_instance
/-- The rows the visit writes. -/
def visitMask (i : grid0.Coords) (T4 T5 : S152.Idx → Elt F .i32) : IVec S512x128 1 :=
  maskVal (F := F) (wordAt T4 (k0_off4 i) (k0_off4_inb i)) (wordAt T5 (k0_off4 i) (k0_off4_inb i))
/-- The decoded weights after the visit's first branch. -/
def gateAfter (i : grid0.Coords) (T3 : S152.Idx → Elt F .i32) (W : S1x1536x512.Idx → Elt F .i8) (S : S1x96x512.Idx → Elt F .i8)
    (D : S3072x512.Idx → Elt F .bf16) : S3072x512.Idx → Elt F .bf16 :=
  if reloads i T3 then deqFill W S 96 0 (by omega) D else D
/-- The rescaled input after the visit. -/
def inputAfter (i : grid0.Coords) (T6 : S152.Idx → Elt F .i32) (X : S512x3072.Idx → Elt F .fp8e4m3) (S : S512x24.Idx → Elt F .f32)
    (D : S512x3072.Idx → Elt F .bf16) : S512x3072.Idx → Elt F .bf16 :=
  if live i T6 then xFill X S 24 0 (by omega) D else D
/-- The codes' block after the visit. -/
def codesAfter (i : grid0.Coords) (T4 T5 T6 : S152.Idx → Elt F .i32) (T7 : S512x3072.Idx → Elt F .fp8e4m3) (T8 : S512x24.Idx → Elt F .f32)
    (T13 T14 : S1x1x512.Idx → Elt F .f32) (G U : S3072x512.Idx → Elt F .bf16) (C : S512x512.Idx → Elt F .fp8e4m3)
    (D : S512x3072.Idx → Elt F .bf16) : S512x512.Idx → Elt F .fp8e4m3 :=
  if live i T6 then cOut (visitMask i T4 T5) (hOut (xFill T7 T8 24 0 (by omega) D) G U T13 T14 0 (by decide))
    (hOut (xFill T7 T8 24 0 (by omega) D) G U T13 T14 1 (by decide)) C else C
/-- The scales' block after the visit. -/
def scalesAfter (i : grid0.Coords) (T4 T5 T6 : S152.Idx → Elt F .i32) (T7 : S512x3072.Idx → Elt F .fp8e4m3) (T8 : S512x24.Idx → Elt F .f32)
    (T13 T14 : S1x1x512.Idx → Elt F .f32) (G U : S3072x512.Idx → Elt F .bf16) (Z : S1x512x4.Idx → Elt F .f32)
    (D : S512x3072.Idx → Elt F .bf16) : S1x512x4.Idx → Elt F .f32 :=
  if live i T6 then sOut (visitMask i T4 T5) (hOut (xFill T7 T8 24 0 (by omega) D) G U T13 T14 0 (by decide))
    (hOut (xFill T7 T8 24 0 (by omega) D) G U T13 T14 1 (by decide)) Z else Z

/-- The body after its first branch. -/
def bodyTail (i : grid0.Coords) (arg2 : Memref sig .tc .smem S152 .i32) (harg2 : arg2.IsWhole) (arg3 : Memref sig .tc .smem S152 .i32) (harg3 : arg3.IsWhole) (arg4 : Memref sig .tc .smem S152 .i32) (harg4 : arg4.IsWhole) (arg5 : Memref sig .tc .smem S152 .i32) (harg5 : arg5.IsWhole) (arg6 : Memref sig .tc .smem S152 .i32) (harg6 : arg6.IsWhole) (arg7 : Memref sig .tc .vmem S512x3072 .fp8e4m3) (harg7 : arg7.IsWhole) (arg8 : Memref sig .tc .vmem S512x24 .f32) (harg8 : arg8.IsWhole) (arg9 : Memref sig .tc .vmem S1x1536x512 .i8) (harg9 : arg9.IsWhole) (arg10 : Memref sig .tc .vmem S1x1536x512 .i8) (harg10 : arg10.IsWhole) (arg11 : Memref sig .tc .vmem S1x96x512 .i8) (harg11 : arg11.IsWhole) (arg12 : Memref sig .tc .vmem S1x96x512 .i8) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S512x512 .fp8e4m3) (harg15 : arg15.IsWhole) (arg16 : Memref sig .tc .vmem S1x512x4 .f32) (harg16 : arg16.IsWhole) (arg17 : Memref sig .tc .vmem S3072x512 .bf16) (harg17 : arg17.IsWhole) (arg18 : Memref sig .tc .vmem S3072x512 .bf16) (harg18 : arg18.IsWhole) (arg19 : Memref sig .tc .vmem S512x3072 .bf16) (harg19 : arg19.IsWhole) : Prog (TpuEff nD τ sig (Elt F) Λ₀ .tc) PUnit :=
    smemLoadElt arg6 (Rect.unit (s := S152) (k0_off3 i) S1.size (k0_off3_inb i)) (View.loads_smem_one rfl numel1_S1) (Shape.Idx.first (numel1_S1.symm ▸ Nat.one_pos)) fun v12 =>
    if k0_h2 : k0_cond2 v12 = 1#1 then compChain i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (fun _ => pure ⟨⟩) else pure ⟨⟩

/-- The body in its chain form. -/
def bodyChain (i : grid0.Coords) (arg2 : Memref sig .tc .smem S152 .i32) (harg2 : arg2.IsWhole) (arg3 : Memref sig .tc .smem S152 .i32) (harg3 : arg3.IsWhole) (arg4 : Memref sig .tc .smem S152 .i32) (harg4 : arg4.IsWhole) (arg5 : Memref sig .tc .smem S152 .i32) (harg5 : arg5.IsWhole) (arg6 : Memref sig .tc .smem S152 .i32) (harg6 : arg6.IsWhole) (arg7 : Memref sig .tc .vmem S512x3072 .fp8e4m3) (harg7 : arg7.IsWhole) (arg8 : Memref sig .tc .vmem S512x24 .f32) (harg8 : arg8.IsWhole) (arg9 : Memref sig .tc .vmem S1x1536x512 .i8) (harg9 : arg9.IsWhole) (arg10 : Memref sig .tc .vmem S1x1536x512 .i8) (harg10 : arg10.IsWhole) (arg11 : Memref sig .tc .vmem S1x96x512 .i8) (harg11 : arg11.IsWhole) (arg12 : Memref sig .tc .vmem S1x96x512 .i8) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S512x512 .fp8e4m3) (harg15 : arg15.IsWhole) (arg16 : Memref sig .tc .vmem S1x512x4 .f32) (harg16 : arg16.IsWhole) (arg17 : Memref sig .tc .vmem S3072x512 .bf16) (harg17 : arg17.IsWhole) (arg18 : Memref sig .tc .vmem S3072x512 .bf16) (harg18 : arg18.IsWhole) (arg19 : Memref sig .tc .vmem S512x3072 .bf16) (harg19 : arg19.IsWhole) : Prog (TpuEff nD τ sig (Elt F) Λ₀ .tc) PUnit :=
  smemLoadElt arg3 (Rect.unit (s := S152) (k0_off1 i) S1.size (k0_off1_inb i)) (View.loads_smem_one rfl numel1_S1) (Shape.Idx.first (numel1_S1.symm ▸ Nat.one_pos)) fun v4 =>
  smemLoadElt arg3 (Rect.unit (s := S152) (k0_off2 i) S1.size (k0_off2_inb i)) (View.loads_smem_one rfl numel1_S1) (Shape.Idx.first (numel1_S1.symm ▸ Nat.one_pos)) fun v6 =>
  if reloadBit (F := F) i v4 v6 = 1#1 then deqRun arg9 arg11 arg17 harg17 (deqRun arg10 arg12 arg18 harg18 (bodyTail i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) 96 0 (by omega)) 96 0 (by omega) else bodyTail i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19

theorem body_chain (i : grid0.Coords) (arg2 : Memref sig .tc .smem S152 .i32) (harg2 : arg2.IsWhole) (arg3 : Memref sig .tc .smem S152 .i32) (harg3 : arg3.IsWhole) (arg4 : Memref sig .tc .smem S152 .i32) (harg4 : arg4.IsWhole) (arg5 : Memref sig .tc .smem S152 .i32) (harg5 : arg5.IsWhole) (arg6 : Memref sig .tc .smem S152 .i32) (harg6 : arg6.IsWhole) (arg7 : Memref sig .tc .vmem S512x3072 .fp8e4m3) (harg7 : arg7.IsWhole) (arg8 : Memref sig .tc .vmem S512x24 .f32) (harg8 : arg8.IsWhole) (arg9 : Memref sig .tc .vmem S1x1536x512 .i8) (harg9 : arg9.IsWhole) (arg10 : Memref sig .tc .vmem S1x1536x512 .i8) (harg10 : arg10.IsWhole) (arg11 : Memref sig .tc .vmem S1x96x512 .i8) (harg11 : arg11.IsWhole) (arg12 : Memref sig .tc .vmem S1x96x512 .i8) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S512x512 .fp8e4m3) (harg15 : arg15.IsWhole) (arg16 : Memref sig .tc .vmem S1x512x4 .f32) (harg16 : arg16.IsWhole) (arg17 : Memref sig .tc .vmem S3072x512 .bf16) (harg17 : arg17.IsWhole) (arg18 : Memref sig .tc .vmem S3072x512 .bf16) (harg18 : arg18.IsWhole) (arg19 : Memref sig .tc .vmem S512x3072 .bf16) (harg19 : arg19.IsWhole) :
    cc0_moe_gate_up (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = bodyChain i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  rw [body2_eq]
  unfold body2 bodyChain bodyTail
  simp only [deqBranch_run, compBranch_run]
  rfl

theorem bodyTail_wp {Q : PUnit → sProp 𝕄} (i : grid0.Coords) (arg2 : Memref sig .tc .smem S152 .i32) (harg2 : arg2.IsWhole) (arg3 : Memref sig .tc .smem S152 .i32) (harg3 : arg3.IsWhole) (arg4 : Memref sig .tc .smem S152 .i32) (harg4 : arg4.IsWhole) (arg5 : Memref sig .tc .smem S152 .i32) (harg5 : arg5.IsWhole) (arg6 : Memref sig .tc .smem S152 .i32) (harg6 : arg6.IsWhole) (arg7 : Memref sig .tc .vmem S512x3072 .fp8e4m3) (harg7 : arg7.IsWhole) (arg8 : Memref sig .tc .vmem S512x24 .f32) (harg8 : arg8.IsWhole) (arg9 : Memref sig .tc .vmem S1x1536x512 .i8) (harg9 : arg9.IsWhole) (arg10 : Memref sig .tc .vmem S1x1536x512 .i8) (harg10 : arg10.IsWhole) (arg11 : Memref sig .tc .vmem S1x96x512 .i8) (harg11 : arg11.IsWhole) (arg12 : Memref sig .tc .vmem S1x96x512 .i8) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S512x512 .fp8e4m3) (harg15 : arg15.IsWhole) (arg16 : Memref sig .tc .vmem S1x512x4 .f32) (harg16 : arg16.IsWhole) (arg17 : Memref sig .tc .vmem S3072x512 .bf16) (harg17 : arg17.IsWhole) (arg18 : Memref sig .tc .vmem S3072x512 .bf16) (harg18 : arg18.IsWhole) (arg19 : Memref sig .tc .vmem S512x3072 .bf16) (harg19 : arg19.IsWhole) (T7 : S512x3072.Idx → Elt F .fp8e4m3) (T8 : S512x24.Idx → Elt F .f32) (T9 : S1x1536x512.Idx → Elt F .i8) (T10 : S1x1536x512.Idx → Elt F .i8) (T11 : S1x96x512.Idx → Elt F .i8) (T12 : S1x96x512.Idx → Elt F .i8) (T13 : S1x1x512.Idx → Elt F .f32) (T14 : S1x1x512.Idx → Elt F .f32) (T15 : S512x512.Idx → Elt F .fp8e4m3) (T16 : S1x512x4.Idx → Elt F .f32) (T17 : S3072x512.Idx → Elt F .bf16) (T18 : S3072x512.Idx → Elt F .bf16) (T19 : S512x3072.Idx → Elt F .bf16) (T3 : S152.Idx → Elt F .i32) (T4 : S152.Idx → Elt F .i32) (T5 : S152.Idx → Elt F .i32) (T6 : S152.Idx → Elt F .i32) :
    (iprop(owns (c : Thread nD τ) arg6 fullShare.right T6 ∗ owns (c : Thread nD τ) arg4 fullShare.right T4 ∗ owns (c : Thread nD τ) arg5 fullShare.right T5 ∗ owns (c : Thread nD τ) arg7 fullShare T7 ∗ owns (c : Thread nD τ) arg8 fullShare T8 ∗ owns (c : Thread nD τ) arg13 fullShare T13 ∗ owns (c : Thread nD τ) arg14 fullShare T14 ∗ owns (c : Thread nD τ) arg15 fullShare T15 ∗ owns (c : Thread nD τ) arg16 fullShare T16 ∗ owns (c : Thread nD τ) arg17 fullShare T17 ∗ owns (c : Thread nD τ) arg18 fullShare T18 ∗ owns (c : Thread nD τ) arg19 fullShare T19
      ∗ (owns (c : Thread nD τ) arg6 fullShare.right T6 -∗ owns (c : Thread nD τ) arg4 fullShare.right T4 -∗ owns (c : Thread nD τ) arg5 fullShare.right T5 -∗ owns (c : Thread nD τ) arg7 fullShare T7 -∗ owns (c : Thread nD τ) arg8 fullShare T8 -∗ owns (c : Thread nD τ) arg13 fullShare T13 -∗ owns (c : Thread nD τ) arg14 fullShare T14 -∗ owns (c : Thread nD τ) arg15 fullShare (codesAfter i T4 T5 T6 T7 T8 T13 T14 T17 T18 T15 T19) -∗ owns (c : Thread nD τ) arg16 fullShare (scalesAfter i T4 T5 T6 T7 T8 T13 T14 T17 T18 T16 T19) -∗ owns (c : Thread nD τ) arg17 fullShare T17 -∗ owns (c : Thread nD τ) arg18 fullShare T18 -∗ owns (c : Thread nD τ) arg19 fullShare (inputAfter i T6 T7 T8 T19) -∗ Q ⟨⟩)) : sProp 𝕄)
    ⊢ wp frame (wpE defs 𝒱 (c : Thread nD τ) bd) E (bodyTail (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q := by
  unfold bodyTail
  iintro ⟨H6, H4, H5, H7, H8, H13, H14, H15, H16, H17, H18, H19, Hk⟩
  iapply (smK 𝒱 c bd E arg6) $$ H6
  iintro H6
  by_cases hl : k0_cond2 (T6 ((Rect.unit (s := S152) (k0_off3 i) S1.size (k0_off3_inb i)).emb (Shape.Idx.first (numel1_S1.symm ▸ Nat.one_pos)))) = 1#1
  · rw [dif_pos hl]
    have hl' : live i T6 := hl
    iapply (compChain_wp 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (fun _ => pure ⟨⟩) T7 T8 T9 T10 T11 T12 T13 T14 T15 T16 T17 T18 T19 T3 T4 T5 T6)
    isplitl [H4]
    · iexact H4
    isplitl [H5]
    · iexact H5
    isplitl [H7]
    · iexact H7
    isplitl [H8]
    · iexact H8
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    iintro H4 H5 H7 H8 H13 H14 H15 H16 H17 H18 H19
    unfold codesAfter scalesAfter inputAfter visitMask
    simp only [if_pos hl']
    rw [wp_pure]
    imodintro
    iapply Hk $$ H6 H4 H5 H7 H8 H13 H14 H15 H16 H17 H18 H19
  · rw [dif_neg hl]
    have hl' : ¬ live i T6 := hl
    unfold codesAfter scalesAfter inputAfter visitMask
    simp only [if_neg hl']
    rw [wp_pure]
    imodintro
    iapply Hk $$ H6 H4 H5 H7 H8 H13 H14 H15 H16 H17 H18 H19

theorem body_wp {Q : PUnit → sProp 𝕄} (i : grid0.Coords) (arg2 : Memref sig .tc .smem S152 .i32) (harg2 : arg2.IsWhole) (arg3 : Memref sig .tc .smem S152 .i32) (harg3 : arg3.IsWhole) (arg4 : Memref sig .tc .smem S152 .i32) (harg4 : arg4.IsWhole) (arg5 : Memref sig .tc .smem S152 .i32) (harg5 : arg5.IsWhole) (arg6 : Memref sig .tc .smem S152 .i32) (harg6 : arg6.IsWhole) (arg7 : Memref sig .tc .vmem S512x3072 .fp8e4m3) (harg7 : arg7.IsWhole) (arg8 : Memref sig .tc .vmem S512x24 .f32) (harg8 : arg8.IsWhole) (arg9 : Memref sig .tc .vmem S1x1536x512 .i8) (harg9 : arg9.IsWhole) (arg10 : Memref sig .tc .vmem S1x1536x512 .i8) (harg10 : arg10.IsWhole) (arg11 : Memref sig .tc .vmem S1x96x512 .i8) (harg11 : arg11.IsWhole) (arg12 : Memref sig .tc .vmem S1x96x512 .i8) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S512x512 .fp8e4m3) (harg15 : arg15.IsWhole) (arg16 : Memref sig .tc .vmem S1x512x4 .f32) (harg16 : arg16.IsWhole) (arg17 : Memref sig .tc .vmem S3072x512 .bf16) (harg17 : arg17.IsWhole) (arg18 : Memref sig .tc .vmem S3072x512 .bf16) (harg18 : arg18.IsWhole) (arg19 : Memref sig .tc .vmem S512x3072 .bf16) (harg19 : arg19.IsWhole) (T7 : S512x3072.Idx → Elt F .fp8e4m3) (T8 : S512x24.Idx → Elt F .f32) (T9 : S1x1536x512.Idx → Elt F .i8) (T10 : S1x1536x512.Idx → Elt F .i8) (T11 : S1x96x512.Idx → Elt F .i8) (T12 : S1x96x512.Idx → Elt F .i8) (T13 : S1x1x512.Idx → Elt F .f32) (T14 : S1x1x512.Idx → Elt F .f32) (T15 : S512x512.Idx → Elt F .fp8e4m3) (T16 : S1x512x4.Idx → Elt F .f32) (T17 : S3072x512.Idx → Elt F .bf16) (T18 : S3072x512.Idx → Elt F .bf16) (T19 : S512x3072.Idx → Elt F .bf16) (T3 : S152.Idx → Elt F .i32) (T4 : S152.Idx → Elt F .i32) (T5 : S152.Idx → Elt F .i32) (T6 : S152.Idx → Elt F .i32) :
    (iprop(owns (c : Thread nD τ) arg3 fullShare.right T3 ∗ owns (c : Thread nD τ) arg4 fullShare.right T4 ∗ owns (c : Thread nD τ) arg5 fullShare.right T5 ∗ owns (c : Thread nD τ) arg6 fullShare.right T6 ∗ owns (c : Thread nD τ) arg7 fullShare T7 ∗ owns (c : Thread nD τ) arg8 fullShare T8 ∗ owns (c : Thread nD τ) arg9 fullShare T9 ∗ owns (c : Thread nD τ) arg10 fullShare T10 ∗ owns (c : Thread nD τ) arg11 fullShare T11 ∗ owns (c : Thread nD τ) arg12 fullShare T12 ∗ owns (c : Thread nD τ) arg13 fullShare T13 ∗ owns (c : Thread nD τ) arg14 fullShare T14 ∗ owns (c : Thread nD τ) arg15 fullShare T15 ∗ owns (c : Thread nD τ) arg16 fullShare T16 ∗ owns (c : Thread nD τ) arg17 fullShare T17 ∗ owns (c : Thread nD τ) arg18 fullShare T18 ∗ owns (c : Thread nD τ) arg19 fullShare T19
      ∗ (owns (c : Thread nD τ) arg3 fullShare.right T3 -∗ owns (c : Thread nD τ) arg4 fullShare.right T4 -∗ owns (c : Thread nD τ) arg5 fullShare.right T5 -∗ owns (c : Thread nD τ) arg6 fullShare.right T6 -∗ owns (c : Thread nD τ) arg7 fullShare T7 -∗ owns (c : Thread nD τ) arg8 fullShare T8 -∗ owns (c : Thread nD τ) arg9 fullShare T9 -∗ owns (c : Thread nD τ) arg10 fullShare T10 -∗ owns (c : Thread nD τ) arg11 fullShare T11 -∗ owns (c : Thread nD τ) arg12 fullShare T12 -∗ owns (c : Thread nD τ) arg13 fullShare T13 -∗ owns (c : Thread nD τ) arg14 fullShare T14 -∗ owns (c : Thread nD τ) arg15 fullShare (codesAfter i T4 T5 T6 T7 T8 T13 T14 (gateAfter i T3 T9 T11 T17) (gateAfter i T3 T10 T12 T18) T15 T19) -∗ owns (c : Thread nD τ) arg16 fullShare (scalesAfter i T4 T5 T6 T7 T8 T13 T14 (gateAfter i T3 T9 T11 T17) (gateAfter i T3 T10 T12 T18) T16 T19) -∗ owns (c : Thread nD τ) arg17 fullShare (gateAfter i T3 T9 T11 T17) -∗ owns (c : Thread nD τ) arg18 fullShare (gateAfter i T3 T10 T12 T18) -∗ owns (c : Thread nD τ) arg19 fullShare (inputAfter i T6 T7 T8 T19) -∗ Q ⟨⟩)) : sProp 𝕄)
    ⊢ wp frame (wpE defs 𝒱 (c : Thread nD τ) bd) E (cc0_moe_gate_up (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q := by
  rw [body_chain]
  unfold bodyChain
  iintro ⟨H3, H4, H5, H6, H7, H8, H9, H10, H11, H12, H13, H14, H15, H16, H17, H18, H19, Hk⟩
  iapply (smK 𝒱 c bd E arg3) $$ H3
  iintro H3
  iapply (smK 𝒱 c bd E arg3) $$ H3
  iintro H3
  by_cases hr' : reloadBit (F := F) i (T3 ((Rect.unit (s := S152) (k0_off1 i) S1.size (k0_off1_inb i)).emb (Shape.Idx.first (numel1_S1.symm ▸ Nat.one_pos)))) (T3 ((Rect.unit (s := S152) (k0_off2 i) S1.size (k0_off2_inb i)).emb (Shape.Idx.first (numel1_S1.symm ▸ Nat.one_pos)))) = 1#1
  · rw [if_pos hr']
    have hr : reloads i T3 := hr'
    unfold gateAfter
    simp only [if_pos hr]
    iapply (deqRun_wp 𝒱 c bd E harg17 _ T9 T11 96 0 _ T17)
    isplitl [H9]
    · iexact H9
    isplitl [H11]
    · iexact H11
    isplitl [H17]
    · iexact H17
    iintro H9 H11 H17
    iapply (deqRun_wp 𝒱 c bd E harg18 _ T10 T12 96 0 _ T18)
    isplitl [H10]
    · iexact H10
    isplitl [H12]
    · iexact H12
    isplitl [H18]
    · iexact H18
    iintro H10 H12 H18
    iapply (bodyTail_wp 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 T7 T8 T9 T10 T11 T12 T13 T14 T15 T16 _ _ T19 T3 T4 T5 T6)
    isplitl [H6]
    · iexact H6
    isplitl [H4]
    · iexact H4
    isplitl [H5]
    · iexact H5
    isplitl [H7]
    · iexact H7
    isplitl [H8]
    · iexact H8
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    iintro H6 H4 H5 H7 H8 H13 H14 H15 H16 H17 H18 H19
    iapply Hk $$ H3 H4 H5 H6 H7 H8 H9 H10 H11 H12 H13 H14 H15 H16 H17 H18 H19
  · rw [if_neg hr']
    have hr : ¬ reloads i T3 := hr'
    unfold gateAfter
    simp only [if_neg hr]
    iapply (bodyTail_wp 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 T7 T8 T9 T10 T11 T12 T13 T14 T15 T16 T17 T18 T19 T3 T4 T5 T6)
    isplitl [H6]
    · iexact H6
    isplitl [H4]
    · iexact H4
    isplitl [H5]
    · iexact H5
    isplitl [H7]
    · iexact H7
    isplitl [H8]
    · iexact H8
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    iintro H6 H4 H5 H7 H8 H13 H14 H15 H16 H17 H18 H19
    iapply Hk $$ H3 H4 H5 H6 H7 H8 H9 H10 H11 H12 H13 H14 H15 H16 H17 H18 H19

end Cert.Kernel.Hand
-- ==== Proof.P.Region.lean ====
module

public import proofs.«01_k».proof.Proof.P.Kit
public import proofs.«01_k».proof.Proof.P.BodyWp

/-! The region run: proof data over an invariant of the decoded scratch and two relations of the output blocks. -/

@[expose] public section

set_option maxRecDepth 4096

noncomputable section

namespace Cert.Kernel.Hand

open Idealize.ShloMosaic Idealize.ShloMosaic.TcCoe Idealize.SL.Sem
open Idealize.SL Idealize.SL.RA Idealize.SL.BI Idealize.SL.ProofMode
open scoped Idealize.SL.BI
open Idealize.SL.BI.BIBase Idealize.SL.BI.Laws
open Cert.Kernel Cert.Kernel.Gen Cert.Hand
open Idealize.ShloMosaic.Pipeline (RDat)

variable {F : FTy → Type} [FloatOps F]

local notation "𝕄" => MT nD τ sig Unit (Elt F) ℕ (UR sig nD τ) ℕ

/-- The tables as words. -/
def tT (pf : pre0.Contents (Elt F)) : S152.Idx → Elt F .i32 := pf 0
def tE (pf : pre0.Contents (Elt F)) : S152.Idx → Elt F .i32 := pf 1
def tLo (pf : pre0.Contents (Elt F)) : S152.Idx → Elt F .i32 := pf 2
def tHi (pf : pre0.Contents (Elt F)) : S152.Idx → Elt F .i32 := pf 3
def tLive (pf : pre0.Contents (Elt F)) : S152.Idx → Elt F .i32 := pf 4

theorem PhiT_eq (pf : pre0.Contents (Elt F)) (c : Dev nD) : (Pipeline.ΦT pre0 pf c : sProp 𝕄) =
    iprop(owns (c : Thread nD τ) (Memref.whole main_v53) fullShare.right (tT pf) ∗ owns (c : Thread nD τ) (Memref.whole main_v29) fullShare.right (tE pf)
      ∗ owns (c : Thread nD τ) (Memref.whole main_v64) fullShare.right (tLo pf) ∗ owns (c : Thread nD τ) (Memref.whole main_v75) fullShare.right (tHi pf)
      ∗ owns (c : Thread nD τ) (Memref.whole main_v76) fullShare.right (tLive pf)) := by
  unfold Pipeline.ΦT Pipeline.prefHeld
  rw [show (Finset.univ : Finset (Fin 5)) = {(0 : Fin 5), (1 : Fin 5), (2 : Fin 5), (3 : Fin 5), (4 : Fin 5)} from by decide,
    bigSep_insert (by decide), bigSep_insert (by decide), bigSep_insert (by decide), bigSep_insert (by decide), bigSep_singleton]
  simp only [owns_whole]
  rfl

/-- The region's configuration at the tables `pf`. -/
abbrev cfgP (pf : pre0.Contents (Elt F)) (hok : ok0 (F := F) pf) : Pipeline.Cfg sig Λ₀ := cfg0 ⟨pf, hok⟩

variable (W : (c : Dev nD) → (b : Ref sig .tc) → Buf (Elt F) ((c : Thread nD τ).loc b)) (pf : pre0.Contents (Elt F)) (hok : ok0 (F := F) pf)
  (I : ℕ → (S3072x512.Idx → Elt F .bf16) → (S3072x512.Idx → Elt F .bf16) → Prop)
  (R8 : Fin grid0.N → (S512x512.Idx → Elt F .fp8e4m3) → (S512x512.Idx → Elt F .fp8e4m3) → Prop)
  (R9 : Fin grid0.N → (S1x512x4.Idx → Elt F .f32) → (S1x512x4.Idx → Elt F .f32) → Prop)

/-- The region's proof data. -/
def rdat (c : Dev nD) : RDat τ (Elt F) Unit ℕ (UR sig nD τ) ℕ (cfgP pf hok) c where
  A w := W c (Pipeline.arrRef spec0 w)
  after := fun | 0 => fun _ Y X => X = Y | 1 => fun _ Y X => X = Y | 2 => fun _ Y X => X = Y | 3 => fun _ Y X => X = Y | 4 => fun _ Y X => X = Y | 5 => fun _ Y X => X = Y | 6 => fun _ Y X => X = Y | 7 => fun _ Y X => X = Y | 8 => fun t Y X => R8 t Y X | 9 => fun t Y X => R9 t Y X | ⟨_ + 10, h⟩ => absurd h (Nat.not_lt.2 (Nat.le_add_left _ _))
  Φ t := iprop((∃ G U D, ⌜I t.val G U⌝ ∗ owns (c : Thread nD τ) (Memref.whole cc0_scratch0) fullShare G ∗ owns (c : Thread nD τ) (Memref.whole cc0_scratch1) fullShare U
      ∗ owns (c : Thread nD τ) (Memref.whole cc0_scratch2) fullShare D) ∗ (∃ r, prngReg c r) ∗ Pipeline.ΦT pre0 pf c)
  q := Pipeline.shareOf (cfgP pf hok).spec
  owed _ := 0

/-- What the body obligation asks of the invariant and the relations. -/
def StepOk (c : Dev nD) : Prop :=
  ∀ (t : Fin grid0.N) (Y0 : S512x3072.Idx → Elt F .fp8e4m3) (Y1 : S512x24.Idx → Elt F .f32) (Y2 : S1x1536x512.Idx → Elt F .i8) (Y3 : S1x1536x512.Idx → Elt F .i8) (Y4 : S1x96x512.Idx → Elt F .i8) (Y5 : S1x96x512.Idx → Elt F .i8) (Y6 : S1x1x512.Idx → Elt F .f32) (Y7 : S1x1x512.Idx → Elt F .f32) (Y8 : S512x512.Idx → Elt F .fp8e4m3) (Y9 : S1x512x4.Idx → Elt F .f32),
    (rdat W pf hok I R8 R9 c).Finds 0 t Y0 → (rdat W pf hok I R8 R9 c).Finds 1 t Y1 → (rdat W pf hok I R8 R9 c).Finds 2 t Y2 → (rdat W pf hok I R8 R9 c).Finds 3 t Y3 → (rdat W pf hok I R8 R9 c).Finds 4 t Y4 → (rdat W pf hok I R8 R9 c).Finds 5 t Y5 → (rdat W pf hok I R8 R9 c).Finds 6 t Y6 → (rdat W pf hok I R8 R9 c).Finds 7 t Y7 →
    ∀ (G U : S3072x512.Idx → Elt F .bf16) (D : S512x3072.Idx → Elt F .bf16), I t.val G U →
      I (t.val + 1) (gateAfter (grid0.coords t) (tE pf) Y2 Y4 G) (gateAfter (grid0.coords t) (tE pf) Y3 Y5 U)
      ∧ R8 t Y8 (codesAfter (grid0.coords t) (tLo pf) (tHi pf) (tLive pf) Y0 Y1 Y6 Y7 (gateAfter (grid0.coords t) (tE pf) Y2 Y4 G) (gateAfter (grid0.coords t) (tE pf) Y3 Y5 U) Y8 D)
      ∧ R9 t Y9 (scalesAfter (grid0.coords t) (tLo pf) (tHi pf) (tLive pf) Y0 Y1 Y6 Y7 (gateAfter (grid0.coords t) (tE pf) Y2 Y4 G) (gateAfter (grid0.coords t) (tE pf) Y3 Y5 U) Y9 D)

/-- One grid point, over any staging buffers. -/
theorem body_step (c : Dev nD) (t : Fin grid0.N) (n n' : ℕ) (Ho : sProp 𝕄) (a0 : Memref sig .tc .vmem S512x3072 .fp8e4m3) (ha0 : a0.IsWhole) (a1 : Memref sig .tc .vmem S512x24 .f32) (ha1 : a1.IsWhole) (a2 : Memref sig .tc .vmem S1x1536x512 .i8) (ha2 : a2.IsWhole) (a3 : Memref sig .tc .vmem S1x1536x512 .i8) (ha3 : a3.IsWhole) (a4 : Memref sig .tc .vmem S1x96x512 .i8) (ha4 : a4.IsWhole) (a5 : Memref sig .tc .vmem S1x96x512 .i8) (ha5 : a5.IsWhole) (a6 : Memref sig .tc .vmem S1x1x512 .f32) (ha6 : a6.IsWhole) (a7 : Memref sig .tc .vmem S1x1x512 .f32) (ha7 : a7.IsWhole) (a8 : Memref sig .tc .vmem S512x512 .fp8e4m3) (ha8 : a8.IsWhole) (a9 : Memref sig .tc .vmem S1x512x4 .f32) (ha9 : a9.IsWhole) (Y0 : S512x3072.Idx → Elt F .fp8e4m3) (Y1 : S512x24.Idx → Elt F .f32) (Y2 : S1x1536x512.Idx → Elt F .i8) (Y3 : S1x1536x512.Idx → Elt F .i8) (Y4 : S1x96x512.Idx → Elt F .i8) (Y5 : S1x96x512.Idx → Elt F .i8) (Y6 : S1x1x512.Idx → Elt F .f32) (Y7 : S1x1x512.Idx → Elt F .f32) (Y8 : S512x512.Idx → Elt F .fp8e4m3) (Y9 : S1x512x4.Idx → Elt F .f32)
    (hs : ∀ (G U : S3072x512.Idx → Elt F .bf16) (D : S512x3072.Idx → Elt F .bf16), I n G U →
      I n' (gateAfter (grid0.coords t) (tE pf) Y2 Y4 G) (gateAfter (grid0.coords t) (tE pf) Y3 Y5 U)
      ∧ R8 t Y8 (codesAfter (grid0.coords t) (tLo pf) (tHi pf) (tLive pf) Y0 Y1 Y6 Y7 (gateAfter (grid0.coords t) (tE pf) Y2 Y4 G) (gateAfter (grid0.coords t) (tE pf) Y3 Y5 U) Y8 D)
      ∧ R9 t Y9 (scalesAfter (grid0.coords t) (tLo pf) (tHi pf) (tLive pf) Y0 Y1 Y6 Y7 (gateAfter (grid0.coords t) (tE pf) Y2 Y4 G) (gateAfter (grid0.coords t) (tE pf) Y3 Y5 U) Y9 D)) :
    iprop(((∃ G U D, ⌜I n G U⌝ ∗ owns (c : Thread nD τ) (Memref.whole cc0_scratch0) fullShare G ∗ owns (c : Thread nD τ) (Memref.whole cc0_scratch1) fullShare U ∗ owns (c : Thread nD τ) (Memref.whole cc0_scratch2) fullShare D) ∗ (∃ r, prngReg c r) ∗ Pipeline.ΦT pre0 pf c) ∗ Ho ∗ owns (c : Thread nD τ) a0 fullShare Y0 ∗ owns (c : Thread nD τ) a1 fullShare Y1 ∗ owns (c : Thread nD τ) a2 fullShare Y2 ∗ owns (c : Thread nD τ) a3 fullShare Y3 ∗ owns (c : Thread nD τ) a4 fullShare Y4 ∗ owns (c : Thread nD τ) a5 fullShare Y5 ∗ owns (c : Thread nD τ) a6 fullShare Y6 ∗ owns (c : Thread nD τ) a7 fullShare Y7 ∗ owns (c : Thread nD τ) a8 fullShare Y8 ∗ owns (c : Thread nD τ) a9 fullShare Y9) ⊢
    wp frame (wpE (defs₀ (F := F)) Variants.none (c : Thread nD τ) none) Set.univ
      (cc0_moe_gate_up (F := F) (grid0.coords t) (Memref.whole main_v53) (Memref.isWhole_whole _) (Memref.whole main_v29) (Memref.isWhole_whole _) (Memref.whole main_v64) (Memref.isWhole_whole _) (Memref.whole main_v75) (Memref.isWhole_whole _) (Memref.whole main_v76) (Memref.isWhole_whole _) a0 ha0 a1 ha1 a2 ha2 a3 ha3 a4 ha4 a5 ha5 a6 ha6 a7 ha7 a8 ha8 a9 ha9 (Memref.whole cc0_scratch0) (Memref.isWhole_whole _) (Memref.whole cc0_scratch1) (Memref.isWhole_whole _) (Memref.whole cc0_scratch2) (Memref.isWhole_whole _)) fun _ =>
      iprop(((∃ G U D, ⌜I n' G U⌝ ∗ owns (c : Thread nD τ) (Memref.whole cc0_scratch0) fullShare G ∗ owns (c : Thread nD τ) (Memref.whole cc0_scratch1) fullShare U ∗ owns (c : Thread nD τ) (Memref.whole cc0_scratch2) fullShare D) ∗ (∃ r, prngReg c r) ∗ Pipeline.ΦT pre0 pf c) ∗ Ho ∗ (∃ X, ⌜X = Y0⌝ ∗ owns (c : Thread nD τ) a0 fullShare X) ∗ (∃ X, ⌜X = Y1⌝ ∗ owns (c : Thread nD τ) a1 fullShare X) ∗ (∃ X, ⌜X = Y2⌝ ∗ owns (c : Thread nD τ) a2 fullShare X) ∗ (∃ X, ⌜X = Y3⌝ ∗ owns (c : Thread nD τ) a3 fullShare X) ∗ (∃ X, ⌜X = Y4⌝ ∗ owns (c : Thread nD τ) a4 fullShare X) ∗ (∃ X, ⌜X = Y5⌝ ∗ owns (c : Thread nD τ) a5 fullShare X) ∗ (∃ X, ⌜X = Y6⌝ ∗ owns (c : Thread nD τ) a6 fullShare X) ∗ (∃ X, ⌜X = Y7⌝ ∗ owns (c : Thread nD τ) a7 fullShare X) ∗ (∃ X, ⌜R8 t Y8 X⌝ ∗ owns (c : Thread nD τ) a8 fullShare X) ∗ (∃ X, ⌜R9 t Y9 X⌝ ∗ owns (c : Thread nD τ) a9 fullShare X)) := by
  rw [PhiT_eq]
  iintro ⟨⟨⟨%G, %U, %D, %hI, H17, H18, H19⟩, Hp, H2, H3, H4, H5, H6⟩, Ho, H7, H8, H9, H10, H11, H12, H13, H14, H15, H16⟩
  obtain ⟨h1, h8, h9⟩ := hs G U D hI
  iapply (body_wp (F := F) Variants.none c none Set.univ (grid0.coords t) (Memref.whole main_v53) (Memref.isWhole_whole _) (Memref.whole main_v29) (Memref.isWhole_whole _) (Memref.whole main_v64) (Memref.isWhole_whole _) (Memref.whole main_v75) (Memref.isWhole_whole _) (Memref.whole main_v76) (Memref.isWhole_whole _)
        a0 ha0 a1 ha1 a2 ha2 a3 ha3 a4 ha4 a5 ha5 a6 ha6 a7 ha7 a8 ha8 a9 ha9
        (Memref.whole cc0_scratch0) (Memref.isWhole_whole _) (Memref.whole cc0_scratch1) (Memref.isWhole_whole _) (Memref.whole cc0_scratch2) (Memref.isWhole_whole _)
        Y0 Y1 Y2 Y3 Y4 Y5 Y6 Y7 Y8 Y9 G U D (tE pf) (tLo pf) (tHi pf) (tLive pf))
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  iintro H3 H4 H5 H6 H7 H8 H9 H10 H11 H12 H13 H14 H15 H16 H17 H18 H19
  isplitl [H17 H18 H19 Hp H2 H3 H4 H5 H6]
  · isplitl [H17 H18 H19]
    · iexists _, _, _
      isplitr
      · ipureintro
        exact h1
      isplitl [H17]
      · iexact H17
      isplitl [H18]
      · iexact H18
      iexact H19
    isplitl [Hp]
    · iexact Hp
    isplitl [H2]
    · iexact H2
    isplitl [H3]
    · iexact H3
    isplitl [H4]
    · iexact H4
    isplitl [H5]
    · iexact H5
    iexact H6
  isplitl [Ho]
  · iexact Ho
  isplitl [H7]
  · iexists _
    isplitr
    · ipureintro
      exact rfl
    iexact H7
  isplitl [H8]
  · iexists _
    isplitr
    · ipureintro
      exact rfl
    iexact H8
  isplitl [H9]
  · iexists _
    isplitr
    · ipureintro
      exact rfl
    iexact H9
  isplitl [H10]
  · iexists _
    isplitr
    · ipureintro
      exact rfl
    iexact H10
  isplitl [H11]
  · iexists _
    isplitr
    · ipureintro
      exact rfl
    iexact H11
  isplitl [H12]
  · iexists _
    isplitr
    · ipureintro
      exact rfl
    iexact H12
  isplitl [H13]
  · iexists _
    isplitr
    · ipureintro
      exact rfl
    iexact H13
  isplitl [H14]
  · iexists _
    isplitr
    · ipureintro
      exact rfl
    iexact H14
  isplitl [H15]
  · iexists _
    isplitr
    · ipureintro
      exact h8
    iexact H15
  iexists _
  isplitr
  · ipureintro
    exact h9
  iexact H16

end Cert.Kernel.Hand
-- ==== Proof.P.Run.lean ====
module

public import proofs.«01_k».proof.Proof.P.Region

/-! The body obligation at every grid point, and the run of the whole program. -/

@[expose] public section

set_option maxRecDepth 4096

noncomputable section

namespace Cert.Kernel.Hand

open Idealize.ShloMosaic Idealize.ShloMosaic.TcCoe Idealize.SL.Sem
open Idealize.SL Idealize.SL.RA Idealize.SL.BI Idealize.SL.ProofMode
open scoped Idealize.SL.BI
open Idealize.SL.BI.BIBase Idealize.SL.BI.Laws
open Cert.Kernel Cert.Kernel.Gen Cert.Hand
open Idealize.ShloMosaic.Pipeline (RDat)

variable {F : FTy → Type} [FloatOps F]

local notation "𝕄" => MT nD τ sig Unit (Elt F) ℕ (UR sig nD τ) ℕ

variable (W : (c : Dev nD) → (b : Ref sig .tc) → Buf (Elt F) ((c : Thread nD τ).loc b)) (pf : pre0.Contents (Elt F)) (hok : ok0 (F := F) pf)
  (I : ℕ → (S3072x512.Idx → Elt F .bf16) → (S3072x512.Idx → Elt F .bf16) → Prop)
  (R8 : Fin grid0.N → (S512x512.Idx → Elt F .fp8e4m3) → (S512x512.Idx → Elt F .fp8e4m3) → Prop)
  (R9 : Fin grid0.N → (S1x512x4.Idx → Elt F .f32) → (S1x512x4.Idx → Elt F .f32) → Prop)

theorem Phi_at (c : Dev nD) (u : Fin ((cfgP pf hok).N + 1)) : (rdat W pf hok I R8 R9 c).Φ u = (iprop((∃ G U D, ⌜I u.val G U⌝ ∗ owns (c : Thread nD τ) (Memref.whole cc0_scratch0) fullShare G ∗ owns (c : Thread nD τ) (Memref.whole cc0_scratch1) fullShare U ∗ owns (c : Thread nD τ) (Memref.whole cc0_scratch2) fullShare D) ∗ (∃ r, prngReg c r) ∗ Pipeline.ΦT pre0 pf c) : sProp 𝕄) := rfl

theorem owes_succ (c : Dev nD) (t : Fin (cfgP pf hok).N) : (rdat W pf hok I R8 R9 c).owesAt () t.succ = (rdat W pf hok I R8 R9 c).owesAt () t.castSucc := rfl

theorem owns_pre (c : Dev nD) (t : Fin (cfgP pf hok).N) (Y : (w : Fin (cfgP pf hok).W) → ((cfgP pf hok).win w).block.Idx → Elt F ((cfgP pf hok).win w).elt) :
    (bigSep Finset.univ fun w : Fin 10 => owns (c : Thread nD τ) (((cfgP pf hok).win w).stage ((cfgP pf hok).slots t w)) fullShare (Y w) : sProp 𝕄)
      = iprop(owns (c : Thread nD τ) (spec0_0.stage ((cfgP pf hok).slots t 0)) fullShare (Y 0) ∗ owns (c : Thread nD τ) (spec0_1.stage ((cfgP pf hok).slots t 1)) fullShare (Y 1) ∗ owns (c : Thread nD τ) (spec0_2.stage ((cfgP pf hok).slots t 2)) fullShare (Y 2) ∗ owns (c : Thread nD τ) (spec0_3.stage ((cfgP pf hok).slots t 3)) fullShare (Y 3) ∗ owns (c : Thread nD τ) (spec0_4.stage ((cfgP pf hok).slots t 4)) fullShare (Y 4) ∗ owns (c : Thread nD τ) (spec0_5.stage ((cfgP pf hok).slots t 5)) fullShare (Y 5) ∗ owns (c : Thread nD τ) (spec0_6.stage ((cfgP pf hok).slots t 6)) fullShare (Y 6) ∗ owns (c : Thread nD τ) (spec0_7.stage ((cfgP pf hok).slots t 7)) fullShare (Y 7) ∗ owns (c : Thread nD τ) (spec0_8.stage ((cfgP pf hok).slots t 8)) fullShare (Y 8) ∗ owns (c : Thread nD τ) (spec0_9.stage ((cfgP pf hok).slots t 9)) fullShare (Y 9)) := bigSep_W0 _

theorem owns_post (c : Dev nD) (t : Fin (cfgP pf hok).N) (Y : (w : Fin (cfgP pf hok).W) → ((cfgP pf hok).win w).block.Idx → Elt F ((cfgP pf hok).win w).elt) :
    (bigSep Finset.univ fun w : Fin 10 => iprop(∃ X, ⌜(rdat W pf hok I R8 R9 c).after w t (Y w) X⌝ ∗ owns (c : Thread nD τ) (((cfgP pf hok).win w).stage ((cfgP pf hok).slots t w)) fullShare X) : sProp 𝕄)
      = iprop((∃ X, ⌜X = Y 0⌝ ∗ owns (c : Thread nD τ) (spec0_0.stage ((cfgP pf hok).slots t 0)) fullShare X) ∗ (∃ X, ⌜X = Y 1⌝ ∗ owns (c : Thread nD τ) (spec0_1.stage ((cfgP pf hok).slots t 1)) fullShare X) ∗ (∃ X, ⌜X = Y 2⌝ ∗ owns (c : Thread nD τ) (spec0_2.stage ((cfgP pf hok).slots t 2)) fullShare X) ∗ (∃ X, ⌜X = Y 3⌝ ∗ owns (c : Thread nD τ) (spec0_3.stage ((cfgP pf hok).slots t 3)) fullShare X) ∗ (∃ X, ⌜X = Y 4⌝ ∗ owns (c : Thread nD τ) (spec0_4.stage ((cfgP pf hok).slots t 4)) fullShare X) ∗ (∃ X, ⌜X = Y 5⌝ ∗ owns (c : Thread nD τ) (spec0_5.stage ((cfgP pf hok).slots t 5)) fullShare X) ∗ (∃ X, ⌜X = Y 6⌝ ∗ owns (c : Thread nD τ) (spec0_6.stage ((cfgP pf hok).slots t 6)) fullShare X) ∗ (∃ X, ⌜X = Y 7⌝ ∗ owns (c : Thread nD τ) (spec0_7.stage ((cfgP pf hok).slots t 7)) fullShare X) ∗ (∃ X, ⌜R8 t (Y 8) X⌝ ∗ owns (c : Thread nD τ) (spec0_8.stage ((cfgP pf hok).slots t 8)) fullShare X) ∗ (∃ X, ⌜R9 t (Y 9) X⌝ ∗ owns (c : Thread nD τ) (spec0_9.stage ((cfgP pf hok).slots t 9)) fullShare X)) := bigSep_W0 _

theorem body_obligation (c : Dev nD) (h : StepOk W pf hok I R8 R9 c) :
    (rdat W pf hok I R8 R9 c).BodyObligation (defs₀ (F := F)) Variants.none () Set.univ := by
  intro t Y hY
  show iprop((rdat W pf hok I R8 R9 c).Φ t.castSucc ∗ (rdat W pf hok I R8 R9 c).owesAt () t.castSucc
      ∗ bigSep Finset.univ fun w : Fin 10 => owns (c : Thread nD τ) (((cfgP pf hok).win w).stage ((cfgP pf hok).slots t w)) fullShare (Y w)) ⊢
    wp frame (wpE (defs₀ (F := F)) Variants.none (c : Thread nD τ) none) Set.univ
      (cc0_moe_gate_up (F := F) (grid0.coords t) (Memref.whole main_v53) (Memref.isWhole_whole _) (Memref.whole main_v29) (Memref.isWhole_whole _) (Memref.whole main_v64) (Memref.isWhole_whole _) (Memref.whole main_v75) (Memref.isWhole_whole _) (Memref.whole main_v76) (Memref.isWhole_whole _)
        (spec0_0.stage ((cfgP pf hok).slots t 0)) (hstage0_0 (((cfgP pf hok).slots t 0).cast nbuf0_0)) (spec0_1.stage ((cfgP pf hok).slots t 1)) (hstage0_1 (((cfgP pf hok).slots t 1).cast nbuf0_1)) (spec0_2.stage ((cfgP pf hok).slots t 2)) (hstage0_2 (((cfgP pf hok).slots t 2).cast nbuf0_2)) (spec0_3.stage ((cfgP pf hok).slots t 3)) (hstage0_3 (((cfgP pf hok).slots t 3).cast nbuf0_3)) (spec0_4.stage ((cfgP pf hok).slots t 4)) (hstage0_4 (((cfgP pf hok).slots t 4).cast nbuf0_4)) (spec0_5.stage ((cfgP pf hok).slots t 5)) (hstage0_5 (((cfgP pf hok).slots t 5).cast nbuf0_5)) (spec0_6.stage ((cfgP pf hok).slots t 6)) (hstage0_6 (((cfgP pf hok).slots t 6).cast nbuf0_6)) (spec0_7.stage ((cfgP pf hok).slots t 7)) (hstage0_7 (((cfgP pf hok).slots t 7).cast nbuf0_7)) (spec0_8.stage ((cfgP pf hok).slots t 8)) (hstage0_8 (((cfgP pf hok).slots t 8).cast nbuf0_8)) (spec0_9.stage ((cfgP pf hok).slots t 9)) (hstage0_9 (((cfgP pf hok).slots t 9).cast nbuf0_9))
        (Memref.whole cc0_scratch0) (Memref.isWhole_whole _) (Memref.whole cc0_scratch1) (Memref.isWhole_whole _) (Memref.whole cc0_scratch2) (Memref.isWhole_whole _)) fun _ =>
      iprop((rdat W pf hok I R8 R9 c).Φ t.succ ∗ (rdat W pf hok I R8 R9 c).owesAt () t.succ
        ∗ bigSep Finset.univ fun w : Fin 10 => iprop(∃ X, ⌜(rdat W pf hok I R8 R9 c).after w t (Y w) X⌝ ∗ owns (c : Thread nD τ) (((cfgP pf hok).win w).stage ((cfgP pf hok).slots t w)) fullShare X))
  rw [owns_pre, owns_post, Phi_at, Phi_at, owes_succ, Fin.val_castSucc, Fin.val_succ]
  exact body_step pf I R8 R9 c t t.val (t.val + 1) ((rdat W pf hok I R8 R9 c).owesAt () t.castSucc) (spec0_0.stage ((cfgP pf hok).slots t 0)) (hstage0_0 (((cfgP pf hok).slots t 0).cast nbuf0_0)) (spec0_1.stage ((cfgP pf hok).slots t 1)) (hstage0_1 (((cfgP pf hok).slots t 1).cast nbuf0_1)) (spec0_2.stage ((cfgP pf hok).slots t 2)) (hstage0_2 (((cfgP pf hok).slots t 2).cast nbuf0_2)) (spec0_3.stage ((cfgP pf hok).slots t 3)) (hstage0_3 (((cfgP pf hok).slots t 3).cast nbuf0_3)) (spec0_4.stage ((cfgP pf hok).slots t 4)) (hstage0_4 (((cfgP pf hok).slots t 4).cast nbuf0_4)) (spec0_5.stage ((cfgP pf hok).slots t 5)) (hstage0_5 (((cfgP pf hok).slots t 5).cast nbuf0_5)) (spec0_6.stage ((cfgP pf hok).slots t 6)) (hstage0_6 (((cfgP pf hok).slots t 6).cast nbuf0_6)) (spec0_7.stage ((cfgP pf hok).slots t 7)) (hstage0_7 (((cfgP pf hok).slots t 7).cast nbuf0_7)) (spec0_8.stage ((cfgP pf hok).slots t 8)) (hstage0_8 (((cfgP pf hok).slots t 8).cast nbuf0_8)) (spec0_9.stage ((cfgP pf hok).slots t 9)) (hstage0_9 (((cfgP pf hok).slots t 9).cast nbuf0_9)) (Y 0) (Y 1) (Y 2) (Y 3) (Y 4) (Y 5) (Y 6) (Y 7) (Y 8) (Y 9)
    (h t (Y 0) (Y 1) (Y 2) (Y 3) (Y 4) (Y 5) (Y 6) (Y 7) (Y 8) (Y 9) (hY 0) (hY 1) (hY 2) (hY 3) (hY 4) (hY 5) (hY 6) (hY 7))

theorem run (m : (ℓ : Loc nD τ sig) → Buf (Elt F) ℓ) (hW : ∀ 𝒱₀, Pipeline.HMainP (Ix := Unit) (Name := ℕ) (U := UR sig nD τ) (Lvl := ℕ) pcfgs 0 defs₀ 𝒱₀ m (main (F := F)) W) (hpf : ∀ c (k : Fin 5), W c (pre0.ref k) = pf k) (ρ : Dev nD → PrngReg) (h : ∀ c, StepOk W pf hok I R8 R9 c) (h0 : ∀ G U, I 0 G U) :
    θ_run (defs (F := F)) (onTc (τ := τ) (main (F := F))) ⟨m, fun _ => 0, ρ⟩
      (fun r => RDat.FramePost (cfgP pf hok) (rdat W pf hok I R8 R9) W r ∧ r.2.sem = fun _ => 0) := by
  refine RDat.θ_run_frameP_track_shared (pcfgs (F := F)) (fun _ => ⟨pf, hok⟩) 0 launch₀0 (defs₀ (F := F)) Variants.none
    (rdat W pf hok I R8 R9) m ρ (main (F := F)) (fun c => body_obligation W pf hok I R8 R9 c (h c)) (fun c w _ => rfl) (fun c t => rfl) W
    (hW _) (fun c w => rfl) (fun c k => hpf c k) ?_ ?_ (Q' := _) ?_
  · intro c
    show iprop(Pipeline.ΦA spec0 c ∗ Pipeline.ΦT pre0 pf c) ⊢ (iprop((∃ G U D, ⌜I 0 G U⌝ ∗ owns (c : Thread nD τ) (Memref.whole cc0_scratch0) fullShare G ∗ owns (c : Thread nD τ) (Memref.whole cc0_scratch1) fullShare U
      ∗ owns (c : Thread nD τ) (Memref.whole cc0_scratch2) fullShare D) ∗ (∃ r, prngReg c r) ∗ Pipeline.ΦT pre0 pf c) : sProp 𝕄)
    unfold Pipeline.ΦA
    rw [scopedRest0_eq]
    simp only [owns_whole]
    iintro ⟨⟨⟨⟨%G, HG⟩, ⟨%U, HU⟩, ⟨%X, HX⟩⟩, Hp⟩, HT⟩
    isplitl [HG HU HX]
    · iexists G, U, X
      isplitr
      · ipureintro
        exact h0 G U
      isplitl [HG]
      · iexact HG
      isplitl [HU]
      · iexact HU
      iexact HX
    isplitl [Hp]
    · iexact Hp
    iexact HT
  · intro c
    show (iprop((∃ G U D, ⌜I _ G U⌝ ∗ owns (c : Thread nD τ) (Memref.whole cc0_scratch0) fullShare G ∗ owns (c : Thread nD τ) (Memref.whole cc0_scratch1) fullShare U
      ∗ owns (c : Thread nD τ) (Memref.whole cc0_scratch2) fullShare D) ∗ (∃ r, prngReg c r) ∗ Pipeline.ΦT pre0 pf c) : sProp 𝕄) ⊢ Pipeline.ΦA spec0 c
    unfold Pipeline.ΦA
    rw [scopedRest0_eq]
    simp only [owns_whole]
    iintro ⟨⟨%G, %U, %X, %hI, HG, HU, HX⟩, Hp, HT⟩
    isplitl [HG HU HX]
    · isplitl [HG]
      · iexists G
        iexact HG
      isplitl [HU]
      · iexists U
        iexact HU
      iexists X
      iexact HX
    iexact Hp
  · exact fun r hr => hr
/-- The argument arrays after a run. -/
theorem args_of_post (r : PUnit × MemSt nD τ sig (Elt F)) (h : RDat.FramePost (cfgP pf hok) (rdat W pf hok I R8 R9) W r) (c : Dev nD) :
    r.2.mem ((c : Thread nD τ).loc main_arg0) = W c main_arg0
      ∧ r.2.mem ((c : Thread nD τ).loc main_arg1) = W c main_arg1
      ∧ r.2.mem ((c : Thread nD τ).loc main_arg2) = W c main_arg2
      ∧ r.2.mem ((c : Thread nD τ).loc main_arg3) = W c main_arg3
      ∧ r.2.mem ((c : Thread nD τ).loc main_arg4) = W c main_arg4
      ∧ r.2.mem ((c : Thread nD τ).loc main_arg5) = W c main_arg5 :=
  ⟨h.arr_in c 0 rfl, h.arr_in c 1 rfl, h.arr_in c 2 rfl, h.arr_in c 4 rfl, (h c).2 main_arg4 (show main_arg4 ∈ Pipeline.restRefs sig spec0 from Pipeline.mem_restRefs_of main_arg4 (by decide) (by decide)), (h c).2 main_arg5 (show main_arg5 ∈ Pipeline.restRefs sig spec0 from Pipeline.mem_restRefs_of main_arg5 (by decide) (by decide))⟩

include hok in
/-- The frame: the arguments end as the region finds them and every counter at zero. -/
theorem frame_of (m : (ℓ : Loc nD τ sig) → Buf (Elt F) ℓ) (hW : ∀ 𝒱₀, Pipeline.HMainP (Ix := Unit) (Name := ℕ) (U := UR sig nD τ) (Lvl := ℕ) pcfgs 0 defs₀ 𝒱₀ m (main (F := F)) W) (hpf : ∀ c (k : Fin 5), W c (pre0.ref k) = pf k) (ρ : Dev nD → PrngReg) :
    θ_run (defs (F := F)) (onTc (τ := τ) (main (F := F))) ⟨m, fun _ => 0, ρ⟩ (fun r => (∀ c : Dev nD,
      r.2.mem ((c : Thread nD τ).loc main_arg0) = W c main_arg0
      ∧ r.2.mem ((c : Thread nD τ).loc main_arg1) = W c main_arg1
      ∧ r.2.mem ((c : Thread nD τ).loc main_arg2) = W c main_arg2
      ∧ r.2.mem ((c : Thread nD τ).loc main_arg3) = W c main_arg3
      ∧ r.2.mem ((c : Thread nD τ).loc main_arg4) = W c main_arg4
      ∧ r.2.mem ((c : Thread nD τ).loc main_arg5) = W c main_arg5) ∧ r.2.sem = fun _ => 0) :=
  (θ_run _ _ _).mono (fun r h => ⟨fun c => args_of_post W pf hok _ _ _ r h.1 c, h.2⟩)
    (run W pf hok (fun _ _ _ => True) (fun _ _ _ => True) (fun _ _ _ => True) m hW hpf ρ
      (fun c t _ _ _ _ _ _ _ _ _ _ _ _ _ _ _ _ _ _ _ _ _ _ => ⟨trivial, trivial, trivial⟩) (fun _ _ => trivial))

end Cert.Kernel.Hand
-- ==== Proof.P.Frame.lean ====
module

public import proofs.«01_k».proof.Proof.P.Ok
public import proofs.«01_k».proof.Proof.P.Run
public import proofs.«01_k».proof.Defs
public import proofs.«01_k».proof.Proof.Gen.Pre_sizes_fit

/-! The kernel's frame: from sizes that are nonnegative and sum to the rows, every visit's blocks lie inside their arrays, and the launch ends with the arguments unchanged. -/

@[expose] public section

noncomputable section

namespace Cert.Kernel.Hand

open Idealize.ShloMosaic Idealize.ShloMosaic.ValueIdx Idealize.ShloMosaic.Routing Idealize.SL.Sem
open Cert.Kernel Cert.Kernel.Gen

/-- What the sizes satisfy when the precondition's word is one: each between zero and the rows, and they sum to the rows. -/
theorem sizes_of (p : IVec S8 1) (g : IVec S8 32) (h1 : S8.ReducesTo [0] S_) (h2 : 0 < S_.numel)
    (hp : ∀ j : Fin 8, p (ix1 j) = IntOp.andi (IntOp.cmpi .sge (g (ix1 j)) 0#32) (IntOp.cmpi .sle (g (ix1 j)) 73728#32))
    (e : IntOp.andi (Host.reduce IntOp.andi p (constantI S_ 1 1#1) h1 h2 ValueIdx.ix0)
      (IntOp.cmpi .eq (Host.reduce IntOp.addi g (constantI S_ 32 0#32) h1 h2 ValueIdx.ix0) 73728#32) = 1#1) :
    (∀ j : Fin 8, (g (ix1 j)).toNat ≤ 73728) ∧ Plan.fin (nat8 g) 7 = 73728 := by
  obtain ⟨e1, e2⟩ := IntOp.andi_eq_one.1 e
  have hS : ∀ j : Fin 8, (g (ix1 j)).toNat ≤ 73728 := fun j => by
    haveI : Subsingleton S_.Idx := ⟨fun a b => funext fun x => x.elim0⟩
    have h := Host.reduce_andi_all p _ h1 h2 _ e1 (ix1 j)
    rw [hp] at h
    obtain ⟨ha, hb⟩ := IntOp.andi_eq_one.1 h
    have ha' : (0#32).sle (g (ix1 j)) = true := by
      have : BitVec.ofBool ((0#32).sle (g (ix1 j))) = 1#1 := ha
      revert this; cases (0#32).sle (g (ix1 j)) <;> simp
    have hb' : (g (ix1 j)).sle 73728#32 = true := by
      have : BitVec.ofBool ((g (ix1 j)).sle 73728#32) = 1#1 := hb
      revert this; cases (g (ix1 j)).sle 73728#32 <;> simp
    simp only [BitVec.sle, decide_eq_true_eq] at ha' hb'
    have hz : (0#32 : BitVec 32).toInt = 0 := rfl
    have hw : (73728#32 : BitVec 32).toInt = 73728 := rfl
    rw [hz] at ha'
    rw [hw] at hb'
    rw [BitVec.toInt_eq_toNat_cond] at ha' hb'
    split at ha' <;> omega
  refine ⟨hS, ?_⟩
  have hx (j : Fin 8) : g (ix1 j) = BitVec.ofNat 32 (nat8 g j.val) := by
    unfold nat8; rw [dif_pos j.isLt, BitVec.ofNat_toNat, BitVec.setWidth_eq]
  rw [reduce_sum g (nat8 g) hx h1 h2] at e2
  have e3 : BitVec.ofNat 32 (((List.range 8).map (nat8 g)).sum) = 73728#32 := by
    have : BitVec.ofBool (BitVec.ofNat 32 (((List.range 8).map (nat8 g)).sum) == 73728#32) = 1#1 := e2
    by_contra hne
    rw [beq_false_of_ne hne] at this
    exact absurd this (by decide)
  have hb : ((List.range 8).map (nat8 g)).sum ≤ 8 * 73728 := by
    have : ∀ x ∈ (List.range 8).map (nat8 g), x ≤ 73728 := fun x hx => by
      obtain ⟨j, hj, rfl⟩ := List.mem_map.1 hx
      have hj' := List.mem_range.1 hj
      unfold nat8
      rw [dif_pos hj']
      exact hS ⟨j, hj'⟩
    have h := List.sum_le_card_nsmul _ _ this
    simpa using h
  have e4 := congrArg BitVec.toNat e3
  rw [BitVec.toNat_ofNat, BitVec.toNat_ofNat] at e4
  show ((List.range 8).map (nat8 g)).sum = 73728
  omega

theorem sizes_of_fn {F : FTy → Type} [FloatOps F] (a0 : FVec F Cert.Pre_sizes_fit.S73728x3072 .fp8e4m3) (a1 : FVec F Cert.Pre_sizes_fit.S73728x24 .f32)
    (a2 : IVec Cert.Pre_sizes_fit.S8x1536x14336 8) (a3 : IVec Cert.Pre_sizes_fit.S8x96x14336 8) (a4 : FVec F Cert.Pre_sizes_fit.S8x14336 .f32) (g : IVec S8 32)
    (h : Cert.Pre_sizes_fit.fn (F := F) a0 a1 a2 a3 a4 g = fun _ => 1#1) :
    (∀ j : Fin 8, (g (ix1 j)).toNat ≤ 73728) ∧ Plan.fin (nat8 g) 7 = 73728 := by
  have e := congrFun h ValueIdx.ix0
  exact sizes_of _ g Cert.Pre_sizes_fit.Gen.reducesTo_S8_S_d0 Cert.Pre_sizes_fit.Gen.h_S_ (fun j => rfl) e

section
variable {F : FTy → Type} [FloatOps F]
variable (m : (ℓ : Loc nD τ sig) → Buf (Elt F) ℓ)

theorem ok_sizes (h : (∀ j : Fin 8, (sizes m (0 : Dev nD) (ix1 j)).toNat ≤ 73728) ∧ Plan.fin (nat8 (sizes m (0 : Dev nD))) 7 = 73728) : Ok m := by
  refine ok_of (tbl m) (fun i => ?_) fun i => ?_
  · obtain ⟨v, rfl⟩ : ∃ v : Fin 152, i = ix1 v := ⟨i 0, funext fun a => by
      match a with
      | ⟨0, _⟩ => rfl⟩
    have e : tbl m 0 = wTile (wFirst (sizes m (0 : Dev nD))) (wCount (sizes m (0 : Dev nD))) (wEnd (sizes m (0 : Dev nD))) := tab_tile m (0 : Dev nD)
    rw [e, tile_at _ h.1 h.2]
    rw [BitVec.toNat_ofNat]
    exact lt_of_le_of_lt (Nat.mod_le _ _) (tile_lt _ h.1 h.2 _)
  · obtain ⟨v, rfl⟩ : ∃ v : Fin 152, i = ix1 v := ⟨i 0, funext fun a => by
      match a with
      | ⟨0, _⟩ => rfl⟩
    have e : tbl m 1 = wExpert (wEnd (sizes m (0 : Dev nD))) := tab_expert m (0 : Dev nD)
    rw [e, expert_at _ h.1 h.2]
    rw [BitVec.toNat_ofNat]
    exact lt_of_le_of_lt (Nat.mod_le _ _) (expert_lt _ h.1 h.2 _)

end

theorem frame : Cert.quiescent_Kernel := by
  intro m g hPre
  have hok : Ok m := ok_sizes m (sizes_of_fn _ _ _ _ _ _ (hPre (0 : Dev nD)))
  have h := frame_of (V m) (tbl m) hok m (fun 𝒱 => hmain m 𝒱) (V_pre m) g
  refine (θ_run _ _ _).mono (fun r hr => ⟨fun c => ?_, hr.2⟩) h
  obtain ⟨h0, h1, h2, h3, h4, h5⟩ := hr.1 c
  exact ⟨h0.trans (V_arg0 m c), h1.trans (V_arg1 m c), h2.trans (V_arg2 m c), h3.trans (V_arg3 m c), h4.trans (V_arg4 m c), h5.trans (V_arg5 m c)⟩

end Cert.Kernel.Hand
-- ==== Proof.RI.Nib.lean ====
module

public import proofs.«01_k».proof.Proof.Gen.ReferenceIdeal.Frame
public import proofs.«01_k».proof.Proof.Goal

@[expose] public section

/-! # The reference's projections at an index -/

noncomputable section
namespace Cert.ReferenceIdeal.Hand
open Idealize.ShloMosaic Cert.ReferenceIdeal.Gen
set_option maxHeartbeats 1000000

variable (w : Vec Ideal S1x1536x14336 .i8) (x : Fin 3072) (j : Fin 14336)

theorem nib_4 : k0_pay4 (F := Ideal) w (ix2 x j) = Goal.nib (w (ix3 0 ⟨x.val / 2, by omega⟩ j)) x.val := by
  pointwise [k0_pay4]
  rfl

theorem nib_11 : k0_pay11 (F := Ideal) w (ix2 x j) = Goal.nib (w (ix3 0 ⟨x.val / 2, by omega⟩ j)) x.val := by
  pointwise [k0_pay11]
  rfl

theorem nib_15 : k0_pay15 (F := Ideal) w (ix2 x j) = Goal.nib (w (ix3 0 ⟨x.val / 2, by omega⟩ j)) x.val := by
  pointwise [k0_pay15]
  rfl

theorem nib_21 : k0_pay21 (F := Ideal) w (ix2 x j) = Goal.nib (w (ix3 0 ⟨x.val / 2, by omega⟩ j)) x.val := by
  pointwise [k0_pay21]
  rfl

theorem nib_30 : k0_pay30 (F := Ideal) w (ix2 x j) = Goal.nib (w (ix3 0 ⟨x.val / 2, by omega⟩ j)) x.val := by
  pointwise [k0_pay30]
  rfl

theorem nib_42 : k0_pay42 (F := Ideal) w (ix2 x j) = Goal.nib (w (ix3 0 ⟨x.val / 2, by omega⟩ j)) x.val := by
  pointwise [k0_pay42]
  rfl

theorem nib_49 : k0_pay49 (F := Ideal) w (ix2 x j) = Goal.nib (w (ix3 0 ⟨x.val / 2, by omega⟩ j)) x.val := by
  pointwise [k0_pay49]
  rfl

theorem nib_38 : k0_pay38 (F := Ideal) w (ix3 (⟨x.val / 2, by omega⟩ : Fin 1536) (⟨x.val % 2, by omega⟩ : Fin 2) j) = Goal.nib (w (ix3 0 ⟨x.val / 2, by omega⟩ j)) x.val := by
  pointwise [k0_pay38]
  rfl

theorem x_at (r : Fin 73728) (x : Vec Ideal S73728x3072 .fp8e4m3) (xs : Vec Ideal S73728x24 .f32) (k : Fin 3072) :
    k0_pay2 (F := Ideal) x xs (ix2 r k) = x (ix2 r k) * xs (ix2 r ⟨k.val / 128, by omega⟩) := by
  pointwise [k0_pay2]

end Cert.ReferenceIdeal.Hand
-- ==== Proof.RI.LinDefs.lean ====
module

public import proofs.«01_k».proof.Proof.Gen.ReferenceIdeal.Frame
public import proofs.«01_k».proof.Proof.Goal
public import proofs.«01_k».proof.Proof.RI.Nib

@[expose] public section

/-! # The reference's projections at an index -/

noncomputable section
namespace Cert.ReferenceIdeal.Hand
open Idealize.ShloMosaic Cert.ReferenceIdeal.Gen
set_option maxHeartbeats 1000000

/-- The projection of a row, read off one expert's tensors. -/
def lin1 (X : FVec Ideal S73728x3072 .bf16) (w : Vec Ideal S1x1536x14336 .i8) (s : Vec Ideal S1x96x14336 .i8) (b : Vec Ideal S1x14336 .f32)
    (r : Fin 73728) (j : Fin 14336) : EReal :=
  Goal.lin (fun k => X (ix2 r k)) (fun k => w (ix3 0 k j)) (fun k => s (ix3 0 k j)) (b (ix2 0 j))

def pick (c : Vec Ideal S73728x1 .i32) (n : BitVec 32) (r : Fin 73728) (a b : EReal) : EReal :=
  Scalar.select (IntOp.cmpi CmpIPredicate.eq (c (ix2 r 0)) n) a b

end Cert.ReferenceIdeal.Hand
-- ==== Proof.RI.LinA.lean ====
module

public import proofs.«01_k».proof.Proof.Gen.ReferenceIdeal.Frame
public import proofs.«01_k».proof.Proof.Goal
public import proofs.«01_k».proof.Proof.RI.LinDefs

@[expose] public section

/-! # The reference's projections at an index -/

noncomputable section
namespace Cert.ReferenceIdeal.Hand
open Idealize.ShloMosaic Cert.ReferenceIdeal.Gen
set_option maxHeartbeats 1000000

variable (X : FVec Ideal S73728x3072 .bf16) (P : FVec Ideal S73728x14336 .f32) (w : Vec Ideal S1x1536x14336 .i8) (s : Vec Ideal S1x96x14336 .i8) (b : Vec Ideal S1x14336 .f32)
  (c : Vec Ideal S73728x1 .i32) (r : Fin 73728) (j : Fin 14336)

theorem lin_0 : k0_pay10 (F := Ideal) X P (k0_pay5 (F := Ideal) w) (k0_pay6 (F := Ideal) w) (k0_pay7 (F := Ideal) w) (k0_pay8 (F := Ideal) w) (k0_pay9 (F := Ideal) w) s b c (ix2 r j)
    = pick c 0#32 r (lin1 X w s b r j) (P (ix2 r j)) := by
  pointwise [k0_pay10, k0_pay5, k0_pay6, k0_pay7, k0_pay8, k0_pay9]
  simp only [nib_4, pick, lin1, Goal.lin, Goal.dec, Goal.mag, Goal.bit, Goal.sc]

theorem lin_1 : k0_pay14 (F := Ideal) X P (k0_pay12 (F := Ideal) w) (k0_pay13 (F := Ideal) w) s b c (ix2 r j)
    = pick c 1#32 r (lin1 X w s b r j) (P (ix2 r j)) := by
  pointwise [k0_pay14, k0_pay12, k0_pay13]
  simp only [nib_11, pick, lin1, Goal.lin, Goal.dec, Goal.mag, Goal.bit, Goal.sc]

end Cert.ReferenceIdeal.Hand
-- ==== Proof.RI.LinB.lean ====
module

public import proofs.«01_k».proof.Proof.Gen.ReferenceIdeal.Frame
public import proofs.«01_k».proof.Proof.Goal
public import proofs.«01_k».proof.Proof.RI.LinDefs

@[expose] public section

/-! # The reference's projections at an index -/

noncomputable section
namespace Cert.ReferenceIdeal.Hand
open Idealize.ShloMosaic Cert.ReferenceIdeal.Gen
set_option maxHeartbeats 1000000

variable (X : FVec Ideal S73728x3072 .bf16) (P : FVec Ideal S73728x14336 .f32) (w : Vec Ideal S1x1536x14336 .i8) (s : Vec Ideal S1x96x14336 .i8) (b : Vec Ideal S1x14336 .f32)
  (c : Vec Ideal S73728x1 .i32) (r : Fin 73728) (j : Fin 14336)

theorem lin_2 : k0_pay20 (F := Ideal) X P (k0_pay18 (F := Ideal) s) (k0_pay19 (F := Ideal) (k0_pay15 (F := Ideal) w) (k0_pay16 (F := Ideal) w) k0_pay17) b c (ix2 r j)
    = pick c 2#32 r (lin1 X w s b r j) (P (ix2 r j)) := by
  pointwise [k0_pay20, k0_pay18, k0_pay19, k0_pay16, k0_pay17]
  simp only [nib_15, pick, lin1, Goal.lin, Goal.dec, Goal.mag, Goal.bit, Goal.sc]

theorem lin_3 : k0_pay29 (F := Ideal) P (k0_pay27 (F := Ideal) X (k0_pay22 (F := Ideal) w) (k0_pay23 (F := Ideal) w) (k0_pay24 (F := Ideal) w) (k0_pay25 (F := Ideal) w) k0_pay26 s b) (k0_pay28 (F := Ideal) c) (ix2 r j)
    = pick c 3#32 r (lin1 X w s b r j) (P (ix2 r j)) := by
  pointwise [k0_pay29, k0_pay27, k0_pay28, k0_pay22, k0_pay23, k0_pay24, k0_pay25, k0_pay26]
  simp only [nib_21, pick, lin1, Goal.lin, Goal.dec, Goal.mag, Goal.bit, Goal.sc]

end Cert.ReferenceIdeal.Hand
-- ==== Proof.RI.LinC.lean ====
module

public import proofs.«01_k».proof.Proof.Gen.ReferenceIdeal.Frame
public import proofs.«01_k».proof.Proof.Goal
public import proofs.«01_k».proof.Proof.RI.LinDefs

@[expose] public section

/-! # The reference's projections at an index -/

noncomputable section
namespace Cert.ReferenceIdeal.Hand
open Idealize.ShloMosaic Cert.ReferenceIdeal.Gen
set_option maxHeartbeats 1000000

variable (X : FVec Ideal S73728x3072 .bf16) (P : FVec Ideal S73728x14336 .f32) (w : Vec Ideal S1x1536x14336 .i8) (s : Vec Ideal S1x96x14336 .i8) (b : Vec Ideal S1x14336 .f32)
  (c : Vec Ideal S73728x1 .i32) (r : Fin 73728) (j : Fin 14336)

theorem lin_4 : k0_pay37 (F := Ideal) X P (k0_pay31 (F := Ideal) w) (k0_pay32 (F := Ideal) w) (k0_pay33 (F := Ideal) w) (k0_pay34 (F := Ideal) w) (k0_pay35 (F := Ideal) w) (k0_pay36 (F := Ideal) w) (Scalar.ofBits .f32 0x40400000#32) s b c (ix2 r j)
    = pick c 4#32 r (lin1 X w s b r j) (P (ix2 r j)) := by
  pointwise [k0_pay37, k0_pay31, k0_pay32, k0_pay33, k0_pay34, k0_pay35, k0_pay36]
  simp only [nib_30, pick, lin1, Goal.lin, Goal.dec, Goal.mag, Goal.bit, Goal.sc]

theorem lin_5 : k0_pay41 (F := Ideal) X P (k0_pay39 (F := Ideal) (k0_pay38 (F := Ideal) w)) (k0_pay40 (F := Ideal) s) 127#32 b c (ix2 r j)
    = pick c 5#32 r (lin1 X w s b r j) (P (ix2 r j)) := by
  pointwise [k0_pay41, k0_pay39, k0_pay40]
  simp only [nib_38, pick, lin1, Goal.lin, Goal.dec, Goal.mag, Goal.bit, Goal.sc]

end Cert.ReferenceIdeal.Hand
-- ==== Proof.RI.LinD.lean ====
module

public import proofs.«01_k».proof.Proof.Gen.ReferenceIdeal.Frame
public import proofs.«01_k».proof.Proof.Goal
public import proofs.«01_k».proof.Proof.RI.LinDefs

@[expose] public section

/-! # The reference's projections at an index -/

noncomputable section
namespace Cert.ReferenceIdeal.Hand
open Idealize.ShloMosaic Cert.ReferenceIdeal.Gen
set_option maxHeartbeats 1000000

variable (X : FVec Ideal S73728x3072 .bf16) (P : FVec Ideal S73728x14336 .f32) (w : Vec Ideal S1x1536x14336 .i8) (s : Vec Ideal S1x96x14336 .i8) (b : Vec Ideal S1x14336 .f32)
  (c : Vec Ideal S73728x1 .i32) (r : Fin 73728) (j : Fin 14336)

theorem lin_6 : k0_pay48 (F := Ideal) P (k0_pay47 (F := Ideal) X (k0_pay42 (F := Ideal) w) (k0_pay43 (F := Ideal) w) (k0_pay44 (F := Ideal) w) (k0_pay45 (F := Ideal) w) k0_pay46 s b) c (ix2 r j)
    = pick c 6#32 r (lin1 X w s b r j) (P (ix2 r j)) := by
  pointwise [k0_pay48, k0_pay47, k0_pay43, k0_pay44, k0_pay45, k0_pay46]
  simp only [nib_42, pick, lin1, Goal.lin, Goal.dec, Goal.mag, Goal.bit, Goal.sc]

theorem lin_7 : k0_pay55 (F := Ideal) X P (k0_pay50 (F := Ideal) w) (k0_pay51 (F := Ideal) w) (k0_pay52 (F := Ideal) w) (k0_pay53 (F := Ideal) w) (k0_pay54 (F := Ideal) w) s b c (ix2 r j)
    = pick c 7#32 r (lin1 X w s b r j) (P (ix2 r j)) := by
  pointwise [k0_pay55, k0_pay50, k0_pay51, k0_pay52, k0_pay53, k0_pay54]
  simp only [nib_49, pick, lin1, Goal.lin, Goal.dec, Goal.mag, Goal.bit, Goal.sc]

end Cert.ReferenceIdeal.Hand
-- ==== Proof.RI.Lin.lean ====
module

public import proofs.«01_k».proof.Proof.RI.LinA
public import proofs.«01_k».proof.Proof.RI.LinB
public import proofs.«01_k».proof.Proof.RI.LinC
public import proofs.«01_k».proof.Proof.RI.LinD
public import proofs.«01_k».proof.Proof.Layer

@[expose] public section

/-! # The reference's projections over the arguments -/

noncomputable section
namespace Cert.ReferenceIdeal.Hand
open Idealize.ShloMosaic Cert.ReferenceIdeal.Gen
set_option maxHeartbeats 1000000

theorem idx_w (e : ℕ) (he : e < 8) (inb) (k : Fin 1536) (j : Fin 14336) :
    (Rect.unit (s := S8x1536x14336) ![e, 0, 0] S1x1536x14336.size inb).toLoadRect.idx (ix3 0 k j) = ix3 ⟨e, he⟩ k j := by
  funext a
  match a with
  | ⟨0, _⟩ => exact Fin.ext (show e + 1 * 0 = e by omega)
  | ⟨1, _⟩ => exact Fin.ext (show 0 + 1 * k.val = k.val by omega)
  | ⟨2, _⟩ => exact Fin.ext (show 0 + 1 * j.val = j.val by omega)
theorem idx_s (e : ℕ) (he : e < 8) (inb) (k : Fin 96) (j : Fin 14336) :
    (Rect.unit (s := S8x96x14336) ![e, 0, 0] S1x96x14336.size inb).toLoadRect.idx (ix3 0 k j) = ix3 ⟨e, he⟩ k j := by
  funext a
  match a with
  | ⟨0, _⟩ => exact Fin.ext (show e + 1 * 0 = e by omega)
  | ⟨1, _⟩ => exact Fin.ext (show 0 + 1 * k.val = k.val by omega)
  | ⟨2, _⟩ => exact Fin.ext (show 0 + 1 * j.val = j.val by omega)
theorem idx_b (e : ℕ) (he : e < 8) (inb) (j : Fin 14336) :
    (Rect.unit (s := S8x14336) ![e, 0] S1x14336.size inb).toLoadRect.idx (ix2 0 j) = ix2 ⟨e, he⟩ j := by
  funext a
  match a with
  | ⟨0, _⟩ => exact Fin.ext (show e + 1 * 0 = e by omega)
  | ⟨1, _⟩ => exact Fin.ext (show 0 + 1 * j.val = j.val by omega)
theorem idx_x (inb) (r : Fin 73728) (k : Fin 3072) :
    (Rect.unit (s := S73728x3072) ![0, 0] S73728x3072.size inb).toLoadRect.idx (ix2 r k) = ix2 r k := by
  funext a
  match a with
  | ⟨0, _⟩ => exact Fin.ext (show 0 + 1 * r.val = r.val by omega)
  | ⟨1, _⟩ => exact Fin.ext (show 0 + 1 * k.val = k.val by omega)
theorem idx_xs (inb) (r : Fin 73728) (k : Fin 24) :
    (Rect.unit (s := S73728x24) ![0, 0] S73728x24.size inb).toLoadRect.idx (ix2 r k) = ix2 r k := by
  funext a
  match a with
  | ⟨0, _⟩ => exact Fin.ext (show 0 + 1 * r.val = r.val by omega)
  | ⟨1, _⟩ => exact Fin.ext (show 0 + 1 * k.val = k.val by omega)
theorem idx_c (inb) (r : Fin 73728) :
    (Rect.unit (s := S73728x1) ![0, 0] S73728x1.size inb).toLoadRect.idx (ix2 r 0) = ix2 r 0 := by
  funext a
  match a with
  | ⟨0, _⟩ => exact Fin.ext (show 0 + 1 * r.val = r.val by omega)
  | ⟨1, _⟩ => exact Fin.ext (show 0 + 1 * 0 = 0 by omega)

variable (x0 : Vec Ideal S73728x3072 .fp8e4m3) (x1 : Vec Ideal S73728x24 .f32) (x2 : Vec Ideal S8x1536x14336 .i8) (x3 : Vec Ideal S8x96x14336 .i8) (x4 : Vec Ideal S8x14336 .f32) (x5 : Vec Ideal S73728x1 .i32)

theorem xk_at (r : Fin 73728) (k : Fin 3072) : k0_pay76 (F := Ideal) x0 x1 x2 x3 x4 x5 (ix2 r k) = Goal.xr x0 x1 r.val k := by
  unfold k0_pay76 Goal.xr
  rw [dif_pos r.isLt, x_at]
  exact congrArg₂ (fun a b : EReal => a * b) (congrArg x0 (idx_x _ r k)) (congrArg x1 (idx_xs _ r _))

theorem lin1_eq (w : Vec Ideal S1x1536x14336 .i8) (s : Vec Ideal S1x96x14336 .i8) (b : Vec Ideal S1x14336 .f32) (e : ℕ) (he : e < 8) (r : Fin 73728) (j : Fin 14336)
    (hw : ∀ k, w (ix3 0 k j) = x2 (ix3 ⟨e, he⟩ k j)) (hs : ∀ k, s (ix3 0 k j) = x3 (ix3 ⟨e, he⟩ k j)) (hb : b (ix2 0 j) = x4 (ix2 ⟨e, he⟩ j)) :
    lin1 (k0_pay76 (F := Ideal) x0 x1 x2 x3 x4 x5) w s b r j = Goal.proj x0 x1 x2 x3 x4 e r.val j.val := by
  unfold lin1 Goal.lin Goal.proj Goal.bs
  rw [dif_pos ⟨he, j.isLt⟩, hb]
  refine congrArg (· + _) (Finset.sum_congr rfl fun k _ => ?_)
  unfold Goal.wt
  rw [dif_pos ⟨he, j.isLt⟩]
  beta_reduce
  rw [xk_at, hw, hs]

theorem pick_eq (c : Vec Ideal S73728x1 .i32) (n : BitVec 32) (r : Fin 73728) (a b : EReal) (w : BitVec 32) (hc : c (ix2 r 0) = w) : pick c n r a b = if w = n then a else b := by
  unfold pick
  rw [hc]
  show Scalar.select (BitVec.ofBool (w == n)) a b = _
  by_cases h : w = n
  · rw [if_pos h, beq_iff_eq.mpr h]; rfl
  · rw [if_neg h, beq_false_of_ne h]; rfl

/-- The value chosen by the expert word. -/
theorem choose8 (e : ℕ) (he : e < 8) (f : ℕ → EReal) (z : EReal) :
    (if BitVec.ofNat 32 e = 7#32 then f 7 else if BitVec.ofNat 32 e = 6#32 then f 6 else if BitVec.ofNat 32 e = 5#32 then f 5 else if BitVec.ofNat 32 e = 4#32 then f 4
      else if BitVec.ofNat 32 e = 3#32 then f 3 else if BitVec.ofNat 32 e = 2#32 then f 2 else if BitVec.ofNat 32 e = 1#32 then f 1 else if BitVec.ofNat 32 e = 0#32 then f 0 else z) = f e := by
  rcases (by omega : e = 0 ∨ e = 1 ∨ e = 2 ∨ e = 3 ∨ e = 4 ∨ e = 5 ∨ e = 6 ∨ e = 7) with rfl | rfl | rfl | rfl | rfl | rfl | rfl | rfl <;> rfl

/-- The projections after the last expert. -/
def last (x0 : Vec Ideal S73728x3072 .fp8e4m3) (x1 : Vec Ideal S73728x24 .f32) (x2 : Vec Ideal S8x1536x14336 .i8) (x3 : Vec Ideal S8x96x14336 .i8) (x4 : Vec Ideal S8x14336 .f32) (x5 : Vec Ideal S73728x1 .i32) : FVec Ideal S73728x14336 .f32 :=
  k0_pay55 (F := Ideal) (k0_pay76 x0 x1 x2 x3 x4 x5) (k0_pay77 x0 x1 x2 x3 x4 x5) (k0_pay78 x0 x1 x2 x3 x4 x5) (k0_pay79 x0 x1 x2 x3 x4 x5) (k0_pay80 x0 x1 x2 x3 x4 x5) (k0_pay81 x0 x1 x2 x3 x4 x5) (k0_pay82 x0 x1 x2 x3 x4 x5) (View.ld x3 r0_25) (View.ld x4 r0_26) (View.ld x5 r0_5)

theorem last_at (e : ℕ) (he : e < 8) (r : Fin 73728) (j : Fin 14336) (hc : x5 (ix2 r 0) = BitVec.ofNat 32 e) :
    last x0 x1 x2 x3 x4 x5 (ix2 r j) = Goal.proj x0 x1 x2 x3 x4 e r.val j.val := by
  have hc' : View.ld x5 r0_5 (ix2 r 0) = BitVec.ofNat 32 e := (congrArg x5 (idx_c _ r)).trans hc
  unfold last k0_pay78 k0_pay79 k0_pay80 k0_pay81 k0_pay82
  rw [lin_7]
  unfold k0_pay77
  rw [lin_6, lin_5, lin_4, lin_3, lin_2, lin_1, lin_0]
  simp only [pick_eq _ _ _ _ _ _ hc']
  rw [lin1_eq x0 x1 x2 x3 x4 x5 _ _ _ 7 (by decide) r j (fun k => congrArg x2 (idx_w 7 _ _ k j)) (fun k => congrArg x3 (idx_s 7 _ _ k j)) (congrArg x4 (idx_b 7 _ _ j)),
    lin1_eq x0 x1 x2 x3 x4 x5 _ _ _ 6 (by decide) r j (fun k => congrArg x2 (idx_w 6 _ _ k j)) (fun k => congrArg x3 (idx_s 6 _ _ k j)) (congrArg x4 (idx_b 6 _ _ j)),
    lin1_eq x0 x1 x2 x3 x4 x5 _ _ _ 5 (by decide) r j (fun k => congrArg x2 (idx_w 5 _ _ k j)) (fun k => congrArg x3 (idx_s 5 _ _ k j)) (congrArg x4 (idx_b 5 _ _ j)),
    lin1_eq x0 x1 x2 x3 x4 x5 _ _ _ 4 (by decide) r j (fun k => congrArg x2 (idx_w 4 _ _ k j)) (fun k => congrArg x3 (idx_s 4 _ _ k j)) (congrArg x4 (idx_b 4 _ _ j)),
    lin1_eq x0 x1 x2 x3 x4 x5 _ _ _ 3 (by decide) r j (fun k => congrArg x2 (idx_w 3 _ _ k j)) (fun k => congrArg x3 (idx_s 3 _ _ k j)) (congrArg x4 (idx_b 3 _ _ j)),
    lin1_eq x0 x1 x2 x3 x4 x5 _ _ _ 2 (by decide) r j (fun k => congrArg x2 (idx_w 2 _ _ k j)) (fun k => congrArg x3 (idx_s 2 _ _ k j)) (congrArg x4 (idx_b 2 _ _ j)),
    lin1_eq x0 x1 x2 x3 x4 x5 _ _ _ 1 (by decide) r j (fun k => congrArg x2 (idx_w 1 _ _ k j)) (fun k => congrArg x3 (idx_s 1 _ _ k j)) (congrArg x4 (idx_b 1 _ _ j)),
    lin1_eq x0 x1 x2 x3 x4 x5 _ _ _ 0 (by decide) r j (fun k => congrArg x2 (idx_w 0 _ _ k j)) (fun k => congrArg x3 (idx_s 0 _ _ k j)) (congrArg x4 (idx_b 0 _ _ j))]
  exact choose8 e he (fun e => Goal.proj x0 x1 x2 x3 x4 e r.val j.val) _

theorem gate_at (e : ℕ) (he : e < 8) (r : Fin 73728) (j : Fin 7168) (hc : x5 (ix2 r 0) = BitVec.ofNat 32 e) :
    k0_pay83 (F := Ideal) x0 x1 x2 x3 x4 x5 (ix2 r j) = min (Goal.proj x0 x1 x2 x3 x4 e r.val j.val) Goal.seven := by
  rw [← last_at x0 x1 x2 x3 x4 x5 e he r ⟨j.val, by omega⟩ hc]
  have e1 : k0_pay83 (F := Ideal) x0 x1 x2 x3 x4 x5 = minimumf (extractStridedSlice S73728x7168 ![0, 0] (last x0 x1 x2 x3 x4 x5) slices_S73728x14336_o0_0_S73728x7168) (broadcast S73728x7168 (Scalar.ofBits .f32 0x40E00000#32)) := rfl
  rw [e1]
  generalize last x0 x1 x2 x3 x4 x5 = L
  pointwise []
  rfl

theorem up_at (e : ℕ) (he : e < 8) (r : Fin 73728) (j : Fin 7168) (hc : x5 (ix2 r 0) = BitVec.ofNat 32 e) :
    k0_pay84 (F := Ideal) x0 x1 x2 x3 x4 x5 (ix2 r j) = max (Ideal.ofBits .f32 0xC0E00000#32) (Goal.proj x0 x1 x2 x3 x4 e r.val (7168 + j.val)) := by
  rw [← last_at x0 x1 x2 x3 x4 x5 e he r ⟨7168 + j.val, by omega⟩ hc]
  have e1 : k0_pay84 (F := Ideal) x0 x1 x2 x3 x4 x5 = maximumf (broadcast S73728x7168 (Scalar.ofBits .f32 0xC0E00000#32)) (extractStridedSlice S73728x7168 ![0, 7168] (last x0 x1 x2 x3 x4 x5) slices_S73728x14336_o0_7168_S73728x7168) := rfl
  rw [e1]
  generalize last x0 x1 x2 x3 x4 x5 = L
  pointwise []

end Cert.ReferenceIdeal.Hand
-- ==== Proof.RI.Quant.lean ====
module

public import proofs.«01_k».proof.Proof.Gen.ReferenceIdeal.Frame
public import proofs.«01_k».proof.Proof.Goal

@[expose] public section

/-! # The reference's quantiser at an index -/

noncomputable section
namespace Cert.ReferenceIdeal.Hand
open Idealize.ShloMosaic Cert.ReferenceIdeal.Gen
set_option maxHeartbeats 1000000

/-- The activation at an index of the grouped tensor. -/
def grp (a : FVec Ideal S73728x7168 .f32) (b : EReal) (c : FVec Ideal S73728x7168 .f32) (r : Fin 73728) (q : Fin 56) (x : Fin 128) : EReal :=
  (min b (c (ix2 r ⟨q.val * 128 + x.val, by omega⟩)) + 1) * a (ix2 r ⟨q.val * 128 + x.val, by omega⟩)
    * Ideal.logistic (Ideal.ofBits .f32 0x3FD9DB23#32 * a (ix2 r ⟨q.val * 128 + x.val, by omega⟩))

variable (a : FVec Ideal S73728x7168 .f32) (b : Ideal .f32) (c : FVec Ideal S73728x7168 .f32) (r : Fin 73728)

theorem act_at (q : Fin 56) (x : Fin 128) : k0_pay58 (F := Ideal) a b c (ix3 r q x) = grp a b c r q x := by
  pointwise [k0_pay58]
  rfl

theorem max_at (h : FVec Ideal S73728x56x128 .f32) (q : Fin 56) :
   (multiReduction .maximumf [2] S73728x56 (absf h) 0xFF800000#32 reduces_S73728x56x128_S73728x56 (.inl rfl) rfl : FVec Ideal S73728x56 .f32) (ix2 r q)
    = Finset.fold max (Ideal.ofBits .f32 0xFF800000#32) (fun x => (FloatOps.absf (F := Ideal) (φ := .f32) (h (ix3 r q x)) : EReal)) Finset.univ := by
  pointwise []

theorem pw_at (q : Fin 56) (i : Fin 254) :
   (exp2 (sitofp .f32 (subi (iota .tc S73728x56x254 32 [2] iota_S73728x56x254_d2_w32) (broadcast S73728x56x254 126#32))) : FVec Ideal S73728x56x254 .f32) (ix3 r q i) = Goal.pw i.val := by
  pointwise []
  rfl

theorem min_at (h : FVec Ideal S73728x56x254 .f32) (q : Fin 56) :
   (multiReduction .minimumf [2] S73728x56 h 0x7F800000#32 reduces_S73728x56x254_S73728x56 (.inl rfl) rfl : FVec Ideal S73728x56 .f32) (ix2 r q)
    = Finset.fold min (Ideal.ofBits .f32 0x7F800000#32) (fun x => h (ix3 r q x)) Finset.univ := by
  pointwise []

/-- The choice of a scale from any group quantity. -/
theorem choose_at (A : FVec Ideal S73728x56 .f32) (E : FVec Ideal S73728x56x254 .f32) (q : Fin 56) (i : Fin 254) :
    (select (cmpf .ogt E (broadcastTo S73728x56x254 (shapeCast S73728x56x1 A shapeCasts_S73728x56_S73728x56x1) broadcasts_S73728x56x1_S73728x56x254)) E
      (broadcast S73728x56x254 (Scalar.ofBits .f32 0x7F800000#32)) : FVec Ideal S73728x56x254 .f32) (ix3 r q i)
    = if A (ix2 r q) < E (ix3 r q i) then E (ix3 r q i) else Ideal.ofBits .f32 0x7F800000#32 := by
  pointwise []

theorem sel_at (A B : FVec Ideal S73728x56 .f32) (q : Fin 56) :
    (select (cmpf .oeq A (broadcast S73728x56 (Scalar.ofBits .f32 0x00000000#32))) (broadcast S73728x56 (Scalar.ofBits .f32 0x3F800000#32)) B : FVec Ideal S73728x56 .f32) (ix2 r q)
    = if A (ix2 r q) = 0 then 1 else B (ix2 r q) := by
  pointwise []

theorem code_at (A : FVec Ideal S73728x56x128 .f32) (B : FVec Ideal S73728x56 .f32) (j : Fin 7168) :
   (truncf .fp8e4m3 (shapeCast S73728x7168 (minimumf (broadcast S73728x56x128 (Scalar.ofBits .f32 0x43E00000#32)) (maximumf (broadcast S73728x56x128 (Scalar.ofBits .f32 0xC3E00000#32)) (mulf A
    (broadcastTo S73728x56x128 (shapeCast S73728x56x1 (divf (broadcast S73728x56 (Scalar.ofBits .f32 0x3F800000#32)) B) shapeCasts_S73728x56_S73728x56x1) broadcasts_S73728x56x1_S73728x56x128)))) shapeCasts_S73728x56x128_S73728x7168) bitsLt_fp8e4m3_f32 : FVec Ideal S73728x7168 .fp8e4m3) (ix2 r j)
    = Goal.code (A (ix3 r ⟨j.val / 128, by omega⟩ ⟨j.val % 128, by omega⟩)) (B (ix2 r ⟨j.val / 128, by omega⟩)) := by
  pointwise []
  rfl

theorem mul_at (A : FVec Ideal S73728x56 .f32) (q : Fin 56) :
    (mulf A (broadcast S73728x56 (Scalar.ofBits .f32 0x3B124925#32)) : FVec Ideal S73728x56 .f32) (ix2 r q) = A (ix2 r q) * Ideal.ofBits .f32 0x3B124925#32 := by
  pointwise []

/-- The group quantity. -/
def gA : FVec Ideal S73728x56 .f32 :=
  mulf (multiReduction .maximumf [2] S73728x56 (absf (k0_pay58 (F := Ideal) a b c)) 0xFF800000#32 reduces_S73728x56x128_S73728x56 (.inl rfl) rfl : FVec Ideal S73728x56 .f32)
      (broadcast S73728x56 (Scalar.ofBits .f32 0x3B124925#32))

def gE : FVec Ideal S73728x56x254 .f32 := exp2 (sitofp .f32 (subi (iota .tc S73728x56x254 32 [2] iota_S73728x56x254_d2_w32) (broadcast S73728x56x254 126#32)))

def gM (A : FVec Ideal S73728x56 .f32) (E : FVec Ideal S73728x56x254 .f32) : FVec Ideal S73728x56x254 .f32 :=
  select (cmpf .ogt E (broadcastTo S73728x56x254 (shapeCast S73728x56x1 A shapeCasts_S73728x56_S73728x56x1) broadcasts_S73728x56x1_S73728x56x254)) E
      (broadcast S73728x56x254 (Scalar.ofBits .f32 0x7F800000#32))

def gS (A B : FVec Ideal S73728x56 .f32) : FVec Ideal S73728x56 .f32 :=
  select (cmpf .oeq A (broadcast S73728x56 (Scalar.ofBits .f32 0x00000000#32))) (broadcast S73728x56 (Scalar.ofBits .f32 0x3F800000#32)) B

end Cert.ReferenceIdeal.Hand
-- ==== Proof.RI.QA.lean ====
module

public import proofs.«01_k».proof.Proof.Gen.ReferenceIdeal.Frame
public import proofs.«01_k».proof.Proof.Goal
public import proofs.«01_k».proof.Proof.RI.Quant

@[expose] public section

/-! # The reference's quantiser at an index -/

noncomputable section
namespace Cert.ReferenceIdeal.Hand
open Idealize.ShloMosaic Cert.ReferenceIdeal.Gen
set_option maxHeartbeats 1000000

variable (a : FVec Ideal S73728x7168 .f32) (b : Ideal .f32) (c : FVec Ideal S73728x7168 .f32) (r : Fin 73728)

theorem pay59_eq : k0_pay59 (F := Ideal) a b c = gS (gA a b c) (multiReduction .minimumf [2] S73728x56 (gM (gA a b c) gE) 0x7F800000#32 reduces_S73728x56x254_S73728x56 (.inl rfl) rfl) := by
  unfold k0_pay59 gS gA gM gE
  rfl

end Cert.ReferenceIdeal.Hand
-- ==== Proof.RI.QB.lean ====
module

public import proofs.«01_k».proof.Proof.Gen.ReferenceIdeal.Frame
public import proofs.«01_k».proof.Proof.Goal
public import proofs.«01_k».proof.Proof.RI.Quant

@[expose] public section

/-! # The reference's quantiser at an index -/

noncomputable section
namespace Cert.ReferenceIdeal.Hand
open Idealize.ShloMosaic Cert.ReferenceIdeal.Gen
set_option maxHeartbeats 1000000

variable (a : FVec Ideal S73728x7168 .f32) (b : Ideal .f32) (c : FVec Ideal S73728x7168 .f32) (r : Fin 73728)

theorem gA_at (q : Fin 56) : gA a b c (ix2 r q) = Goal.amax (grp a b c r q) := by
  unfold gA
  rw [mul_at, max_at]
  simp only [act_at]
  unfold Goal.amax
  rfl

end Cert.ReferenceIdeal.Hand
-- ==== Proof.RI.QC.lean ====
module

public import proofs.«01_k».proof.Proof.Gen.ReferenceIdeal.Frame
public import proofs.«01_k».proof.Proof.Goal
public import proofs.«01_k».proof.Proof.RI.QA
public import proofs.«01_k».proof.Proof.RI.QB

@[expose] public section

/-! # The reference's scales at an index -/

noncomputable section
namespace Cert.ReferenceIdeal.Hand
open Idealize.ShloMosaic Cert.ReferenceIdeal.Gen
set_option maxHeartbeats 1000000

variable (a : FVec Ideal S73728x7168 .f32) (b : Ideal .f32) (c : FVec Ideal S73728x7168 .f32) (r : Fin 73728)

theorem gE_at (q : Fin 56) (i : Fin 254) : gE (ix3 r q i) = Goal.pw i.val := pw_at r q i
theorem gM_at (A : FVec Ideal S73728x56 .f32) (E : FVec Ideal S73728x56x254 .f32) (q : Fin 56) (i : Fin 254) :
    gM A E (ix3 r q i) = if A (ix2 r q) < E (ix3 r q i) then E (ix3 r q i) else Ideal.ofBits .f32 0x7F800000#32 := choose_at r A E q i
theorem gS_at (A B : FVec Ideal S73728x56 .f32) (q : Fin 56) : gS A B (ix2 r q) = if A (ix2 r q) = 0 then 1 else B (ix2 r q) := sel_at r A B q

theorem row_at (q : Fin 56) : (fun i : Fin 254 => gM (gA a b c) gE (ix3 r q i))
    = fun i : Fin 254 => if Goal.amax (grp a b c r q) < Goal.pw i.val then Goal.pw i.val else Ideal.ofBits .f32 0x7F800000#32 := by
  funext i
  rw [gM_at, gA_at, gE_at]

theorem scale_at (q : Fin 56) : k0_pay59 (F := Ideal) a b c (ix2 r q) = Goal.scale (Goal.amax (grp a b c r q)) := by
  rw [pay59_eq, gS_at, min_at, gA_at, row_at]
  unfold Goal.scale
  rfl

end Cert.ReferenceIdeal.Hand
-- ==== Proof.RI.QD.lean ====
module

public import proofs.«01_k».proof.Proof.Gen.ReferenceIdeal.Frame
public import proofs.«01_k».proof.Proof.Goal
public import proofs.«01_k».proof.Proof.RI.QC

@[expose] public section

/-! # The reference's quantiser at an index -/

noncomputable section
namespace Cert.ReferenceIdeal.Hand
open Idealize.ShloMosaic Cert.ReferenceIdeal.Gen
set_option maxHeartbeats 1000000

variable (a : FVec Ideal S73728x7168 .f32) (b : Ideal .f32) (c : FVec Ideal S73728x7168 .f32) (r : Fin 73728)

theorem out_at (j : Fin 7168) : k0_pay60 (F := Ideal) a b c (ix2 r j)
    = Goal.code (grp a b c r ⟨j.val / 128, by omega⟩ ⟨j.val % 128, by omega⟩) (Goal.scale (Goal.amax (grp a b c r ⟨j.val / 128, by omega⟩))) := by
  have h := code_at r (k0_pay58 (F := Ideal) a b c) (k0_pay59 (F := Ideal) a b c) j
  rw [act_at, scale_at] at h
  rw [← h]
  unfold k0_pay60
  rfl

end Cert.ReferenceIdeal.Hand
-- ==== Proof.RI.Out.lean ====
module

public import proofs.«01_k».proof.Proof.RI.Lin
public import proofs.«01_k».proof.Proof.RI.QC
public import proofs.«01_k».proof.Proof.RI.QD
public import Idealize.ShloMosaic.Lib.Pipeline.ValueKit

@[expose] public section

/-! # What the reference's body leaves in its two outputs -/

noncomputable section
namespace Cert.ReferenceIdeal.Hand
open Idealize.ShloMosaic Cert.ReferenceIdeal.Gen Cert
set_option maxHeartbeats 1000000

variable (x0 : Vec Ideal S73728x3072 .fp8e4m3) (x1 : Vec Ideal S73728x24 .f32) (x2 : Vec Ideal S8x1536x14336 .i8) (x3 : Vec Ideal S8x96x14336 .i8) (x4 : Vec Ideal S8x14336 .f32) (x5 : Vec Ideal S73728x1 .i32)

theorem grp_eq (e : ℕ) (he : e < 8) (r : Fin 73728) (hc : x5 (ix2 r 0) = BitVec.ofNat 32 e) (q : Fin 56) (x : Fin 128) :
    grp (k0_pay83 x0 x1 x2 x3 x4 x5) (Scalar.ofBits (F := Ideal) .f32 0x40E00000#32) (k0_pay84 x0 x1 x2 x3 x4 x5) r q x = Goal.hid x0 x1 x2 x3 x4 e r.val (q.val * 128 + x.val) := by
  unfold grp Goal.hid Goal.act
  rw [gate_at x0 x1 x2 x3 x4 x5 e he r _ hc, up_at x0 x1 x2 x3 x4 x5 e he r _ hc]
  rfl

variable (s : ℕ → ℕ) (hlt : ∀ r : Fin 73728, Plan.rowExpert s r.val < 8) (hx5 : ∀ r : Fin 73728, x5 (ix2 r 0) = BitVec.ofNat 32 (Plan.rowExpert s r.val))
include hlt hx5

theorem scl (r : Fin 73728) (q : Fin 56) : Goal.scale (Goal.amax (grp (k0_pay83 x0 x1 x2 x3 x4 x5) (Scalar.ofBits (F := Ideal) .f32 0x40E00000#32) (k0_pay84 x0 x1 x2 x3 x4 x5) r q))
    = Goal.scaleAt x0 x1 x2 x3 x4 s r.val (128 * q.val) := by
  unfold Goal.scaleAt
  refine congrArg (fun f => Goal.scale (Goal.amax f)) (funext fun x => ?_)
  rw [grp_eq x0 x1 x2 x3 x4 x5 _ (hlt r) r (hx5 r), Nat.mul_comm]

theorem pay85_at (r : Fin 73728) (q : Fin 56) : k0_pay85 (F := Ideal) x0 x1 x2 x3 x4 x5 (ix2 r q) = Goal.scaleAt x0 x1 x2 x3 x4 s r.val (128 * q.val) :=
  (scale_at _ _ _ r q).trans (scl x0 x1 x2 x3 x4 x5 s hlt hx5 r q)

theorem pay60_at (r : Fin 73728) (j : Fin 7168) : k0_pay60 (F := Ideal) (k0_pay83 x0 x1 x2 x3 x4 x5) (Scalar.ofBits (F := Ideal) .f32 0x40E00000#32) (k0_pay84 x0 x1 x2 x3 x4 x5) (ix2 r j)
    = Goal.codeT x0 x1 x2 x3 x4 s r.val j.val := by
  rw [out_at, scl x0 x1 x2 x3 x4 x5 s hlt hx5, grp_eq x0 x1 x2 x3 x4 x5 _ (hlt r) r (hx5 r)]
  unfold Goal.codeT
  rw [show j.val / 128 * 128 + j.val % 128 = j.val by omega]

theorem out6_at (y : S73728x7168.Idx) : out0_6 (F := Ideal) x0 x1 x2 x3 x4 x5 y = Goal.codeT x0 x1 x2 x3 x4 s (y 0).val (y 1).val := by
  have hp := pay60_at x0 x1 x2 x3 x4 x5 s hlt hx5
  unfold out0_6
  generalize k0_pay60 (F := Ideal) (k0_pay83 x0 x1 x2 x3 x4 x5) (Scalar.ofBits (F := Ideal) .f32 0x40E00000#32) (k0_pay84 x0 x1 x2 x3 x4 x5) = p at hp ⊢
  canon_tiles z h
  refine (congrArg p (eq_ix2 (n0 := 73728) (n1 := 7168) z)).trans ((hp (z 0) (z 1)).trans ?_)
  rw [h0, h1]
omit hlt hx5

theorem z3 (z : S1x73728x4.Idx) : ∃ (r : Fin 73728) (q : Fin 4), z = ix3 0 r q ∧ r.val = (z 1).val ∧ q.val = (z 2).val :=
  ⟨z 1, z 2, by
    rw [eq_ix3 (n0 := 1) (n1 := 73728) (n2 := 4) z]
    exact congrArg (fun a => ix3 a (z 1) (z 2)) (Subsingleton.elim (α := Fin 1) _ _), rfl, rfl⟩

theorem st0 (v : FVec Ideal S73728x56 .f32) (r : Fin 73728) (q : Fin 4) : k0_pay62 (extractStridedSlice S73728x4 ![0, 0] v slices_S73728x56_o0_0_S73728x4) (ix3 0 r q) = v (ix2 r ⟨0 + q.val, by omega⟩) := by
  pointwise [k0_pay62]
theorem st1 (v : FVec Ideal S73728x56 .f32) (r : Fin 73728) (q : Fin 4) : k0_pay63 v (ix3 0 r q) = v (ix2 r ⟨4 + q.val, by omega⟩) := by
  pointwise [k0_pay63]
theorem st2 (v : FVec Ideal S73728x56 .f32) (r : Fin 73728) (q : Fin 4) : k0_pay64 v (ix3 0 r q) = v (ix2 r ⟨8 + q.val, by omega⟩) := by
  pointwise [k0_pay64]
theorem st3 (v : FVec Ideal S73728x56 .f32) (r : Fin 73728) (q : Fin 4) : k0_pay65 v (ix3 0 r q) = v (ix2 r ⟨12 + q.val, by omega⟩) := by
  pointwise [k0_pay65]
theorem st4 (v : FVec Ideal S73728x56 .f32) (r : Fin 73728) (q : Fin 4) : k0_pay66 v (ix3 0 r q) = v (ix2 r ⟨16 + q.val, by omega⟩) := by
  pointwise [k0_pay66]
theorem st5 (v : FVec Ideal S73728x56 .f32) (r : Fin 73728) (q : Fin 4) : k0_pay67 v (ix3 0 r q) = v (ix2 r ⟨20 + q.val, by omega⟩) := by
  pointwise [k0_pay67]
theorem st6 (v : FVec Ideal S73728x56 .f32) (r : Fin 73728) (q : Fin 4) : k0_pay68 v (ix3 0 r q) = v (ix2 r ⟨24 + q.val, by omega⟩) := by
  pointwise [k0_pay68]
theorem st7 (v : FVec Ideal S73728x56 .f32) (r : Fin 73728) (q : Fin 4) : k0_pay69 v (ix3 0 r q) = v (ix2 r ⟨28 + q.val, by omega⟩) := by
  pointwise [k0_pay69]
theorem st8 (v : FVec Ideal S73728x56 .f32) (r : Fin 73728) (q : Fin 4) : k0_pay70 v (ix3 0 r q) = v (ix2 r ⟨32 + q.val, by omega⟩) := by
  pointwise [k0_pay70]
theorem st9 (v : FVec Ideal S73728x56 .f32) (r : Fin 73728) (q : Fin 4) : k0_pay71 v (ix3 0 r q) = v (ix2 r ⟨36 + q.val, by omega⟩) := by
  pointwise [k0_pay71]
theorem st10 (v : FVec Ideal S73728x56 .f32) (r : Fin 73728) (q : Fin 4) : k0_pay72 v (ix3 0 r q) = v (ix2 r ⟨40 + q.val, by omega⟩) := by
  pointwise [k0_pay72]
theorem st11 (v : FVec Ideal S73728x56 .f32) (r : Fin 73728) (q : Fin 4) : k0_pay73 v (ix3 0 r q) = v (ix2 r ⟨44 + q.val, by omega⟩) := by
  pointwise [k0_pay73]
theorem st12 (v : FVec Ideal S73728x56 .f32) (r : Fin 73728) (q : Fin 4) : k0_pay74 v (ix3 0 r q) = v (ix2 r ⟨48 + q.val, by omega⟩) := by
  pointwise [k0_pay74]
theorem st13 (v : FVec Ideal S73728x56 .f32) (r : Fin 73728) (q : Fin 4) : k0_pay1 (k0_pay75 v) (ix3 0 r q) = v (ix2 r ⟨52 + q.val, by omega⟩) := by
  pointwise [k0_pay1, k0_pay75]

include hlt hx5
theorem out7_at (y : S14x73728x4.Idx) : out0_7 (F := Ideal) x0 x1 x2 x3 x4 x5 y = Goal.scaleT x0 x1 x2 x3 x4 s (y 0).val (y 1).val (y 2).val := by
  have hp := pay85_at x0 x1 x2 x3 x4 x5 s hlt hx5
  have e61 : k0_pay61 (k0_pay83 x0 x1 x2 x3 x4 x5) (Scalar.ofBits (F := Ideal) .f32 0x40E00000#32) (k0_pay84 x0 x1 x2 x3 x4 x5) = extractStridedSlice S73728x4 ![0, 0] (k0_pay85 (F := Ideal) x0 x1 x2 x3 x4 x5) slices_S73728x56_o0_0_S73728x4 := rfl
  unfold out0_7
  rw [e61]
  generalize k0_pay85 (F := Ideal) x0 x1 x2 x3 x4 x5 = v at hp ⊢
  have g0 : ∀ (r : Fin 73728) (q : Fin 4), k0_pay62 (extractStridedSlice S73728x4 ![0, 0] v slices_S73728x56_o0_0_S73728x4) (ix3 0 r q) = Goal.scaleT x0 x1 x2 x3 x4 s 0 r.val q.val := fun r q =>
    (st0 v r q).trans ((hp r ⟨0 + q.val, by omega⟩).trans (by unfold Goal.scaleT; exact congrArg _ (by show 128 * (0 + q.val) = _; omega)))
  generalize k0_pay62 (extractStridedSlice S73728x4 ![0, 0] v slices_S73728x56_o0_0_S73728x4) = p0 at g0 ⊢
  have g1 : ∀ (r : Fin 73728) (q : Fin 4), k0_pay63 v (ix3 0 r q) = Goal.scaleT x0 x1 x2 x3 x4 s 1 r.val q.val := fun r q =>
    (st1 v r q).trans ((hp r ⟨4 + q.val, by omega⟩).trans (by unfold Goal.scaleT; exact congrArg _ (by show 128 * (4 + q.val) = _; omega)))
  generalize k0_pay63 v = p1 at g1 ⊢
  have g2 : ∀ (r : Fin 73728) (q : Fin 4), k0_pay64 v (ix3 0 r q) = Goal.scaleT x0 x1 x2 x3 x4 s 2 r.val q.val := fun r q =>
    (st2 v r q).trans ((hp r ⟨8 + q.val, by omega⟩).trans (by unfold Goal.scaleT; exact congrArg _ (by show 128 * (8 + q.val) = _; omega)))
  generalize k0_pay64 v = p2 at g2 ⊢
  have g3 : ∀ (r : Fin 73728) (q : Fin 4), k0_pay65 v (ix3 0 r q) = Goal.scaleT x0 x1 x2 x3 x4 s 3 r.val q.val := fun r q =>
    (st3 v r q).trans ((hp r ⟨12 + q.val, by omega⟩).trans (by unfold Goal.scaleT; exact congrArg _ (by show 128 * (12 + q.val) = _; omega)))
  generalize k0_pay65 v = p3 at g3 ⊢
  have g4 : ∀ (r : Fin 73728) (q : Fin 4), k0_pay66 v (ix3 0 r q) = Goal.scaleT x0 x1 x2 x3 x4 s 4 r.val q.val := fun r q =>
    (st4 v r q).trans ((hp r ⟨16 + q.val, by omega⟩).trans (by unfold Goal.scaleT; exact congrArg _ (by show 128 * (16 + q.val) = _; omega)))
  generalize k0_pay66 v = p4 at g4 ⊢
  have g5 : ∀ (r : Fin 73728) (q : Fin 4), k0_pay67 v (ix3 0 r q) = Goal.scaleT x0 x1 x2 x3 x4 s 5 r.val q.val := fun r q =>
    (st5 v r q).trans ((hp r ⟨20 + q.val, by omega⟩).trans (by unfold Goal.scaleT; exact congrArg _ (by show 128 * (20 + q.val) = _; omega)))
  generalize k0_pay67 v = p5 at g5 ⊢
  have g6 : ∀ (r : Fin 73728) (q : Fin 4), k0_pay68 v (ix3 0 r q) = Goal.scaleT x0 x1 x2 x3 x4 s 6 r.val q.val := fun r q =>
    (st6 v r q).trans ((hp r ⟨24 + q.val, by omega⟩).trans (by unfold Goal.scaleT; exact congrArg _ (by show 128 * (24 + q.val) = _; omega)))
  generalize k0_pay68 v = p6 at g6 ⊢
  have g7 : ∀ (r : Fin 73728) (q : Fin 4), k0_pay69 v (ix3 0 r q) = Goal.scaleT x0 x1 x2 x3 x4 s 7 r.val q.val := fun r q =>
    (st7 v r q).trans ((hp r ⟨28 + q.val, by omega⟩).trans (by unfold Goal.scaleT; exact congrArg _ (by show 128 * (28 + q.val) = _; omega)))
  generalize k0_pay69 v = p7 at g7 ⊢
  have g8 : ∀ (r : Fin 73728) (q : Fin 4), k0_pay70 v (ix3 0 r q) = Goal.scaleT x0 x1 x2 x3 x4 s 8 r.val q.val := fun r q =>
    (st8 v r q).trans ((hp r ⟨32 + q.val, by omega⟩).trans (by unfold Goal.scaleT; exact congrArg _ (by show 128 * (32 + q.val) = _; omega)))
  generalize k0_pay70 v = p8 at g8 ⊢
  have g9 : ∀ (r : Fin 73728) (q : Fin 4), k0_pay71 v (ix3 0 r q) = Goal.scaleT x0 x1 x2 x3 x4 s 9 r.val q.val := fun r q =>
    (st9 v r q).trans ((hp r ⟨36 + q.val, by omega⟩).trans (by unfold Goal.scaleT; exact congrArg _ (by show 128 * (36 + q.val) = _; omega)))
  generalize k0_pay71 v = p9 at g9 ⊢
  have g10 : ∀ (r : Fin 73728) (q : Fin 4), k0_pay72 v (ix3 0 r q) = Goal.scaleT x0 x1 x2 x3 x4 s 10 r.val q.val := fun r q =>
    (st10 v r q).trans ((hp r ⟨40 + q.val, by omega⟩).trans (by unfold Goal.scaleT; exact congrArg _ (by show 128 * (40 + q.val) = _; omega)))
  generalize k0_pay72 v = p10 at g10 ⊢
  have g11 : ∀ (r : Fin 73728) (q : Fin 4), k0_pay73 v (ix3 0 r q) = Goal.scaleT x0 x1 x2 x3 x4 s 11 r.val q.val := fun r q =>
    (st11 v r q).trans ((hp r ⟨44 + q.val, by omega⟩).trans (by unfold Goal.scaleT; exact congrArg _ (by show 128 * (44 + q.val) = _; omega)))
  generalize k0_pay73 v = p11 at g11 ⊢
  have g12 : ∀ (r : Fin 73728) (q : Fin 4), k0_pay74 v (ix3 0 r q) = Goal.scaleT x0 x1 x2 x3 x4 s 12 r.val q.val := fun r q =>
    (st12 v r q).trans ((hp r ⟨48 + q.val, by omega⟩).trans (by unfold Goal.scaleT; exact congrArg _ (by show 128 * (48 + q.val) = _; omega)))
  generalize k0_pay74 v = p12 at g12 ⊢
  have g13 : ∀ (r : Fin 73728) (q : Fin 4), k0_pay1 (k0_pay75 v) (ix3 0 r q) = Goal.scaleT x0 x1 x2 x3 x4 s 13 r.val q.val := fun r q =>
    (st13 v r q).trans ((hp r ⟨52 + q.val, by omega⟩).trans (by unfold Goal.scaleT; exact congrArg _ (by show 128 * (52 + q.val) = _; omega)))
  generalize k0_pay1 (k0_pay75 v) = p13 at g13 ⊢
  clear hp
  canon_tiles z h
  all_goals
    obtain ⟨r, q, e, er, eq⟩ := z3 z
    rw [e]
    first
    | (rw [g0]; congr 1 <;> omega)
    | (rw [g1]; congr 1 <;> omega)
    | (rw [g2]; congr 1 <;> omega)
    | (rw [g3]; congr 1 <;> omega)
    | (rw [g4]; congr 1 <;> omega)
    | (rw [g5]; congr 1 <;> omega)
    | (rw [g6]; congr 1 <;> omega)
    | (rw [g7]; congr 1 <;> omega)
    | (rw [g8]; congr 1 <;> omega)
    | (rw [g9]; congr 1 <;> omega)
    | (rw [g10]; congr 1 <;> omega)
    | (rw [g11]; congr 1 <;> omega)
    | (rw [g12]; congr 1 <;> omega)
    | (rw [g13]; congr 1 <;> omega)

end Cert.ReferenceIdeal.Hand
-- ==== Proof.RI.Host.lean ====
module

public import proofs.«01_k».proof.Proof.Gen.ReferenceIdeal.Frame
public import proofs.«01_k».proof.Proof.PI.TableFacts
public import proofs.«01_k».proof.Proof.Visits
public import Idealize.ShloMosaic.Lib.StableHlo.RunRead

/-! The expert of every row, as the reference's host operations compute it. -/

@[expose] public section

set_option maxRecDepth 4096

noncomputable section
namespace Cert.ReferenceIdeal.Hand
open Idealize.ShloMosaic Idealize.ShloMosaic.ValueIdx Idealize.ShloMosaic.Routing Cert.ReferenceIdeal Cert.ReferenceIdeal.Gen
open Cert.KernelIdeal.Hand (nat8)

/-- The running sums of the sizes. -/
def rCum (g : IVec S8 32) : IVec S8 32 :=
  Host.reduceWindow IntOp.addi ![8] ![1] ![7] ![0] g (broadcastInDim S_ ![] bcast_S_S_ (constantI S_ 32 0#32)) reduceWindows_S8_S8_w8s1p7_0 h_S_
/-- The number of experts whose rows all lie before a row, from the running sums. -/
def rCount (s : IVec S8 32) : IVec S73728 32 :=
  Host.reduce IntOp.addi
    (extui 32 (cmpi .sge (broadcastInDim S73728x8 ![0, 1] bcast_S73728x1_S73728x8_0_1 (broadcastInDim S73728x1 ![0] bcast_S73728_S73728x1_0 (iotaInDim S73728 32 0)))
      (broadcastInDim S73728x8 ![0, 1] bcast_S1x8_S73728x8_0_1 (broadcastInDim S1x8 ![1] bcast_S8_S1x8_1 s))) natLt_1_32)
    (constantI S_ 32 0#32) reducesTo_S73728x8_S73728_d1 h_S_

attribute [local irreducible] Host.reduceWindow Host.reduce
variable {F : FTy → Type} [FloatOps F]
variable (U : (b : DevRef τ sig) → b.ty.Contents (Elt F))

theorem l0_v0 : StableHlo.after hostOps0 U (Proc.devRef .tc main_v0) = rCum (U (Proc.devRef .tc main_arg5)) := by
  after_results_simp; unfold rCum; rfl

/-- The expert column over the running sums. -/
def rCol (s : IVec S8 32) : IVec S73728x1 32 :=
  broadcastInDim S73728x1 ![0] bcast_S73728_S73728x1_0 (rCount s)

theorem l1_v9 : StableHlo.after hostOps0_1 U (Proc.devRef .tc main_v9) = rCol (U (Proc.devRef .tc main_v0)) := by
  after_results; try rfl

variable (m : (ℓ : Loc nD τ sig) → Buf (Elt F) ℓ) (c : Dev nD)

theorem V_expert : V m c main_v9 = rCol (rCum (m ((c.tc : Thread nD τ).loc main_arg5))) := by
  show StableHlo.after (List.flatten [hostOps0, hostOps0_1]) _ (Proc.devRef .tc main_v9) = _
  rw [show (List.flatten [hostOps0 (F := F), hostOps0_1]) = hostOps0 ++ hostOps0_1 from by simp only [List.flatten_cons, List.flatten_nil, List.append_nil], StableHlo.after_append, l1_v9, l0_v0]

section
variable (g : IVec S8 32) (hfit : ∀ j : Fin 8, (g (ix1 j)).toNat ≤ 73728) (hsum : Plan.fin (nat8 g) 7 = 73728)
include hfit hsum

theorem rCum_at (j : Fin 8) : rCum g (ix1 j) = BitVec.ofNat 32 (Plan.fin (nat8 g) j.val) :=
  cumsum1 (N := 8) (Nm1 := 7) rfl g (nat8 g) (Cert.KernelIdeal.Hand.size_at g hfit hsum) _ (bc0 _ _ _) _ _ j

theorem rCount_at (r : Fin 73728) : rCount (rCum g) (ix1 r) = BitVec.ofNat 32 (Plan.rowExpert (nat8 g) r.val) := by
  refine reduce_count (n := 73728) (m := 8) (by norm_num) _ _ _ _ r (fun q => Plan.fin (nat8 g) q ≤ r.val) fun q => ?_
  show IntOp.cmpi .sge _ _ = 1#1 ↔ _
  rw [bcRows, bcCols, rCum_at g hfit hsum]
  have h1 := Cert.KernelIdeal.Hand.fin_le g hfit hsum q
  have hr := r.isLt
  show BitVec.ofBool ((BitVec.ofNat 32 _).sle (BitVec.ofNat 32 r.val)) = 1#1 ↔ _
  rw [sle_ofNat32 (by omega) (by omega)]
  by_cases h : Plan.fin (nat8 g) q.val ≤ r.val <;> simp [h]

theorem rCol_at (r : Fin 73728) : rCol (rCum g) (ix2 r 0) = BitVec.ofNat 32 (Plan.rowExpert (nat8 g) r.val) := by
  refine Eq.trans ?_ (rCount_at g hfit hsum r)
  unfold rCol
  generalize rCount (rCum g) = y
  refine congrArg y (funext fun a => ?_)
  match a with
  | ⟨0, _⟩ => rfl
end

end Cert.ReferenceIdeal.Hand
-- ==== Proof.RI.Value.lean ====
module

public import proofs.«01_k».proof.Proof.RI.Out
public import proofs.«01_k».proof.Proof.RI.Host

@[expose] public section

/-! # The reference's two results -/

noncomputable section
namespace Cert.ReferenceIdeal.Hand
open Idealize.ShloMosaic Idealize.ShloMosaic.TcCoe Idealize.SL.Sem Cert.ReferenceIdeal Cert.ReferenceIdeal.Gen Cert
open Cert.KernelIdeal.Hand (nat8)

variable (m : (ℓ : Loc nD τ sig) → Buf (Elt Ideal) ℓ) (c : Dev nD)

theorem ib0 (t : Fin cfg0.N) : (iblk m c 0 t : S73728x3072.Idx → EReal) = m ((c : Thread nD τ).loc main_arg0) := by
  funext y
  refine Eq.trans ?_ (congrFun (V_main_arg0 m c) y)
  refine congrArg (V m c main_arg0) (funext fun a => Fin.ext ?_)
  match a with
  | ⟨0, _⟩ =>
    blk_simp
    rw [show win0_0.index t 0 = 0 from rfl, Nat.zero_mul, Nat.zero_add]
  | ⟨1, _⟩ =>
    blk_simp
    rw [show win0_0.index t 1 = 0 from rfl, Nat.zero_mul, Nat.zero_add]

theorem ib1 (t : Fin cfg0.N) : (iblk m c 1 t : S73728x24.Idx → EReal) = m ((c : Thread nD τ).loc main_arg1) := by
  funext y
  refine Eq.trans ?_ (congrFun (V_main_arg1 m c) y)
  refine congrArg (V m c main_arg1) (funext fun a => Fin.ext ?_)
  match a with
  | ⟨0, _⟩ =>
    blk_simp
    rw [show win0_1.index t 0 = 0 from rfl, Nat.zero_mul, Nat.zero_add]
  | ⟨1, _⟩ =>
    blk_simp
    rw [show win0_1.index t 1 = 0 from rfl, Nat.zero_mul, Nat.zero_add]

theorem ib2 (t : Fin cfg0.N) : (iblk m c 2 t : S8x1536x14336.Idx → BitVec 8) = m ((c : Thread nD τ).loc main_arg2) := by
  funext y
  refine Eq.trans ?_ (congrFun (V_main_arg2 m c) y)
  refine congrArg (V m c main_arg2) (funext fun a => Fin.ext ?_)
  match a with
  | ⟨0, _⟩ =>
    blk_simp
    rw [show win0_2.index t 0 = 0 from rfl, Nat.zero_mul, Nat.zero_add]
  | ⟨1, _⟩ =>
    blk_simp
    rw [show win0_2.index t 1 = 0 from rfl, Nat.zero_mul, Nat.zero_add]
  | ⟨2, _⟩ =>
    blk_simp
    rw [show win0_2.index t 2 = 0 from rfl, Nat.zero_mul, Nat.zero_add]

theorem ib3 (t : Fin cfg0.N) : (iblk m c 3 t : S8x96x14336.Idx → BitVec 8) = m ((c : Thread nD τ).loc main_arg3) := by
  funext y
  refine Eq.trans ?_ (congrFun (V_main_arg3 m c) y)
  refine congrArg (V m c main_arg3) (funext fun a => Fin.ext ?_)
  match a with
  | ⟨0, _⟩ =>
    blk_simp
    rw [show win0_3.index t 0 = 0 from rfl, Nat.zero_mul, Nat.zero_add]
  | ⟨1, _⟩ =>
    blk_simp
    rw [show win0_3.index t 1 = 0 from rfl, Nat.zero_mul, Nat.zero_add]
  | ⟨2, _⟩ =>
    blk_simp
    rw [show win0_3.index t 2 = 0 from rfl, Nat.zero_mul, Nat.zero_add]

theorem ib4 (t : Fin cfg0.N) : (iblk m c 4 t : S8x14336.Idx → EReal) = m ((c : Thread nD τ).loc main_arg4) := by
  funext y
  refine Eq.trans ?_ (congrFun (V_main_arg4 m c) y)
  refine congrArg (V m c main_arg4) (funext fun a => Fin.ext ?_)
  match a with
  | ⟨0, _⟩ =>
    blk_simp
    rw [show win0_4.index t 0 = 0 from rfl, Nat.zero_mul, Nat.zero_add]
  | ⟨1, _⟩ =>
    blk_simp
    rw [show win0_4.index t 1 = 0 from rfl, Nat.zero_mul, Nat.zero_add]

theorem ib5 (t : Fin cfg0.N) : (iblk m c 5 t : S73728x1.Idx → BitVec 32) = rCol (rCum (m ((c : Thread nD τ).loc main_arg5))) := by
  funext y
  refine Eq.trans ?_ (congrFun (V_expert m c) y)
  refine congrArg (V m c main_v9) (funext fun a => Fin.ext ?_)
  match a with
  | ⟨0, _⟩ =>
    blk_simp
    rw [show win0_5.index t 0 = 0 from rfl, Nat.zero_mul, Nat.zero_add]
  | ⟨1, _⟩ =>
    blk_simp
    rw [show win0_5.index t 1 = 0 from rfl]

theorem arr6 (G : S73728x7168.Idx → EReal) (h : ∀ t y, out0_6 (F := Ideal) (iblk m c 0 t) (iblk m c 1 t) (iblk m c 2 t) (iblk m c 3 t) (iblk m c 4 t) (iblk m c 5 t) y = G y) : (dats m 0 c).arrAt 6 (cfgs 0).N = G := by
  refine (dats m 0 c).arrAt_eq_of_covers 6 _ (by decide +kernel) fun t hf y => ?_
  blk_simp
  rw [after0_6]
  refine (h t y).trans (congrArg G (funext fun a => Fin.ext ?_))
  match a with
  | ⟨0, _⟩ =>
    blk_simp
    rw [show win0_6.index t 0 = 0 from rfl, Nat.zero_mul, Nat.zero_add]
  | ⟨1, _⟩ =>
    blk_simp
    rw [show win0_6.index t 1 = 0 from rfl, Nat.zero_mul, Nat.zero_add]

theorem arr7 (G : S14x73728x4.Idx → EReal) (h : ∀ t y, out0_7 (F := Ideal) (iblk m c 0 t) (iblk m c 1 t) (iblk m c 2 t) (iblk m c 3 t) (iblk m c 4 t) (iblk m c 5 t) y = G y) : (dats m 0 c).arrAt 7 (cfgs 0).N = G := by
  refine (dats m 0 c).arrAt_eq_of_covers 7 _ (by decide +kernel) fun t hf y => ?_
  blk_simp
  rw [after0_7]
  refine (h t y).trans (congrArg G (funext fun a => Fin.ext ?_))
  match a with
  | ⟨0, _⟩ =>
    blk_simp
    rw [show win0_7.index t 0 = 0 from rfl, Nat.zero_mul, Nat.zero_add]
  | ⟨1, _⟩ =>
    blk_simp
    rw [show win0_7.index t 1 = 0 from rfl, Nat.zero_mul, Nat.zero_add]
  | ⟨2, _⟩ =>
    blk_simp
    rw [show win0_7.index t 2 = 0 from rfl, Nat.zero_mul, Nat.zero_add]

/-- The arguments as tensors. -/
abbrev bX : S73728x3072.Idx → EReal := m ((c : Thread nD τ).loc main_arg0)
abbrev bXS : S73728x24.Idx → EReal := m ((c : Thread nD τ).loc main_arg1)
abbrev bW : S8x1536x14336.Idx → BitVec 8 := m ((c : Thread nD τ).loc main_arg2)
abbrev bS : S8x96x14336.Idx → BitVec 8 := m ((c : Thread nD τ).loc main_arg3)
abbrev bB : S8x14336.Idx → EReal := m ((c : Thread nD τ).loc main_arg4)
abbrev bG : S8.Idx → BitVec 32 := m ((c : Thread nD τ).loc main_arg5)

theorem rowExpert_lt (s : ℕ → ℕ) (r n : ℕ) (h : Plan.fin s 7 = n) (hr : r < n) : Plan.rowExpert s r < 8 := by
  unfold Plan.rowExpert
  have h1 : Nat.count (fun q => Plan.fin s q ≤ r) 8 = Nat.count (fun q => Plan.fin s q ≤ r) 7 := by
    rw [Nat.count_succ, if_neg (by omega), Nat.add_zero]
  have h2 := Nat.count_le (p := fun q => Plan.fin s q ≤ r) (n := 7)
  omega

theorem value_run (g : Dev nD → PrngReg) (h : ∀ c : Dev nD, (∀ j : Fin 8, (bG m c (ValueIdx.ix1 j)).toNat ≤ 73728) ∧ Plan.fin (nat8 (bG m c)) 7 = 73728) :
    θ_run (defs (F := Ideal)) (onTc (τ := τ) (main (F := Ideal))) ⟨m, fun _ => 0, g⟩ (fun r => ∀ c : Dev nD,
      (r.2.mem ((c : Thread nD τ).loc main_v10_0) = (fun i : S73728x7168.Idx => Goal.codeT (bX m c) (bXS m c) (bW m c) (bS m c) (bB m c) (nat8 (bG m c)) (i 0).val (i 1).val))
      ∧ (r.2.mem ((c : Thread nD τ).loc main_v10_1) = (fun i : S14x73728x4.Idx => Goal.scaleT (bX m c) (bXS m c) (bW m c) (bS m c) (bB m c) (nat8 (bG m c)) (i 0).val (i 1).val (i 2).val))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) := by
  refine (θ_run _ _ _).mono (fun r h' c => ?_) (run_main m g)
  have hlt : ∀ r : Fin 73728, Plan.rowExpert (nat8 (bG m c)) r.val < 8 := fun r => rowExpert_lt _ _ _ (h c).2 r.isLt
  have hx : ∀ (t : Fin cfg0.N) (r : Fin 73728), (iblk m c 5 t : S73728x1.Idx → BitVec 32) (ix2 r 0) = BitVec.ofNat 32 (Plan.rowExpert (nat8 (bG m c)) r.val) := fun t r =>
    (congrFun (ib5 m c t) (ix2 r 0)).trans (rCol_at (bG m c) (h c).1 (h c).2 r)
  refine ⟨((h' c).1 6).trans (arr6 m c _ fun t y => ?_), ((h' c).1 7).trans (arr7 m c _ fun t y => ?_),
    ((h' c).1 0).trans (((dats m 0 c).arrAt_in 0 rfl _).trans ((A_eq m c 0).trans (V_main_arg0 m c))),
    ((h' c).1 1).trans (((dats m 0 c).arrAt_in 1 rfl _).trans ((A_eq m c 1).trans (V_main_arg1 m c))),
    ((h' c).1 2).trans (((dats m 0 c).arrAt_in 2 rfl _).trans ((A_eq m c 2).trans (V_main_arg2 m c))),
    ((h' c).1 3).trans (((dats m 0 c).arrAt_in 3 rfl _).trans ((A_eq m c 3).trans (V_main_arg3 m c))),
    ((h' c).1 4).trans (((dats m 0 c).arrAt_in 4 rfl _).trans ((A_eq m c 4).trans (V_main_arg4 m c))),
    ((h' c).2 main_arg5 (Pipeline.mem_restRefs_of main_arg5 (by decide) (by decide))).trans (V_main_arg5 m c)⟩
  · refine (out6_at _ _ _ _ _ _ (nat8 (bG m c)) hlt (hx t) y).trans ?_
    rw [ib0 m c t, ib1 m c t, ib2 m c t, ib3 m c t, ib4 m c t]
  · refine (out7_at _ _ _ _ _ _ (nat8 (bG m c)) hlt (hx t) y).trans ?_
    rw [ib0 m c t, ib1 m c t, ib2 m c t, ib3 m c t, ib4 m c t]

end Cert.ReferenceIdeal.Hand
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_sizes_fit
public import proofs.«01_k».proof.Proof.PreFacts
public import proofs.«01_k».proof.Proof.PI.Frame
public import proofs.«01_k».proof.Proof.PI.Value
public import proofs.«01_k».proof.Proof.P.Frame
public import proofs.«01_k».proof.Proof.RI.Value

/-! The certificate's claims, put together. -/

@[expose] public section

noncomputable section

namespace Cert.Proof

open Idealize.ShloMosaic Idealize.SL.Sem

/-- The kernel's frame under the value claim's precondition: it leaves the arguments and its counters as they were. -/
theorem frame_pre : Cert.quiescent_KernelIdeal_pre_sizes_fit_scales_normal (hKernelIdeal := Cert.KernelIdeal.Gen.facts) (hPre_sizes_fit_scales_normal := Cert.Pre_sizes_fit_scales_normal.Hand.facts) := by
  intro m g hPre
  have hok : Cert.KernelIdeal.Hand.Ok m := Cert.KernelIdeal.Hand.ok_sizes m (Cert.Pre_sizes_fit_scales_normal.Hand.of_fn _ _ _ _ _ _ (hPre (0 : Dev Cert.KernelIdeal.nD))).1
  have h := Cert.KernelIdeal.Hand.frame_of (Cert.KernelIdeal.Hand.V m) (Cert.KernelIdeal.Hand.tbl m) hok m (fun 𝒱 => Cert.KernelIdeal.Hand.hmain m 𝒱) (Cert.KernelIdeal.Hand.V_pre m) g
  refine (θ_run _ _ _).mono (fun r hr => ⟨fun c => ?_, hr.2⟩) h
  obtain ⟨h0, h1, h2, h3, h4, h5⟩ := hr.1 c
  exact ⟨h0.trans (Cert.KernelIdeal.Hand.V_arg0 m c), h1.trans (Cert.KernelIdeal.Hand.V_arg1 m c), h2.trans (Cert.KernelIdeal.Hand.V_arg2 m c),
    h3.trans (Cert.KernelIdeal.Hand.V_arg3 m c), h4.trans (Cert.KernelIdeal.Hand.V_arg4 m c), h5.trans (Cert.KernelIdeal.Hand.V_arg5 m c)⟩

/-- The kernel and the reference leave the same codes and the same scales. -/
theorem value : Cert.algebraic_KernelIdeal_ReferenceIdeal_pre_sizes_fit_scales_normal (hKernelIdeal := Cert.KernelIdeal.Gen.facts) (hReferenceIdeal := Cert.ReferenceIdeal.Gen.facts) (hPre_sizes_fit_scales_normal := Cert.Pre_sizes_fit_scales_normal.Hand.facts) := by
  intro m g m' g' hPre hargs
  have hp := fun c => Cert.Pre_sizes_fit_scales_normal.Hand.of_fn _ _ _ _ _ _ (hPre c)
  refine ⟨_, _, (θ_run _ _ _).mono (fun r hr c => hr c) (Cert.KernelIdeal.Hand.value_run m g (hp (0 : Dev Cert.KernelIdeal.nD)).1 (fun c => (hp c).2)), ?_⟩
  refine (θ_run _ _ _).mono (fun r hr c => ?_) (Cert.ReferenceIdeal.Hand.value_run m' g' (fun c => ?_))
  · obtain rfl : c = 0 := Subsingleton.elim (α := Fin 1) _ _
    obtain ⟨e0, e1, e2, e3, e4, e5⟩ := hargs 0
    obtain ⟨h6, h7, h⟩ := hr 0
    have a0 : Cert.ReferenceIdeal.Hand.bX m' 0 = Cert.KernelIdeal.Hand.aX m 0 := e0
    have a1 : Cert.ReferenceIdeal.Hand.bXS m' 0 = Cert.KernelIdeal.Hand.aXS m 0 := e1
    have a2 : Cert.ReferenceIdeal.Hand.bW m' 0 = Cert.KernelIdeal.Hand.aW m 0 := e2
    have a3 : Cert.ReferenceIdeal.Hand.bS m' 0 = Cert.KernelIdeal.Hand.aS m 0 := e3
    have a4 : Cert.ReferenceIdeal.Hand.bB m' 0 = Cert.KernelIdeal.Hand.aB m 0 := e4
    have a5 : Cert.ReferenceIdeal.Hand.bG m' 0 = Cert.KernelIdeal.Hand.sizes m 0 := e5
    rw [a0, a1, a2, a3, a4, a5] at h6 h7
    exact ⟨h6, h7, h⟩
  · obtain rfl : c = 0 := Subsingleton.elim (α := Fin 1) _ _
    have a5 : Cert.ReferenceIdeal.Hand.bG m' 0 = Cert.KernelIdeal.Hand.sizes m 0 := (hargs 0).2.2.2.2.2
    rw [a5]
    exact (hp 0).1

theorem claim : Cert.Claim :=
  ⟨Cert.Kernel.Gen.facts, Cert.KernelIdeal.Gen.facts, Cert.ReferenceIdeal.Gen.facts, Cert.Pre_sizes_fit.Gen.facts, Cert.Pre_sizes_fit_scales_normal.Hand.facts,
    Cert.Kernel.Hand.frame, Cert.KernelIdeal.Hand.frame, frame_pre, fun m g _ => Cert.ReferenceIdeal.Gen.frame m g, fun m g _ => Cert.ReferenceIdeal.Gen.frame m g, trivial, value⟩

end Cert.Proof

end
